-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v4_3)) (v3 : (c : Dev Cert.KernelIdeal.nD) → Buf (Elt Ideal) ((c.tc : Thread Cert.KernelIdeal.nD Cert.KernelIdeal.τ).loc Cert.KernelIdeal.main_v4_4)) (v4 : (c : Dev Cert.KernelIdeal.nD) → Buf (Elt Ideal) ((c.tc : Thread Cert.KernelIdeal.nD Cert.KernelIdeal.τ).loc Cert.KernelIdeal.main_v4_2)) (v5 : (c : Dev Cert.KernelIdeal.nD) → Buf (Elt Ideal) ((c.tc : Thread Cert.KernelIdeal.nD Cert.KernelIdeal.τ).loc Cert.KernelIdeal.main_v5)) (v6 : (c : Dev Cert.KernelIdeal.nD) → Buf (Elt Ideal) ((c.tc : Thread Cert.KernelIdeal.nD Cert.KernelIdeal.τ).loc Cert.KernelIdeal.main_v6)) (v7 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v4_3) = v2 c
          ∧ r.2.mem ((c.tc : Thread Cert.KernelIdeal.nD Cert.KernelIdeal.τ).loc Cert.KernelIdeal.main_v4_4) = v3 c
          ∧ r.2.mem ((c.tc : Thread Cert.KernelIdeal.nD Cert.KernelIdeal.τ).loc Cert.KernelIdeal.main_v4_2) = v4 c
          ∧ r.2.mem ((c.tc : Thread Cert.KernelIdeal.nD Cert.KernelIdeal.τ).loc Cert.KernelIdeal.main_v5) = v5 c
          ∧ r.2.mem ((c.tc : Thread Cert.KernelIdeal.nD Cert.KernelIdeal.τ).loc Cert.KernelIdeal.main_v6) = v6 c
          ∧ r.2.mem ((c.tc : Thread Cert.KernelIdeal.nD Cert.KernelIdeal.τ).loc Cert.KernelIdeal.main_v3) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_v45) = v5 c
          ∧ r.2.mem ((c.tc : Thread Cert.ReferenceIdeal.nD Cert.ReferenceIdeal.τ).loc Cert.ReferenceIdeal.main_v39) = v6 c
          ∧ r.2.mem ((c.tc : Thread Cert.ReferenceIdeal.nD Cert.ReferenceIdeal.τ).loc Cert.ReferenceIdeal.main_v34) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)) (v1 : (c : Dev Cert.Kernel2Ideal.nD) → Buf (Elt Ideal) ((c.tc : Thread Cert.Kernel2Ideal.nD Cert.Kernel2Ideal.τ).loc Cert.Kernel2Ideal.main_v9_0)) (v2 : (c : Dev Cert.Kernel2Ideal.nD) → Buf (Elt Ideal) ((c.tc : Thread Cert.Kernel2Ideal.nD Cert.Kernel2Ideal.τ).loc Cert.Kernel2Ideal.main_v10)) (v3 : (c : Dev Cert.Kernel2Ideal.nD) → Buf (Elt Ideal) ((c.tc : Thread Cert.Kernel2Ideal.nD Cert.Kernel2Ideal.τ).loc Cert.Kernel2Ideal.main_v5)) (v4 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_v9_0) = v1 c
          ∧ r.2.mem ((c.tc : Thread Cert.Kernel2Ideal.nD Cert.Kernel2Ideal.τ).loc Cert.Kernel2Ideal.main_v10) = v2 c
          ∧ r.2.mem ((c.tc : Thread Cert.Kernel2Ideal.nD Cert.Kernel2Ideal.τ).loc Cert.Kernel2Ideal.main_v5) = v3 c
          ∧ r.2.mem ((c.tc : Thread Cert.Kernel2Ideal.nD Cert.Kernel2Ideal.τ).loc Cert.Kernel2Ideal.main_v4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_v62) = v3 c
          ∧ r.2.mem ((c.tc : Thread Cert.Reference2Ideal.nD Cert.Reference2Ideal.τ).loc Cert.Reference2Ideal.main_v32) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10)) (v1 : (c : Dev Cert.Kernel3Ideal.nD) → Buf (Elt Ideal) ((c.tc : Thread Cert.Kernel3Ideal.nD Cert.Kernel3Ideal.τ).loc Cert.Kernel3Ideal.main_v11)) (v2 : (c : Dev Cert.Kernel3Ideal.nD) → Buf (Elt Ideal) ((c.tc : Thread Cert.Kernel3Ideal.nD Cert.Kernel3Ideal.τ).loc Cert.Kernel3Ideal.main_v12)) (v3 : (c : Dev Cert.Kernel3Ideal.nD) → Buf (Elt Ideal) ((c.tc : Thread Cert.Kernel3Ideal.nD Cert.Kernel3Ideal.τ).loc Cert.Kernel3Ideal.main_v13)) (v4 : (c : Dev Cert.Kernel3Ideal.nD) → Buf (Elt Ideal) ((c.tc : Thread Cert.Kernel3Ideal.nD Cert.Kernel3Ideal.τ).loc Cert.Kernel3Ideal.main_v14)) (v5 : (c : Dev Cert.Kernel3Ideal.nD) → Buf (Elt Ideal) ((c.tc : Thread Cert.Kernel3Ideal.nD Cert.Kernel3Ideal.τ).loc Cert.Kernel3Ideal.main_v26_0)) (v6 : (c : Dev Cert.Kernel3Ideal.nD) → Buf (Elt Ideal) ((c.tc : Thread Cert.Kernel3Ideal.nD Cert.Kernel3Ideal.τ).loc Cert.Kernel3Ideal.main_v27)) (v7 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_v11) = v1 c
          ∧ r.2.mem ((c.tc : Thread Cert.Kernel3Ideal.nD Cert.Kernel3Ideal.τ).loc Cert.Kernel3Ideal.main_v12) = v2 c
          ∧ r.2.mem ((c.tc : Thread Cert.Kernel3Ideal.nD Cert.Kernel3Ideal.τ).loc Cert.Kernel3Ideal.main_v13) = v3 c
          ∧ r.2.mem ((c.tc : Thread Cert.Kernel3Ideal.nD Cert.Kernel3Ideal.τ).loc Cert.Kernel3Ideal.main_v14) = v4 c
          ∧ r.2.mem ((c.tc : Thread Cert.Kernel3Ideal.nD Cert.Kernel3Ideal.τ).loc Cert.Kernel3Ideal.main_v26_0) = v5 c
          ∧ r.2.mem ((c.tc : Thread Cert.Kernel3Ideal.nD Cert.Kernel3Ideal.τ).loc Cert.Kernel3Ideal.main_v27) = v6 c
          ∧ r.2.mem ((c.tc : Thread Cert.Kernel3Ideal.nD Cert.Kernel3Ideal.τ).loc Cert.Kernel3Ideal.main_v25) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_v62) = v5 c
          ∧ r.2.mem ((c.tc : Thread Cert.Reference3Ideal.nD Cert.Reference3Ideal.τ).loc Cert.Reference3Ideal.main_v45) = v6 c
          ∧ r.2.mem ((c.tc : Thread Cert.Reference3Ideal.nD Cert.Reference3Ideal.τ).loc Cert.Reference3Ideal.main_v41) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v0_2)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v0_2) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v129) = v0 c
          ∧ r.2.mem ((c.tc : Thread Cert.Reference4Ideal.nD Cert.Reference4Ideal.τ).loc Cert.Reference4Ideal.main_v132) = v1 c
          ∧ r.2.mem ((c.tc : Thread Cert.Reference4Ideal.nD Cert.Reference4Ideal.τ).loc Cert.Reference4Ideal.main_v131) = v2 c
          ∧ r.2.mem ((c.tc : Thread Cert.Reference4Ideal.nD Cert.Reference4Ideal.τ).loc Cert.Reference4Ideal.main_v133) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4352x1024 : Shape := ⟨2, ![4352, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩

class Facts : Prop where
  bcast_S_S4352x1024 : S_.BroadcastsInDim S4352x1024 (![] : Fin 0 → Fin S4352x1024.rank)
  bcast_S_S1x1024 : S_.BroadcastsInDim S1x1024 (![] : Fin 0 → Fin S1x1024.rank)
  bcast_S_S4x1024x1408 : S_.BroadcastsInDim S4x1024x1408 (![] : Fin 0 → Fin S4x1024x1408.rank)
  bcast_S_S2816x1024 : S_.BroadcastsInDim S2816x1024 (![] : Fin 0 → Fin S2816x1024.rank)

variable [Facts]

def fn {F : FTy → Type} [FloatOps F] (main_arg0 : FVec F S4352x1024 .f32) (main_arg1 : FVec F S1x1024 .f32) (main_arg2 : FVec F S4x1024x1408 .bf16) (main_arg3 : FVec F S2816x1024 .bf16) (main_arg4 : FVec F S4352x1024 .f32) : IVec S4352x1024 1 × IVec S1x1024 1 × IVec S4x1024x1408 1 × IVec S2816x1024 1 × IVec S4352x1024 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4x1024x1408 .bf16 := Host.absf main_arg2
  let main_cst_1 : FVec F S_ .bf16 := constant S_ .bf16 0x7F80#16
  let main_v7 : FVec F S4x1024x1408 .bf16 := broadcastInDim S4x1024x1408 ![] bcast_S_S4x1024x1408 main_cst_1
  let main_v8 : IVec S4x1024x1408 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_v12 : FVec F S4352x1024 .f32 := Host.absf main_arg4
  let main_cst_3 : FVec F S_ .f32 := constant S_ .f32 0x7F800000#32
  let main_v13 : FVec F S4352x1024 .f32 := broadcastInDim S4352x1024 ![] bcast_S_S4352x1024 main_cst_3
  let main_v14 : IVec S4352x1024 1 := cmpf .olt main_v12 main_v13
  (main_v2, main_v5, main_v8, main_v11, main_v14)
-- ==== Kernel.lean ====
abbrev S4352x1024 : Shape := ⟨2, ![4352, 1024]⟩
abbrev S4352x2048 : Shape := ⟨2, ![4352, 2048]⟩
abbrev S1024x1024 : Shape := ⟨2, ![1024, 1024]⟩
abbrev S1x1024 : Shape := ⟨2, ![1, 1024]⟩
abbrev S544x1024 : Shape := ⟨2, ![544, 1024]⟩
abbrev S544x2048 : Shape := ⟨2, ![544, 2048]⟩
abbrev S544 : Shape := ⟨1, ![544]⟩
abbrev S544x1 : Shape := ⟨2, ![544, 1]⟩
abbrev S2176x1024 : Shape := ⟨2, ![2176, 1024]⟩
abbrev S4352x512 : Shape := ⟨2, ![4352, 512]⟩
abbrev S1024x512 : Shape := ⟨2, ![1024, 512]⟩

abbrev nBuf : Space → Nat
  | .hbm => 23
  | .vmem => 64
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x2048, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S4352x1024, .f32⟩
  | .hbm, ⟨7, _⟩ => ⟨S1x1024, .f32⟩
  | .hbm, ⟨8, _⟩ => ⟨S4352x1024, .f32⟩
  | .hbm, ⟨9, _⟩ => ⟨S4352x1024, .f32⟩
  | .hbm, ⟨10, _⟩ => ⟨S4352x1024, .f32⟩
  | .hbm, ⟨11, _⟩ => ⟨S4352x1024, .bf16⟩
  | .hbm, ⟨12, _⟩ => ⟨S4352x1024, .f32⟩
  | .hbm, ⟨13, _⟩ => ⟨S4352x1024, .bf16⟩
  | .hbm, ⟨14, _⟩ => ⟨S4352x1024, .bf16⟩
  | .hbm, ⟨15, _⟩ => ⟨S1024x1024, .f32⟩
  | .hbm, ⟨16, _⟩ => ⟨S4352x1024, .bf16⟩
  | .hbm, ⟨17, _⟩ => ⟨S4352x1024, .bf16⟩
  | .hbm, ⟨18, _⟩ => ⟨S4352x2048, .bf16⟩
  | .hbm, ⟨19, _⟩ => ⟨S4352x1024, .bf16⟩
  | .hbm, ⟨20, _⟩ => ⟨S4352x1024, .bf16⟩
  | .hbm, ⟨21, _⟩ => ⟨S1024x1024, .f32⟩
  | .hbm, ⟨22, _⟩ => ⟨S1024x1024, .f32⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S1024x1024, .bf16⟩
  | .local _ .vmem, ⟨5, _⟩ => ⟨S1024x1024, .bf16⟩
  | .local _ .vmem, ⟨6, _⟩ => ⟨S544x2048, .bf16⟩
  | .local _ .vmem, ⟨7, _⟩ => ⟨S544x2048, .bf16⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S544x1024, .bf16⟩
  | .local _ .vmem, ⟨13, _⟩ => ⟨S544x1024, .bf16⟩
  | .local _ .vmem, ⟨14, _⟩ => ⟨S544x1024, .bf16⟩
  | .local _ .vmem, ⟨15, _⟩ => ⟨S544x1024, .bf16⟩
  | .local _ .vmem, ⟨16, _⟩ => ⟨S1024x1024, .bf16⟩
  | .local _ .vmem, ⟨17, _⟩ => ⟨S544x1024, .f32⟩
  | .local _ .vmem, ⟨18, _⟩ => ⟨S544x1024, .f32⟩
  | .local _ .vmem, ⟨19, _⟩ => ⟨S1x1024, .f32⟩
  | .local _ .vmem, ⟨20, _⟩ => ⟨S544x1024, .f32⟩
  | .local _ .vmem, ⟨21, _⟩ => ⟨S544x1024, .f32⟩
  | .local _ .vmem, ⟨22, _⟩ => ⟨S544x1024, .bf16⟩
  | .local _ .vmem, ⟨23, _⟩ => ⟨S544x1024, .bf16⟩
  | .local _ .vmem, ⟨24, _⟩ => ⟨S2176x1024, .f32⟩
  | .local _ .vmem, ⟨25, _⟩ => ⟨S2176x1024, .f32⟩
  | .local _ .vmem, ⟨26, _⟩ => ⟨S1024x1024, .bf16⟩
  | .local _ .vmem, ⟨27, _⟩ => ⟨S2176x1024, .bf16⟩
  | .local _ .vmem, ⟨28, _⟩ => ⟨S2176x1024, .bf16⟩
  | .local _ .vmem, ⟨29, _⟩ => ⟨S4352x1024, .bf16⟩
  | .local _ .vmem, ⟨30, _⟩ => ⟨S4352x512, .f32⟩
  | .local _ .vmem, ⟨31, _⟩ => ⟨S4352x512, .f32⟩
  | .local _ .vmem, ⟨32, _⟩ => ⟨S1024x512, .f32⟩
  | .local _ .vmem, ⟨33, _⟩ => ⟨S1024x512, .f32⟩
  | .local _ .vmem, ⟨34, _⟩ => ⟨S544x1024, .f32⟩
  | .local _ .vmem, ⟨35, _⟩ => ⟨S544x1024, .f32⟩
  | .local _ .vmem, ⟨36, _⟩ => ⟨S544x1024, .f32⟩
  | .local _ .vmem, ⟨37, _⟩ => ⟨S544x1024, .f32⟩
  | .local _ .vmem, ⟨38, _⟩ => ⟨S544x2048, .bf16⟩
  | .local _ .vmem, ⟨39, _⟩ => ⟨S544x2048, .bf16⟩
  | .local _ .vmem, ⟨40, _⟩ => ⟨S544x1024, .bf16⟩
  | .local _ .vmem, ⟨41, _⟩ => ⟨S544x1024, .bf16⟩
  | .local _ .vmem, ⟨42, _⟩ => ⟨S1024x1024, .bf16⟩
  | .local _ .vmem, ⟨43, _⟩ => ⟨S1024x1024, .bf16⟩
  | .local _ .vmem, ⟨44, _⟩ => ⟨S544x1024, .bf16⟩
  | .local _ .vmem, ⟨45, _⟩ => ⟨S544x1024, .bf16⟩
  | .local _ .vmem, ⟨46, _⟩ => ⟨S544x1024, .bf16⟩
  | .local _ .vmem, ⟨47, _⟩ => ⟨S544x1024, .bf16⟩
  | .local _ .vmem, ⟨48, _⟩ => ⟨S544x2048, .bf16⟩
  | .local _ .vmem, ⟨49, _⟩ => ⟨S544x2048, .bf16⟩
  | .local _ .vmem, ⟨50, _⟩ => ⟨S544x1024, .bf16⟩
  | .local _ .vmem, ⟨51, _⟩ => ⟨S544x1024, .bf16⟩
  | .local _ .vmem, ⟨52, _⟩ => ⟨S544x1024, .bf16⟩
  | .local _ .vmem, ⟨53, _⟩ => ⟨S544x1024, .bf16⟩
  | .local _ .vmem, ⟨54, _⟩ => ⟨S4352x1024, .bf16⟩
  | .local _ .vmem, ⟨55, _⟩ => ⟨S4352x512, .bf16⟩
  | .local _ .vmem, ⟨56, _⟩ => ⟨S4352x512, .bf16⟩
  | .local _ .vmem, ⟨57, _⟩ => ⟨S1024x512, .f32⟩
  | .local _ .vmem, ⟨58, _⟩ => ⟨S1024x512, .f32⟩
  | .local _ .vmem, ⟨59, _⟩ => ⟨S4352x1024, .bf16⟩
  | .local _ .vmem, ⟨60, _⟩ => ⟨S4352x512, .bf16⟩
  | .local _ .vmem, ⟨61, _⟩ => ⟨S4352x512, .bf16⟩
  | .local _ .vmem, ⟨62, _⟩ => ⟨S1024x512, .f32⟩
  | .local _ .vmem, ⟨63, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v5 : Ref sig .tc := ⟨.hbm, 21, rfl⟩
abbrev main_v6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg7_1 : Ref sig .tc := ⟨.vmem, 47, rfl⟩
abbrev cc4_stg8_0 : Ref sig .tc := ⟨.vmem, 48, rfl⟩
abbrev cc4_stg8_1 : Ref sig .tc := ⟨.vmem, 49, rfl⟩
abbrev cc4_stg9_0 : Ref sig .tc := ⟨.vmem, 50, rfl⟩
abbrev cc4_stg9_1 : Ref sig .tc := ⟨.vmem, 51, rfl⟩
abbrev cc4_stg10_0 : Ref sig .tc := ⟨.vmem, 52, rfl⟩
abbrev cc4_stg10_1 : Ref sig .tc := ⟨.vmem, 53, rfl⟩
abbrev cc5_stg0_0 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc6_stg0_0 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg2_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc4_sem7_1 : DmaSem sig := 47
abbrev cc4_sem8_0 : DmaSem sig := 48
abbrev cc4_sem8_1 : DmaSem sig := 49
abbrev cc4_sem9_0 : DmaSem sig := 50
abbrev cc4_sem9_1 : DmaSem sig := 51
abbrev cc4_sem10_0 : DmaSem sig := 52
abbrev cc4_sem10_1 : DmaSem sig := 53
abbrev cc5_sem0_0 : DmaSem sig := 54
abbrev cc5_sem1_0 : DmaSem sig := 55
abbrev cc5_sem1_1 : DmaSem sig := 56
abbrev cc5_sem2_0 : DmaSem sig := 57
abbrev cc5_sem2_1 : DmaSem sig := 58
abbrev cc6_sem0_0 : DmaSem sig := 59
abbrev cc6_sem1_0 : DmaSem sig := 60
abbrev cc6_sem1_1 : DmaSem sig := 61
abbrev cc6_sem2_0 : DmaSem sig := 62
abbrev cc6_sem2_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S544x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S544x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S544x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S544x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2176x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S2176x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S4352x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4352x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S544x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S544x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S544x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S544x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1024x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x1024 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S544x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S544x1024 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S544x2048 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S544x1024 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S544x1024 .bf16 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨2, ![1, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4352x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4352x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4352x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4352x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== ReferenceIdeal.lean ====
abbrev S4352x1024 : Shape := ⟨2, ![4352, 1024]⟩
abbrev S4352x2048 : Shape := ⟨2, ![4352, 2048]⟩
abbrev S1024x1024 : Shape := ⟨2, ![1024, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 83
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x2048, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S4352x1024, .f32⟩
  | .hbm, ⟨7, _⟩ => ⟨S1x1024, .f32⟩
  | .hbm, ⟨8, _⟩ => ⟨S4352x1024, .f32⟩
  | .hbm, ⟨9, _⟩ => ⟨S4352x1024, .f32⟩
  | .hbm, ⟨10, _⟩ => ⟨S4352x1024, .f32⟩
  | .hbm, ⟨11, _⟩ => ⟨S4352x2048, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4352x1024, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S_, .f32⟩
  | .hbm, ⟨20, _⟩ => ⟨S4352x1024, .f32⟩
  | .hbm, ⟨21, _⟩ => ⟨S4352x1024, .f32⟩
  | .hbm, ⟨22, _⟩ => ⟨S_, .f32⟩
  | .hbm, ⟨23, _⟩ => ⟨S4352x1024, .f32⟩
  | .hbm, ⟨24, _⟩ => ⟨S4352x1024, .f32⟩
  | .hbm, ⟨25, _⟩ => ⟨S_, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x1024, .f32⟩
  | .hbm, ⟨33, _⟩ => ⟨S_, .f32⟩
  | .hbm, ⟨34, _⟩ => ⟨S4352x1024, .f32⟩
  | .hbm, ⟨35, _⟩ => ⟨S4352x1024, .f32⟩
  | .hbm, ⟨36, _⟩ => ⟨S_, .f32⟩
  | .hbm, ⟨37, _⟩ => ⟨S4352x1024, .f32⟩
  | .hbm, ⟨38, _⟩ => ⟨S4352x1024, .f32⟩
  | .hbm, ⟨39, _⟩ => ⟨S_, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S1024x1024, .f32⟩
  | .hbm, ⟨49, _⟩ => ⟨S1024x1024, .f32⟩
  | .hbm, ⟨50, _⟩ => ⟨S4352x1024, .f32⟩
  | .hbm, ⟨51, _⟩ => ⟨S4352x1024, .f32⟩
  | .hbm, ⟨52, _⟩ => ⟨S4352x1024, .f32⟩
  | .hbm, ⟨53, _⟩ => ⟨S1024x1024, .f32⟩
  | .hbm, ⟨54, _⟩ => ⟨S1024x1024, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S4352x1024, .f32⟩
  | .hbm, ⟨59, _⟩ => ⟨S1024x1024, .f32⟩
  | .hbm, ⟨60, _⟩ => ⟨S1024x1024, .f32⟩
  | .hbm, ⟨61, _⟩ => ⟨S4352x1024, .f32⟩
  | .hbm, ⟨62, _⟩ => ⟨S4352x1024, .f32⟩
  | .hbm, ⟨63, _⟩ => ⟨S4352x2048, .f32⟩
  | .hbm, ⟨64, _⟩ => ⟨S4352x1024, .f32⟩
  | .hbm, ⟨65, _⟩ => ⟨S_, .f32⟩
  | .hbm, ⟨66, _⟩ => ⟨S4352, .f32⟩
  | .hbm, ⟨67, _⟩ => ⟨S4352x1, .f32⟩
  | .hbm, ⟨68, _⟩ => ⟨S_, .f32⟩
  | .hbm, ⟨69, _⟩ => ⟨S4352x1, .f32⟩
  | .hbm, ⟨70, _⟩ => ⟨S4352x1, .f32⟩
  | .hbm, ⟨71, _⟩ => ⟨S_, .f32⟩
  | .hbm, ⟨72, _⟩ => ⟨S4352x1, .f32⟩
  | .hbm, ⟨73, _⟩ => ⟨S4352x1, .f32⟩
  | .hbm, ⟨74, _⟩ => ⟨S4352x1, .f32⟩
  | .hbm, ⟨75, _⟩ => ⟨S4352x1024, .f32⟩
  | .hbm, ⟨76, _⟩ => ⟨S4352x1024, .f32⟩
  | .hbm, ⟨77, _⟩ => ⟨S4352x1024, .f32⟩
  | .hbm, ⟨78, _⟩ => ⟨S4352x1024, .f32⟩
  | .hbm, ⟨79, _⟩ => ⟨S4352x1024, .bf16⟩
  | .hbm, ⟨80, _⟩ => ⟨S4352x1024, .bf16⟩
  | .hbm, ⟨81, _⟩ => ⟨S4352x1024, .bf16⟩
  | .hbm, ⟨82, _⟩ => ⟨S4352x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel2.lean ====
abbrev S4352x1024 : Shape := ⟨2, ![4352, 1024]⟩
abbrev S1x1024 : Shape := ⟨2, ![1, 1024]⟩
abbrev S4x1024x1408 : Shape := ⟨3, ![4, 1024, 1408]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S4352x5632 : Shape := ⟨2, ![4352, 5632]⟩
abbrev S4352x2816 : Shape := ⟨2, ![4352, 2816]⟩
abbrev S256x5632 : Shape := ⟨2, ![256, 5632]⟩
abbrev S256x2816 : Shape := ⟨2, ![256, 2816]⟩
abbrev S1x1024x1408 : Shape := ⟨3, ![1, 1024, 1408]⟩
abbrev S1024x1408 : Shape := ⟨2, ![1024, 1408]⟩
abbrev S256x1408 : Shape := ⟨2, ![256, 1408]⟩
abbrev S544x2816 : Shape := ⟨2, ![544, 2816]⟩
abbrev S544x1024 : Shape := ⟨2, ![544, 1024]⟩
abbrev S4352x1408 : Shape := ⟨2, ![4352, 1408]⟩
abbrev S4352x256 : Shape := ⟨2, ![4352, 256]⟩
abbrev S1408x256 : Shape := ⟨2, ![1408, 256]⟩
abbrev S4352x512 : Shape := ⟨2, ![4352, 512]⟩
abbrev S1x512x1408 : Shape := ⟨3, ![1, 512, 1408]⟩
abbrev S512x1408 : Shape := ⟨2, ![512, 1408]⟩
abbrev S1x1x1 : Shape := ⟨3, ![1, 1, 1]⟩
abbrev S1 : Shape := ⟨1, ![1]⟩
abbrev S1x1 : Shape := ⟨2, ![1, 1]⟩
abbrev S8x1024 : Shape := ⟨2, ![8, 1024]⟩
abbrev S544x5632 : Shape := ⟨2, ![544, 5632]⟩
abbrev S544x1408 : Shape := ⟨2, ![544, 1408]⟩
abbrev S544 : Shape := ⟨1, ![544]⟩
abbrev S544x1 : Shape := ⟨2, ![544, 1]⟩
abbrev S1024 : Shape := ⟨1, ![1024]⟩

abbrev nBuf : Space → Nat
  | .hbm => 18
  | .vmem => 50
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S4x1024x1408, .bf16⟩
  | .hbm, ⟨3, _⟩ => ⟨S2816x1024, .bf16⟩
  | .hbm, ⟨4, _⟩ => ⟨S4352x1024, .f32⟩
  | .hbm, ⟨5, _⟩ => ⟨S4352x1024, .bf16⟩
  | .hbm, ⟨6, _⟩ => ⟨S4352x5632, .bf16⟩
  | .hbm, ⟨7, _⟩ => ⟨S4352x2816, .bf16⟩
  | .hbm, ⟨8, _⟩ => ⟨S4352x1024, .f32⟩
  | .hbm, ⟨9, _⟩ => ⟨S4352x5632, .bf16⟩
  | .hbm, ⟨10, _⟩ => ⟨S2816x1024, .f32⟩
  | .hbm, ⟨11, _⟩ => ⟨S4x1024x1408, .f32⟩
  | .hbm, ⟨12, _⟩ => ⟨S1x1x1, .f32⟩
  | .hbm, ⟨13, _⟩ => ⟨S1, .f32⟩
  | .hbm, ⟨14, _⟩ => ⟨S1x1, .f32⟩
  | .hbm, ⟨15, _⟩ => ⟨S4352x1024, .f32⟩
  | .hbm, ⟨16, _⟩ => ⟨S8x1024, .f32⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S4x1024x1408, .bf16⟩
  | .local _ .vmem, ⟨8, _⟩ => ⟨S256x5632, .bf16⟩
  | .local _ .vmem, ⟨9, _⟩ => ⟨S256x5632, .bf16⟩
  | .local _ .vmem, ⟨10, _⟩ => ⟨S256x2816, .bf16⟩
  | .local _ .vmem, ⟨11, _⟩ => ⟨S256x2816, .bf16⟩
  | .local _ .vmem, ⟨12, _⟩ => ⟨S544x2816, .bf16⟩
  | .local _ .vmem, ⟨13, _⟩ => ⟨S544x2816, .bf16⟩
  | .local _ .vmem, ⟨14, _⟩ => ⟨S2816x1024, .bf16⟩
  | .local _ .vmem, ⟨15, _⟩ => ⟨S544x1024, .f32⟩
  | .local _ .vmem, ⟨16, _⟩ => ⟨S544x1024, .f32⟩
  | .local _ .vmem, ⟨17, _⟩ => ⟨S544x1024, .f32⟩
  | .local _ .vmem, ⟨18, _⟩ => ⟨S544x1024, .f32⟩
  | .local _ .vmem, ⟨19, _⟩ => ⟨S256x1024, .f32⟩
  | .local _ .vmem, ⟨20, _⟩ => ⟨S256x1024, .f32⟩
  | .local _ .vmem, ⟨21, _⟩ => ⟨S2816x1024, .bf16⟩
  | .local _ .vmem, ⟨22, _⟩ => ⟨S256x5632, .bf16⟩
  | .local _ .vmem, ⟨23, _⟩ => ⟨S256x5632, .bf16⟩
  | .local _ .vmem, ⟨24, _⟩ => ⟨S256x5632, .bf16⟩
  | .local _ .vmem, ⟨25, _⟩ => ⟨S256x5632, .bf16⟩
  | .local _ .vmem, ⟨26, _⟩ => ⟨S4352x1408, .bf16⟩
  | .local _ .vmem, ⟨27, _⟩ => ⟨S4352x1408, .bf16⟩
  | .local _ .vmem, ⟨28, _⟩ => ⟨S4352x256, .f32⟩
  | .local _ .vmem, ⟨29, _⟩ => ⟨S4352x256, .f32⟩
  | .local _ .vmem, ⟨30, _⟩ => ⟨S1408x256, .f32⟩
  | .local _ .vmem, ⟨31, _⟩ => ⟨S1408x256, .f32⟩
  | .local _ .vmem, ⟨32, _⟩ => ⟨S4352x512, .bf16⟩
  | .local _ .vmem, ⟨33, _⟩ => ⟨S4352x512, .bf16⟩
  | .local _ .vmem, ⟨34, _⟩ => ⟨S4352x1408, .bf16⟩
  | .local _ .vmem, ⟨35, _⟩ => ⟨S4352x1408, .bf16⟩
  | .local _ .vmem, ⟨36, _⟩ => ⟨S1x512x1408, .f32⟩
  | .local _ .vmem, ⟨37, _⟩ => ⟨S1x512x1408, .f32⟩
  | .local _ .vmem, ⟨38, _⟩ => ⟨S544x5632, .bf16⟩
  | .local _ .vmem, ⟨39, _⟩ => ⟨S544x5632, .bf16⟩
  | .local _ .vmem, ⟨40, _⟩ => ⟨S4x1024x1408, .bf16⟩
  | .local _ .vmem, ⟨41, _⟩ => ⟨S544x1024, .f32⟩
  | .local _ .vmem, ⟨42, _⟩ => ⟨S544x1024, .f32⟩
  | .local _ .vmem, ⟨43, _⟩ => ⟨S1x1024, .f32⟩
  | .local _ .vmem, ⟨44, _⟩ => ⟨S544x1024, .f32⟩
  | .local _ .vmem, ⟨45, _⟩ => ⟨S544x1024, .f32⟩
  | .local _ .vmem, ⟨46, _⟩ => ⟨S1x1, .f32⟩
  | .local _ .vmem, ⟨47, _⟩ => ⟨S544x1024, .f32⟩
  | .local _ .vmem, ⟨48, _⟩ => ⟨S544x1024, .f32⟩
  | .local _ .vmem, ⟨49, _⟩ => ⟨S8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg4_1 : Ref sig .tc := ⟨.vmem, 45, rfl⟩
abbrev cc6_stg5_0 : Ref sig .tc := ⟨.vmem, 46, rfl⟩
abbrev cc6_stg6_0 : Ref sig .tc := ⟨.vmem, 47, rfl⟩
abbrev cc6_stg6_1 : Ref sig .tc := ⟨.vmem, 48, rfl⟩
abbrev cc6_stg7_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc6_sem3_0 : DmaSem sig := 43
abbrev cc6_sem4_0 : DmaSem sig := 44
abbrev cc6_sem4_1 : DmaSem sig := 45
abbrev cc6_sem5_0 : DmaSem sig := 46
abbrev cc6_sem6_0 : DmaSem sig := 47
abbrev cc6_sem6_1 : DmaSem sig := 48
abbrev cc6_sem7_0 : DmaSem sig := 49

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x1024x1408 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x5632 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S544x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S544x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S544x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![17], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x5632 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x5632 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4352x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4352x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1408x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage5_0 : Fin 2 → Memref sig .tc .vmem S4352x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4352x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x512x1408 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S544x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4x1024x1408 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S544x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S544x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S544x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S8x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]
-- ==== Reference2Ideal.lean ====
abbrev S4352x1024 : Shape := ⟨2, ![4352, 1024]⟩
abbrev S1x1024 : Shape := ⟨2, ![1, 1024]⟩
abbrev S4x1024x1408 : Shape := ⟨3, ![4, 1024, 1408]⟩
abbrev S2816x1024 : Shape := ⟨2, ![2816, 1024]⟩
abbrev S1024x4x1408 : Shape := ⟨3, ![1024, 4, 1408]⟩
abbrev S1024x5632 : Shape := ⟨2, ![1024, 5632]⟩
abbrev S_ : Shape := ⟨0, ![]⟩
abbrev S4352 : Shape := ⟨1, ![4352]⟩
abbrev S4352x1 : Shape := ⟨2, ![4352, 1]⟩
abbrev S4352x5632 : Shape := ⟨2, ![4352, 5632]⟩
abbrev S4352x2816 : Shape := ⟨2, ![4352, 2816]⟩
abbrev S1024x2816 : Shape := ⟨2, ![1024, 2816]⟩
abbrev S5632x1024 : Shape := ⟨2, ![5632, 1024]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S4x1024x1408, .bf16⟩
  | .hbm, ⟨3, _⟩ => ⟨S2816x1024, .bf16⟩
  | .hbm, ⟨4, _⟩ => ⟨S4352x1024, .f32⟩
  | .hbm, ⟨5, _⟩ => ⟨S4x1024x1408, .f32⟩
  | .hbm, ⟨6, _⟩ => ⟨S2816x1024, .f32⟩
  | .hbm, ⟨7, _⟩ => ⟨S1024x4x1408, .f32⟩
  | .hbm, ⟨8, _⟩ => ⟨S1024x5632, .f32⟩
  | .hbm, ⟨9, _⟩ => ⟨S4352x1024, .f32⟩
  | .hbm, ⟨10, _⟩ => ⟨S_, .f32⟩
  | .hbm, ⟨11, _⟩ => ⟨S4352, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x1, .f32⟩
  | .hbm, ⟨20, _⟩ => ⟨S4352x1, .f32⟩
  | .hbm, ⟨21, _⟩ => ⟨S_, .f32⟩
  | .hbm, ⟨22, _⟩ => ⟨S4352x1, .f32⟩
  | .hbm, ⟨23, _⟩ => ⟨S4352x1, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4352x5632, .f32⟩
  | .hbm, ⟨29, _⟩ => ⟨S4352x2816, .f32⟩
  | .hbm, ⟨30, _⟩ => ⟨S4352x2816, .f32⟩
  | .hbm, ⟨31, _⟩ => ⟨S4352x2816, .f32⟩
  | .hbm, ⟨32, _⟩ => ⟨S4352x2816, .f32⟩
  | .hbm, ⟨33, _⟩ => ⟨S_, .f32⟩
  | .hbm, ⟨34, _⟩ => ⟨S4352x2816, .f32⟩
  | .hbm, ⟨35, _⟩ => ⟨S4352x2816, .f32⟩
  | .hbm, ⟨36, _⟩ => ⟨S_, .f32⟩
  | .hbm, ⟨37, _⟩ => ⟨S4352x2816, .f32⟩
  | .hbm, ⟨38, _⟩ => ⟨S4352x2816, .f32⟩
  | .hbm, ⟨39, _⟩ => ⟨S_, .f32⟩
  | .hbm, ⟨40, _⟩ => ⟨S4352x2816, .f32⟩
  | .hbm, ⟨41, _⟩ => ⟨S4352x2816, .f32⟩
  | .hbm, ⟨42, _⟩ => ⟨S4352x2816, .f32⟩
  | .hbm, ⟨43, _⟩ => ⟨S4352x2816, .f32⟩
  | .hbm, ⟨44, _⟩ => ⟨S4352x2816, .f32⟩
  | .hbm, ⟨45, _⟩ => ⟨S4352x1024, .f32⟩
  | .hbm, ⟨46, _⟩ => ⟨S_, .f32⟩
  | .hbm, ⟨47, _⟩ => ⟨S4352x1024, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S_, .f32⟩
  | .hbm, ⟨52, _⟩ => ⟨S4352x1024, .f32⟩
  | .hbm, ⟨53, _⟩ => ⟨S4352x1024, .f32⟩
  | .hbm, ⟨54, _⟩ => ⟨S1024x2816, .f32⟩
  | .hbm, ⟨55, _⟩ => ⟨S2816x1024, .f32⟩
  | .hbm, ⟨56, _⟩ => ⟨S4352x2816, .f32⟩
  | .hbm, ⟨57, _⟩ => ⟨S4352x2816, .f32⟩
  | .hbm, ⟨58, _⟩ => ⟨S4352x2816, .f32⟩
  | .hbm, ⟨59, _⟩ => ⟨S4352x2816, .f32⟩
  | .hbm, ⟨60, _⟩ => ⟨S4352x2816, .f32⟩
  | .hbm, ⟨61, _⟩ => ⟨S4352x2816, .f32⟩
  | .hbm, ⟨62, _⟩ => ⟨S4352x2816, .f32⟩
  | .hbm, ⟨63, _⟩ => ⟨S4352x5632, .f32⟩
  | .hbm, ⟨64, _⟩ => ⟨S5632x1024, .f32⟩
  | .hbm, ⟨65, _⟩ => ⟨S1024x5632, .f32⟩
  | .hbm, ⟨66, _⟩ => ⟨S4352x1024, .f32⟩
  | .hbm, ⟨67, _⟩ => ⟨S4352x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4352x1024, .f32⟩
  | .hbm, ⟨72, _⟩ => ⟨S4352x1024, .f32⟩
  | .hbm, ⟨73, _⟩ => ⟨S4352x1024, .f32⟩
  | .hbm, ⟨74, _⟩ => ⟨S_, .f32⟩
  | .hbm, ⟨75, _⟩ => ⟨S4352, .f32⟩
  | .hbm, ⟨76, _⟩ => ⟨S4352x1, .f32⟩
  | .hbm, ⟨77, _⟩ => ⟨S4352x1024, .f32⟩
  | .hbm, ⟨78, _⟩ => ⟨S4352x1024, .f32⟩
  | .hbm, ⟨79, _⟩ => ⟨S4352x1024, .f32⟩
  | .hbm, ⟨80, _⟩ => ⟨S4352x1, .f32⟩
  | .hbm, ⟨81, _⟩ => ⟨S_, .f32⟩
  | .hbm, ⟨82, _⟩ => ⟨S4352x1, .f32⟩
  | .hbm, ⟨83, _⟩ => ⟨S4352x1, .f32⟩
  | .hbm, ⟨84, _⟩ => ⟨S_, .f32⟩
  | .hbm, ⟨85, _⟩ => ⟨S4352, .f32⟩
  | .hbm, ⟨86, _⟩ => ⟨S4352x1024, .f32⟩
  | .hbm, ⟨87, _⟩ => ⟨S4352x1024, .f32⟩
  | .hbm, ⟨88, _⟩ => ⟨S4352x1024, .f32⟩
  | .hbm, ⟨89, _⟩ => ⟨S4352x1024, .f32⟩
  | .hbm, ⟨90, _⟩ => ⟨S4352x1024, .f32⟩
  | .hbm, ⟨91, _⟩ => ⟨S1024x4x1408, .f32⟩
  | .hbm, ⟨92, _⟩ => ⟨S4x1024x1408, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v22_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v22_1 : Ref sig .tc := ⟨.hbm, 42, rfl⟩
abbrev main_v22_0 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]
-- ==== Kernel3.lean ====
abbrev S4352x1024 : Shape := ⟨2, ![4352, 1024]⟩
abbrev S1x1024 : Shape := ⟨2, ![1, 1024]⟩
abbrev S1024x9232 : Shape := ⟨2, ![1024, 9232]⟩
abbrev S4352x2048 : Shape := ⟨2, ![4352, 2048]⟩
abbrev S4352x128 : Shape := ⟨2, ![4352, 128]⟩
abbrev S4352x4096 : Shape := ⟨2, ![4352, 4096]⟩
abbrev S256x1024 : Shape := ⟨2, ![256, 1024]⟩
abbrev S256 : Shape := ⟨1, ![256]⟩
abbrev S256x1 : Shape := ⟨2, ![256, 1]⟩
abbrev S1024x4096 : Shape := ⟨2, ![1024, 4096]⟩
abbrev S1024x4x8x128 : Shape := ⟨4, ![1024, 4, 8, 128]⟩
abbrev S1024x8x4x128 : Shape := ⟨4, ![1024, 8, 4, 128]⟩
abbrev S1024x1024 : Shape := ⟨2, ![1024, 1024]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S1024x512 : Shape := ⟨2, ![1024, 512]⟩
abbrev S4352x512 : Shape := ⟨2, ![4352, 512]⟩
abbrev S2176x1024 : Shape := ⟨2, ![2176, 1024]⟩
abbrev S544x1024 : Shape := ⟨2, ![544, 1024]⟩
abbrev S544x2048 : Shape := ⟨2, ![544, 2048]⟩
abbrev S544x128 : Shape := ⟨2, ![544, 128]⟩
abbrev S544x4096 : Shape := ⟨2, ![544, 4096]⟩
abbrev S512x1024 : Shape := ⟨2, ![512, 1024]⟩
abbrev S512x2048 : Shape := ⟨2, ![512, 2048]⟩
abbrev S512x128 : Shape := ⟨2, ![512, 128]⟩
abbrev S512x4096 : Shape := ⟨2, ![512, 4096]⟩
abbrev S544x512 : Shape := ⟨2, ![544, 512]⟩
abbrev S8x1024 : Shape := ⟨2, ![8, 1024]⟩
abbrev S1024 : Shape := ⟨1, ![1024]⟩

abbrev nBuf : Space → Nat
  | .hbm => 40
  | .vmem => 85
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S1024x9232, .bf16⟩
  | .hbm, ⟨3, _⟩ => ⟨S4352x1024, .bf16⟩
  | .hbm, ⟨4, _⟩ => ⟨S4352x2048, .bf16⟩
  | .hbm, ⟨5, _⟩ => ⟨S4352x128, .f32⟩
  | .hbm, ⟨6, _⟩ => ⟨S4352x4096, .bf16⟩
  | .hbm, ⟨7, _⟩ => ⟨S4352x2048, .bf16⟩
  | .hbm, ⟨8, _⟩ => ⟨S4352x1024, .f32⟩
  | .hbm, ⟨9, _⟩ => ⟨S4352x1024, .bf16⟩
  | .hbm, ⟨10, _⟩ => ⟨S1024x4096, .bf16⟩
  | .hbm, ⟨11, _⟩ => ⟨S1024x4x8x128, .bf16⟩
  | .hbm, ⟨12, _⟩ => ⟨S1024x8x4x128, .bf16⟩
  | .hbm, ⟨13, _⟩ => ⟨S1024x4096, .bf16⟩
  | .hbm, ⟨14, _⟩ => ⟨S1024x1024, .bf16⟩
  | .hbm, ⟨15, _⟩ => ⟨S1024x2048, .bf16⟩
  | .hbm, ⟨16, _⟩ => ⟨S1024x16, .bf16⟩
  | .hbm, ⟨17, _⟩ => ⟨S_, .i32⟩
  | .hbm, ⟨18, _⟩ => ⟨S_, .bf16⟩
  | .hbm, ⟨19, _⟩ => ⟨S1024x128, .bf16⟩
  | .hbm, ⟨20, _⟩ => ⟨S1024x2048, .bf16⟩
  | .hbm, ⟨21, _⟩ => ⟨S4352x1024, .bf16⟩
  | .hbm, ⟨22, _⟩ => ⟨S4352x2048, .f32⟩
  | .hbm, ⟨23, _⟩ => ⟨S4352x128, .f32⟩
  | .hbm, ⟨24, _⟩ => ⟨S4352x4096, .f32⟩
  | .hbm, ⟨25, _⟩ => ⟨S4352x2048, .bf16⟩
  | .hbm, ⟨26, _⟩ => ⟨S4352x1024, .f32⟩
  | .hbm, ⟨27, _⟩ => ⟨S1024x1024, .f32⟩
  | .hbm, ⟨28, _⟩ => ⟨S1024x2048, .f32⟩
  | .hbm, ⟨29, _⟩ => ⟨S1024x128, .f32⟩
  | .hbm, ⟨30, _⟩ => ⟨S1024x4096, .f32⟩
  | .hbm, ⟨31, _⟩ => ⟨S1024x2048, .f32⟩
  | .hbm, ⟨32, _⟩ => ⟨S1024x8x4x128, .f32⟩
  | .hbm, ⟨33, _⟩ => ⟨S1024x4x8x128, .f32⟩
  | .hbm, ⟨34, _⟩ => ⟨S1024x4096, .f32⟩
  | .hbm, ⟨35, _⟩ => ⟨S1024x16, .f32⟩
  | .hbm, ⟨36, _⟩ => ⟨S1024x9232, .f32⟩
  | .hbm, ⟨37, _⟩ => ⟨S4352x1024, .f32⟩
  | .hbm, ⟨38, _⟩ => ⟨S8x1024, .f32⟩
  | .hbm, ⟨39, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S4352x1024, .bf16⟩
  | .local _ .vmem, ⟨6, _⟩ => ⟨S1024x512, .bf16⟩
  | .local _ .vmem, ⟨7, _⟩ => ⟨S1024x512, .bf16⟩
  | .local _ .vmem, ⟨8, _⟩ => ⟨S4352x512, .bf16⟩
  | .local _ .vmem, ⟨9, _⟩ => ⟨S4352x512, .bf16⟩
  | .local _ .vmem, ⟨10, _⟩ => ⟨S2176x1024, .bf16⟩
  | .local _ .vmem, ⟨11, _⟩ => ⟨S2176x1024, .bf16⟩
  | .local _ .vmem, ⟨12, _⟩ => ⟨S1024x1024, .bf16⟩
  | .local _ .vmem, ⟨13, _⟩ => ⟨S1024x1024, .bf16⟩
  | .local _ .vmem, ⟨14, _⟩ => ⟨S2176x1024, .f32⟩
  | .local _ .vmem, ⟨15, _⟩ => ⟨S2176x1024, .f32⟩
  | .local _ .vmem, ⟨16, _⟩ => ⟨S4352x1024, .bf16⟩
  | .local _ .vmem, ⟨17, _⟩ => ⟨S1024x128, .bf16⟩
  | .local _ .vmem, ⟨18, _⟩ => ⟨S4352x128, .f32⟩
  | .local _ .vmem, ⟨19, _⟩ => ⟨S2176x1024, .bf16⟩
  | .local _ .vmem, ⟨20, _⟩ => ⟨S2176x1024, .bf16⟩
  | .local _ .vmem, ⟨21, _⟩ => ⟨S1024x1024, .bf16⟩
  | .local _ .vmem, ⟨22, _⟩ => ⟨S1024x1024, .bf16⟩
  | .local _ .vmem, ⟨23, _⟩ => ⟨S2176x1024, .f32⟩
  | .local _ .vmem, ⟨24, _⟩ => ⟨S2176x1024, .f32⟩
  | .local _ .vmem, ⟨25, _⟩ => ⟨S4352x1024, .bf16⟩
  | .local _ .vmem, ⟨26, _⟩ => ⟨S1024x512, .bf16⟩
  | .local _ .vmem, ⟨27, _⟩ => ⟨S1024x512, .bf16⟩
  | .local _ .vmem, ⟨28, _⟩ => ⟨S4352x512, .bf16⟩
  | .local _ .vmem, ⟨29, _⟩ => ⟨S4352x512, .bf16⟩
  | .local _ .vmem, ⟨30, _⟩ => ⟨S544x1024, .bf16⟩
  | .local _ .vmem, ⟨31, _⟩ => ⟨S544x1024, .bf16⟩
  | .local _ .vmem, ⟨32, _⟩ => ⟨S544x2048, .bf16⟩
  | .local _ .vmem, ⟨33, _⟩ => ⟨S544x2048, .bf16⟩
  | .local _ .vmem, ⟨34, _⟩ => ⟨S544x128, .f32⟩
  | .local _ .vmem, ⟨35, _⟩ => ⟨S544x128, .f32⟩
  | .local _ .vmem, ⟨36, _⟩ => ⟨S544x4096, .bf16⟩
  | .local _ .vmem, ⟨37, _⟩ => ⟨S544x4096, .bf16⟩
  | .local _ .vmem, ⟨38, _⟩ => ⟨S544x2048, .bf16⟩
  | .local _ .vmem, ⟨39, _⟩ => ⟨S544x2048, .bf16⟩
  | .local _ .vmem, ⟨40, _⟩ => ⟨S512x1024, .bf16⟩
  | .local _ .vmem, ⟨41, _⟩ => ⟨S512x1024, .bf16⟩
  | .local _ .vmem, ⟨42, _⟩ => ⟨S512x2048, .bf16⟩
  | .local _ .vmem, ⟨43, _⟩ => ⟨S512x2048, .bf16⟩
  | .local _ .vmem, ⟨44, _⟩ => ⟨S512x128, .bf16⟩
  | .local _ .vmem, ⟨45, _⟩ => ⟨S512x128, .bf16⟩
  | .local _ .vmem, ⟨46, _⟩ => ⟨S512x4096, .bf16⟩
  | .local _ .vmem, ⟨47, _⟩ => ⟨S512x4096, .bf16⟩
  | .local _ .vmem, ⟨48, _⟩ => ⟨S512x2048, .bf16⟩
  | .local _ .vmem, ⟨49, _⟩ => ⟨S512x2048, .bf16⟩
  | .local _ .vmem, ⟨50, _⟩ => ⟨S544x512, .f32⟩
  | .local _ .vmem, ⟨51, _⟩ => ⟨S544x512, .f32⟩
  | .local _ .vmem, ⟨52, _⟩ => ⟨S4352x1024, .bf16⟩
  | .local _ .vmem, ⟨53, _⟩ => ⟨S4352x512, .bf16⟩
  | .local _ .vmem, ⟨54, _⟩ => ⟨S4352x512, .bf16⟩
  | .local _ .vmem, ⟨55, _⟩ => ⟨S1024x512, .f32⟩
  | .local _ .vmem, ⟨56, _⟩ => ⟨S1024x512, .f32⟩
  | .local _ .vmem, ⟨57, _⟩ => ⟨S4352x1024, .bf16⟩
  | .local _ .vmem, ⟨58, _⟩ => ⟨S4352x512, .bf16⟩
  | .local _ .vmem, ⟨59, _⟩ => ⟨S4352x512, .bf16⟩
  | .local _ .vmem, ⟨60, _⟩ => ⟨S1024x512, .f32⟩
  | .local _ .vmem, ⟨61, _⟩ => ⟨S1024x512, .f32⟩
  | .local _ .vmem, ⟨62, _⟩ => ⟨S4352x1024, .bf16⟩
  | .local _ .vmem, ⟨63, _⟩ => ⟨S4352x128, .f32⟩
  | .local _ .vmem, ⟨64, _⟩ => ⟨S1024x128, .f32⟩
  | .local _ .vmem, ⟨65, _⟩ => ⟨S4352x1024, .bf16⟩
  | .local _ .vmem, ⟨66, _⟩ => ⟨S4352x512, .bf16⟩
  | .local _ .vmem, ⟨67, _⟩ => ⟨S4352x512, .bf16⟩
  | .local _ .vmem, ⟨68, _⟩ => ⟨S1024x512, .f32⟩
  | .local _ .vmem, ⟨69, _⟩ => ⟨S1024x512, .f32⟩
  | .local _ .vmem, ⟨70, _⟩ => ⟨S4352x1024, .bf16⟩
  | .local _ .vmem, ⟨71, _⟩ => ⟨S4352x512, .bf16⟩
  | .local _ .vmem, ⟨72, _⟩ => ⟨S4352x512, .bf16⟩
  | .local _ .vmem, ⟨73, _⟩ => ⟨S1024x512, .f32⟩
  | .local _ .vmem, ⟨74, _⟩ => ⟨S1024x512, .f32⟩
  | .local _ .vmem, ⟨75, _⟩ => ⟨S256x1024, .f32⟩
  | .local _ .vmem, ⟨76, _⟩ => ⟨S256x1024, .f32⟩
  | .local _ .vmem, ⟨77, _⟩ => ⟨S1x1024, .f32⟩
  | .local _ .vmem, ⟨78, _⟩ => ⟨S256x1024, .f32⟩
  | .local _ .vmem, ⟨79, _⟩ => ⟨S256x1024, .f32⟩
  | .local _ .vmem, ⟨80, _⟩ => ⟨S256x1024, .f32⟩
  | .local _ .vmem, ⟨81, _⟩ => ⟨S256x1024, .f32⟩
  | .local _ .vmem, ⟨82, _⟩ => ⟨S256x1024, .f32⟩
  | .local _ .vmem, ⟨83, _⟩ => ⟨S256x1024, .f32⟩
  | .local _ .vmem, ⟨84, _⟩ => ⟨S8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg2_1 : Ref sig .tc := ⟨.vmem, 35, rfl⟩
abbrev cc6_stg3_0 : Ref sig .tc := ⟨.vmem, 36, rfl⟩
abbrev cc6_stg3_1 : Ref sig .tc := ⟨.vmem, 37, rfl⟩
abbrev cc6_stg4_0 : Ref sig .tc := ⟨.vmem, 38, rfl⟩
abbrev cc6_stg4_1 : Ref sig .tc := ⟨.vmem, 39, rfl⟩
abbrev cc6_stg5_0 : Ref sig .tc := ⟨.vmem, 40, rfl⟩
abbrev cc6_stg5_1 : Ref sig .tc := ⟨.vmem, 41, rfl⟩
abbrev cc6_stg6_0 : Ref sig .tc := ⟨.vmem, 42, rfl⟩
abbrev cc6_stg6_1 : Ref sig .tc := ⟨.vmem, 43, rfl⟩
abbrev cc6_stg7_0 : Ref sig .tc := ⟨.vmem, 44, rfl⟩
abbrev cc6_stg7_1 : Ref sig .tc := ⟨.vmem, 45, rfl⟩
abbrev cc6_stg8_0 : Ref sig .tc := ⟨.vmem, 46, rfl⟩
abbrev cc6_stg8_1 : Ref sig .tc := ⟨.vmem, 47, rfl⟩
abbrev cc6_stg9_0 : Ref sig .tc := ⟨.vmem, 48, rfl⟩
abbrev cc6_stg9_1 : Ref sig .tc := ⟨.vmem, 49, rfl⟩
abbrev cc6_stg10_0 : Ref sig .tc := ⟨.vmem, 50, rfl⟩
abbrev cc6_stg10_1 : Ref sig .tc := ⟨.vmem, 51, rfl⟩
abbrev cc7_stg0_0 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc8_stg0_0 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc9_stg0_0 : Ref sig .tc := ⟨.vmem, 62, rfl⟩
abbrev cc9_stg1_0 : Ref sig .tc := ⟨.vmem, 63, rfl⟩
abbrev cc9_stg2_0 : Ref sig .tc := ⟨.vmem, 64, rfl⟩
abbrev cc10_stg0_0 : Ref sig .tc := ⟨.vmem, 65, rfl⟩
abbrev cc10_stg1_0 : Ref sig .tc := ⟨.vmem, 66, rfl⟩
abbrev cc10_stg1_1 : Ref sig .tc := ⟨.vmem, 67, rfl⟩
abbrev cc10_stg2_0 : Ref sig .tc := ⟨.vmem, 68, rfl⟩
abbrev cc10_stg2_1 : Ref sig .tc := ⟨.vmem, 69, rfl⟩
abbrev cc11_stg0_0 : Ref sig .tc := ⟨.vmem, 70, rfl⟩
abbrev cc11_stg1_0 : Ref sig .tc := ⟨.vmem, 71, rfl⟩
abbrev cc11_stg1_1 : Ref sig .tc := ⟨.vmem, 72, rfl⟩
abbrev cc11_stg2_0 : Ref sig .tc := ⟨.vmem, 73, rfl⟩
abbrev cc11_stg2_1 : Ref sig .tc := ⟨.vmem, 74, rfl⟩
abbrev cc12_stg0_0 : Ref sig .tc := ⟨.vmem, 75, rfl⟩
abbrev cc12_stg0_1 : Ref sig .tc := ⟨.vmem, 76, rfl⟩
abbrev cc12_stg1_0 : Ref sig .tc := ⟨.vmem, 77, rfl⟩
abbrev cc12_stg2_0 : Ref sig .tc := ⟨.vmem, 78, rfl⟩
abbrev cc12_stg2_1 : Ref sig .tc := ⟨.vmem, 79, rfl⟩
abbrev cc12_stg3_0 : Ref sig .tc := ⟨.vmem, 80, rfl⟩
abbrev cc12_stg3_1 : Ref sig .tc := ⟨.vmem, 81, rfl⟩
abbrev cc12_stg4_0 : Ref sig .tc := ⟨.vmem, 82, rfl⟩
abbrev cc12_stg4_1 : Ref sig .tc := ⟨.vmem, 83, rfl⟩
abbrev cc12_stg5_0 : Ref sig .tc := ⟨.vmem, 84, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc4_sem0_0 : DmaSem sig := 19
abbrev cc4_sem0_1 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem1_0 : DmaSem sig := 26
abbrev cc5_sem1_1 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem2_1 : DmaSem sig := 35
abbrev cc6_sem3_0 : DmaSem sig := 36
abbrev cc6_sem3_1 : DmaSem sig := 37
abbrev cc6_sem4_0 : DmaSem sig := 38
abbrev cc6_sem4_1 : DmaSem sig := 39
abbrev cc6_sem5_0 : DmaSem sig := 40
abbrev cc6_sem5_1 : DmaSem sig := 41
abbrev cc6_sem6_0 : DmaSem sig := 42
abbrev cc6_sem6_1 : DmaSem sig := 43
abbrev cc6_sem7_0 : DmaSem sig := 44
abbrev cc6_sem7_1 : DmaSem sig := 45
abbrev cc6_sem8_0 : DmaSem sig := 46
abbrev cc6_sem8_1 : DmaSem sig := 47
abbrev cc6_sem9_0 : DmaSem sig := 48
abbrev cc6_sem9_1 : DmaSem sig := 49
abbrev cc6_sem10_0 : DmaSem sig := 50
abbrev cc6_sem10_1 : DmaSem sig := 51
abbrev cc7_sem0_0 : DmaSem sig := 52
abbrev cc7_sem1_0 : DmaSem sig := 53
abbrev cc7_sem1_1 : DmaSem sig := 54
abbrev cc7_sem2_0 : DmaSem sig := 55
abbrev cc7_sem2_1 : DmaSem sig := 56
abbrev cc8_sem0_0 : DmaSem sig := 57
abbrev cc8_sem1_0 : DmaSem sig := 58
abbrev cc8_sem1_1 : DmaSem sig := 59
abbrev cc8_sem2_0 : DmaSem sig := 60
abbrev cc8_sem2_1 : DmaSem sig := 61
abbrev cc9_sem0_0 : DmaSem sig := 62
abbrev cc9_sem1_0 : DmaSem sig := 63
abbrev cc9_sem2_0 : DmaSem sig := 64
abbrev cc10_sem0_0 : DmaSem sig := 65
abbrev cc10_sem1_0 : DmaSem sig := 66
abbrev cc10_sem1_1 : DmaSem sig := 67
abbrev cc10_sem2_0 : DmaSem sig := 68
abbrev cc10_sem2_1 : DmaSem sig := 69
abbrev cc11_sem0_0 : DmaSem sig := 70
abbrev cc11_sem1_0 : DmaSem sig := 71
abbrev cc11_sem1_1 : DmaSem sig := 72
abbrev cc11_sem2_0 : DmaSem sig := 73
abbrev cc11_sem2_1 : DmaSem sig := 74
abbrev cc12_sem0_0 : DmaSem sig := 75
abbrev cc12_sem0_1 : DmaSem sig := 76
abbrev cc12_sem1_0 : DmaSem sig := 77
abbrev cc12_sem2_0 : DmaSem sig := 78
abbrev cc12_sem2_1 : DmaSem sig := 79
abbrev cc12_sem3_0 : DmaSem sig := 80
abbrev cc12_sem3_1 : DmaSem sig := 81
abbrev cc12_sem4_0 : DmaSem sig := 82
abbrev cc12_sem4_1 : DmaSem sig := 83
abbrev cc12_sem5_0 : DmaSem sig := 84

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S4352x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4352x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2176x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2176x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S4352x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S1024x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S4352x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2176x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2176x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4352x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S1024x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S4352x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_9 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_10 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S544x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S544x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S544x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S544x4096 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S544x2048 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S512x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![false, true]

abbrev stage6_6 : Fin 2 → Memref sig .tc .vmem S512x2048 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![false, true]

abbrev stage6_7 : Fin 2 → Memref sig .tc .vmem S512x128 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![false, true]

abbrev stage6_8 : Fin 2 → Memref sig .tc .vmem S512x4096 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![false, true]

abbrev stage6_9 : Fin 2 → Memref sig .tc .vmem S512x2048 .bf16 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![false, true]

abbrev stage6_10 : Fin 2 → Memref sig .tc .vmem S544x512 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true, true]

abbrev grid7 : Pipeline.Grid := ⟨2, ![1, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S4352x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S4352x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S4352x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S4352x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![1, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S4352x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 1 → Memref sig .tc .vmem S4352x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 1 → Memref sig .tc .vmem S1024x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true]

abbrev grid10 : Pipeline.Grid := ⟨2, ![1, 8], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 1 → Memref sig .tc .vmem S4352x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false]

abbrev stage10_1 : Fin 2 → Memref sig .tc .vmem S4352x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![1, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 1 → Memref sig .tc .vmem S4352x1024 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false]

abbrev stage11_1 : Fin 2 → Memref sig .tc .vmem S4352x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1024x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨1, ![17], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S256x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x1024 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S256x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S256x1024 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S256x1024 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S8x1024 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]
-- ==== Reference3Ideal.lean ====
abbrev S4352x1024 : Shape := ⟨2, ![4352, 1024]⟩
abbrev S1x1024 : Shape := ⟨2, ![1, 1024]⟩
abbrev S1024x9232 : Shape := ⟨2, ![1024, 9232]⟩
abbrev S4352x2048 : Shape := ⟨2, ![4352, 2048]⟩
abbrev S4352x128 : Shape := ⟨2, ![4352, 128]⟩
abbrev S4352x4096 : Shape := ⟨2, ![4352, 4096]⟩
abbrev S_ : Shape := ⟨0, ![]⟩
abbrev S4352 : Shape := ⟨1, ![4352]⟩
abbrev S4352x1 : Shape := ⟨2, ![4352, 1]⟩
abbrev S4352x9232 : Shape := ⟨2, ![4352, 9232]⟩
abbrev S4352x16 : Shape := ⟨2, ![4352, 16]⟩
abbrev S4352x4x8x128 : Shape := ⟨4, ![4352, 4, 8, 128]⟩
abbrev S4352x8x4x128 : Shape := ⟨4, ![4352, 8, 4, 128]⟩
abbrev S4352x112 : Shape := ⟨2, ![4352, 112]⟩
abbrev S9232x1024 : Shape := ⟨2, ![9232, 1024]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S1024x9232, .bf16⟩
  | .hbm, ⟨3, _⟩ => ⟨S4352x1024, .bf16⟩
  | .hbm, ⟨4, _⟩ => ⟨S4352x2048, .bf16⟩
  | .hbm, ⟨5, _⟩ => ⟨S4352x128, .f32⟩
  | .hbm, ⟨6, _⟩ => ⟨S4352x4096, .bf16⟩
  | .hbm, ⟨7, _⟩ => ⟨S4352x2048, .bf16⟩
  | .hbm, ⟨8, _⟩ => ⟨S4352x1024, .f32⟩
  | .hbm, ⟨9, _⟩ => ⟨S1024x9232, .f32⟩
  | .hbm, ⟨10, _⟩ => ⟨S4352x1024, .f32⟩
  | .hbm, ⟨11, _⟩ => ⟨S_, .f32⟩
  | .hbm, ⟨12, _⟩ => ⟨S4352, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S4352x1, .f32⟩
  | .hbm, ⟨21, _⟩ => ⟨S4352x1, .f32⟩
  | .hbm, ⟨22, _⟩ => ⟨S_, .f32⟩
  | .hbm, ⟨23, _⟩ => ⟨S4352x1, .f32⟩
  | .hbm, ⟨24, _⟩ => ⟨S4352x1, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S4352x9232, .f32⟩
  | .hbm, ⟨30, _⟩ => ⟨S4352x1024, .f32⟩
  | .hbm, ⟨31, _⟩ => ⟨S4352x2048, .f32⟩
  | .hbm, ⟨32, _⟩ => ⟨S4352x16, .f32⟩
  | .hbm, ⟨33, _⟩ => ⟨S4352x4096, .f32⟩
  | .hbm, ⟨34, _⟩ => ⟨S4352x2048, .f32⟩
  | .hbm, ⟨35, _⟩ => ⟨S4352x4x8x128, .f32⟩
  | .hbm, ⟨36, _⟩ => ⟨S4352x8x4x128, .f32⟩
  | .hbm, ⟨37, _⟩ => ⟨S4352x4096, .f32⟩
  | .hbm, ⟨38, _⟩ => ⟨S_, .f32⟩
  | .hbm, ⟨39, _⟩ => ⟨S4352x112, .f32⟩
  | .hbm, ⟨40, _⟩ => ⟨S4352x128, .f32⟩
  | .hbm, ⟨41, _⟩ => ⟨S_, .f32⟩
  | .hbm, ⟨42, _⟩ => ⟨S4352x112, .f32⟩
  | .hbm, ⟨43, _⟩ => ⟨S4352x1024, .f32⟩
  | .hbm, ⟨44, _⟩ => ⟨S4352x2048, .f32⟩
  | .hbm, ⟨45, _⟩ => ⟨S4352x4096, .f32⟩
  | .hbm, ⟨46, _⟩ => ⟨S4352x2048, .f32⟩
  | .hbm, ⟨47, _⟩ => ⟨S4352x1024, .bf16⟩
  | .hbm, ⟨48, _⟩ => ⟨S4352x2048, .bf16⟩
  | .hbm, ⟨49, _⟩ => ⟨S4352x16, .f32⟩
  | .hbm, ⟨50, _⟩ => ⟨S4352x112, .f32⟩
  | .hbm, ⟨51, _⟩ => ⟨S4352x8x4x128, .f32⟩
  | .hbm, ⟨52, _⟩ => ⟨S4352x4x8x128, .f32⟩
  | .hbm, ⟨53, _⟩ => ⟨S4352x4096, .f32⟩
  | .hbm, ⟨54, _⟩ => ⟨S4352x9232, .f32⟩
  | .hbm, ⟨55, _⟩ => ⟨S9232x1024, .f32⟩
  | .hbm, ⟨56, _⟩ => ⟨S1024x9232, .f32⟩
  | .hbm, ⟨57, _⟩ => ⟨S4352x1024, .f32⟩
  | .hbm, ⟨58, _⟩ => ⟨S4352x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4352x1024, .f32⟩
  | .hbm, ⟨63, _⟩ => ⟨S4352x1024, .f32⟩
  | .hbm, ⟨64, _⟩ => ⟨S4352x1024, .f32⟩
  | .hbm, ⟨65, _⟩ => ⟨S_, .f32⟩
  | .hbm, ⟨66, _⟩ => ⟨S4352, .f32⟩
  | .hbm, ⟨67, _⟩ => ⟨S4352x1, .f32⟩
  | .hbm, ⟨68, _⟩ => ⟨S4352x1024, .f32⟩
  | .hbm, ⟨69, _⟩ => ⟨S4352x1024, .f32⟩
  | .hbm, ⟨70, _⟩ => ⟨S4352x1024, .f32⟩
  | .hbm, ⟨71, _⟩ => ⟨S4352x1, .f32⟩
  | .hbm, ⟨72, _⟩ => ⟨S_, .f32⟩
  | .hbm, ⟨73, _⟩ => ⟨S4352x1, .f32⟩
  | .hbm, ⟨74, _⟩ => ⟨S4352x1, .f32⟩
  | .hbm, ⟨75, _⟩ => ⟨S_, .f32⟩
  | .hbm, ⟨76, _⟩ => ⟨S4352, .f32⟩
  | .hbm, ⟨77, _⟩ => ⟨S4352x1024, .f32⟩
  | .hbm, ⟨78, _⟩ => ⟨S4352x1024, .f32⟩
  | .hbm, ⟨79, _⟩ => ⟨S4352x1024, .f32⟩
  | .hbm, ⟨80, _⟩ => ⟨S4352x1024, .f32⟩
  | .hbm, ⟨81, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Kernel4.lean ====
abbrev S2x2176x2048 : Shape := ⟨3, ![2, 2176, 2048]⟩
abbrev S2x2176x128 : Shape := ⟨3, ![2, 2176, 128]⟩
abbrev S2x2176x1024 : Shape := ⟨3, ![2, 2176, 1024]⟩
abbrev S1x128 : Shape := ⟨2, ![1, 128]⟩
abbrev S1x1024 : Shape := ⟨2, ![1, 1024]⟩
abbrev S2x17x1024x128 : Shape := ⟨4, ![2, 17, 1024, 128]⟩
abbrev S2x17x512x128 : Shape := ⟨4, ![2, 17, 512, 128]⟩
abbrev S8x128 : Shape := ⟨2, ![8, 128]⟩
abbrev S8x1024 : Shape := ⟨2, ![8, 1024]⟩
abbrev S1x128x1024 : Shape := ⟨3, ![1, 128, 1024]⟩
abbrev S1x128x512 : Shape := ⟨3, ![1, 128, 512]⟩
abbrev S1x128x128 : Shape := ⟨3, ![1, 128, 128]⟩
abbrev S1x1x1024x128 : Shape := ⟨4, ![1, 1, 1024, 128]⟩
abbrev S1x1x512x128 : Shape := ⟨4, ![1, 1, 512, 128]⟩
abbrev S1x128x2048 : Shape := ⟨3, ![1, 128, 2048]⟩
abbrev S1024x128 : Shape := ⟨2, ![1024, 128]⟩
abbrev S128x1 : Shape := ⟨2, ![128, 1]⟩
abbrev S128x128 : Shape := ⟨2, ![128, 128]⟩
abbrev S512x128 : Shape := ⟨2, ![512, 128]⟩
abbrev S128x1024 : Shape := ⟨2, ![128, 1024]⟩
abbrev S128x512 : Shape := ⟨2, ![128, 512]⟩
abbrev S128 : Shape := ⟨1, ![128]⟩
abbrev S1 : Shape := ⟨1, ![1]⟩
abbrev S1x1 : Shape := ⟨2, ![1, 1]⟩
abbrev S128x256 : Shape := ⟨2, ![128, 256]⟩
abbrev S1024 : Shape := ⟨1, ![1024]⟩
abbrev S128x768 : Shape := ⟨2, ![128, 768]⟩
abbrev S1x1x128 : Shape := ⟨3, ![1, 1, 128]⟩
abbrev S1x1x1 : Shape := ⟨3, ![1, 1, 1]⟩
abbrev S1x128x1 : Shape := ⟨3, ![1, 128, 1]⟩
abbrev S896x128 : Shape := ⟨2, ![896, 128]⟩
abbrev S128x896 : Shape := ⟨2, ![128, 896]⟩
abbrev S768x128 : Shape := ⟨2, ![768, 128]⟩
abbrev S128x384 : Shape := ⟨2, ![128, 384]⟩
abbrev S640x128 : Shape := ⟨2, ![640, 128]⟩
abbrev S256x128 : Shape := ⟨2, ![256, 128]⟩
abbrev S128x640 : Shape := ⟨2, ![128, 640]⟩
abbrev S384x128 : Shape := ⟨2, ![384, 128]⟩
abbrev S2x2176x512 : Shape := ⟨3, ![2, 2176, 512]⟩

abbrev nBuf : Space → Nat
  | .hbm => 20
  | .vmem => 33
  | .smem => 0
  | _ => 0

abbrev bufTy : (tb : Table) → Fin (tcTables nBuf tb) → BufTy
  | .hbm, ⟨0, _⟩ => ⟨S2x2176x2048, .f32⟩
  | .hbm, ⟨1, _⟩ => ⟨S2x2176x128, .f32⟩
  | .hbm, ⟨2, _⟩ => ⟨S2x2176x1024, .bf16⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x1024, .f32⟩
  | .hbm, ⟨7, _⟩ => ⟨S2x17x1024x128, .f32⟩
  | .hbm, ⟨8, _⟩ => ⟨S2x2176x128, .f32⟩
  | .hbm, ⟨9, _⟩ => ⟨S2x17x512x128, .f32⟩
  | .hbm, ⟨10, _⟩ => ⟨S2x2176x1024, .f32⟩
  | .hbm, ⟨11, _⟩ => ⟨S2x2176x1024, .bf16⟩
  | .hbm, ⟨12, _⟩ => ⟨S2x2176x2048, .f32⟩
  | .hbm, ⟨13, _⟩ => ⟨S2x2176x128, .f32⟩
  | .hbm, ⟨14, _⟩ => ⟨S2x2176x1024, .bf16⟩
  | .hbm, ⟨15, _⟩ => ⟨S8x128, .f32⟩
  | .hbm, ⟨16, _⟩ => ⟨S8x1024, .f32⟩
  | .hbm, ⟨17, _⟩ => ⟨S2x2176x512, .f32⟩
  | .hbm, ⟨18, _⟩ => ⟨S1x128, .f32⟩
  | .hbm, ⟨19, _⟩ => ⟨S1x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x128, .f32⟩
  | .local _ .vmem, ⟨7, _⟩ => ⟨S1x128x128, .f32⟩
  | .local _ .vmem, ⟨8, _⟩ => ⟨S1x128x1024, .bf16⟩
  | .local _ .vmem, ⟨9, _⟩ => ⟨S1x128x1024, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x1024, .f32⟩
  | .local _ .vmem, ⟨14, _⟩ => ⟨S1x1x1024x128, .f32⟩
  | .local _ .vmem, ⟨15, _⟩ => ⟨S1x1x1024x128, .f32⟩
  | .local _ .vmem, ⟨16, _⟩ => ⟨S1x128x128, .f32⟩
  | .local _ .vmem, ⟨17, _⟩ => ⟨S1x128x128, .f32⟩
  | .local _ .vmem, ⟨18, _⟩ => ⟨S1x1x512x128, .f32⟩
  | .local _ .vmem, ⟨19, _⟩ => ⟨S1x1x512x128, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .bf16⟩
  | .local _ .vmem, ⟨23, _⟩ => ⟨S1x128x1024, .bf16⟩
  | .local _ .vmem, ⟨24, _⟩ => ⟨S1x128x2048, .f32⟩
  | .local _ .vmem, ⟨25, _⟩ => ⟨S1x128x2048, .f32⟩
  | .local _ .vmem, ⟨26, _⟩ => ⟨S1x128x128, .f32⟩
  | .local _ .vmem, ⟨27, _⟩ => ⟨S1x128x128, .f32⟩
  | .local _ .vmem, ⟨28, _⟩ => ⟨S1x128x1024, .bf16⟩
  | .local _ .vmem, ⟨29, _⟩ => ⟨S1x128x1024, .bf16⟩
  | .local _ .vmem, ⟨30, _⟩ => ⟨S8x128, .f32⟩
  | .local _ .vmem, ⟨31, _⟩ => ⟨S8x1024, .f32⟩
  | .local _ .vmem, ⟨32, _⟩ => ⟨S1024x128, .f32⟩
  | _, _ => ⟨S2x2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c2_i32 : BitVec 32 := 2#32
  let c0_i32 : BitVec 32 := 0#32
  ![arg0.toNat, v0.toNat, c2_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c3_i32 : BitVec 32 := 3#32
  let c0_i32 : BitVec 32 := 0#32
  ![arg0.toNat, v0.toNat, c3_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_11 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_15 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_16 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== Kernel4Ideal.lean ====
variable {F : FTy → Type} [FloatOps F] [Named F]
def κ : String → Option EReal := fun
  | "mask" => some ⊥
  | _ => none
-- ==== Reference4Ideal.lean ====
abbrev S2x2176x2048 : Shape := ⟨3, ![2, 2176, 2048]⟩
abbrev S2x2176x128 : Shape := ⟨3, ![2, 2176, 128]⟩
abbrev S2x2176x1024 : Shape := ⟨3, ![2, 2176, 1024]⟩
abbrev S1x128 : Shape := ⟨2, ![1, 128]⟩
abbrev S1x1024 : Shape := ⟨2, ![1, 1024]⟩
abbrev S2x17x1024x128 : Shape := ⟨4, ![2, 17, 1024, 128]⟩
abbrev S2x17x512x128 : Shape := ⟨4, ![2, 17, 512, 128]⟩
abbrev S1024 : Shape := ⟨1, ![1024]⟩
abbrev S_ : Shape := ⟨0, ![]⟩
abbrev S2x2176x4x256 : Shape := ⟨4, ![2, 2176, 4, 256]⟩
abbrev S2x2176x4 : Shape := ⟨3, ![2, 2176, 4]⟩
abbrev S2x2176x4x1 : Shape := ⟨4, ![2, 2176, 4, 1]⟩
abbrev S1x1x1024 : Shape := ⟨3, ![1, 1, 1024]⟩
abbrev S2x2064x16 : Shape := ⟨3, ![2, 2064, 16]⟩
abbrev S1x16 : Shape := ⟨2, ![1, 16]⟩
abbrev S16 : Shape := ⟨1, ![16]⟩
abbrev S1x1x16 : Shape := ⟨3, ![1, 1, 16]⟩
abbrev S2x112x16 : Shape := ⟨3, ![2, 112, 16]⟩
abbrev S2x2176x16 : Shape := ⟨3, ![2, 2176, 16]⟩
abbrev S2x16x2176 : Shape := ⟨3, ![2, 16, 2176]⟩
abbrev S2x16x17x128 : Shape := ⟨4, ![2, 16, 17, 128]⟩
abbrev S2x17x4x4x64x128 : Shape := ⟨6, ![2, 17, 4, 4, 64, 128]⟩
abbrev S17x2x4x4x64x128 : Shape := ⟨6, ![17, 2, 4, 4, 64, 128]⟩
abbrev S2x2176x512 : Shape := ⟨3, ![2, 2176, 512]⟩
abbrev S2x17x128x4x4x64 : Shape := ⟨6, ![2, 17, 128, 4, 4, 64]⟩
abbrev S2x17x128x4x128 : Shape := ⟨5, ![2, 17, 128, 4, 128]⟩
abbrev S2x17x128x4x4 : Shape := ⟨5, ![2, 17, 128, 4, 4]⟩
abbrev S2x17x128x4x4x1 : Shape := ⟨6, ![2, 17, 128, 4, 4, 1]⟩
abbrev S128x128 : Shape := ⟨2, ![128, 128]⟩
abbrev S2x16x17x128x1 : Shape := ⟨5, ![2, 16, 17, 128, 1]⟩
abbrev S2x16x17x1x128 : Shape := ⟨5, ![2, 16, 17, 1, 128]⟩
abbrev S2x16x17x128x128 : Shape := ⟨5, ![2, 16, 17, 128, 128]⟩
abbrev S2x4x4x17x128x128 : Shape := ⟨6, ![2, 4, 4, 17, 128, 128]⟩
abbrev S2x17x4x128x128 : Shape := ⟨5, ![2, 17, 4, 128, 128]⟩
abbrev S2x17x4x1x128x128 : Shape := ⟨6, ![2, 17, 4, 1, 128, 128]⟩
abbrev S2x17x4x4x128x128 : Shape := ⟨6, ![2, 17, 4, 4, 128, 128]⟩
abbrev S2x4x4x17x128 : Shape := ⟨5, ![2, 4, 4, 17, 128]⟩
abbrev S4x4 : Shape := ⟨2, ![4, 4]⟩
abbrev S4x4x1 : Shape := ⟨3, ![4, 4, 1]⟩
abbrev S1x1x1x4x4x1 : Shape := ⟨6, ![1, 1, 1, 4, 4, 1]⟩

abbrev nBuf : Space → Nat
  | .hbm => 203
  | .vmem => 0
  | .smem => 0
  | _ => 0

abbrev hbmTy0_0 (i : Nat) : BufTy := match i % 128 with
  | 0 => ⟨S2x2176x2048, .f32⟩
  | 1 => ⟨S2x2176x128, .f32⟩
  | 2 => ⟨S2x2176x1024, .bf16⟩
  | 3 => ⟨S1x128, .f32⟩
  | 4 => ⟨S1x128, .f32⟩
  | 5 => ⟨S1x128, .f32⟩
  | 6 => ⟨S1x1024, .f32⟩
  | 7 => ⟨S2x17x1024x128, .f32⟩
  | 8 => ⟨S2x2176x128, .f32⟩
  | 9 => ⟨S2x17x512x128, .f32⟩
  | 10 => ⟨S2x2176x1024, .f32⟩
  | 11 => ⟨S2x2176x1024, .bf16⟩
  | 12 => ⟨S2x2176x1024, .f32⟩
  | 13 => ⟨S1024, .f32⟩
  | 14 => ⟨S2x2176x1024, .f32⟩
  | 15 => ⟨S2x2176x1024, .f32⟩
  | 16 => ⟨S_, .f32⟩
  | 17 => ⟨S2x2176x1024, .f32⟩
  | 18 => ⟨S2x2176x1024, .f32⟩
  | 19 => ⟨S_, .f32⟩
  | 20 => ⟨S2x2176x1024, .f32⟩
  | 21 => ⟨S2x2176x1024, .f32⟩
  | 22 => ⟨S_, .f32⟩
  | 23 => ⟨S2x2176x1024, .f32⟩
  | 24 => ⟨S2x2176x1024, .f32⟩
  | 25 => ⟨S2x2176x1024, .f32⟩
  | 26 => ⟨S2x2176x1024, .f32⟩
  | 27 => ⟨S2x2176x1024, .f32⟩
  | 28 => ⟨S2x2176x4x256, .f32⟩
  | 29 => ⟨S2x2176x4x256, .f32⟩
  | 30 => ⟨S_, .f32⟩
  | 31 => ⟨S2x2176x4, .f32⟩
  | 32 => ⟨S2x2176x4x1, .f32⟩
  | 33 => ⟨S_, .f32⟩
  | 34 => ⟨S2x2176x4x1, .f32⟩
  | 35 => ⟨S2x2176x4x1, .f32⟩
  | 36 => ⟨S_, .f32⟩
  | 37 => ⟨S2x2176x4x1, .f32⟩
  | 38 => ⟨S2x2176x4x1, .f32⟩
  | 39 => ⟨S2x2176x4x1, .f32⟩
  | 40 => ⟨S2x2176x4x1, .f32⟩
  | 41 => ⟨S_, .f32⟩
  | 42 => ⟨S2x2176x4x1, .f32⟩
  | 43 => ⟨S2x2176x4x1, .f32⟩
  | 44 => ⟨S2x2176x4x256, .f32⟩
  | 45 => ⟨S2x2176x4x256, .f32⟩
  | 46 => ⟨S2x2176x1024, .f32⟩
  | 47 => ⟨S1x1x1024, .f32⟩
  | 48 => ⟨S2x2176x1024, .f32⟩
  | 49 => ⟨S2x2176x1024, .f32⟩
  | 50 => ⟨S2x2176x1024, .f32⟩
  | 51 => ⟨S2x2176x1024, .f32⟩
  | 52 => ⟨S_, .f32⟩
  | 53 => ⟨S1024, .f32⟩
  | 54 => ⟨S1x1x1024, .f32⟩
  | 55 => ⟨S2x2176x1024, .f32⟩
  | 56 => ⟨S2x2176x1024, .f32⟩
  | 57 => ⟨S_, .f32⟩
  | 58 => ⟨S1024, .f32⟩
  | 59 => ⟨S2x2176x4x256, .f32⟩
  | 60 => ⟨S2x2176x4x256, .f32⟩
  | 61 => ⟨S_, .f32⟩
  | 62 => ⟨S2x2176x4, .f32⟩
  | 63 => ⟨S2x2176x4x1, .f32⟩
  | 64 => ⟨S2x2176x4x256, .f32⟩
  | 65 => ⟨S2x2176x4x256, .f32⟩
  | 66 => ⟨S2x2176x4x1, .f32⟩
  | 67 => ⟨S_, .f32⟩
  | 68 => ⟨S2x2176x4x1, .f32⟩
  | 69 => ⟨S2x2176x4x1, .f32⟩
  | 70 => ⟨S_, .f32⟩
  | 71 => ⟨S2x2176x4, .f32⟩
  | 72 => ⟨S2x2176x4x256, .f32⟩
  | 73 => ⟨S2x2176x4x256, .f32⟩
  | 74 => ⟨S2x2176x4x256, .f32⟩
  | 75 => ⟨S2x2176x4x256, .f32⟩
  | 76 => ⟨S2x2176x4x256, .f32⟩
  | 77 => ⟨S2x2176x1024, .f32⟩
  | 78 => ⟨S2x2176x1024, .f32⟩
  | 79 => ⟨S2x2176x1024, .f32⟩
  | 80 => ⟨S2x2176x1024, .f32⟩
  | 81 => ⟨S2x2176x1024, .f32⟩
  | 82 => ⟨S2x2176x1024, .f32⟩
  | 83 => ⟨S2x2176x1024, .f32⟩
  | 84 => ⟨S2x2064x16, .f32⟩
  | 85 => ⟨S1x16, .f32⟩
  | 86 => ⟨S16, .f32⟩
  | 87 => ⟨S1x1x16, .f32⟩
  | 88 => ⟨S2x2064x16, .f32⟩
  | 89 => ⟨S2x2064x16, .f32⟩
  | 90 => ⟨S_, .f32⟩
  | 91 => ⟨S2x2064x16, .f32⟩
  | 92 => ⟨S2x2064x16, .f32⟩
  | 93 => ⟨S2x2064x16, .f32⟩
  | 94 => ⟨S2x2064x16, .f32⟩
  | 95 => ⟨S2x2064x16, .i1⟩
  | 96 => ⟨S2x2064x16, .f32⟩
  | 97 => ⟨S2x2064x16, .f32⟩
  | 98 => ⟨S2x2064x16, .f32⟩
  | 99 => ⟨S2x2064x16, .f32⟩
  | 100 => ⟨S2x2064x16, .f32⟩
  | 101 => ⟨S2x2064x16, .f32⟩
  | 102 => ⟨S2x2064x16, .f32⟩
  | 103 => ⟨S2x2064x16, .f32⟩
  | 104 => ⟨S_, .f32⟩
  | 105 => ⟨S2x112x16, .f32⟩
  | 106 => ⟨S2x2176x16, .f32⟩
  | 107 => ⟨S2x2176x16, .f32⟩
  | 108 => ⟨S2x16x2176, .f32⟩
  | 109 => ⟨S2x16x17x128, .f32⟩
  | 110 => ⟨S2x17x4x4x64x128, .f32⟩
  | 111 => ⟨S17x2x4x4x64x128, .f32⟩
  | 112 => ⟨S2x2176x512, .f32⟩
  | 113 => ⟨S1x16, .f32⟩
  | 114 => ⟨S16, .f32⟩
  | 115 => ⟨S2x2176x512, .f32⟩
  | 116 => ⟨S2x2176x1024, .f32⟩
  | 117 => ⟨S2x17x128x4x4x64, .f32⟩
  | 118 => ⟨S2x17x128x4x128, .f32⟩
  | 119 => ⟨S2x17x128x4x128, .f32⟩
  | 120 => ⟨S2x17x128x4x4, .f32⟩
  | 121 => ⟨S2x17x128x4x4x1, .f32⟩
  | 122 => ⟨S2x17x128x4x4x64, .f32⟩
  | 123 => ⟨S2x17x128x4x4x64, .f32⟩
  | 124 => ⟨S_, .i1⟩
  | 125 => ⟨S128x128, .i1⟩
  | 126 => ⟨S128x128, .i32⟩
  | 127 => ⟨S_, .i32⟩
  | _ => ⟨S2x2176x2048, .f32⟩

abbrev hbmTy0_1 (i : Nat) : BufTy := match i % 128 with
  | 0 => ⟨S128x128, .i32⟩
  | 1 => ⟨S128x128, .i32⟩
  | 2 => ⟨S128x128, .i32⟩
  | 3 => ⟨S128x128, .i1⟩
  | 4 => ⟨S_, .i1⟩
  | 5 => ⟨S128x128, .i1⟩
  | 6 => ⟨S128x128, .i1⟩
  | 7 => ⟨S2x16x17x128x1, .f32⟩
  | 8 => ⟨S2x16x17x1x128, .f32⟩
  | 9 => ⟨S2x16x17x128x128, .f32⟩
  | 10 => ⟨S2x16x17x128x128, .f32⟩
  | 11 => ⟨S2x16x17x128x128, .f32⟩
  | 12 => ⟨S_, .f32⟩
  | 13 => ⟨S_, .f32⟩
  | 14 => ⟨S2x16x17x128x128, .i1⟩
  | 15 => ⟨S2x16x17x128x128, .f32⟩
  | 16 => ⟨S2x16x17x128x128, .f32⟩
  | 17 => ⟨S2x16x17x128x128, .f32⟩
  | 18 => ⟨S2x4x4x17x128x128, .f32⟩
  | 19 => ⟨S2x17x4x128x128, .f32⟩
  | 20 => ⟨S2x17x4x1x128x128, .f32⟩
  | 21 => ⟨S2x17x4x4x128x128, .f32⟩
  | 22 => ⟨S2x17x4x4x128x128, .f32⟩
  | 23 => ⟨S2x17x4x4x128x128, .f32⟩
  | 24 => ⟨S2x17x4x4x64x128, .f32⟩
  | 25 => ⟨S2x17x128x4x4x64, .f32⟩
  | 26 => ⟨S2x16x17x128, .f32⟩
  | 27 => ⟨S2x4x4x17x128, .f32⟩
  | 28 => ⟨S2x17x128x4x4, .f32⟩
  | 29 => ⟨S2x17x4x4x64x128, .f32⟩
  | 30 => ⟨S2x17x128x4x4x64, .f32⟩
  | 31 => ⟨S2x17x128x4x4x1, .f32⟩
  | 32 => ⟨S2x17x128x4x4x64, .f32⟩
  | 33 => ⟨S2x17x128x4x4x64, .f32⟩
  | 34 => ⟨S2x17x128x4x4x64, .f32⟩
  | 35 => ⟨S4x4, .f32⟩
  | 36 => ⟨S4x4x1, .f32⟩
  | 37 => ⟨S1x1x1x4x4x1, .f32⟩
  | 38 => ⟨S2x17x128x4x4x64, .f32⟩
  | 39 => ⟨S2x17x128x4x4x64, .f32⟩
  | 40 => ⟨S2x17x128x4x4x64, .f32⟩
  | 41 => ⟨S2x2176x1024, .f32⟩
  | 42 => ⟨S2x17x128x4x4x64, .f32⟩
  | 43 => ⟨S2x17x128x4x4x64, .f32⟩
  | 44 => ⟨S_, .f32⟩
  | 45 => ⟨S4x4, .f32⟩
  | 46 => ⟨S1x1x1x4x4x1, .f32⟩
  | 47 => ⟨S_, .f32⟩
  | 48 => ⟨S4x4, .f32⟩
  | 49 => ⟨S4x4x1, .f32⟩
  | 50 => ⟨S_, .f32⟩
  | 51 => ⟨S4x4, .f32⟩
  | 52 => ⟨S16, .f32⟩
  | 53 => ⟨S2x17x128x4x4x64, .f32⟩
  | 54 => ⟨S2x17x128x4x4x64, .f32⟩
  | 55 => ⟨S2x17x4x4x64x128, .f32⟩
  | 56 => ⟨S2x17x4x128x128, .f32⟩
  | 57 => ⟨S2x17x128x4x128, .f32⟩
  | 58 => ⟨S2x17x4x4x64x128, .f32⟩
  | 59 => ⟨S2x17x4x4x128x128, .f32⟩
  | 60 => ⟨S2x17x4x4x128x128, .f32⟩
  | 61 => ⟨S_, .f32⟩
  | 62 => ⟨S2x17x4x128x128, .f32⟩
  | 63 => ⟨S2x17x4x1x128x128, .f32⟩
  | 64 => ⟨S_, .f32⟩
  | 65 => ⟨S2x17x4x128x128, .f32⟩
  | 66 => ⟨S2x17x4x128x128, .f32⟩
  | 67 => ⟨S2x17x128x4x128, .f32⟩
  | 68 => ⟨S2x17x128x4x128, .f32⟩
  | 69 => ⟨S2x2176x512, .f32⟩
  | 70 => ⟨S1x16, .f32⟩
  | 71 => ⟨S_, .f32⟩
  | 72 => ⟨S1x128, .f32⟩
  | 73 => ⟨S2x2176x1024, .bf16⟩
  | 74 => ⟨S1x1024, .f32⟩
  | _ => ⟨S2x2176x2048, .f32⟩

abbrev hbmTy (i : Nat) : BufTy := match i / 128 with
  | 0 => hbmTy0_0 i
  | 1 => hbmTy0_1 i
  | _ => ⟨S2x2176x2048, .f32⟩

abbrev bufTy : (tb : Table) → Fin (tcTables nBuf tb) → BufTy
  | .hbm, ⟨i, _⟩ => hbmTy i
  | _, _ => ⟨S2x2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v2_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v2_1 : Ref sig .tc := ⟨.hbm, 25, rfl⟩
abbrev main_v2_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_6 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_v54 : Ref sig .tc := ⟨.hbm, 103, rfl⟩
abbrev main_cst_8 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c : Ref sig .tc := ⟨.hbm, 124, rfl⟩
abbrev main_v74 : Ref sig .tc := ⟨.hbm, 125, rfl⟩
abbrev main_call3_v0 : Ref sig .tc := ⟨.hbm, 126, rfl⟩
abbrev main_call3_c : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_c_0 : Ref sig .tc := ⟨.hbm, 132, rfl⟩
abbrev main_call3_v5 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_cst_9 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_cst_10 : Ref sig .tc := ⟨.hbm, 172, rfl⟩
abbrev main_v109 : Ref sig .tc := ⟨.hbm, 173, rfl⟩
abbrev main_v110 : Ref sig .tc := ⟨.hbm, 174, rfl⟩
abbrev main_cst_11 : Ref sig .tc := ⟨.hbm, 175, rfl⟩
abbrev main_v111 : Ref sig .tc := ⟨.hbm, 176, rfl⟩
abbrev main_v112 : Ref sig .tc := ⟨.hbm, 177, rfl⟩
abbrev main_cst_12 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_13 : Ref sig .tc := ⟨.hbm, 189, rfl⟩
abbrev main_v123 : Ref sig .tc := ⟨.hbm, 190, rfl⟩
abbrev main_v124 : Ref sig .tc := ⟨.hbm, 191, rfl⟩
abbrev main_cst_14 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_cst_15 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩

abbrev nD : Nat := 1
abbrev τ : Topo := Topo.v7x

variable {F : FTy → Type} [FloatOps F]
-- ==== Kernel5.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference7Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S18464x128 : Shape := ⟨2, ![18464, 128]⟩
abbrev S4616x128 : Shape := ⟨2, ![4616, 128]⟩

abbrev nBuf : Space → Nat
  | .hbm => 7
  | .vmem => 14
  | .smem => 0
  | _ => 0

abbrev bufTy : (tb : Table) → Fin (tcTables nBuf tb) → BufTy
  | .hbm, ⟨0, _⟩ => ⟨S18464x128, .f32⟩
  | .hbm, ⟨1, _⟩ => ⟨S18464x128, .f32⟩
  | .hbm, ⟨2, _⟩ => ⟨S18464x128, .f32⟩
  | .hbm, ⟨3, _⟩ => ⟨S18464x128, .f32⟩
  | .hbm, ⟨4, _⟩ => ⟨S18464x128, .f32⟩
  | .hbm, ⟨5, _⟩ => ⟨S18464x128, .f32⟩
  | .hbm, ⟨6, _⟩ => ⟨S18464x128, .f32⟩
  | .local _ .vmem, ⟨0, _⟩ => ⟨S4616x128, .f32⟩
  | .local _ .vmem, ⟨1, _⟩ => ⟨S4616x128, .f32⟩
  | .local _ .vmem, ⟨2, _⟩ => ⟨S4616x128, .f32⟩
  | .local _ .vmem, ⟨3, _⟩ => ⟨S4616x128, .f32⟩
  | .local _ .vmem, ⟨4, _⟩ => ⟨S4616x128, .f32⟩
  | .local _ .vmem, ⟨5, _⟩ => ⟨S4616x128, .f32⟩
  | .local _ .vmem, ⟨6, _⟩ => ⟨S4616x128, .f32⟩
  | .local _ .vmem, ⟨7, _⟩ => ⟨S4616x128, .f32⟩
  | .local _ .vmem, ⟨8, _⟩ => ⟨S4616x128, .f32⟩
  | .local _ .vmem, ⟨9, _⟩ => ⟨S4616x128, .f32⟩
  | .local _ .vmem, ⟨10, _⟩ => ⟨S4616x128, .f32⟩
  | .local _ .vmem, ⟨11, _⟩ => ⟨S4616x128, .f32⟩
  | .local _ .vmem, ⟨12, _⟩ => ⟨S4616x128, .f32⟩
  | .local _ .vmem, ⟨13, _⟩ => ⟨S4616x128, .f32⟩
  | _, _ => ⟨S18464x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4616x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4616x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4616x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4616x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4616x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4616x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4616x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S18464x128 : Shape := ⟨2, ![18464, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S18464x128, .f32⟩
  | .hbm, ⟨1, _⟩ => ⟨S18464x128, .f32⟩
  | .hbm, ⟨2, _⟩ => ⟨S18464x128, .f32⟩
  | .hbm, ⟨3, _⟩ => ⟨S18464x128, .f32⟩
  | .hbm, ⟨4, _⟩ => ⟨S_, .f32⟩
  | .hbm, ⟨5, _⟩ => ⟨S18464x128, .f32⟩
  | .hbm, ⟨6, _⟩ => ⟨S18464x128, .f32⟩
  | .hbm, ⟨7, _⟩ => ⟨S_, .f32⟩
  | .hbm, ⟨8, _⟩ => ⟨S18464x128, .f32⟩
  | .hbm, ⟨9, _⟩ => ⟨S18464x128, .f32⟩
  | .hbm, ⟨10, _⟩ => ⟨S18464x128, .f32⟩
  | .hbm, ⟨11, _⟩ => ⟨S_, .f32⟩
  | .hbm, ⟨12, _⟩ => ⟨S18464x128, .f32⟩
  | .hbm, ⟨13, _⟩ => ⟨S18464x128, .f32⟩
  | .hbm, ⟨14, _⟩ => ⟨S18464x128, .f32⟩
  | .hbm, ⟨15, _⟩ => ⟨S_, .f32⟩
  | .hbm, ⟨16, _⟩ => ⟨S18464x128, .f32⟩
  | .hbm, ⟨17, _⟩ => ⟨S18464x128, .f32⟩
  | .hbm, ⟨18, _⟩ => ⟨S18464x128, .f32⟩
  | .hbm, ⟨19, _⟩ => ⟨S_, .f32⟩
  | .hbm, ⟨20, _⟩ => ⟨S18464x128, .f32⟩
  | .hbm, ⟨21, _⟩ => ⟨S18464x128, .f32⟩
  | .hbm, ⟨22, _⟩ => ⟨S_, .f32⟩
  | .hbm, ⟨23, _⟩ => ⟨S18464x128, .f32⟩
  | .hbm, ⟨24, _⟩ => ⟨S18464x128, .f32⟩
  | .hbm, ⟨25, _⟩ => ⟨S18464x128, .f32⟩
  | .hbm, ⟨26, _⟩ => ⟨S_, .f32⟩
  | .hbm, ⟨27, _⟩ => ⟨S18464x128, .f32⟩
  | .hbm, ⟨28, _⟩ => ⟨S18464x128, .f32⟩
  | .hbm, ⟨29, _⟩ => ⟨S18464x128, .f32⟩
  | .hbm, ⟨30, _⟩ => ⟨S_, .f32⟩
  | .hbm, ⟨31, _⟩ => ⟨S18464x128, .f32⟩
  | .hbm, ⟨32, _⟩ => ⟨S18464x128, .f32⟩
  | .hbm, ⟨33, _⟩ => ⟨S18464x128, .f32⟩
  | .hbm, ⟨34, _⟩ => ⟨S_, .f32⟩
  | .hbm, ⟨35, _⟩ => ⟨S18464x128, .f32⟩
  | .hbm, ⟨36, _⟩ => ⟨S18464x128, .f32⟩
  | _, _ => ⟨S18464x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MergeSpec.lean ====
module
public import proofs.«01_k».proof.KernelIdeal
public import Idealize.ShloMosaic.Lib.Pipeline.ValueKit

/-! # The mathematics of the merge of two branches, entry by entry

The arrays that the merge of the two mixers and its backward pass compute, each written as a function of an index over the
extended reals: three products of matrices, the gate, and from them the merged branches, the residual sum, its normed copy and
the gradients. The kernel's arrays and the reference's are both shown to be these. -/

@[expose] public section
set_option maxRecDepth 16384
noncomputable section
open Idealize.ShloMosaic
namespace Cert.Merge
open Cert.KernelIdeal

/-- An array of extended reals. -/
abbrev Arr (S : Shape) := S.Idx → EReal

/-- `x @ w`. -/
def nn (x : Arr S4352x1024) (w : Arr S1024x1024) : Arr S4352x1024 :=
  fun i => ∑ k : Fin 1024, x (ix2 (i 0) k) * w (ix2 k (i 1))

/-- `x @ wᵀ`. -/
def nt (x : Arr S4352x1024) (w : Arr S1024x1024) : Arr S4352x1024 :=
  fun i => ∑ k : Fin 1024, x (ix2 (i 0) k) * w (ix2 (i 1) k)

/-- `xᵀ @ y`: a sum over the tokens. -/
def tn (x : Arr S4352x1024) (y : Arr S4352x1024) : Arr S1024x1024 :=
  fun i => ∑ k : Fin 4352, x (ix2 k (i 0)) * y (ix2 k (i 1))

/-- The gate of the first branch: the logistic function of the first 1024 columns. -/
def gateA (g : Arr S4352x2048) : Arr S4352x1024 :=
  fun i => Ideal.logistic (g (ix2 (i 0) ⟨(i 1).val, by have := (i 1).isLt; simp at this; omega⟩))

/-- The gate of the second branch: the logistic function of the last 1024 columns. -/
def gateB (g : Arr S4352x2048) : Arr S4352x1024 :=
  fun i => Ideal.logistic (g (ix2 (i 0) ⟨1024 + (i 1).val, by have := (i 1).isLt; simp at this; omega⟩))

/-- The two branches, each times its gate, summed. -/
def merged (pa pb : Arr S4352x1024) (g : Arr S4352x2048) : Arr S4352x1024 :=
  fun i => gateA g i * pa i + gateB g i * pb i

/-- The residual sum. -/
def resid (h : Arr S4352x1024) (p : Arr S4352x1024) : Arr S4352x1024 :=
  fun i => h i + p i

/-- A row over the root of its mean square, times the weight. -/
def normed (h : Arr S4352x1024) (w : Arr S1x1024) : Arr S4352x1024 :=
  fun i => h i * Ideal.rsqrt (Ideal.div (∑ k : Fin 1024, h (ix2 (i 0) k) * h (ix2 (i 0) k))
      (Ideal.ofBits .f32 0x44800000#32) + Ideal.ofBits .f32 0x358637BD#32) * w (ix2 0 (i 1))

/-- The product of two arrays, entry by entry. -/
def times (a : Arr S4352x1024) (b : Arr S4352x1024) : Arr S4352x1024 :=
  fun i => a i * b i

/-- The gradient of a gate's argument: gradient times branch times the derivative of the logistic function. -/
def dgate (dm p s : EReal) : EReal := dm * p * (s * (1 - s))

/-- The gradients of both gates' arguments, side by side. -/
def dgates (pa pb : Arr S4352x1024) (g : Arr S4352x2048) (dm : Arr S4352x1024) :
    Arr S4352x2048 := fun i =>
  if h : (i 1).val < 1024 then dgate (dm (ix2 (i 0) ⟨(i 1).val, h⟩)) (pa (ix2 (i 0) ⟨(i 1).val, h⟩)) (Ideal.logistic (g i))
  else dgate (dm (ix2 (i 0) ⟨(i 1).val - 1024, by have := (i 1).isLt; simp at this; omega⟩))
    (pb (ix2 (i 0) ⟨(i 1).val - 1024, by have := (i 1).isLt; simp at this; omega⟩)) (Ideal.logistic (g i))

end Cert.Merge
end
-- ==== Proof.MergeValue0.lean ====
module
public import proofs.«01_k».proof.Proof.Gen.KernelIdeal.Frame
public import proofs.«01_k».proof.Proof.MergeSpec
@[expose] public section
set_option maxRecDepth 16384
noncomputable section
open Idealize.ShloMosaic Idealize.ShloMosaic.TcCoe Idealize.SL.Sem
open Idealize.ShloMosaic.Pipeline (Dat)
namespace Cert.KernelIdeal.Merge
open Cert.KernelIdeal Cert.KernelIdeal.Gen Cert.Merge
variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![0, 0]
   ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, _)

theorem final0_5 (c : Dev nD) : (dat0 V c).arrAt 5 cfg0.N = nn (V c main_arg0) (V c main_arg3) := by
  refine (dat0 V c).arrAt_eq_of_covers 5 _ (by decide +kernel) fun t _ y => ?_
  blk_simp
  rw [after0_5]; frame_out
  pointwise [k0_pay1, nn]
  blk_point [iblk0, idx0 t]

theorem final0_6 (c : Dev nD) : (dat0 V c).arrAt 6 cfg0.N = nn (V c main_arg1) (V c main_arg4) := by
  refine (dat0 V c).arrAt_eq_of_covers 6 _ (by decide +kernel) fun t _ y => ?_
  blk_simp
  rw [after0_6]; frame_out
  pointwise [k0_pay2, nn]
  blk_point [iblk0, idx0 t]

theorem final0_7 (c : Dev nD) : (dat0 V c).arrAt 7 cfg0.N
    = merged (nn (V c main_arg0) (V c main_arg3)) (nn (V c main_arg1) (V c main_arg4)) (V c main_arg2) := by
  refine (dat0 V c).arrAt_eq_of_covers 7 _ (by decide +kernel) fun t _ y => ?_
  blk_simp
  rw [after0_7]; frame_out
  pointwise [k0_pay1, k0_pay2, k0_pay3, nn, merged, gateA, gateB]
  blk_point [iblk0, idx0 t]

end Cert.KernelIdeal.Merge
end
-- ==== Proof.MergeValue1.lean ====
module
public import proofs.«01_k».proof.Proof.Gen.KernelIdeal.Frame
public import proofs.«01_k».proof.Proof.MergeSpec
@[expose] public section
set_option maxRecDepth 16384
noncomputable section
open Idealize.ShloMosaic Idealize.ShloMosaic.TcCoe Idealize.SL.Sem
open Idealize.ShloMosaic.Pipeline (Dat)
namespace Cert.KernelIdeal.Merge
open Cert.KernelIdeal Cert.KernelIdeal.Gen Cert.Merge
variable (V : (c : Dev nD) → (b : Ref sig .tc) → Buf (Elt Ideal) ((c : Thread nD τ).loc b))

theorem idx1 : ∀ t : Fin cfg1.N, win1_0.index t = ![t.val, 0] ∧ win1_1.index t = ![0, 0] ∧ win1_2.index t = ![t.val, 0]
   ∧ win1_3.index t = ![0, 0] ∧ win1_4.index t = ![t.val, 0] ∧ win1_5.index t = ![t.val, 0] :=
  (by decide +kernel : ∀ t : Fin grid1.N, _)

theorem final1_4 (c : Dev nD) : (dat1 V c).arrAt 4 cfg1.N = resid (V c main_arg6) (nn (V c main_v0_2) (V c main_arg5)) := by
  refine (dat1 V c).arrAt_eq_of_covers 4 _ (by decide +kernel) fun t _ y => ?_
  blk_simp
  rw [after1_4]; frame_out
  pointwise [k1_pay1, nn, resid]
  blk_point [iblk1, idx1 t]

theorem final1_5 (c : Dev nD) : (dat1 V c).arrAt 5 cfg1.N = normed (resid (V c main_arg6) (nn (V c main_v0_2) (V c main_arg5))) (V c main_arg7) := by
  refine (dat1 V c).arrAt_eq_of_covers 5 _ (by decide +kernel) fun t _ y => ?_
  blk_simp
  rw [after1_5]; frame_out
  pointwise [k1_pay1, k1_pay2, nn, resid, normed]
  blk_point [iblk1, idx1 t]

end Cert.KernelIdeal.Merge
end
-- ==== Proof.MergeValue2.lean ====
module
public import proofs.«01_k».proof.Proof.Gen.KernelIdeal.Frame
public import proofs.«01_k».proof.Proof.MergeSpec
@[expose] public section
set_option maxRecDepth 16384
noncomputable section
open Idealize.ShloMosaic Idealize.ShloMosaic.TcCoe Idealize.SL.Sem
open Idealize.ShloMosaic.Pipeline (Dat)
namespace Cert.KernelIdeal.Merge
open Cert.KernelIdeal Cert.KernelIdeal.Gen Cert.Merge
variable (V : (c : Dev nD) → (b : Ref sig .tc) → Buf (Elt Ideal) ((c : Thread nD τ).loc b))

theorem idx2 : ∀ t : Fin cfg2.N, win2_0.index t = ![t.val, 0] ∧ win2_1.index t = ![0, 0] ∧ win2_2.index t = ![t.val, 0] :=
  (by decide +kernel : ∀ t : Fin grid2.N, _)

theorem final2_2 (c : Dev nD) : (dat2 V c).arrAt 2 cfg2.N = nt (V c main_arg8) (V c main_arg5) := by
  refine (dat2 V c).arrAt_eq_of_covers 2 _ (by decide +kernel) fun t _ y => ?_
  blk_simp
  rw [after2_2]; frame_out
  pointwise [k2_pay1, nt]
  blk_point [iblk2, idx2 t]

end Cert.KernelIdeal.Merge
end
-- ==== Proof.MergeValue3.lean ====
module
public import proofs.«01_k».proof.Proof.Gen.KernelIdeal.Frame
public import proofs.«01_k».proof.Proof.MergeSpec
@[expose] public section
set_option maxRecDepth 16384
noncomputable section
open Idealize.ShloMosaic Idealize.ShloMosaic.TcCoe Idealize.SL.Sem
open Idealize.ShloMosaic.Pipeline (Dat)
namespace Cert.KernelIdeal.Merge
open Cert.KernelIdeal Cert.KernelIdeal.Gen Cert.Merge
variable (V : (c : Dev nD) → (b : Ref sig .tc) → Buf (Elt Ideal) ((c : Thread nD τ).loc b))

theorem idx3 : ∀ t : Fin cfg3.N, win3_0.index t = ![0, 0] ∧ win3_1.index t = ![0, t.val] ∧ win3_2.index t = ![0, t.val] :=
  (by decide +kernel : ∀ t : Fin grid3.N, _)

theorem final3_2 (c : Dev nD) : (dat3 V c).arrAt 2 cfg3.N = tn (V c main_v0_2) (V c main_arg8) := by
  refine (dat3 V c).arrAt_eq_of_covers 2 _ (by decide +kernel) fun t _ y => ?_
  blk_simp
  rw [after3_2]; frame_out
  pointwise [k3_pay1, tn]
  blk_point [iblk3, idx3 t]

end Cert.KernelIdeal.Merge
end
-- ==== Proof.MergeValue4.lean ====
module
public import proofs.«01_k».proof.Proof.Gen.KernelIdeal.Frame
public import proofs.«01_k».proof.Proof.MergeSpec
@[expose] public section
set_option maxRecDepth 16384
noncomputable section
open Idealize.ShloMosaic Idealize.ShloMosaic.TcCoe Idealize.SL.Sem
open Idealize.ShloMosaic.Pipeline (Dat)
namespace Cert.KernelIdeal.Merge
open Cert.KernelIdeal Cert.KernelIdeal.Gen Cert.Merge
variable (V : (c : Dev nD) → (b : Ref sig .tc) → Buf (Elt Ideal) ((c : Thread nD τ).loc b))

theorem idx4 : ∀ t : Fin cfg4.N, win4_0.index t = ![t.val, 0] ∧ win4_1.index t = ![t.val, 0] ∧ win4_2.index t = ![t.val, 0]
   ∧ win4_3.index t = ![t.val, 0] ∧ win4_4.index t = ![0, 0] ∧ win4_5.index t = ![0, 0] ∧ win4_6.index t = ![t.val, 0] ∧ win4_7.index t = ![t.val, 0]
   ∧ win4_8.index t = ![t.val, 0] ∧ win4_9.index t = ![t.val, 0] ∧ win4_10.index t = ![t.val, 0] :=
  (by decide +kernel : ∀ t : Fin grid4.N, _)

theorem final4_6 (c : Dev nD) : (dat4 V c).arrAt 6 cfg4.N = times (gateA (V c main_arg2)) (V c main_v2) := by
  refine (dat4 V c).arrAt_eq_of_covers 6 _ (by decide +kernel) fun t _ y => ?_
  blk_simp
  rw [after4_6]; frame_out
  pointwise [k4_pay9, k4_pay8, k4_pay4, k4_pay6, k4_pay3, times, gateA]
  blk_point [iblk4, idx4 t]

theorem final4_7 (c : Dev nD) : (dat4 V c).arrAt 7 cfg4.N = times (gateB (V c main_arg2)) (V c main_v2) := by
  refine (dat4 V c).arrAt_eq_of_covers 7 _ (by decide +kernel) fun t _ y => ?_
  blk_simp
  rw [after4_7]; frame_out
  pointwise [k4_pay10, k4_pay7, k4_pay5, k4_pay6, k4_pay3, times, gateB]
  blk_point [iblk4, idx4 t]

set_option maxHeartbeats 1600000 in
theorem final4_8 (c : Dev nD) : (dat4 V c).arrAt 8 cfg4.N = dgates (V c main_v0_0) (V c main_v0_1) (V c main_arg2) (V c main_v2) := by
  refine (dat4 V c).arrAt_eq_of_covers 8 _ (by decide +kernel) fun t _ y => ?_
  blk_simp
  rw [after4_8]; frame_out
  pointwise [k4_pay11, k4_pay5, k4_pay4, k4_pay6, k4_pay3, dgates, dgate]
  have he : ((((View.whole main_v4_2).slice (win4_8.rect t)).emb y 1 : Fin 2048) : ℕ) = (y 1).val := by
    blk_simp [idx4 t]
  by_cases hy : (y 1).val < 1024
  · rw [dif_pos hy, dif_pos hy, dif_pos (he ▸ hy), zero_add]
    blk_point [iblk4, idx4 t]
  · rw [dif_neg hy, dif_neg hy, dif_neg (he ▸ hy), add_zero]
    blk_point [iblk4, idx4 t]

theorem final4_9 (c : Dev nD) : (dat4 V c).arrAt 9 cfg4.N = nt (times (gateA (V c main_arg2)) (V c main_v2)) (V c main_arg3) := by
  refine (dat4 V c).arrAt_eq_of_covers 9 _ (by decide +kernel) fun t _ y => ?_
  blk_simp
  rw [after4_9]; frame_out
  pointwise [k4_pay1, k4_pay8, k4_pay4, k4_pay6, k4_pay3, times, gateA, nt]
  blk_point [iblk4, idx4 t]

theorem final4_10 (c : Dev nD) : (dat4 V c).arrAt 10 cfg4.N = nt (times (gateB (V c main_arg2)) (V c main_v2)) (V c main_arg4) := by
  refine (dat4 V c).arrAt_eq_of_covers 10 _ (by decide +kernel) fun t _ y => ?_
  blk_simp
  rw [after4_10]; frame_out
  pointwise [k4_pay2, k4_pay7, k4_pay5, k4_pay6, k4_pay3, times, gateB, nt]
  blk_point [iblk4, idx4 t]

end Cert.KernelIdeal.Merge
end
-- ==== Proof.MergeValue5.lean ====
module
public import proofs.«01_k».proof.Proof.Gen.KernelIdeal.Frame
public import proofs.«01_k».proof.Proof.MergeSpec
@[expose] public section
set_option maxRecDepth 16384
noncomputable section
open Idealize.ShloMosaic Idealize.ShloMosaic.TcCoe Idealize.SL.Sem
open Idealize.ShloMosaic.Pipeline (Dat)
namespace Cert.KernelIdeal.Merge
open Cert.KernelIdeal Cert.KernelIdeal.Gen Cert.Merge
variable (V : (c : Dev nD) → (b : Ref sig .tc) → Buf (Elt Ideal) ((c : Thread nD τ).loc b))

theorem idx5 : ∀ t : Fin cfg5.N, win5_0.index t = ![0, 0] ∧ win5_1.index t = ![0, t.val] ∧ win5_2.index t = ![0, t.val] :=
  (by decide +kernel : ∀ t : Fin grid5.N, _)

theorem final5_2 (c : Dev nD) : (dat5 V c).arrAt 2 cfg5.N = tn (V c main_arg0) (V c main_v4_0) := by
  refine (dat5 V c).arrAt_eq_of_covers 2 _ (by decide +kernel) fun t _ y => ?_
  blk_simp
  rw [after5_2]; frame_out
  pointwise [k5_pay1, tn]
  blk_point [iblk5, idx5 t]

end Cert.KernelIdeal.Merge
end
-- ==== Proof.MergeValue6.lean ====
module
public import proofs.«01_k».proof.Proof.Gen.KernelIdeal.Frame
public import proofs.«01_k».proof.Proof.MergeSpec
@[expose] public section
set_option maxRecDepth 16384
noncomputable section
open Idealize.ShloMosaic Idealize.ShloMosaic.TcCoe Idealize.SL.Sem
open Idealize.ShloMosaic.Pipeline (Dat)
namespace Cert.KernelIdeal.Merge
open Cert.KernelIdeal Cert.KernelIdeal.Gen Cert.Merge
variable (V : (c : Dev nD) → (b : Ref sig .tc) → Buf (Elt Ideal) ((c : Thread nD τ).loc b))

theorem idx6 : ∀ t : Fin cfg6.N, win6_0.index t = ![0, 0] ∧ win6_1.index t = ![0, t.val] ∧ win6_2.index t = ![0, t.val] :=
  (by decide +kernel : ∀ t : Fin grid6.N, _)

theorem final6_2 (c : Dev nD) : (dat6 V c).arrAt 2 cfg6.N = tn (V c main_arg1) (V c main_v4_1) := by
  refine (dat6 V c).arrAt_eq_of_covers 2 _ (by decide +kernel) fun t _ y => ?_
  blk_simp
  rw [after6_2]; frame_out
  pointwise [k6_pay1, tn]
  blk_point [iblk6, idx6 t]

end Cert.KernelIdeal.Merge
end
-- ==== Proof.MergeValues.lean ====
module
public import proofs.«01_k».proof.Proof.MergeValue0
public import proofs.«01_k».proof.Proof.MergeValue1
public import proofs.«01_k».proof.Proof.MergeValue2
public import proofs.«01_k».proof.Proof.MergeValue3
public import proofs.«01_k».proof.Proof.MergeValue4
public import proofs.«01_k».proof.Proof.MergeValue5
public import proofs.«01_k».proof.Proof.MergeValue6
-- ==== Proof.MergeChain.lean ====
module
public import proofs.«01_k».proof.Proof.MergeValues

/-! # The results of the merge block in terms of its arguments

Each boundary's buffers, followed from call to call. -/

@[expose] public section
set_option maxRecDepth 16384
noncomputable section
namespace Cert.KernelIdeal.Merge
open Idealize.ShloMosaic Idealize.ShloMosaic.TcCoe Idealize.SL.Sem
open Cert.KernelIdeal Cert.KernelIdeal.Gen Cert.Merge
variable (m : (ℓ : Loc nD τ sig) → Buf (Elt Ideal) ℓ) (ρ : Dev nD → PrngReg) (c : Dev nD)

/-- Argument 0 as launched. -/
abbrev x0 := m ((c : Thread nD τ).loc main_arg0)
/-- Argument 1 as launched. -/
abbrev x1 := m ((c : Thread nD τ).loc main_arg1)
/-- Argument 2 as launched. -/
abbrev x2 := m ((c : Thread nD τ).loc main_arg2)
/-- Argument 3 as launched. -/
abbrev x3 := m ((c : Thread nD τ).loc main_arg3)
/-- Argument 4 as launched. -/
abbrev x4 := m ((c : Thread nD τ).loc main_arg4)
/-- Argument 5 as launched. -/
abbrev x5 := m ((c : Thread nD τ).loc main_arg5)
/-- Argument 6 as launched. -/
abbrev x6 := m ((c : Thread nD τ).loc main_arg6)
/-- Argument 7 as launched. -/
abbrev x7 := m ((c : Thread nD τ).loc main_arg7)
/-- Argument 8 as launched. -/
abbrev x8 := m ((c : Thread nD τ).loc main_arg8)
theorem V1_arg0 : V1 m ρ c main_arg0 = x0 m c := W1_args m ρ c main_arg0 (by decide)
theorem V1_arg1 : V1 m ρ c main_arg1 = x1 m c := W1_args m ρ c main_arg1 (by decide)
theorem V1_arg2 : V1 m ρ c main_arg2 = x2 m c := W1_args m ρ c main_arg2 (by decide)
theorem V1_arg3 : V1 m ρ c main_arg3 = x3 m c := W1_args m ρ c main_arg3 (by decide)
theorem V1_arg4 : V1 m ρ c main_arg4 = x4 m c := W1_args m ρ c main_arg4 (by decide)
theorem V1_arg5 : V1 m ρ c main_arg5 = x5 m c := W1_args m ρ c main_arg5 (by decide)
theorem V1_arg6 : V1 m ρ c main_arg6 = x6 m c := W1_args m ρ c main_arg6 (by decide)
theorem V1_arg7 : V1 m ρ c main_arg7 = x7 m c := W1_args m ρ c main_arg7 (by decide)
theorem V1_arg8 : V1 m ρ c main_arg8 = x8 m c := W1_args m ρ c main_arg8 (by decide)
theorem V2_arg0 : V2 m ρ c main_arg0 = x0 m c := W2_args m ρ c main_arg0 (by decide)
theorem V2_arg1 : V2 m ρ c main_arg1 = x1 m c := W2_args m ρ c main_arg1 (by decide)
theorem V2_arg2 : V2 m ρ c main_arg2 = x2 m c := W2_args m ρ c main_arg2 (by decide)
theorem V2_arg3 : V2 m ρ c main_arg3 = x3 m c := W2_args m ρ c main_arg3 (by decide)
theorem V2_arg4 : V2 m ρ c main_arg4 = x4 m c := W2_args m ρ c main_arg4 (by decide)
theorem V2_arg5 : V2 m ρ c main_arg5 = x5 m c := W2_args m ρ c main_arg5 (by decide)
theorem V2_arg6 : V2 m ρ c main_arg6 = x6 m c := W2_args m ρ c main_arg6 (by decide)
theorem V2_arg7 : V2 m ρ c main_arg7 = x7 m c := W2_args m ρ c main_arg7 (by decide)
theorem V2_arg8 : V2 m ρ c main_arg8 = x8 m c := W2_args m ρ c main_arg8 (by decide)
theorem V3_arg0 : V3 m ρ c main_arg0 = x0 m c := W3_args m ρ c main_arg0 (by decide)
theorem V3_arg1 : V3 m ρ c main_arg1 = x1 m c := W3_args m ρ c main_arg1 (by decide)
theorem V3_arg2 : V3 m ρ c main_arg2 = x2 m c := W3_args m ρ c main_arg2 (by decide)
theorem V3_arg3 : V3 m ρ c main_arg3 = x3 m c := W3_args m ρ c main_arg3 (by decide)
theorem V3_arg4 : V3 m ρ c main_arg4 = x4 m c := W3_args m ρ c main_arg4 (by decide)
theorem V3_arg5 : V3 m ρ c main_arg5 = x5 m c := W3_args m ρ c main_arg5 (by decide)
theorem V3_arg6 : V3 m ρ c main_arg6 = x6 m c := W3_args m ρ c main_arg6 (by decide)
theorem V3_arg7 : V3 m ρ c main_arg7 = x7 m c := W3_args m ρ c main_arg7 (by decide)
theorem V3_arg8 : V3 m ρ c main_arg8 = x8 m c := W3_args m ρ c main_arg8 (by decide)
theorem V4_arg0 : V4 m ρ c main_arg0 = x0 m c := W4_args m ρ c main_arg0 (by decide)
theorem V4_arg1 : V4 m ρ c main_arg1 = x1 m c := W4_args m ρ c main_arg1 (by decide)
theorem V4_arg2 : V4 m ρ c main_arg2 = x2 m c := W4_args m ρ c main_arg2 (by decide)
theorem V4_arg3 : V4 m ρ c main_arg3 = x3 m c := W4_args m ρ c main_arg3 (by decide)
theorem V4_arg4 : V4 m ρ c main_arg4 = x4 m c := W4_args m ρ c main_arg4 (by decide)
theorem V4_arg5 : V4 m ρ c main_arg5 = x5 m c := W4_args m ρ c main_arg5 (by decide)
theorem V4_arg6 : V4 m ρ c main_arg6 = x6 m c := W4_args m ρ c main_arg6 (by decide)
theorem V4_arg7 : V4 m ρ c main_arg7 = x7 m c := W4_args m ρ c main_arg7 (by decide)
theorem V4_arg8 : V4 m ρ c main_arg8 = x8 m c := W4_args m ρ c main_arg8 (by decide)
theorem V5_arg0 : V5 m ρ c main_arg0 = x0 m c := W5_args m ρ c main_arg0 (by decide)
theorem V5_arg1 : V5 m ρ c main_arg1 = x1 m c := W5_args m ρ c main_arg1 (by decide)
theorem V5_arg2 : V5 m ρ c main_arg2 = x2 m c := W5_args m ρ c main_arg2 (by decide)
theorem V5_arg3 : V5 m ρ c main_arg3 = x3 m c := W5_args m ρ c main_arg3 (by decide)
theorem V5_arg4 : V5 m ρ c main_arg4 = x4 m c := W5_args m ρ c main_arg4 (by decide)
theorem V5_arg5 : V5 m ρ c main_arg5 = x5 m c := W5_args m ρ c main_arg5 (by decide)
theorem V5_arg6 : V5 m ρ c main_arg6 = x6 m c := W5_args m ρ c main_arg6 (by decide)
theorem V5_arg7 : V5 m ρ c main_arg7 = x7 m c := W5_args m ρ c main_arg7 (by decide)
theorem V5_arg8 : V5 m ρ c main_arg8 = x8 m c := W5_args m ρ c main_arg8 (by decide)
theorem V6_arg0 : V6 m ρ c main_arg0 = x0 m c := W6_args m ρ c main_arg0 (by decide)
theorem V6_arg1 : V6 m ρ c main_arg1 = x1 m c := W6_args m ρ c main_arg1 (by decide)
theorem V6_arg2 : V6 m ρ c main_arg2 = x2 m c := W6_args m ρ c main_arg2 (by decide)
theorem V6_arg3 : V6 m ρ c main_arg3 = x3 m c := W6_args m ρ c main_arg3 (by decide)
theorem V6_arg4 : V6 m ρ c main_arg4 = x4 m c := W6_args m ρ c main_arg4 (by decide)
theorem V6_arg5 : V6 m ρ c main_arg5 = x5 m c := W6_args m ρ c main_arg5 (by decide)
theorem V6_arg6 : V6 m ρ c main_arg6 = x6 m c := W6_args m ρ c main_arg6 (by decide)
theorem V6_arg7 : V6 m ρ c main_arg7 = x7 m c := W6_args m ρ c main_arg7 (by decide)
theorem V6_arg8 : V6 m ρ c main_arg8 = x8 m c := W6_args m ρ c main_arg8 (by decide)
theorem V1_main_v0_0 : V1 m ρ c main_v0_0 = nn (x0 m c) (x3 m c) :=
  (W1_arr m ρ c 5).trans ((final0_5 (V0 m ρ) c).trans (rfl))
theorem V1_main_v0_1 : V1 m ρ c main_v0_1 = nn (x1 m c) (x4 m c) :=
  (W1_arr m ρ c 6).trans ((final0_6 (V0 m ρ) c).trans (rfl))
theorem V1_main_v0_2 : V1 m ρ c main_v0_2 = merged (nn (x0 m c) (x3 m c)) (nn (x1 m c) (x4 m c)) (x2 m c) :=
  (W1_arr m ρ c 7).trans ((final0_7 (V0 m ρ) c).trans (rfl))
theorem V2_main_v1_0 : V2 m ρ c main_v1_0 = resid (x6 m c) (nn (merged (nn (x0 m c) (x3 m c)) (nn (x1 m c) (x4 m c)) (x2 m c)) (x5 m c)) :=
  (W2_arr m ρ c 4).trans ((final1_4 (V1 m ρ) c).trans (by rw [V1_arg6 m ρ c, V1_arg5 m ρ c, V1_main_v0_2 m ρ c]))
theorem V2_main_v1_1 : V2 m ρ c main_v1_1 = normed (resid (x6 m c) (nn (merged (nn (x0 m c) (x3 m c)) (nn (x1 m c) (x4 m c)) (x2 m c)) (x5 m c))) (x7 m c) :=
  (W2_arr m ρ c 5).trans ((final1_5 (V1 m ρ) c).trans (by rw [V1_arg6 m ρ c, V1_arg5 m ρ c, V1_arg7 m ρ c, V1_main_v0_2 m ρ c]))
theorem V3_main_v2 : V3 m ρ c main_v2 = nt (x8 m c) (x5 m c) :=
  (W3_arr m ρ c 2).trans ((final2_2 (V2 m ρ) c).trans (by rw [V2_arg8 m ρ c, V2_arg5 m ρ c]))
theorem V3_main_v0_2 : V3 m ρ c main_v0_2 = merged (nn (x0 m c) (x3 m c)) (nn (x1 m c) (x4 m c)) (x2 m c) := (W3_of m ρ c main_v0_2 (by decide +kernel)).trans ((W2_of m ρ c main_v0_2 (by decide +kernel)).trans (V1_main_v0_2 m ρ c))
theorem V4_main_v3 : V4 m ρ c main_v3 = tn (merged (nn (x0 m c) (x3 m c)) (nn (x1 m c) (x4 m c)) (x2 m c)) (x8 m c) :=
  (W4_arr m ρ c 2).trans ((final3_2 (V3 m ρ) c).trans (by rw [V3_arg8 m ρ c, V3_main_v0_2 m ρ c]))
theorem V4_main_v2 : V4 m ρ c main_v2 = nt (x8 m c) (x5 m c) := (W4_of m ρ c main_v2 (by decide +kernel)).trans (V3_main_v2 m ρ c)
theorem V5_main_v4_0 : V5 m ρ c main_v4_0 = times (gateA (x2 m c)) (nt (x8 m c) (x5 m c)) :=
  (W5_arr m ρ c 6).trans ((final4_6 (V4 m ρ) c).trans (by rw [V4_arg2 m ρ c, V4_main_v2 m ρ c]))
theorem V5_main_v4_1 : V5 m ρ c main_v4_1 = times (gateB (x2 m c)) (nt (x8 m c) (x5 m c)) :=
  (W5_arr m ρ c 7).trans ((final4_7 (V4 m ρ) c).trans (by rw [V4_arg2 m ρ c, V4_main_v2 m ρ c]))
theorem V4_main_v0_0 : V4 m ρ c main_v0_0 = nn (x0 m c) (x3 m c) := (W4_of m ρ c main_v0_0 (by decide +kernel)).trans ((W3_of m ρ c main_v0_0 (by decide +kernel)).trans ((W2_of m ρ c main_v0_0 (by decide +kernel)).trans (V1_main_v0_0 m ρ c)))
theorem V4_main_v0_1 : V4 m ρ c main_v0_1 = nn (x1 m c) (x4 m c) := (W4_of m ρ c main_v0_1 (by decide +kernel)).trans ((W3_of m ρ c main_v0_1 (by decide +kernel)).trans ((W2_of m ρ c main_v0_1 (by decide +kernel)).trans (V1_main_v0_1 m ρ c)))
theorem V5_main_v4_2 : V5 m ρ c main_v4_2 = dgates (nn (x0 m c) (x3 m c)) (nn (x1 m c) (x4 m c)) (x2 m c) (nt (x8 m c) (x5 m c)) :=
  (W5_arr m ρ c 8).trans ((final4_8 (V4 m ρ) c).trans (by rw [V4_arg2 m ρ c, V4_main_v0_0 m ρ c, V4_main_v0_1 m ρ c, V4_main_v2 m ρ c]))
theorem V5_main_v4_3 : V5 m ρ c main_v4_3 = nt (times (gateA (x2 m c)) (nt (x8 m c) (x5 m c))) (x3 m c) :=
  (W5_arr m ρ c 9).trans ((final4_9 (V4 m ρ) c).trans (by rw [V4_arg2 m ρ c, V4_arg3 m ρ c, V4_main_v2 m ρ c]))
theorem V5_main_v4_4 : V5 m ρ c main_v4_4 = nt (times (gateB (x2 m c)) (nt (x8 m c) (x5 m c))) (x4 m c) :=
  (W5_arr m ρ c 10).trans ((final4_10 (V4 m ρ) c).trans (by rw [V4_arg2 m ρ c, V4_arg4 m ρ c, V4_main_v2 m ρ c]))
theorem V6_main_v5 : V6 m ρ c main_v5 = tn (x0 m c) (times (gateA (x2 m c)) (nt (x8 m c) (x5 m c))) :=
  (W6_arr m ρ c 2).trans ((final5_2 (V5 m ρ) c).trans (by rw [V5_arg0 m ρ c, V5_main_v4_0 m ρ c]))
theorem V6_main_v4_1 : V6 m ρ c main_v4_1 = times (gateB (x2 m c)) (nt (x8 m c) (x5 m c)) := (W6_of m ρ c main_v4_1 (by decide +kernel)).trans (V5_main_v4_1 m ρ c)
theorem V7_main_v6 : W7 m ρ c (Proc.devRef .tc main_v6) = tn (x1 m c) (times (gateB (x2 m c)) (nt (x8 m c) (x5 m c))) :=
  (W7_arr m ρ c 2).trans ((final6_2 (V6 m ρ) c).trans (by rw [V6_arg1 m ρ c, V6_main_v4_1 m ρ c]))
theorem out_h2 : W7 m ρ c (Proc.devRef .tc main_v1_0) = resid (x6 m c) (nn (merged (nn (x0 m c) (x3 m c)) (nn (x1 m c) (x4 m c)) (x2 m c)) (x5 m c)) := (W7_of m ρ c main_v1_0 (by decide +kernel)).trans ((W6_of m ρ c main_v1_0 (by decide +kernel)).trans ((W5_of m ρ c main_v1_0 (by decide +kernel)).trans ((W4_of m ρ c main_v1_0 (by decide +kernel)).trans ((W3_of m ρ c main_v1_0 (by decide +kernel)).trans ((V2_main_v1_0 m ρ c))))))
theorem out_n2 : W7 m ρ c (Proc.devRef .tc main_v1_1) = normed (resid (x6 m c) (nn (merged (nn (x0 m c) (x3 m c)) (nn (x1 m c) (x4 m c)) (x2 m c)) (x5 m c))) (x7 m c) := (W7_of m ρ c main_v1_1 (by decide +kernel)).trans ((W6_of m ρ c main_v1_1 (by decide +kernel)).trans ((W5_of m ρ c main_v1_1 (by decide +kernel)).trans ((W4_of m ρ c main_v1_1 (by decide +kernel)).trans ((W3_of m ρ c main_v1_1 (by decide +kernel)).trans ((V2_main_v1_1 m ρ c))))))
theorem out_dya : W7 m ρ c (Proc.devRef .tc main_v4_3) = nt (times (gateA (x2 m c)) (nt (x8 m c) (x5 m c))) (x3 m c) := (W7_of m ρ c main_v4_3 (by decide +kernel)).trans ((W6_of m ρ c main_v4_3 (by decide +kernel)).trans ((V5_main_v4_3 m ρ c)))
theorem out_dyb : W7 m ρ c (Proc.devRef .tc main_v4_4) = nt (times (gateB (x2 m c)) (nt (x8 m c) (x5 m c))) (x4 m c) := (W7_of m ρ c main_v4_4 (by decide +kernel)).trans ((W6_of m ρ c main_v4_4 (by decide +kernel)).trans ((V5_main_v4_4 m ρ c)))
theorem out_dgates : W7 m ρ c (Proc.devRef .tc main_v4_2) = dgates (nn (x0 m c) (x3 m c)) (nn (x1 m c) (x4 m c)) (x2 m c) (nt (x8 m c) (x5 m c)) := (W7_of m ρ c main_v4_2 (by decide +kernel)).trans ((W6_of m ρ c main_v4_2 (by decide +kernel)).trans ((V5_main_v4_2 m ρ c)))
theorem out_dwa : W7 m ρ c (Proc.devRef .tc main_v5) = tn (x0 m c) (times (gateA (x2 m c)) (nt (x8 m c) (x5 m c))) := (W7_of m ρ c main_v5 (by decide +kernel)).trans ((V6_main_v5 m ρ c))
theorem out_dwb : W7 m ρ c (Proc.devRef .tc main_v6) = tn (x1 m c) (times (gateB (x2 m c)) (nt (x8 m c) (x5 m c))) := (V7_main_v6 m ρ c)
theorem out_dwo : W7 m ρ c (Proc.devRef .tc main_v3) = tn (merged (nn (x0 m c) (x3 m c)) (nn (x1 m c) (x4 m c)) (x2 m c)) (x8 m c) := (W7_of m ρ c main_v3 (by decide +kernel)).trans ((W6_of m ρ c main_v3 (by decide +kernel)).trans ((W5_of m ρ c main_v3 (by decide +kernel)).trans ((V4_main_v3 m ρ c))))

end Cert.KernelIdeal.Merge
end
-- ==== Proof.MergeRef.lean ====
module
public import proofs.«01_k».proof.Proof.Gen.ReferenceIdeal.Run
public import proofs.«01_k».proof.Proof.MergeSpec

/-! # The reference's results, entry by entry

Each result of the reference's run, as a term of its nine arguments, is the array of the mathematics. -/

@[expose] public section
set_option maxRecDepth 16384
noncomputable section
namespace Cert.ReferenceIdeal.Merge
open Cert.ReferenceIdeal Cert.ReferenceIdeal.Gen Idealize.ShloMosaic Cert.Merge

variable (a0 : FVec Ideal S4352x1024 .bf16) (a1 : FVec Ideal S4352x1024 .bf16) (a2 : FVec Ideal S4352x2048 .bf16) (a3 : FVec Ideal S1024x1024 .bf16) (a4 : FVec Ideal S1024x1024 .bf16) (a5 : FVec Ideal S1024x1024 .bf16) (a6 : FVec Ideal S4352x1024 .f32) (a7 : FVec Ideal S1x1024 .f32) (a8 : FVec Ideal S4352x1024 .f32)

theorem ref_h2 : (addf a6 (Host.dotGeneral dot_S4352x1024_S1024x1024_S4352x1024_1_0_0_1_n_n none (addf (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 0] (extf .f32 a2 bitsLt_bf16_f32) slices_S4352x2048_S4352x1024_0_0))))) (Host.dotGeneral dot_S4352x1024_S1024x1024_S4352x1024_1_0_0_1_n_n none (extf .f32 a0 bitsLt_bf16_f32) (extf .f32 a3 bitsLt_bf16_f32))) (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 1024] (extf .f32 a2 bitsLt_bf16_f32) slices_S4352x2048_S4352x1024_0_1024))))) (Host.dotGeneral dot_S4352x1024_S1024x1024_S4352x1024_1_0_0_1_n_n none (extf .f32 a1 bitsLt_bf16_f32) (extf .f32 a4 bitsLt_bf16_f32)))) (extf .f32 a5 bitsLt_bf16_f32)) : FVec Ideal S4352x1024 .f32)
    = resid a6 (nn (merged (nn a0 a3) (nn a1 a4) a2) a5) := by
  funext i
  pointwise [nn, nt, tn, merged, gateA, gateB, resid, normed, times, dgates, dgate, Ideal.logistic]
  all_goals blk_point []

theorem ref_n2 : (truncf .bf16 (mulf (mulf (addf a6 (Host.dotGeneral dot_S4352x1024_S1024x1024_S4352x1024_1_0_0_1_n_n none (addf (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 0] (extf .f32 a2 bitsLt_bf16_f32) slices_S4352x2048_S4352x1024_0_0))))) (Host.dotGeneral dot_S4352x1024_S1024x1024_S4352x1024_1_0_0_1_n_n none (extf .f32 a0 bitsLt_bf16_f32) (extf .f32 a3 bitsLt_bf16_f32))) (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 1024] (extf .f32 a2 bitsLt_bf16_f32) slices_S4352x2048_S4352x1024_0_1024))))) (Host.dotGeneral dot_S4352x1024_S1024x1024_S4352x1024_1_0_0_1_n_n none (extf .f32 a1 bitsLt_bf16_f32) (extf .f32 a4 bitsLt_bf16_f32)))) (extf .f32 a5 bitsLt_bf16_f32))) (broadcastInDim S4352x1024 ![0, 1] bcast_S4352x1_S4352x1024_0_1 (Host.rsqrt (addf (Host.divf (broadcastInDim S4352x1 ![0] bcast_S4352_S4352x1_0 (Host.reduceAdd (mulf (addf a6 (Host.dotGeneral dot_S4352x1024_S1024x1024_S4352x1024_1_0_0_1_n_n none (addf (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 0] (extf .f32 a2 bitsLt_bf16_f32) slices_S4352x2048_S4352x1024_0_0))))) (Host.dotGeneral dot_S4352x1024_S1024x1024_S4352x1024_1_0_0_1_n_n none (extf .f32 a0 bitsLt_bf16_f32) (extf .f32 a3 bitsLt_bf16_f32))) (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 1024] (extf .f32 a2 bitsLt_bf16_f32) slices_S4352x2048_S4352x1024_0_1024))))) (Host.dotGeneral dot_S4352x1024_S1024x1024_S4352x1024_1_0_0_1_n_n none (extf .f32 a1 bitsLt_bf16_f32) (extf .f32 a4 bitsLt_bf16_f32)))) (extf .f32 a5 bitsLt_bf16_f32))) (addf a6 (Host.dotGeneral dot_S4352x1024_S1024x1024_S4352x1024_1_0_0_1_n_n none (addf (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 0] (extf .f32 a2 bitsLt_bf16_f32) slices_S4352x2048_S4352x1024_0_0))))) (Host.dotGeneral dot_S4352x1024_S1024x1024_S4352x1024_1_0_0_1_n_n none (extf .f32 a0 bitsLt_bf16_f32) (extf .f32 a3 bitsLt_bf16_f32))) (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 1024] (extf .f32 a2 bitsLt_bf16_f32) slices_S4352x2048_S4352x1024_0_1024))))) (Host.dotGeneral dot_S4352x1024_S1024x1024_S4352x1024_1_0_0_1_n_n none (extf .f32 a1 bitsLt_bf16_f32) (extf .f32 a4 bitsLt_bf16_f32)))) (extf .f32 a5 bitsLt_bf16_f32)))) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32)))))) (broadcastInDim S4352x1024 ![0, 1] bcast_S1x1024_S4352x1024_0_1 a7)) bitsLt_bf16_f32 : FVec Ideal S4352x1024 .bf16)
    = normed (resid a6 (nn (merged (nn a0 a3) (nn a1 a4) a2) a5)) a7 := by
  funext i
  pointwise [nn, nt, tn, merged, gateA, gateB, resid, normed, times, dgates, dgate, Ideal.logistic]
  all_goals blk_point []

theorem ref_dya : (truncf .bf16 (Host.dotGeneral dot_S4352x1024_S1024x1024_S4352x1024_1_1_0_0_n_n none (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 0] (extf .f32 a2 bitsLt_bf16_f32) slices_S4352x2048_S4352x1024_0_0))))) (Host.dotGeneral dot_S4352x1024_S1024x1024_S4352x1024_1_1_0_0_n_n none a8 (extf .f32 a5 bitsLt_bf16_f32))) (extf .f32 a3 bitsLt_bf16_f32)) bitsLt_bf16_f32 : FVec Ideal S4352x1024 .bf16)
    = nt (times (gateA a2) (nt a8 a5)) a3 := by
  funext i
  pointwise [nn, nt, tn, merged, gateA, gateB, resid, normed, times, dgates, dgate, Ideal.logistic]
  all_goals blk_point []

theorem ref_dyb : (truncf .bf16 (Host.dotGeneral dot_S4352x1024_S1024x1024_S4352x1024_1_1_0_0_n_n none (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 1024] (extf .f32 a2 bitsLt_bf16_f32) slices_S4352x2048_S4352x1024_0_1024))))) (Host.dotGeneral dot_S4352x1024_S1024x1024_S4352x1024_1_1_0_0_n_n none a8 (extf .f32 a5 bitsLt_bf16_f32))) (extf .f32 a4 bitsLt_bf16_f32)) bitsLt_bf16_f32 : FVec Ideal S4352x1024 .bf16)
    = nt (times (gateB a2) (nt a8 a5)) a4 := by
  funext i
  pointwise [nn, nt, tn, merged, gateA, gateB, resid, normed, times, dgates, dgate, Ideal.logistic]
  all_goals blk_point []

theorem ref_dgates : (truncf .bf16 (concatenate S4352x2048 1 [⟨S4352x1024, (mulf (mulf (Host.dotGeneral dot_S4352x1024_S1024x1024_S4352x1024_1_1_0_0_n_n none a8 (extf .f32 a5 bitsLt_bf16_f32)) (Host.dotGeneral dot_S4352x1024_S1024x1024_S4352x1024_1_0_0_1_n_n none (extf .f32 a0 bitsLt_bf16_f32) (extf .f32 a3 bitsLt_bf16_f32))) (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 0] (extf .f32 a2 bitsLt_bf16_f32) slices_S4352x2048_S4352x1024_0_0))))) (subf (broadcastInDim S4352x1024 ![] bcast_S_S4352x1024 (constant S_ .f32 0x3F800000#32)) (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 0] (extf .f32 a2 bitsLt_bf16_f32) slices_S4352x2048_S4352x1024_0_0))))))))⟩, ⟨S4352x1024, (mulf (mulf (Host.dotGeneral dot_S4352x1024_S1024x1024_S4352x1024_1_1_0_0_n_n none a8 (extf .f32 a5 bitsLt_bf16_f32)) (Host.dotGeneral dot_S4352x1024_S1024x1024_S4352x1024_1_0_0_1_n_n none (extf .f32 a1 bitsLt_bf16_f32) (extf .f32 a4 bitsLt_bf16_f32))) (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 1024] (extf .f32 a2 bitsLt_bf16_f32) slices_S4352x2048_S4352x1024_0_1024))))) (subf (broadcastInDim S4352x1024 ![] bcast_S_S4352x1024 (constant S_ .f32 0x3F800000#32)) (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 1024] (extf .f32 a2 bitsLt_bf16_f32) slices_S4352x2048_S4352x1024_0_1024))))))))⟩] concatenates_S4352x1024_S4352x1024_S4352x2048_d1) bitsLt_bf16_f32 : FVec Ideal S4352x2048 .bf16)
    = dgates (nn a0 a3) (nn a1 a4) a2 (nt a8 a5) := by
  funext i
  pointwise [nn, nt, tn, merged, gateA, gateB, resid, normed, times, dgates, dgate, Ideal.logistic]
  by_cases h : (i 1).val < 1024
  · rw [dif_pos h, dif_pos h]
  · rw [dif_neg h, dif_neg h]; blk_point []

theorem ref_dwa : (transpose S1024x1024 [1, 0] (Host.dotGeneral dot_S4352x1024_S4352x1024_S1024x1024_0_0_1_1_n_n none (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 0] (extf .f32 a2 bitsLt_bf16_f32) slices_S4352x2048_S4352x1024_0_0))))) (Host.dotGeneral dot_S4352x1024_S1024x1024_S4352x1024_1_1_0_0_n_n none a8 (extf .f32 a5 bitsLt_bf16_f32))) (extf .f32 a0 bitsLt_bf16_f32)) transposes_S1024x1024_S1024x1024_1_0 : FVec Ideal S1024x1024 .f32)
    = tn a0 (times (gateA a2) (nt a8 a5)) := by
  funext i
  pointwise [nn, nt, tn, merged, gateA, gateB, resid, normed, times, dgates, dgate, Ideal.logistic]
  all_goals blk_point []

theorem ref_dwb : (transpose S1024x1024 [1, 0] (Host.dotGeneral dot_S4352x1024_S4352x1024_S1024x1024_0_0_1_1_n_n none (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 1024] (extf .f32 a2 bitsLt_bf16_f32) slices_S4352x2048_S4352x1024_0_1024))))) (Host.dotGeneral dot_S4352x1024_S1024x1024_S4352x1024_1_1_0_0_n_n none a8 (extf .f32 a5 bitsLt_bf16_f32))) (extf .f32 a1 bitsLt_bf16_f32)) transposes_S1024x1024_S1024x1024_1_0 : FVec Ideal S1024x1024 .f32)
    = tn a1 (times (gateB a2) (nt a8 a5)) := by
  funext i
  pointwise [nn, nt, tn, merged, gateA, gateB, resid, normed, times, dgates, dgate, Ideal.logistic]
  all_goals blk_point []

theorem ref_dwo : (transpose S1024x1024 [1, 0] (Host.dotGeneral dot_S4352x1024_S4352x1024_S1024x1024_0_0_1_1_n_n none a8 (addf (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 0] (extf .f32 a2 bitsLt_bf16_f32) slices_S4352x2048_S4352x1024_0_0))))) (Host.dotGeneral dot_S4352x1024_S1024x1024_S4352x1024_1_0_0_1_n_n none (extf .f32 a0 bitsLt_bf16_f32) (extf .f32 a3 bitsLt_bf16_f32))) (mulf (Host.divf (broadcastInDim S4352x1024 ![] bcast_S_S4352x1024 (constant S_ .f32 0x3F800000#32)) (addf (broadcastInDim S4352x1024 ![] bcast_S_S4352x1024 (constant S_ .f32 0x3F800000#32)) (Host.exp (Host.negf (extractStridedSlice S4352x1024 ![0, 1024] (extf .f32 a2 bitsLt_bf16_f32) slices_S4352x2048_S4352x1024_0_1024))))) (Host.dotGeneral dot_S4352x1024_S1024x1024_S4352x1024_1_0_0_1_n_n none (extf .f32 a1 bitsLt_bf16_f32) (extf .f32 a4 bitsLt_bf16_f32))))) transposes_S1024x1024_S1024x1024_1_0 : FVec Ideal S1024x1024 .f32)
    = tn (merged (nn a0 a3) (nn a1 a4) a2) a8 := by
  funext i
  pointwise [nn, nt, tn, merged, gateA, gateB, resid, normed, times, dgates, dgate, Ideal.logistic]
  all_goals blk_point []

end Cert.ReferenceIdeal.Merge
end
-- ==== Proof.MergeRun.lean ====
module
public import proofs.«01_k».proof.Proof.Gen.KernelIdeal.Frame

/-! # The run of the merge block, with its results

The launch of the seven calls, read at the end: besides the unchanged arguments, every result buffer holds what the last boundary
of the program says. -/

@[expose] public section

-- membership in a rectangle of production extents (`View.cover_of_tiled`): the elaborator's structural look
-- recurses once per coordinate of the long axes
set_option maxRecDepth 16384

noncomputable section

namespace Cert.KernelIdeal.Merge

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends, with the results of the last boundary and the arguments as launched. -/
theorem run : θ_run defs (onTc (τ := τ) (main (F := F))) ⟨m, fun _ => 0, ρ⟩ (fun r => ∀ c : Dev nD,
      r.2.mem ((c.tc : Thread nD τ).loc main_v1_0) = W7 m ρ c (Proc.devRef .tc main_v1_0)
      ∧ r.2.mem ((c.tc : Thread nD τ).loc main_v1_1) = W7 m ρ c (Proc.devRef .tc main_v1_1)
      ∧ r.2.mem ((c.tc : Thread nD τ).loc main_v4_3) = W7 m ρ c (Proc.devRef .tc main_v4_3)
      ∧ r.2.mem ((c.tc : Thread nD τ).loc main_v4_4) = W7 m ρ c (Proc.devRef .tc main_v4_4)
      ∧ r.2.mem ((c.tc : Thread nD τ).loc main_v4_2) = W7 m ρ c (Proc.devRef .tc main_v4_2)
      ∧ r.2.mem ((c.tc : Thread nD τ).loc main_v5) = W7 m ρ c (Proc.devRef .tc main_v5)
      ∧ r.2.mem ((c.tc : Thread nD τ).loc main_v6) = W7 m ρ c (Proc.devRef .tc main_v6)
      ∧ r.2.mem ((c.tc : Thread nD τ).loc main_v3) = W7 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨h c _ (mem_uc main_v1_0 (by decide)),
       h c _ (mem_uc main_v1_1 (by decide)),
       h c _ (mem_uc main_v4_3 (by decide)),
       h c _ (mem_uc main_v4_4 (by decide)),
       h c _ (mem_uc main_v4_2 (by decide)),
       h c _ (mem_uc main_v5 (by decide)),
       h c _ (mem_uc main_v6 (by decide)),
       h c _ (mem_uc main_v3 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Merge

end
-- ==== Proof.MergeAll.lean ====
module
public import proofs.«01_k».proof.Proof.MergeChain
public import proofs.«01_k».proof.Proof.MergeRef
public import proofs.«01_k».proof.Proof.MergeRun
-- ==== Proof.FfnSpec.lean ====
module
public import proofs.«01_k».proof.Kernel2Ideal
public import proofs.«01_k».proof.Proof.MergeSpec

/-! # The mathematics of a feed-forward block, entry by entry

The arrays of `h + 0.5 * swiglu(rmsnorm(h), w_gu, w_down)` and of its backward pass, each written as a function of an index over
the extended reals. The weights of the gate and of the up projection lie in four groups of 1408 columns, side by side. -/

@[expose] public section
set_option maxRecDepth 16384
noncomputable section
open Idealize.ShloMosaic
namespace Cert.Ffn
open Cert.Kernel2Ideal Cert.Merge

/-- The constant one half. -/
abbrev half : EReal := Ideal.ofBits .f32 0x3F000000#32
/-- The constant minus one half. -/
abbrev mhalf : EReal := Ideal.ofBits .f32 0xBF000000#32
/-- The length of a row. -/
abbrev width : EReal := Ideal.ofBits .f32 0x44800000#32
/-- The constant under the root. -/
abbrev eps : EReal := Ideal.ofBits .f32 0x358637BD#32

/-- `x @ w`, the columns of `w` in four groups. -/
def nnG (x : Arr S4352x1024) (w : Arr S4x1024x1408) : Arr S4352x5632 :=
  fun i => ∑ k : Fin 1024, x (ix2 (i 0) k) *
    w (ix3 ⟨(i 1).val / 1408, by have := (i 1).isLt; simp at this; omega⟩ k ⟨(i 1).val % 1408, by omega⟩)

/-- The gate's half of a row of 5632. -/
abbrev lo (g : Arr S4352x5632) : Arr S4352x2816 :=
  fun i => g (ix2 (i 0) ⟨(i 1).val, by have := (i 1).isLt; simp at this; omega⟩)
/-- The other half of a row of 5632. -/
abbrev hi (g : Arr S4352x5632) : Arr S4352x2816 :=
  fun i => g (ix2 (i 0) ⟨2816 + (i 1).val, by have := (i 1).isLt; simp at this; omega⟩)

/-- `silu(g) * u`. -/
def act (g : Arr S4352x5632) : Arr S4352x2816 :=
  fun i => lo g i * Ideal.logistic (lo g i) * hi g i

/-- `a @ w_down`. -/
def nnD (a : Arr S4352x2816) (w : Arr S2816x1024) : Arr S4352x1024 :=
  fun i => ∑ k : Fin 2816, a (ix2 (i 0) k) * w (ix2 k (i 1))

/-- The block's result. -/
def outD (h : Arr S4352x1024) (p : Arr S4352x1024) : Arr S4352x1024 :=
  fun i => h i + half * p i

/-- The gradient of the activation: half the gradient of the result, times the transposed weights. -/
def dact (d : Arr S4352x1024) (w : Arr S2816x1024) : Arr S4352x2816 :=
  fun i => ∑ k : Fin 1024, d (ix2 (i 0) k) * half * w (ix2 (i 1) k)

/-- The derivative of `g * logistic g` with `s = logistic g` as the kernel writes it. -/
def dsilu (g : EReal) : EReal :=
  Ideal.logistic g + g * Ideal.logistic g - g * Ideal.logistic g * Ideal.logistic g

/-- The gradient of the gate and of the up projection, side by side. -/
def dgu (da : Arr S4352x2816) (g : Arr S4352x5632) : Arr S4352x5632 := fun i =>
  if h : (i 1).val < 2816 then
    da (ix2 (i 0) ⟨(i 1).val, h⟩) * hi g (ix2 (i 0) ⟨(i 1).val, h⟩) * dsilu (lo g (ix2 (i 0) ⟨(i 1).val, h⟩))
  else
    da (ix2 (i 0) ⟨(i 1).val - 2816, by have := (i 1).isLt; simp at this; omega⟩) *
      (lo g (ix2 (i 0) ⟨(i 1).val - 2816, by have := (i 1).isLt; simp at this; omega⟩) *
        Ideal.logistic (lo g (ix2 (i 0) ⟨(i 1).val - 2816, by have := (i 1).isLt; simp at this; omega⟩)))

/-- The gradient of `w_down`. -/
def tnD (a : Arr S4352x2816) (d : Arr S4352x1024) : Arr S2816x1024 :=
  fun i => (∑ k : Fin 4352, a (ix2 k (i 0)) * d (ix2 k (i 1))) * half

/-- The gradient of the grouped weights. -/
def tnG (n : Arr S4352x1024) (d : Arr S4352x5632) : Arr S4x1024x1408 :=
  fun i => ∑ k : Fin 4352, n (ix2 k (i 1)) *
    d (ix2 k ⟨1408 * (i 0).val + (i 2).val, by
      have h0 : (i 0).val < 4 := (i 0).isLt
      have h2 : (i 2).val < 1408 := (i 2).isLt
      omega⟩)

/-- One group's share of the gradient of the normed rows. -/
def dnPart (d : Arr S4352x5632) (w : Arr S4x1024x1408) (g : Fin 4) : Arr S4352x1024 :=
  fun i => ∑ k : Fin 1408, d (ix2 (i 0) ⟨1408 * g.val + k.val, by omega⟩) * w (ix3 g (i 1) k)

/-- The gradient of the normed rows: the four groups summed. -/
def dn (d : Arr S4352x5632) (w : Arr S4x1024x1408) : Arr S4352x1024 :=
  fun i => dnPart d w 0 i + dnPart d w 1 i + dnPart d w 2 i + dnPart d w 3 i

/-- A row's mean square plus the constant. -/
def ms (h : Arr S4352x1024) (r : Fin 4352) : EReal :=
  Ideal.div (∑ k : Fin 1024, h (ix2 r k) * h (ix2 r k)) width + eps

/-- The root's share of a row's gradient. -/
def dmean (h : Arr S4352x1024) (w : Arr S1x1024) (d : Arr S4352x1024) (r : Fin 4352) : EReal :=
  Ideal.div ((∑ k : Fin 1024, h (ix2 r k) * (d (ix2 r k) * w (ix2 0 k))) *
    (mhalf * Ideal.div (Ideal.rsqrt (ms h r)) (ms h r))) width

/-- The gradient of the rows under the norm, plus the gradient that passes beside it. -/
def dnormed (h : Arr S4352x1024) (w : Arr S1x1024) (d res : Arr S4352x1024) : Arr S4352x1024 :=
  fun i => d i * w (ix2 0 (i 1)) * Ideal.rsqrt (ms h (i 0)) + h i * dmean h w d (i 0) + dmean h w d (i 0) * h i + res i

/-- The gradient of the norm's weight. -/
def dweight (h : Arr S4352x1024) (d : Arr S4352x1024) : Arr S1x1024 :=
  fun i => ∑ k : Fin 4352, h (ix2 k (i 1)) * Ideal.rsqrt (ms h k) * d (ix2 k (i 1))

end Cert.Ffn
end
-- ==== Proof.FfnValue0.lean ====
module
public import proofs.«01_k».proof.Proof.Gen.Kernel2Ideal.Frame
public import proofs.«01_k».proof.Proof.FfnSpec
public import Idealize.ShloMosaic.Lib.Pipeline.ValueKit

/-! # Region 0 of the feed-forward block: the normed rows -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Merge Cert.Ffn
variable (V : (c : Dev nD) → (b : Ref sig .tc) → Buf (Elt Ideal) ((c : Thread nD τ).loc b))

/-- The blocks' positions at a point. -/
theorem idx0 : ∀ t : Fin cfg0.N, win0_0.index t = ![t.val, 0] ∧ win0_1.index t = ![0, 0] ∧ win0_2.index t = ![t.val, 0] :=
  (by decide +kernel : ∀ t : Fin grid0.N, _)

/-- The result's buffer at the end. -/
theorem final0_2 (c : Dev nD) : (dat0 V c).arrAt 2 cfg0.N = normed (V c main_arg0) (V c main_arg1) := by
  refine (dat0 V c).arrAt_eq_of_covers 2 _ (by decide +kernel) fun t _ y => ?_
  blk_simp
  rw [after0_2]; frame_out
  pointwise [k0_pay1, normed]
  blk_point [iblk0, idx0 t]

end Cert.Kernel2Ideal.Ffn
end
-- ==== Proof.FfnValue1.lean ====
module
public import proofs.«01_k».proof.Proof.Gen.Kernel2Ideal.Frame
public import proofs.«01_k».proof.Proof.FfnSpec
public import Idealize.ShloMosaic.Lib.Pipeline.ValueKit

/-! # Region 1 of the feed-forward block: the gate, the up projection and the activation -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Merge Cert.Ffn
variable (V : (c : Dev nD) → (b : Ref sig .tc) → Buf (Elt Ideal) ((c : Thread nD τ).loc b))

/-- The blocks' positions at a point. -/
theorem idx1 : ∀ t : Fin cfg1.N, win1_0.index t = ![t.val, 0] ∧ win1_1.index t = ![0, 0, 0] ∧ win1_2.index t = ![t.val, 0] ∧ win1_3.index t = ![t.val, 0] :=
  (by decide +kernel : ∀ t : Fin grid1.N, _)

/-- The products' buffer at the end. -/
theorem final1_2 (c : Dev nD) : (dat1 V c).arrAt 2 cfg1.N = nnG (V c main_v0) (V c main_arg2) := by
  refine (dat1 V c).arrAt_eq_of_covers 2 _ (by decide +kernel) fun t _ y => ?_
  blk_simp
  rw [after1_2]; unfold Gen.outsAt1; frame_out
  canon_tiles x h
  all_goals (pointwise [k1_pay2, k1_pay3, k1_pay4, k1_pay5, k1_pay6, nnG]; blk_point [iblk1, idx1 t])

/-- The activation's buffer at the end. -/
theorem final1_3 (c : Dev nD) : (dat1 V c).arrAt 3 cfg1.N = act (nnG (V c main_v0) (V c main_arg2)) := by
  refine (dat1 V c).arrAt_eq_of_covers 3 _ (by decide +kernel) fun t _ y => ?_
  blk_simp
  rw [after1_3]; unfold Gen.outsAt1; frame_out
  generalize hB : View.readCov (Val := Elt Ideal) _ _ _ = B
  have key : ∀ z : S256x5632.Idx, B z = nnG (V c main_v0) (V c main_arg2) (ix2 ⟨256 * t.val + (z 0).val, by
      have h1 : t.val < 17 := t.isLt; have h2 : (z 0).val < 256 := (z 0).isLt; omega⟩ (z 1)) := by
    intro z
    rw [← hB, View.readCov_eq_canon']
    have hz : (Rect.unit (s := S256x5632) ![0, 0] ![256, 5632] inb_S256x5632_S256x5632_0_0).idx z = z := by
      funext a; fin_cases a <;> apply Fin.ext <;> simp
    beta_reduce
    rw [hz]
    canon_tiles x h
    all_goals (pointwise [k1_pay2, k1_pay3, k1_pay4, k1_pay5, k1_pay6, nnG]; blk_point [iblk1, idx1 t])
  pointwise [k1_pay1, k1_pay7, k1_pay8, k1_pay9, act, lo, hi, key]
  blk_point [idx1 t]

end Cert.Kernel2Ideal.Ffn
end
-- ==== Proof.FfnValue2.lean ====
module
public import proofs.«01_k».proof.Proof.Gen.Kernel2Ideal.Frame
public import proofs.«01_k».proof.Proof.FfnSpec
public import Idealize.ShloMosaic.Lib.Pipeline.ValueKit

/-! # Region 2 of the feed-forward block: the block's result -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Merge Cert.Ffn
variable (V : (c : Dev nD) → (b : Ref sig .tc) → Buf (Elt Ideal) ((c : Thread nD τ).loc b))

/-- The blocks' positions at a point. -/
theorem idx2 : ∀ t : Fin cfg2.N, win2_0.index t = ![t.val, 0] ∧ win2_1.index t = ![0, 0] ∧ win2_2.index t = ![t.val, 0] ∧ win2_3.index t = ![t.val, 0] :=
  (by decide +kernel : ∀ t : Fin grid2.N, _)

/-- The result's buffer at the end. -/
theorem final2_3 (c : Dev nD) : (dat2 V c).arrAt 3 cfg2.N = outD (V c main_arg0) (nnD (V c main_v1_1) (V c main_arg3)) := by
  refine (dat2 V c).arrAt_eq_of_covers 3 _ (by decide +kernel) fun t _ y => ?_
  blk_simp
  rw [after2_3]; frame_out
  pointwise [k2_pay1, outD, nnD]
  blk_point [iblk2, idx2 t]

end Cert.Kernel2Ideal.Ffn
end
-- ==== Proof.FfnValue3.lean ====
module
public import proofs.«01_k».proof.Proof.Gen.Kernel2Ideal.Frame
public import proofs.«01_k».proof.Proof.FfnSpec
public import Idealize.ShloMosaic.Lib.Pipeline.ValueKit

/-! # Region 3 of the feed-forward block: the gradient of the gate and the up projection -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Merge Cert.Ffn
variable (V : (c : Dev nD) → (b : Ref sig .tc) → Buf (Elt Ideal) ((c : Thread nD τ).loc b))

/-- The blocks' positions at a point. -/
theorem idx3 : ∀ t : Fin cfg3.N, win3_0.index t = ![t.val, 0] ∧ win3_1.index t = ![0, 0] ∧ win3_2.index t = ![t.val, 0] ∧ win3_3.index t = ![t.val, 0] :=
  (by decide +kernel : ∀ t : Fin grid3.N, _)

/-- The result's buffer at the end. -/
theorem final3_3 (c : Dev nD) : (dat3 V c).arrAt 3 cfg3.N = dgu (dact (V c main_arg4) (V c main_arg3)) (V c main_v1_0) := by
  refine (dat3 V c).arrAt_eq_of_covers 3 _ (by decide +kernel) fun t _ y => ?_
  blk_simp
  rw [after3_3]; frame_out
  have he : ((((View.whole main_v3).slice (win3_3.rect t)).emb y 1 : Fin 5632) : ℕ) = (y 1).val := by blk_simp [idx3 t]
  canon_tiles x h
  · have hn : ¬ ((((View.whole main_v3).slice (win3_3.rect t)).emb y 1 : Fin 5632) : ℕ) < 2816 := by omega
    pointwise [k3_pay1, k3_pay2, k3_pay3, k3_pay4, k3_pay6, dgu, dact, lo, hi, dsilu]
    rw [dif_neg hn]
    blk_point [iblk3, idx3 t]
  · have hn : ((((View.whole main_v3).slice (win3_3.rect t)).emb y 1 : Fin 5632) : ℕ) < 2816 := by omega
    pointwise [k3_pay1, k3_pay2, k3_pay3, k3_pay4, k3_pay5, dgu, dact, lo, hi, dsilu]
    rw [dif_pos hn]
    blk_point [iblk3, idx3 t]

end Cert.Kernel2Ideal.Ffn
end
-- ==== Proof.FfnValue4.lean ====
module
public import proofs.«01_k».proof.Proof.Gen.Kernel2Ideal.Frame
public import proofs.«01_k».proof.Proof.FfnSpec
public import Idealize.ShloMosaic.Lib.Pipeline.ValueKit

/-! # Region 4 of the feed-forward block: the gradient of the down projection's weights -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Merge Cert.Ffn
variable (V : (c : Dev nD) → (b : Ref sig .tc) → Buf (Elt Ideal) ((c : Thread nD τ).loc b))

/-- The blocks' positions at a point. -/
theorem idx4 : ∀ t : Fin cfg4.N, win4_0.index t = ![0, t.val / 4] ∧ win4_1.index t = ![0, t.val % 4] ∧ win4_2.index t = ![t.val / 4, t.val % 4] :=
  (by decide +kernel : ∀ t : Fin grid4.N, _)

/-- The result's buffer at the end. -/
theorem final4_2 (c : Dev nD) : (dat4 V c).arrAt 2 cfg4.N = tnD (V c main_v1_1) (V c main_arg4) := by
  refine (dat4 V c).arrAt_eq_of_covers 2 _ (by decide +kernel) fun t _ y => ?_
  blk_simp
  rw [after4_2]; frame_out
  pointwise [k4_pay1, tnD]
  blk_point [iblk4, idx4 t]

end Cert.Kernel2Ideal.Ffn
end
-- ==== Proof.FfnValue5.lean ====
module
public import proofs.«01_k».proof.Proof.Gen.Kernel2Ideal.Frame
public import proofs.«01_k».proof.Proof.FfnSpec
public import Idealize.ShloMosaic.Lib.Pipeline.ValueKit

/-! # Region 5 of the feed-forward block: the gradient of the gate's and the up projection's weights -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Merge Cert.Ffn
variable (V : (c : Dev nD) → (b : Ref sig .tc) → Buf (Elt Ideal) ((c : Thread nD τ).loc b))

/-- The blocks' positions at a point. -/
theorem idx5 : ∀ t : Fin cfg5.N, win5_0.index t = ![0, t.val / 4] ∧ win5_1.index t = ![0, t.val % 4] ∧ win5_2.index t = ![t.val % 4, t.val / 4, 0] :=
  (by decide +kernel : ∀ t : Fin grid5.N, _)

/-- The result's buffer at the end. -/
theorem final5_2 (c : Dev nD) : (dat5 V c).arrAt 2 cfg5.N = tnG (V c main_v0) (V c main_v3) := by
  refine (dat5 V c).arrAt_eq_of_covers 2 _ (by decide +kernel) fun t _ y => ?_
  blk_simp
  rw [after5_2]; frame_out
  pointwise [k5_pay1, tnG]
  blk_point [iblk5, idx5 t]

end Cert.Kernel2Ideal.Ffn
end
-- ==== Proof.FfnValue6.lean ====
module
public import proofs.«01_k».proof.Proof.Gen.Kernel2Ideal.Frame
public import proofs.«01_k».proof.Proof.FfnSpec
public import Idealize.ShloMosaic.Lib.Pipeline.ValueKit

/-! # Region 6 of the feed-forward block: the gradient of the normed rows -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Merge Cert.Ffn
variable (V : (c : Dev nD) → (b : Ref sig .tc) → Buf (Elt Ideal) ((c : Thread nD τ).loc b))

/-- The blocks' positions at a point. -/
theorem idx6 : ∀ t : Fin cfg6.N, win6_0.index t = ![t.val, 0] ∧ win6_1.index t = ![0, 0, 0] ∧ win6_2.index t = ![t.val, 0] ∧ win6_3.index t = ![0, 0] ∧ win6_4.index t = ![t.val, 0] ∧ win6_6.index t = ![t.val, 0] ∧ win6_7.index t = ![0, 0] :=
  (by decide +kernel : ∀ t : Fin grid6.N, _)

/-- Row `r` of the block at point `t`. -/
def row6 (t : Fin cfg6.N) (r : Fin 544) : Fin 4352 :=
  ⟨544 * t.val + r.val, by have h : t.val < 8 := t.isLt; omega⟩

/-- The block of the normed rows' gradient. -/
theorem dn6 (c : Dev nD) (t : Fin cfg6.N) :
    (k6_pay6
  (View.ld (iblk6 V c 0 t) (Rect.unit ![0, 0] ![544, 1408] inb_S544x5632_S544x1408_0_0))
  (View.ld (iblk6 V c 1 t) (Rect.unit ![0, 0, 0] ![1, 1024, 1408] inb_S4x1024x1408_S1x1024x1408_0_0_0))
  (View.ld (iblk6 V c 0 t) (Rect.unit ![0, 1408] ![544, 1408] inb_S544x5632_S544x1408_0_1408))
  (View.ld (iblk6 V c 1 t) (Rect.unit ![1, 0, 0] ![1, 1024, 1408] inb_S4x1024x1408_S1x1024x1408_1_0_0))
  (View.ld (iblk6 V c 0 t) (Rect.unit ![0, 2816] ![544, 1408] inb_S544x5632_S544x1408_0_2816))
  (View.ld (iblk6 V c 1 t) (Rect.unit ![2, 0, 0] ![1, 1024, 1408] inb_S4x1024x1408_S1x1024x1408_2_0_0))
  (View.ld (iblk6 V c 0 t) (Rect.unit ![0, 4224] ![544, 1408] inb_S544x5632_S544x1408_0_4224))
  (View.ld (iblk6 V c 1 t) (Rect.unit ![3, 0, 0] ![1, 1024, 1408] inb_S4x1024x1408_S1x1024x1408_3_0_0)))
      = fun y : S544x1024.Idx => dn (V c main_v3) (V c main_arg2) (ix2 (row6 t (y 0)) (y 1)) := by
  funext y
  pointwise [k6_pay6, dn, dnPart, row6]
  blk_point [iblk6, idx6 t]

end Cert.Kernel2Ideal.Ffn
end
-- ==== Proof.FfnValue7.lean ====
module
public import proofs.«01_k».proof.Proof.Gen.Kernel2Ideal.Frame
public import proofs.«01_k».proof.Proof.FfnValue6
public import Idealize.ShloMosaic.Lib.Pipeline.ValueKit
public import Idealize.ShloMosaic.Lib.WritesUnit

/-! # Region 6 of the feed-forward block: the gradient of the norm's weight -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Merge Cert.Ffn
variable (V : (c : Dev nD) → (b : Ref sig .tc) → Buf (Elt Ideal) ((c : Thread nD τ).loc b))

/-- What a point adds to column `q` of the weight's gradient. -/
def add6 (h d : Arr S4352x1024) (t : Fin cfg6.N) (q : Fin 1024) : EReal :=
  ∑ r : Fin 544, h (ix2 (row6 t r) q) * Ideal.rsqrt (ms h (row6 t r)) * d (ix2 (row6 t r) q)

/-- The stored row: the row read before, plus what the point adds. -/
theorem pay6 (c : Dev nD) (t : Fin cfg6.N) (v : Vec Ideal S1x1024 .f32) (q : Fin 1024) :
    k6_pay5 (k6_pay6
  (View.ld (iblk6 V c 0 t) (Rect.unit ![0, 0] ![544, 1408] inb_S544x5632_S544x1408_0_0))
  (View.ld (iblk6 V c 1 t) (Rect.unit ![0, 0, 0] ![1, 1024, 1408] inb_S4x1024x1408_S1x1024x1408_0_0_0))
  (View.ld (iblk6 V c 0 t) (Rect.unit ![0, 1408] ![544, 1408] inb_S544x5632_S544x1408_0_1408))
  (View.ld (iblk6 V c 1 t) (Rect.unit ![1, 0, 0] ![1, 1024, 1408] inb_S4x1024x1408_S1x1024x1408_1_0_0))
  (View.ld (iblk6 V c 0 t) (Rect.unit ![0, 2816] ![544, 1408] inb_S544x5632_S544x1408_0_2816))
  (View.ld (iblk6 V c 1 t) (Rect.unit ![2, 0, 0] ![1, 1024, 1408] inb_S4x1024x1408_S1x1024x1408_2_0_0))
  (View.ld (iblk6 V c 0 t) (Rect.unit ![0, 4224] ![544, 1408] inb_S544x5632_S544x1408_0_4224))
  (View.ld (iblk6 V c 1 t) (Rect.unit ![3, 0, 0] ![1, 1024, 1408] inb_S4x1024x1408_S1x1024x1408_3_0_0)))
      (iblk6 V c 2 t) (k6_pay7 (iblk6 V c 2 t)) k6_pay8 v (ix2 0 q) = v (ix2 0 q) + add6 (V c main_arg0) (dn (V c main_v3) (V c main_arg2)) t q := by
  refine (congrArg (fun X => k6_pay5 X _ _ _ _ (ix2 0 q)) (dn6 V c t)).trans ?_
  pointwise [k6_pay1, k6_pay2, k6_pay5, k6_pay7, k6_pay8, add6, ms]
  blk_point [iblk6, idx6 t, row6]

/-- The filled buffer is zero. -/
theorem pay4 (z : S8x1024.Idx) : k6_pay4 (F := Ideal) z = 0 := by
  pointwise [k6_pay4]

/-- The weight's gradient at the end, in row 0 of its buffer. -/
theorem final6_7 (c : Dev nD) : (dat6 V c).arrAt 7 cfg6.N
    = fun i : S8x1024.Idx => if (i 0).val = 0 then dweight (V c main_arg0) (dn (V c main_v3) (V c main_arg2)) (ix2 0 (i 1)) else 0 := by
  refine (dat6 V c).arrAt_eq_of_after_last 7 t6_7 (by decide +kernel) _ fun j => ?_
  blk_simp
  rw [after6_7]
  have hA : ∀ (t : Fin cfg6.N) (h : t.val % 8 = 0) (j : S8x1024.Idx), (outsAt6 V c t.val t.isLt).2 j
      = 0 + if (j 0).val = 0 then add6 (V c main_arg0) (dn (V c main_v3) (V c main_arg2)) t (j 1) else 0 := by
    intro t h j
    rw [outsAt6_A V c t h]; frame_out
    by_cases hj : (j 0).val = 0
    · have hj' : j = (Rect.unit (s := S8x1024) ![0, 0] ![1, 1024] inb_S8x1024_S1x1024_0_0).emb (ix2 0 (j 1)) := by
        funext a; fin_cases a <;> apply Fin.ext <;> simp [hj]
      rw [hj', View.canon_cons_emb]
      refine (pay6 V c t _ _).trans ?_
      rw [View.readCov_eq_canon']
      beta_reduce
      rw [if_pos (by simp), View.canon_cons_unit_lit _ _ _ (by decide)]
      rw [pay4, congrFun hj'.symm 1]
    · rw [View.canon_cons_of_not_mem _ _ (by simp [Rect.mem_set_unit]; omega)]
      rw [if_neg hj, View.canon_cons_unit_lit _ _ _ (by decide)]
      rw [pay4, add_zero]
  have hB : ∀ (t : Fin cfg6.N) (h : ¬ t.val % 8 = 0) (j : S8x1024.Idx), (outsAt6 V c t.val t.isLt).2 j
      = (outsAt6 V c (t.val - 1) (Nat.lt_of_le_of_lt (Nat.sub_le _ _) t.isLt)).2 j
        + if (j 0).val = 0 then add6 (V c main_arg0) (dn (V c main_v3) (V c main_arg2)) t (j 1) else 0 := by
    intro t h j
    rw [outsAt6_B V c t h]; frame_out
    by_cases hj : (j 0).val = 0
    · have hj' : j = (Rect.unit (s := S8x1024) ![0, 0] ![1, 1024] inb_S8x1024_S1x1024_0_0).emb (ix2 0 (j 1)) := by
        funext a; fin_cases a <;> apply Fin.ext <;> simp [hj]
      rw [View.read_writes_cons_unit_of_mem _ _ _ _ _ _ (ix2 0 (j 1)) rfl (by intro a; fin_cases a <;> simp [hj]), if_pos hj]
      refine (pay6 V c t _ _).trans ?_
      exact congrArg (fun z => (outsAt6 V c (t.val - 1) (Nat.lt_of_le_of_lt (Nat.sub_le _ _) t.isLt)).2 z
        + add6 (V c main_arg0) (dn (V c main_v3) (V c main_arg2)) t (j 1)) hj'.symm
    · rw [View.read_writes_cons_unit_of_not_mem _ _ _ _ _ _ rfl 0 (by simp; omega), if_neg hj, add_zero]
      exact congrFun (Memref.IsWhole.read_unread _ _) j
  rw [Pipeline.eq_sum_fin_of_reset_step_apply_last (fun n h => (outsAt6 V c n h).2) 8 (fun _ => 0) _
    hA hB (le_of_eq N_6) t6_7 rfl j, zero_add]
  by_cases hj : (j 0).val = 0
  · simp only [hj, if_true, add6, dweight]
    refine Fin.sum_mul_add_congr fun t k hl => ?_
    have hr : row6 t k = ⟨t.val * 544 + k.val, hl⟩ := Fin.ext (by simp only [row6]; omega)
    rw [hr]
    rfl
  · simp only [hj, if_false, Finset.sum_const_zero]

end Cert.Kernel2Ideal.Ffn
end
-- ==== Proof.FfnValue8.lean ====
module
public import proofs.«01_k».proof.Proof.Gen.Kernel2Ideal.Frame
public import proofs.«01_k».proof.Proof.FfnValue6
public import Idealize.ShloMosaic.Lib.Pipeline.ValueKit

/-! # Region 6 of the feed-forward block: the gradient of the rows -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Merge Cert.Ffn
variable (V : (c : Dev nD) → (b : Ref sig .tc) → Buf (Elt Ideal) ((c : Thread nD τ).loc b))

/-- The rows' gradient at the end. -/
theorem final6_6 (c : Dev nD) : (dat6 V c).arrAt 6 cfg6.N
    = dnormed (V c main_arg0) (V c main_arg1) (dn (V c main_v3) (V c main_arg2)) (V c main_arg4) := by
  refine (dat6 V c).arrAt_eq_of_covers 6 _ (by decide +kernel) fun t _ y => ?_
  blk_simp
  rw [after6_6]
  have hc : ∀ y : S544x1024.Idx, k6_pay3 (fun y : S544x1024.Idx => dn (V c main_v3) (V c main_arg2) (ix2 (row6 t (y 0)) (y 1)))
      (iblk6 V c 2 t) (iblk6 V c 3 t) (k6_pay7 (iblk6 V c 2 t)) k6_pay8 (iblk6 V c 4 t) y
      = dnormed (V c main_arg0) (V c main_arg1) (dn (V c main_v3) (V c main_arg2)) (V c main_arg4) (ix2 (row6 t (y 0)) (y 1)) := by
    intro y
    pointwise [k6_pay1, k6_pay2, k6_pay3, k6_pay7, k6_pay8, dnormed, dmean, ms]
    simp only [Fin.sum_univ_one, Fintype.sum_unique, Finset.univ_unique, Finset.sum_singleton]
    blk_point [iblk6, idx6 t, row6]
  have he : ((View.whole main_v9_0).slice (win6_6.rect t)).emb y = ix2 (row6 t (y 0)) (y 1) := by
    blk_ext [idx6 t, row6]
  rw [he]
  by_cases h : t.val % 8 = 0
  · rw [outsAt6_A V c t h]; frame_out
    exact (congrArg (fun X => k6_pay3 X _ _ _ _ _ y) (dn6 V c t)).trans (hc y)
  · rw [outsAt6_B V c t h]; frame_out
    exact (congrArg (fun X => k6_pay3 X _ _ _ _ _ y) (dn6 V c t)).trans (hc y)

end Cert.Kernel2Ideal.Ffn
end
-- ==== Proof.FfnValues.lean ====
module
public import proofs.«01_k».proof.Proof.FfnValue0
public import proofs.«01_k».proof.Proof.FfnValue1
public import proofs.«01_k».proof.Proof.FfnValue2
public import proofs.«01_k».proof.Proof.FfnValue3
public import proofs.«01_k».proof.Proof.FfnValue4
public import proofs.«01_k».proof.Proof.FfnValue5
public import proofs.«01_k».proof.Proof.FfnValue6
public import proofs.«01_k».proof.Proof.FfnValue7
public import proofs.«01_k».proof.Proof.FfnValue8
-- ==== Proof.FfnChain.lean ====
module
public import proofs.«01_k».proof.Proof.FfnValues

/-! # The results of the feed-forward block in terms of its arguments

Each boundary's buffers, followed from call to call. -/

@[expose] public section
set_option maxRecDepth 16384
noncomputable section
namespace Cert.Kernel2Ideal.Ffn
open Idealize.ShloMosaic Idealize.ShloMosaic.TcCoe Idealize.SL.Sem
open Cert.Kernel2Ideal Cert.Kernel2Ideal.Gen Cert.Merge Cert.Ffn
variable (m : (ℓ : Loc nD τ sig) → Buf (Elt Ideal) ℓ) (ρ : Dev nD → PrngReg) (c : Dev nD)

/-- Argument 0 as launched. -/
abbrev x0 := m ((c : Thread nD τ).loc main_arg0)
/-- Argument 1 as launched. -/
abbrev x1 := m ((c : Thread nD τ).loc main_arg1)
/-- Argument 2 as launched. -/
abbrev x2 := m ((c : Thread nD τ).loc main_arg2)
/-- Argument 3 as launched. -/
abbrev x3 := m ((c : Thread nD τ).loc main_arg3)
/-- Argument 4 as launched. -/
abbrev x4 := m ((c : Thread nD τ).loc main_arg4)
/-- The normed rows. -/
abbrev nK : Arr S4352x1024 := normed (x0 m c) (x1 m c)
/-- The two projections. -/
abbrev gK : Arr S4352x5632 := nnG (nK m c) (x2 m c)
/-- The projections' gradient. -/
abbrev dgK : Arr S4352x5632 := dgu (dact (x4 m c) (x3 m c)) (gK m c)
theorem V1_arg0 : V1 m ρ c main_arg0 = x0 m c := W1_args m ρ c main_arg0 (by decide)
theorem V1_arg1 : V1 m ρ c main_arg1 = x1 m c := W1_args m ρ c main_arg1 (by decide)
theorem V1_arg2 : V1 m ρ c main_arg2 = x2 m c := W1_args m ρ c main_arg2 (by decide)
theorem V1_arg3 : V1 m ρ c main_arg3 = x3 m c := W1_args m ρ c main_arg3 (by decide)
theorem V1_arg4 : V1 m ρ c main_arg4 = x4 m c := W1_args m ρ c main_arg4 (by decide)
theorem V2_arg0 : V2 m ρ c main_arg0 = x0 m c := W2_args m ρ c main_arg0 (by decide)
theorem V2_arg1 : V2 m ρ c main_arg1 = x1 m c := W2_args m ρ c main_arg1 (by decide)
theorem V2_arg2 : V2 m ρ c main_arg2 = x2 m c := W2_args m ρ c main_arg2 (by decide)
theorem V2_arg3 : V2 m ρ c main_arg3 = x3 m c := W2_args m ρ c main_arg3 (by decide)
theorem V2_arg4 : V2 m ρ c main_arg4 = x4 m c := W2_args m ρ c main_arg4 (by decide)
theorem V3_arg0 : V3 m ρ c main_arg0 = x0 m c := W3_args m ρ c main_arg0 (by decide)
theorem V3_arg1 : V3 m ρ c main_arg1 = x1 m c := W3_args m ρ c main_arg1 (by decide)
theorem V3_arg2 : V3 m ρ c main_arg2 = x2 m c := W3_args m ρ c main_arg2 (by decide)
theorem V3_arg3 : V3 m ρ c main_arg3 = x3 m c := W3_args m ρ c main_arg3 (by decide)
theorem V3_arg4 : V3 m ρ c main_arg4 = x4 m c := W3_args m ρ c main_arg4 (by decide)
theorem V4_arg0 : V4 m ρ c main_arg0 = x0 m c := W4_args m ρ c main_arg0 (by decide)
theorem V4_arg1 : V4 m ρ c main_arg1 = x1 m c := W4_args m ρ c main_arg1 (by decide)
theorem V4_arg2 : V4 m ρ c main_arg2 = x2 m c := W4_args m ρ c main_arg2 (by decide)
theorem V4_arg3 : V4 m ρ c main_arg3 = x3 m c := W4_args m ρ c main_arg3 (by decide)
theorem V4_arg4 : V4 m ρ c main_arg4 = x4 m c := W4_args m ρ c main_arg4 (by decide)
theorem V5_arg0 : V5 m ρ c main_arg0 = x0 m c := W5_args m ρ c main_arg0 (by decide)
theorem V5_arg1 : V5 m ρ c main_arg1 = x1 m c := W5_args m ρ c main_arg1 (by decide)
theorem V5_arg2 : V5 m ρ c main_arg2 = x2 m c := W5_args m ρ c main_arg2 (by decide)
theorem V5_arg3 : V5 m ρ c main_arg3 = x3 m c := W5_args m ρ c main_arg3 (by decide)
theorem V5_arg4 : V5 m ρ c main_arg4 = x4 m c := W5_args m ρ c main_arg4 (by decide)
theorem V6_arg0 : V6 m ρ c main_arg0 = x0 m c := W6_args m ρ c main_arg0 (by decide)
theorem V6_arg1 : V6 m ρ c main_arg1 = x1 m c := W6_args m ρ c main_arg1 (by decide)
theorem V6_arg2 : V6 m ρ c main_arg2 = x2 m c := W6_args m ρ c main_arg2 (by decide)
theorem V6_arg3 : V6 m ρ c main_arg3 = x3 m c := W6_args m ρ c main_arg3 (by decide)
theorem V6_arg4 : V6 m ρ c main_arg4 = x4 m c := W6_args m ρ c main_arg4 (by decide)
theorem V7_arg0 : V7 m ρ c main_arg0 = x0 m c := W7_args m ρ c main_arg0 (by decide)
theorem V7_arg1 : V7 m ρ c main_arg1 = x1 m c := W7_args m ρ c main_arg1 (by decide)
theorem V7_arg2 : V7 m ρ c main_arg2 = x2 m c := W7_args m ρ c main_arg2 (by decide)
theorem V7_arg3 : V7 m ρ c main_arg3 = x3 m c := W7_args m ρ c main_arg3 (by decide)
theorem V7_arg4 : V7 m ρ c main_arg4 = x4 m c := W7_args m ρ c main_arg4 (by decide)
theorem V1_main_v0 : V1 m ρ c main_v0 = nK m c :=
  (W1_arr m ρ c 2).trans ((final0_2 (V0 m ρ) c).trans (rfl))
theorem V2_main_v1_0 : V2 m ρ c main_v1_0 = gK m c :=
  (W2_arr m ρ c 2).trans ((final1_2 (V1 m ρ) c).trans (by rw [V1_arg2 m ρ c, V1_main_v0 m ρ c]))
theorem V2_main_v1_1 : V2 m ρ c main_v1_1 = act (gK m c) :=
  (W2_arr m ρ c 3).trans ((final1_3 (V1 m ρ) c).trans (by rw [V1_arg2 m ρ c, V1_main_v0 m ρ c]))
theorem V3_main_v2 : V3 m ρ c main_v2 = outD (x0 m c) (nnD (act (gK m c)) (x3 m c)) :=
  (W3_arr m ρ c 3).trans ((final2_3 (V2 m ρ) c).trans (by rw [V2_arg0 m ρ c, V2_arg3 m ρ c, V2_main_v1_1 m ρ c]))
theorem V3_main_v1_0 : V3 m ρ c main_v1_0 = gK m c := (W3_of m ρ c main_v1_0 (by decide +kernel)).trans (V2_main_v1_0 m ρ c)
theorem V4_main_v3 : V4 m ρ c main_v3 = dgK m c :=
  (W4_arr m ρ c 3).trans ((final3_3 (V3 m ρ) c).trans (by rw [V3_arg3 m ρ c, V3_arg4 m ρ c, V3_main_v1_0 m ρ c]))
theorem V4_main_v1_1 : V4 m ρ c main_v1_1 = act (gK m c) := (W4_of m ρ c main_v1_1 (by decide +kernel)).trans ((W3_of m ρ c main_v1_1 (by decide +kernel)).trans (V2_main_v1_1 m ρ c))
theorem V5_main_v4 : V5 m ρ c main_v4 = tnD (act (gK m c)) (x4 m c) :=
  (W5_arr m ρ c 2).trans ((final4_2 (V4 m ρ) c).trans (by rw [V4_arg4 m ρ c, V4_main_v1_1 m ρ c]))
theorem V5_main_v0 : V5 m ρ c main_v0 = nK m c := (W5_of m ρ c main_v0 (by decide +kernel)).trans ((W4_of m ρ c main_v0 (by decide +kernel)).trans ((W3_of m ρ c main_v0 (by decide +kernel)).trans ((W2_of m ρ c main_v0 (by decide +kernel)).trans (V1_main_v0 m ρ c))))
theorem V5_main_v3 : V5 m ρ c main_v3 = dgK m c := (W5_of m ρ c main_v3 (by decide +kernel)).trans (V4_main_v3 m ρ c)
theorem V6_main_v5 : V6 m ρ c main_v5 = tnG (nK m c) (dgK m c) :=
  (W6_arr m ρ c 2).trans ((final5_2 (V5 m ρ) c).trans (by rw [V5_main_v0 m ρ c, V5_main_v3 m ρ c]))
theorem V7_main_v3 : V7 m ρ c main_v3 = dgK m c := (W7_of m ρ c main_v3 (by decide)).trans ((W6_of m ρ c main_v3 (by decide +kernel)).trans ((W5_of m ρ c main_v3 (by decide +kernel)).trans (V4_main_v3 m ρ c)))
theorem V8_main_v9_0 : V8 m ρ c main_v9_0 = dnormed (x0 m c) (x1 m c) (dn (dgK m c) (x2 m c)) (x4 m c) :=
  (W8_arr m ρ c 6).trans ((final6_6 (V7 m ρ) c).trans (by rw [V7_arg0 m ρ c, V7_arg1 m ρ c, V7_arg2 m ρ c, V7_arg4 m ρ c, V7_main_v3 m ρ c]))
theorem V8_main_v9_1 : V8 m ρ c main_v9_1 = fun i : S8x1024.Idx => if (i 0).val = 0 then dweight (x0 m c) (dn (dgK m c) (x2 m c)) (ix2 0 (i 1)) else 0 :=
  (W8_arr m ρ c 7).trans ((final6_7 (V7 m ρ) c).trans (by rw [V7_arg0 m ρ c, V7_arg2 m ρ c, V7_main_v3 m ρ c]))
theorem out_out : W9 m ρ c (Proc.devRef .tc main_v2) = outD (x0 m c) (nnD (act (gK m c)) (x3 m c)) := (W9_of m ρ c main_v2 (by decide)).trans ((W8_of m ρ c main_v2 (by decide +kernel)).trans ((W7_of m ρ c main_v2 (by decide)).trans ((W6_of m ρ c main_v2 (by decide +kernel)).trans ((W5_of m ρ c main_v2 (by decide +kernel)).trans ((W4_of m ρ c main_v2 (by decide +kernel)).trans (V3_main_v2 m ρ c))))))
theorem out_dh : W9 m ρ c (Proc.devRef .tc main_v9_0) = dnormed (x0 m c) (x1 m c) (dn (dgK m c) (x2 m c)) (x4 m c) := (W9_of m ρ c main_v9_0 (by decide)).trans (V8_main_v9_0 m ρ c)
theorem out_dwgu : W9 m ρ c (Proc.devRef .tc main_v5) = tnG (nK m c) (dgK m c) := (W9_of m ρ c main_v5 (by decide)).trans ((W8_of m ρ c main_v5 (by decide +kernel)).trans ((W7_of m ρ c main_v5 (by decide)).trans (V6_main_v5 m ρ c)))
theorem out_dwd : W9 m ρ c (Proc.devRef .tc main_v4) = tnD (act (gK m c)) (x4 m c) := (W9_of m ρ c main_v4 (by decide)).trans ((W8_of m ρ c main_v4 (by decide +kernel)).trans ((W7_of m ρ c main_v4 (by decide)).trans ((W6_of m ρ c main_v4 (by decide +kernel)).trans (V5_main_v4 m ρ c))))
theorem out_dnw : W9 m ρ c (Proc.devRef .tc main_v10) = dweight (x0 m c) (dn (dgK m c) (x2 m c)) := by
  have h : W9 m ρ c (Proc.devRef .tc main_v10) = (extractStridedSlice S1x1024 ![0, 0] (V8 m ρ c main_v9_1 : FVec Ideal S8x1024 .f32) slices_S8x1024_S1x1024_0_0 : FVec Ideal S1x1024 .f32) := by
    unfold W9
    simp only [StableHlo.after_cons, StableHlo.after_nil]
    rw [StableHlo.unary_result]
  rw [h, V8_main_v9_1]
  funext i
  pointwise []
  exact congrArg (dweight (x0 m c) (dn (dgK m c) (x2 m c))) (by
    funext a
    match a with
    | 0 => exact Fin.ext (by have := (i 0).isLt; simp at this ⊢)
    | 1 => rfl)

end Cert.Kernel2Ideal.Ffn
end
-- ==== Proof.FfnReal.lean ====
module
public import proofs.«01_k».proof.Proof.FfnSpec
public import Idealize.ShloMosaic.Lib.Pipeline.ValueKit

/-! # Arithmetic of the feed-forward block on real entries

On the extended reals multiplication doesn't distribute over every sum. Here the entries are real numbers, and the two ways
of writing the derivative of `silu` agree. -/

@[expose] public section
set_option maxRecDepth 16384
noncomputable section
namespace Cert.Ffn
open Idealize.ShloMosaic Cert.Kernel2Ideal Cert.Merge

/-- An extended real that is a real number. -/
def IsR (x : EReal) : Prop := ∃ r : ℝ, x = r

theorem IsR.add {x y : EReal} : IsR x → IsR y → IsR (x + y) := fun ⟨a, ha⟩ ⟨b, hb⟩ => ⟨a + b, by rw [ha, hb, EReal.coe_add]⟩
theorem IsR.mul {x y : EReal} : IsR x → IsR y → IsR (x * y) := fun ⟨a, ha⟩ ⟨b, hb⟩ => ⟨a * b, by rw [ha, hb, EReal.coe_mul]⟩
theorem coe_sum {n : ℕ} (g : Fin n → ℝ) : ((∑ k, g k : ℝ) : EReal) = ∑ k, ((g k : ℝ) : EReal) := by
  induction n with
  | zero => simp
  | succ n ih => rw [Fin.sum_univ_succ, Fin.sum_univ_succ, EReal.coe_add, ih]
theorem IsR.sum {n : ℕ} {f : Fin n → EReal} (h : ∀ k, IsR (f k)) : IsR (∑ k, f k) := by
  choose g hg using h
  exact ⟨∑ k, g k, by rw [coe_sum]; exact Finset.sum_congr rfl fun k _ => hg k⟩

theorem half_eq : half = ((1 / 2 : ℝ) : EReal) := by
  simp [half, Ideal.ofBits, Ideal.ieee, -EReal.coe_mul]; norm_num
theorem width_eq : width = ((1024 : ℝ) : EReal) := by
  simp [width, Ideal.ofBits, Ideal.ieee, -EReal.coe_mul]; norm_num
theorem eps_pos : ∃ r : ℝ, 0 < r ∧ eps = r := by
  refine ⟨_, ?_, by simp [eps, Ideal.ofBits, Ideal.ieee, -EReal.coe_mul]; rfl⟩
  norm_num

/-- A constant factor one half leaves a sum. -/
theorem sum_half {n : ℕ} (f : Fin n → EReal) : ∑ k, f k * half = (∑ k, f k) * half := by
  have h0 : (0 : EReal) ≤ half := by rw [half_eq]; exact EReal.coe_nonneg.mpr (by norm_num)
  have h1 : half ≠ ⊤ := by rw [half_eq]; exact EReal.coe_ne_top _
  induction n with
  | zero => simp
  | succ n ih => rw [Fin.sum_univ_succ, Fin.sum_univ_succ, ih, EReal.right_distrib_of_nonneg_of_ne_top h0 h1]

/-- A row's mean square plus the constant is a positive real. -/
theorem ms_pos {h : Arr S4352x1024} (hh : ∀ i, IsR (h i)) (r : Fin 4352) : ∃ x : ℝ, 0 < x ∧ ms h r = x := by
  choose g hg using hh
  obtain ⟨e, he, hee⟩ := eps_pos
  refine ⟨(∑ k : Fin 1024, g (ix2 r k) * g (ix2 r k)) * (1 / 1024) + e, ?_, ?_⟩
  · have : 0 ≤ ∑ k : Fin 1024, g (ix2 r k) * g (ix2 r k) := Finset.sum_nonneg fun k _ => mul_self_nonneg _
    positivity
  · unfold ms
    rw [hee, width_eq, Ideal.div_coe (by norm_num), EReal.coe_add, EReal.coe_mul, coe_sum]
    congr 2
    exact Finset.sum_congr rfl fun k _ => by rw [hg, EReal.coe_mul]

theorem normed_real {h : Arr S4352x1024} {w : Arr S1x1024} (hh : ∀ i, IsR (h i)) (hw : ∀ i, IsR (w i)) (i : S4352x1024.Idx) :
    IsR (normed h w i) := by
  obtain ⟨x, hx, hxe⟩ := ms_pos hh (i 0)
  have : normed h w i = h i * Ideal.rsqrt (ms h (i 0)) * w (ix2 0 (i 1)) := rfl
  rw [this, hxe, Ideal.rsqrt_coe, if_neg (not_lt.mpr hx.le), if_neg hx.ne']
  exact ((hh i).mul ⟨_, rfl⟩).mul (hw _)

theorem nnG_real {x : Arr S4352x1024} {w : Arr S4x1024x1408} (hx : ∀ i, IsR (x i)) (hw : ∀ i, IsR (w i)) (i : S4352x5632.Idx) :
    IsR (nnG x w i) := IsR.sum fun k => (hx _).mul (hw _)

theorem dact_real {d : Arr S4352x1024} {w : Arr S2816x1024} (hd : ∀ i, IsR (d i)) (hw : ∀ i, IsR (w i)) (i : S4352x2816.Idx) :
    IsR (dact d w i) := IsR.sum fun k => ((hd _).mul ⟨_, half_eq⟩).mul (hw _)

/-- The two forms of the derivative of `silu` agree at reals. -/
theorem silu_forms {d u g : EReal} (hd : IsR d) (hu : IsR u) (hg : IsR g) :
    d * u * Ideal.logistic g + g * (d * u) * (Ideal.logistic g * (1 - Ideal.logistic g)) = d * u * dsilu g := by
  obtain ⟨d, rfl⟩ := hd; obtain ⟨u, rfl⟩ := hu; obtain ⟨g, rfl⟩ := hg
  unfold dsilu
  rw [Ideal.logistic_coe, ← EReal.coe_one]
  norm_cast
  ring

/-- The entries of the array that a comparison of absolute values finds below infinity are reals. -/
theorem real_of_lt {x y : EReal} (hy : y = ⊤) (h : Ideal.cmp .olt (max x (-x)) y = 1#1) : IsR x := by
  subst hy
  have hlt : max x (-x) < ⊤ := by
    by_contra hn
    simp [Ideal.cmp, hn] at h
  induction x with
  | bot => simp at hlt
  | top => simp at hlt
  | coe r => exact ⟨r, rfl⟩

/-- The derivative in the reference's form. -/
def dguR (da : Arr S4352x2816) (g : Arr S4352x5632) : Arr S4352x5632 := fun i =>
  if h : (i 1).val < 2816 then
    da (ix2 (i 0) ⟨(i 1).val, h⟩) * hi g (ix2 (i 0) ⟨(i 1).val, h⟩) * Ideal.logistic (lo g (ix2 (i 0) ⟨(i 1).val, h⟩))
      + lo g (ix2 (i 0) ⟨(i 1).val, h⟩) * (da (ix2 (i 0) ⟨(i 1).val, h⟩) * hi g (ix2 (i 0) ⟨(i 1).val, h⟩)) *
        (Ideal.logistic (lo g (ix2 (i 0) ⟨(i 1).val, h⟩)) * (1 - Ideal.logistic (lo g (ix2 (i 0) ⟨(i 1).val, h⟩))))
  else
    lo g (ix2 (i 0) ⟨(i 1).val - 2816, by have := (i 1).isLt; simp at this; omega⟩) *
        Ideal.logistic (lo g (ix2 (i 0) ⟨(i 1).val - 2816, by have := (i 1).isLt; simp at this; omega⟩)) *
      da (ix2 (i 0) ⟨(i 1).val - 2816, by have := (i 1).isLt; simp at this; omega⟩)

theorem dguR_eq {da : Arr S4352x2816} {g : Arr S4352x5632} (hda : ∀ i, IsR (da i)) (hg : ∀ i, IsR (g i)) : dguR da g = dgu da g := by
  funext i
  unfold dguR dgu
  split
  · exact silu_forms (hda _) (hg _) (hg _)
  · exact mul_comm _ _

end Cert.Ffn
end
-- ==== Proof.FfnRef.lean ====
module
public import proofs.«01_k».proof.Proof.Gen.Reference2Ideal.Run
public import proofs.«01_k».proof.Proof.FfnReal

/-! # The reference of the feed-forward block, entry by entry

The reference's results are built from a few arrays, each a term of its own here: the grouped weights side by side, the normed
rows, the products and their gradients. -/

@[expose] public section
set_option maxRecDepth 16384
noncomputable section
namespace Cert.Reference2Ideal.Ffn
open Cert.Reference2Ideal Cert.Reference2Ideal.Gen Idealize.ShloMosaic Cert.Merge Cert.Ffn

variable (a0 : FVec Ideal S4352x1024 .f32) (a1 : FVec Ideal S1x1024 .f32) (a2 : FVec Ideal S4x1024x1408 .bf16) (a3 : FVec Ideal S2816x1024 .bf16) (a4 : FVec Ideal S4352x1024 .f32)

/-- The four groups of the weights side by side. -/
def wT : FVec Ideal S1024x5632 .f32 := shapeCast S1024x5632 (transpose S1024x4x1408 [1, 0, 2] (extf .f32 a2 bitsLt_bf16_f32) transposes_S4x1024x1408_S1024x4x1408_1_0_2) shapeCasts_S1024x4x1408_S1024x5632
theorem wT_eq (i : S1024x5632.Idx) : wT a2 i = a2 (ix3 ⟨(i 1).val / 1408, by have := (i 1).isLt; simp at this; omega⟩ (i 0) ⟨(i 1).val % 1408, by omega⟩) := by
  pointwise [wT]
  all_goals blk_point []

/-- The rows' mean squares plus the constant. -/
def msT : FVec Ideal S4352x1 .f32 := (addf (Host.divf (broadcastInDim S4352x1 ![0] bcast_S4352_S4352x1_0 (Host.reduceAdd (mulf a0 a0) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32)))
theorem msT_eq (i : S4352x1.Idx) : msT a0 i = ms a0 (i 0) := by
  pointwise [msT, ms]
  all_goals blk_point []

/-- The rows over their root mean squares. -/
def unitT : FVec Ideal S4352x1024 .f32 := (mulf a0 (broadcastInDim S4352x1024 ![0, 1] bcast_S4352x1_S4352x1024_0_1 (Host.rsqrt (msT a0))))
/-- The normed rows. -/
def nT : FVec Ideal S4352x1024 .f32 := (mulf (unitT a0) (broadcastInDim S4352x1024 ![0, 1] bcast_S1x1024_S4352x1024_0_1 a1))
theorem nT_eq : nT a0 a1 = normed a0 a1 := by
  funext i
  pointwise [nT, unitT, msT, normed]
  all_goals blk_point []

/-- The gate's and the up projection. -/
def gT (n : FVec Ideal S4352x1024 .f32) : FVec Ideal S4352x5632 .f32 := (Host.dotGeneral dot_S4352x1024_S1024x5632_S4352x5632_1_0_0_1_n_n none n (wT a2))
theorem gT_eq (n : FVec Ideal S4352x1024 .f32) : gT a2 n = nnG n a2 := by
  funext i
  pointwise [gT, nnG, wT_eq]
  all_goals blk_point []

/-- The logistic of the gate. -/
def sT (g : FVec Ideal S4352x2816 .f32) : FVec Ideal S4352x2816 .f32 := (Host.divf (broadcastInDim S4352x2816 ![] bcast_S_S4352x2816 (constant S_ .f32 0x3F800000#32)) (addf (broadcastInDim S4352x2816 ![] bcast_S_S4352x2816 (constant S_ .f32 0x3F800000#32)) (Host.exp (Host.negf g))))
/-- The gate. -/
def loT (g : FVec Ideal S4352x5632 .f32) : FVec Ideal S4352x2816 .f32 := (extractStridedSlice S4352x2816 ![0, 0] g slices_S4352x5632_S4352x2816_0_0)
/-- The up projection. -/
def hiT (g : FVec Ideal S4352x5632 .f32) : FVec Ideal S4352x2816 .f32 := (extractStridedSlice S4352x2816 ![0, 2816] g slices_S4352x5632_S4352x2816_0_2816)
/-- The activation. -/
def actT (g : FVec Ideal S4352x5632 .f32) : FVec Ideal S4352x2816 .f32 := (mulf (mulf (loT g) (sT (loT g))) (hiT g))
theorem actT_eq (g : FVec Ideal S4352x5632 .f32) : actT g = act g := by
  funext i
  pointwise [actT, sT, loT, hiT, act, lo, hi, Ideal.logistic]
  all_goals blk_point []

/-- Half the gradient of the result. -/
def hT : FVec Ideal S4352x1024 .f32 := (mulf (broadcastInDim S4352x1024 ![] bcast_S_S4352x1024 (constant S_ .f32 0x3F000000#32)) (shapeCast S4352x1024 a4 shapeCasts_S4352x1024_S4352x1024))
theorem hT_eq (i : S4352x1024.Idx) : hT a4 i = a4 i * half := by
  rw [mul_comm]
  pointwise [hT]
/-- The activation's gradient. -/
def daT : FVec Ideal S4352x2816 .f32 := (Host.dotGeneral dot_S4352x1024_S2816x1024_S4352x2816_1_1_0_0_n_n none (hT a4) (extf .f32 a3 bitsLt_bf16_f32))
theorem daT_eq : daT a3 a4 = dact a4 a3 := by
  funext i
  pointwise [daT, dact, hT_eq]
  all_goals blk_point []

/-- The gradient of the two projections. -/
def dgT (da : FVec Ideal S4352x2816 .f32) (g : FVec Ideal S4352x5632 .f32) : FVec Ideal S4352x5632 .f32 := (concatenate S4352x5632 1 [⟨S4352x2816, (addf (mulf (mulf da (hiT g)) (sT (loT g))) (mulf (mulf (loT g) (mulf da (hiT g))) (mulf (sT (loT g)) (subf (broadcastInDim S4352x2816 ![] bcast_S_S4352x2816 (constant S_ .f32 0x3F800000#32)) (sT (loT g))))))⟩, ⟨S4352x2816, (mulf (mulf (loT g) (sT (loT g))) da)⟩] concatenates_S4352x2816_S4352x2816_S4352x5632_d1)
theorem dgT_eq (da : FVec Ideal S4352x2816 .f32) (g : FVec Ideal S4352x5632 .f32) : dgT da g = dguR da g := by
  funext i
  pointwise [dgT, sT, loT, hiT, dguR, lo, hi, Ideal.logistic]

/-- The gradient of the normed rows. -/
def dnT (d : FVec Ideal S4352x5632 .f32) : FVec Ideal S4352x1024 .f32 := (Host.dotGeneral dot_S4352x5632_S1024x5632_S4352x1024_1_1_0_0_n_n none d (wT a2))
theorem dnT_eq (d : FVec Ideal S4352x5632 .f32) : dnT a2 d = dn d a2 := by
  funext i
  have h1 : dnT a2 d i = ∑ l : Fin 5632, d (ix2 (i 0) l) * wT a2 (ix2 (i 1) l) := by
    pointwise [dnT]
    all_goals blk_point []
  have h2 : dn d a2 i = ∑ g : Fin 4, dnPart d a2 g i := by
    rw [Fin.sum_univ_four]; rfl
  rw [h1, h2]
  symm
  refine Fin.sum_mul_add_congr fun g k hl => ?_
  rw [wT_eq]
  have e1 : (⟨g.val * 1408 + k.val, hl⟩ : Fin 5632) = ⟨1408 * g.val + k.val, by omega⟩ := Fin.ext (by simp only; omega)
  have e2 : (⟨(1408 * g.val + k.val) / 1408, by omega⟩ : Fin 4) = g := Fin.ext (by simp only; omega)
  have e3 : (⟨(1408 * g.val + k.val) % 1408, by omega⟩ : Fin 1408) = k := Fin.ext (by simp only; omega)
  show d (ix2 (i 0) _) * a2 (ix3 g (i 1) k) = d (ix2 (i 0) _) * a2 (ix3 _ (i 1) _)
  rw [e1]
  exact congrArg₂ (fun x y => _ * a2 (ix3 x (i 1) y)) e2.symm e3.symm

/-- The gradient of the unit rows. -/
def duT (d : FVec Ideal S4352x1024 .f32) : FVec Ideal S4352x1024 .f32 := (mulf d (broadcastInDim S4352x1024 ![0, 1] bcast_S1x1024_S4352x1024_0_1 a1))
/-- The root's share of a row's gradient. -/
def dmT (d : FVec Ideal S4352x1024 .f32) : FVec Ideal S4352x1024 .f32 := (broadcastInDim S4352x1024 ![0] bcast_S4352_S4352x1024_0 (Host.reduceAdd (Host.divf (mulf (shapeCast S4352x1 (Host.reduceAdd (mulf a0 (duT a1 d)) (constant S_ .f32 0x00000000#32) reducesTo_S4352x1024_S4352_d1 h_S_) shapeCasts_S4352_S4352x1) (mulf (broadcastInDim S4352x1 ![] bcast_S_S4352x1 (constant S_ .f32 0xBF000000#32)) (Host.divf (Host.rsqrt (msT a0)) (msT a0)))) (broadcastInDim S4352x1 ![] bcast_S_S4352x1 (constant S_ .f32 0x44800000#32))) (constant S_ .f32 0x00000000#32) reducesTo_S4352x1_S4352_d1 h_S_))
theorem dmT_eq (d : FVec Ideal S4352x1024 .f32) (i : S4352x1024.Idx) : dmT a0 a1 d i = dmean a0 a1 d (i 0) := by
  pointwise [dmT, duT, dmean, msT_eq]
  simp only [Fin.sum_univ_one, Fintype.sum_unique, Finset.univ_unique, Finset.sum_singleton]
  all_goals blk_point []

/-- The rows' gradient. -/
theorem ref_dh (d : FVec Ideal S4352x1024 .f32) : addf (addf (addf a4 (mulf (duT a1 d) (broadcastInDim S4352x1024 ![0, 1] bcast_S4352x1_S4352x1024_0_1 (Host.rsqrt (msT a0))))) (mulf a0 (dmT a0 a1 d))) (mulf (dmT a0 a1 d) a0)
    = dnormed a0 a1 d a4 := by
  funext i
  have h : dnormed a0 a1 d a4 i = a4 i + d i * a1 (ix2 0 (i 1)) * Ideal.rsqrt (ms a0 (i 0)) + a0 i * dmean a0 a1 d (i 0) + dmean a0 a1 d (i 0) * a0 i := by
    unfold dnormed
    rw [add_comm, ← add_assoc, ← add_assoc]
  rw [h]
  pointwise [duT, dmT_eq, msT_eq]
  all_goals blk_point []

/-- The norm's weight's gradient. -/
theorem ref_dnw (d : FVec Ideal S4352x1024 .f32) : (shapeCast S1x1024 (Host.reduceAdd (mulf (unitT a0) d) (constant S_ .f32 0x00000000#32) reducesTo_S4352x1024_S1024_d0 h_S_) shapeCasts_S1024_S1x1024 : FVec Ideal S1x1024 .f32)
    = dweight a0 d := by
  funext i
  pointwise [unitT, dweight, msT_eq]
  all_goals blk_point []

/-- The block's result. -/
theorem ref_out (a : FVec Ideal S4352x2816 .f32) : addf a0 (mulf (broadcastInDim S4352x1024 ![] bcast_S_S4352x1024 (constant S_ .f32 0x3F000000#32)) (Host.dotGeneral dot_S4352x2816_S2816x1024_S4352x1024_1_0_0_1_n_n none a (extf .f32 a3 bitsLt_bf16_f32)))
    = outD a0 (nnD a a3) := by
  funext i
  pointwise [outD, nnD]
  all_goals blk_point []

/-- The grouped weights' gradient. -/
theorem ref_dwgu (n : FVec Ideal S4352x1024 .f32) (d : FVec Ideal S4352x5632 .f32) : transpose S4x1024x1408 [1, 0, 2] (shapeCast S1024x4x1408 (transpose S1024x5632 [1, 0] (Host.dotGeneral dot_S4352x5632_S4352x1024_S5632x1024_0_0_1_1_n_n none d n) transposes_S5632x1024_S1024x5632_1_0) shapeCasts_S1024x5632_S1024x4x1408) transposes_S1024x4x1408_S4x1024x1408_1_0_2
    = tnG n d := by
  funext i
  have h : tnG n d i = ∑ k : Fin 4352, d (ix2 k ⟨1408 * (i 0).val + (i 2).val, by
      have h0 : (i 0).val < 4 := (i 0).isLt
      have h2 : (i 2).val < 1408 := (i 2).isLt
      omega⟩) * n (ix2 k (i 1)) := Finset.sum_congr rfl fun k _ => mul_comm _ _
  rw [h]
  pointwise []
  all_goals blk_point []

/-- The last weights' gradient. -/
theorem ref_dwd (a : FVec Ideal S4352x2816 .f32) : transpose S2816x1024 [1, 0] (Host.dotGeneral dot_S4352x1024_S4352x2816_S1024x2816_0_0_1_1_n_n none (hT a4) a) transposes_S1024x2816_S2816x1024_1_0
    = tnD a a4 := by
  funext i
  have h : tnD a a4 i = ∑ k : Fin 4352, a4 (ix2 k (i 1)) * half * a (ix2 k (i 0)) := by
    unfold tnD
    rw [← sum_half]
    exact Finset.sum_congr rfl fun k _ => by rw [mul_assoc, mul_comm]
  rw [h]
  pointwise [hT_eq]
  all_goals blk_point []

end Cert.Reference2Ideal.Ffn
end
-- ==== Proof.FfnRun.lean ====
module
public import proofs.«01_k».proof.Proof.Gen.Kernel2Ideal.Frame

/-! # The run of the feed-forward block, with its results

The launch read at the end: besides the unchanged arguments, every result buffer holds what the last boundary of the program
says. -/

@[expose] public section

-- membership in a rectangle of production extents (`View.cover_of_tiled`): the elaborator's structural look
-- recurses once per coordinate of the long axes
set_option maxRecDepth 16384

noncomputable section

namespace Cert.Kernel2Ideal.Ffn

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends, with the results of the last boundary and the arguments as launched. -/
theorem run : θ_run defs (onTc (τ := τ) (main (F := F))) ⟨m, fun _ => 0, ρ⟩ (fun r => ∀ c : Dev nD,
      r.2.mem ((c.tc : Thread nD τ).loc main_v2) = W9 m ρ c (Proc.devRef .tc main_v2)
      ∧ r.2.mem ((c.tc : Thread nD τ).loc main_v9_0) = W9 m ρ c (Proc.devRef .tc main_v9_0)
      ∧ r.2.mem ((c.tc : Thread nD τ).loc main_v10) = W9 m ρ c (Proc.devRef .tc main_v10)
      ∧ r.2.mem ((c.tc : Thread nD τ).loc main_v5) = W9 m ρ c (Proc.devRef .tc main_v5)
      ∧ r.2.mem ((c.tc : Thread nD τ).loc main_v4) = W9 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c =>
      ⟨h c _ (mem_uc main_v2 (by decide)),
       h c _ (mem_uc main_v9_0 (by decide)),
       h c _ (mem_uc main_v10 (by decide)),
       h c _ (mem_uc main_v5 (by decide)),
       h c _ (mem_uc main_v4 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.Kernel2Ideal.Ffn

end
-- ==== Proof.FfnAll.lean ====
module
public import proofs.«01_k».proof.Proof.FfnChain
public import proofs.«01_k».proof.Proof.FfnRef
public import proofs.«01_k».proof.Proof.FfnRun
public import proofs.«01_k».proof.Proof.Gen.Pre_finite
public import proofs.«01_k».proof.Proof.Gen.Kernel2.Frame
public import proofs.«01_k».proof.Proof.Gen.Kernel2Ideal.Frame
public import proofs.«01_k».proof.Defs

/-! # The feed-forward block computes its reference's results

Of finite arguments every product and every norm is finite, so that the two ways of writing the gate's gradient agree
(`dguR_eq`); everything else holds of all arguments. -/

@[expose] public section
set_option maxRecDepth 16384
noncomputable section
namespace Cert.Proof
open Idealize.ShloMosaic Idealize.ShloMosaic.TcCoe Idealize.SL.Sem Cert.Merge Cert.Ffn

/-- An array all of whose entries pass the precondition's test holds real numbers. -/
theorem real_of_test {a0 a1 a2 a3 a4} (h0 : (Cert.Pre_finite.fn (F := Ideal) a0 a1 a2 a3 a4).1 = (fun _ => 1#1))
    (h1 : (Cert.Pre_finite.fn (F := Ideal) a0 a1 a2 a3 a4).2.1 = (fun _ => 1#1))
    (h2 : (Cert.Pre_finite.fn (F := Ideal) a0 a1 a2 a3 a4).2.2.1 = (fun _ => 1#1))
    (h3 : (Cert.Pre_finite.fn (F := Ideal) a0 a1 a2 a3 a4).2.2.2.1 = (fun _ => 1#1))
    (h4 : (Cert.Pre_finite.fn (F := Ideal) a0 a1 a2 a3 a4).2.2.2.2 = (fun _ => 1#1)) :
    (∀ i, IsR (a0 i)) ∧ (∀ i, IsR (a1 i)) ∧ (∀ i, IsR (a2 i)) ∧ (∀ i, IsR (a3 i)) ∧ (∀ i, IsR (a4 i)) :=
  have t : Ideal.ofBits .f32 0x7F800000#32 = (⊤ : EReal) := by simp [Ideal.ofBits, Ideal.ieee]
  have u : Ideal.ofBits .bf16 0x7F80#16 = (⊤ : EReal) := by simp [Ideal.ofBits, Ideal.ieee]
  ⟨fun i => real_of_lt t (congrFun h0 i), fun i => real_of_lt t (congrFun h1 i), fun i => real_of_lt u (congrFun h2 i),
    fun i => real_of_lt u (congrFun h3 i), fun i => real_of_lt t (congrFun h4 i)⟩

/-- The kernel's frame over the bits. -/
theorem frame_kernel2 : Cert.quiescent_Kernel2 := fun m ρ _ => Cert.Kernel2.Gen.frame m ρ

/-- The kernel's frame over the extended reals. -/
theorem frame_ideal2 : Cert.quiescent_Kernel2Ideal := fun m ρ _ => Cert.Kernel2Ideal.Gen.frame m ρ

/-- The same of finite arguments. -/
theorem frame_ideal2_finite : Cert.quiescent_Kernel2Ideal_pre_finite := fun m ρ _ => Cert.Kernel2Ideal.Gen.frame m ρ

/-- The reference's frame: it writes no argument, and has no semaphore. -/
theorem frame_reference2 : Cert.quiescent_Reference2Ideal := fun m ρ _ =>
  (θ_run Cert.Reference2Ideal.defs _ _).mono (fun r h => ⟨fun c => (h c).2.2.2.2.2,
    Idealize.ShloMosaic.sem_eq_zero_of_no_sems (by decide) r.2⟩) (Cert.Reference2Ideal.Value.run m ρ)

/-- The same of finite arguments. -/
theorem frame_reference2_finite : Cert.quiescent_Reference2Ideal_pre_finite := fun m ρ _ => frame_reference2 m ρ trivial

open Cert.Kernel2Ideal.Ffn in
/-- The kernel's five results are the reference's. -/
theorem algebraic2 : Cert.algebraic_Kernel2Ideal_Reference2Ideal_pre_finite := by
  intro m ρ m' ρ' hp hargs
  refine ⟨fun c => Cert.Kernel2Ideal.Gen.W9 m ρ c (Proc.devRef .tc Cert.Kernel2Ideal.main_v2), fun c => Cert.Kernel2Ideal.Gen.W9 m ρ c (Proc.devRef .tc Cert.Kernel2Ideal.main_v9_0), fun c => Cert.Kernel2Ideal.Gen.W9 m ρ c (Proc.devRef .tc Cert.Kernel2Ideal.main_v10), fun c => Cert.Kernel2Ideal.Gen.W9 m ρ c (Proc.devRef .tc Cert.Kernel2Ideal.main_v5), fun c => Cert.Kernel2Ideal.Gen.W9 m ρ c (Proc.devRef .tc Cert.Kernel2Ideal.main_v4),
    run m ρ, (θ_run Cert.Reference2Ideal.defs _ _).mono (fun r h c => ?_) (Cert.Reference2Ideal.Value.run m' ρ')⟩
  obtain ⟨e0, e1, e2, e3, e4⟩ := hargs c
  obtain ⟨r0, r1, r2, r3, r4, hA⟩ := h c
  obtain ⟨q0, q1, q2, q3, q4⟩ := real_of_test (hp c).1 (hp c).2.1 (hp c).2.2.1 (hp c).2.2.2.1 (hp c).2.2.2.2
  have hg := nnG_real (normed_real q0 q1) q2
  have hd : Cert.Reference2Ideal.Ffn.dgT (Cert.Reference2Ideal.Ffn.daT (x3 m c) (x4 m c)) (Cert.Reference2Ideal.Ffn.gT (x2 m c) (Cert.Reference2Ideal.Ffn.nT (x0 m c) (x1 m c))) = dgK m c := by
    rw [Cert.Reference2Ideal.Ffn.nT_eq, Cert.Reference2Ideal.Ffn.gT_eq, Cert.Reference2Ideal.Ffn.daT_eq, Cert.Reference2Ideal.Ffn.dgT_eq, dguR_eq (dact_real q4 q3) hg]
  have ha : Cert.Reference2Ideal.Ffn.actT (Cert.Reference2Ideal.Ffn.gT (x2 m c) (Cert.Reference2Ideal.Ffn.nT (x0 m c) (x1 m c))) = act (gK m c) := by
    rw [Cert.Reference2Ideal.Ffn.nT_eq, Cert.Reference2Ideal.Ffn.gT_eq, Cert.Reference2Ideal.Ffn.actT_eq]
  have hdn := (Cert.Reference2Ideal.Ffn.dnT_eq (x2 m c) _).trans (congrArg (fun d => dn d (x2 m c)) hd)
  refine ⟨r0.trans ?_, r1.trans ?_, r2.trans ?_, r3.trans ?_, r4.trans ?_, hA⟩
  · rw [e0, e1, e2, e3]
    exact (Cert.Reference2Ideal.Ffn.ref_out _ _ (Cert.Reference2Ideal.Ffn.actT (Cert.Reference2Ideal.Ffn.gT (x2 m c) (Cert.Reference2Ideal.Ffn.nT (x0 m c) (x1 m c))))).trans ((congrArg (fun a => outD (x0 m c) (nnD a (x3 m c))) ha).trans (out_out m ρ c).symm)
  · unfold Cert.Reference2Ideal.Value.res_main_v60
    rw [e0, e1, e2, e3, e4]
    exact (Cert.Reference2Ideal.Ffn.ref_dh _ _ _ _).trans ((congrArg (fun d => dnormed (x0 m c) (x1 m c) d (x4 m c)) hdn).trans (out_dh m ρ c).symm)
  · unfold Cert.Reference2Ideal.Value.res_main_v43
    rw [e0, e1, e2, e3, e4]
    exact (Cert.Reference2Ideal.Ffn.ref_dnw _ _).trans ((congrArg (fun d => dweight (x0 m c) d) hdn).trans (out_dnw m ρ c).symm)
  · unfold Cert.Reference2Ideal.Value.res_main_v62
    rw [e0, e1, e2, e3, e4]
    exact (Cert.Reference2Ideal.Ffn.ref_dwgu (Cert.Reference2Ideal.Ffn.nT (x0 m c) (x1 m c)) _).trans ((congrArg₂ tnG (Cert.Reference2Ideal.Ffn.nT_eq _ _) hd).trans (out_dwgu m ρ c).symm)
  · rw [e0, e1, e2, e4]
    exact (Cert.Reference2Ideal.Ffn.ref_dwd _ (Cert.Reference2Ideal.Ffn.actT (Cert.Reference2Ideal.Ffn.gT (x2 m c) (Cert.Reference2Ideal.Ffn.nT (x0 m c) (x1 m c))))).trans ((congrArg (fun a => tnD a (x4 m c)) ha).trans (out_dwd m ρ c).symm)

end Cert.Proof
end
-- ==== Proof.InSpec.lean ====
module
public import proofs.«01_k».proof.Kernel3Ideal
public import proofs.«01_k».proof.Proof.FfnSpec

/-! # The mathematics of the input projection, entry by entry

The products with the five parts of the weights, and the sum of five products that makes the gradient of the normed rows. The
norm's own arrays are those of the feed-forward block (Proof/FfnSpec.lean). -/

@[expose] public section
set_option maxRecDepth 16384
noncomputable section
open Idealize.ShloMosaic
namespace Cert.InProj
open Cert.Kernel3Ideal Cert.Merge

/-- `x @ w` with `N` columns. -/
def mm {N : ℕ} (x : Arr S4352x1024) (w : Arr ⟨2, ![1024, N]⟩) : Arr ⟨2, ![4352, N]⟩ :=
  fun i => ∑ k : Fin 1024, x (ix2 (i 0) k) * w (ix2 k (i 1))

/-- `x @ wᵀ` over `N` columns. -/
def mmT {N : ℕ} (x : Arr ⟨2, ![4352, N]⟩) (w : Arr ⟨2, ![1024, N]⟩) : Arr S4352x1024 :=
  fun i => ∑ k : Fin N, x (ix2 (i 0) k) * w (ix2 (i 1) k)

/-- `xᵀ @ y` with `N` columns: a sum over the tokens. -/
def tT {N : ℕ} (x : Arr S4352x1024) (y : Arr ⟨2, ![4352, N]⟩) : Arr ⟨2, ![1024, N]⟩ :=
  fun i => ∑ k : Fin 4352, x (ix2 k (i 0)) * y (ix2 k (i 1))

/-- The five products summed, in the kernel's order. -/
def five (x1 : Arr S4352x1024) (x2 : Arr S4352x2048) (x3 : Arr S4352x128) (x4 : Arr S4352x4096) (x5 : Arr S4352x2048)
    (w1 : Arr S1024x1024) (w2 : Arr S1024x2048) (w3 : Arr S1024x128) (w4 : Arr S1024x4096) (w5 : Arr S1024x2048) : Arr S4352x1024 :=
  fun i => mmT x1 w1 i + mmT x2 w2 i + mmT x3 w3 i + mmT x4 w4 i + mmT x5 w5 i

/-- Where the kernel's column `l` of the second mixer lies among the weights': the kernel keeps the four columns of a head together. -/
def perm (l : Fin 4096) : Fin 4096 := ⟨(l.val / 128 % 4) * 1024 + l.val / 512 * 128 + l.val % 128, by omega⟩
/-- The other way round. -/
def back (l : Fin 4096) : Fin 4096 := ⟨(l.val / 128 % 8) * 512 + l.val / 1024 * 128 + l.val % 128, by omega⟩
theorem back_perm (l : Fin 4096) : back (perm l) = l := by
  obtain ⟨v, hv⟩ := l
  obtain ⟨a, b, c, rfl, hb, hc⟩ : ∃ a b c : ℕ, v = 512 * a + 128 * b + c ∧ b < 4 ∧ c < 128 :=
    ⟨v / 512, v / 128 % 4, v % 128, by omega, by omega, by omega⟩
  refine Fin.ext ?_
  have e1 : (512 * a + 128 * b + c) / 128 % 4 * 1024 + (512 * a + 128 * b + c) / 512 * 128 + (512 * a + 128 * b + c) % 128
      = 1024 * b + 128 * a + c := by omega
  show ((512 * a + 128 * b + c) / 128 % 4 * 1024 + (512 * a + 128 * b + c) / 512 * 128 + (512 * a + 128 * b + c) % 128) / 128 % 8 * 512
    + ((512 * a + 128 * b + c) / 128 % 4 * 1024 + (512 * a + 128 * b + c) / 512 * 128 + (512 * a + 128 * b + c) % 128) / 1024 * 128
    + ((512 * a + 128 * b + c) / 128 % 4 * 1024 + (512 * a + 128 * b + c) / 512 * 128 + (512 * a + 128 * b + c) % 128) % 128
    = 512 * a + 128 * b + c
  rw [e1]
  have ha : a < 8 := by omega
  have d1 : (1024 * b + 128 * a + c) / 128 = 8 * b + a := by omega
  have d2 : (8 * b + a) % 8 = a := by omega
  have d3 : (1024 * b + 128 * a + c) / 1024 = b := by omega
  have d4 : (1024 * b + 128 * a + c) % 128 = c := by omega
  rw [d1, d2, d3, d4]
  omega
theorem perm_back (l : Fin 4096) : perm (back l) = l := by
  obtain ⟨v, hv⟩ := l
  obtain ⟨b, a, c, rfl, ha, hc⟩ : ∃ b a c : ℕ, v = 1024 * b + 128 * a + c ∧ a < 8 ∧ c < 128 :=
    ⟨v / 1024, v / 128 % 8, v % 128, by omega, by omega, by omega⟩
  refine Fin.ext ?_
  have e1 : (1024 * b + 128 * a + c) / 128 % 8 * 512 + (1024 * b + 128 * a + c) / 1024 * 128 + (1024 * b + 128 * a + c) % 128
      = 512 * a + 128 * b + c := by omega
  show ((1024 * b + 128 * a + c) / 128 % 8 * 512 + (1024 * b + 128 * a + c) / 1024 * 128 + (1024 * b + 128 * a + c) % 128) / 128 % 4 * 1024
    + ((1024 * b + 128 * a + c) / 128 % 8 * 512 + (1024 * b + 128 * a + c) / 1024 * 128 + (1024 * b + 128 * a + c) % 128) / 512 * 128
    + ((1024 * b + 128 * a + c) / 128 % 8 * 512 + (1024 * b + 128 * a + c) / 1024 * 128 + (1024 * b + 128 * a + c) % 128) % 128
    = 1024 * b + 128 * a + c
  rw [e1]
  have hb : b < 4 := by omega
  have d1 : (512 * a + 128 * b + c) / 128 = 4 * a + b := by omega
  have d2 : (4 * a + b) % 4 = b := by omega
  have d3 : (512 * a + 128 * b + c) / 512 = a := by omega
  have d4 : (512 * a + 128 * b + c) % 128 = c := by omega
  rw [d1, d2, d3, d4]
  omega

/-- The weights' columns of z. -/
def wZ (w : Arr S1024x9232) : Arr S1024x1024 := fun i => w (ix2 (i 0) ⟨(i 1).val, by have := (i 1).isLt; simp at this; omega⟩)
/-- The weights' columns of the convolution's input. -/
def wX (w : Arr S1024x9232) : Arr S1024x2048 := fun i => w (ix2 (i 0) ⟨1024 + (i 1).val, by have := (i 1).isLt; simp at this; omega⟩)
/-- The weights' columns of the time steps, and zeros. -/
def wD (w : Arr S1024x9232) : Arr S1024x128 := fun i => if h : (i 1).val < 16 then w (ix2 (i 0) ⟨3072 + (i 1).val, by omega⟩) else 0
/-- The weights' columns of the second mixer, head by head. -/
def wQ (w : Arr S1024x9232) : Arr S1024x4096 := fun i => w (ix2 (i 0) ⟨3088 + (perm (i 1)).val, by omega⟩)
/-- The weights' columns of the gates. -/
def wG (w : Arr S1024x9232) : Arr S1024x2048 := fun i => w (ix2 (i 0) ⟨7184 + (i 1).val, by have := (i 1).isLt; simp at this; omega⟩)

/-- The shape of all the columns. -/
abbrev Wide : Shape := ⟨2, ![4352, 9232]⟩
/-- The five gradients side by side, in the weights' order. -/
def glued (x1 : Arr S4352x1024) (x2 : Arr S4352x2048) (x3 : Arr S4352x128) (x4 : Arr S4352x4096) (x5 : Arr S4352x2048) : Arr Wide := fun i =>
  if h1 : (i 1).val < 1024 then x1 (ix2 (i 0) ⟨(i 1).val, h1⟩)
  else if h2 : (i 1).val < 3072 then x2 (ix2 (i 0) ⟨(i 1).val - 1024, by omega⟩)
  else if h3 : (i 1).val < 3088 then x3 (ix2 (i 0) ⟨(i 1).val - 3072, by omega⟩)
  else if h4 : (i 1).val < 7184 then x4 (ix2 (i 0) (back ⟨(i 1).val - 3088, by omega⟩))
  else x5 (ix2 (i 0) ⟨(i 1).val - 7184, by have := (i 1).isLt; simp at this; omega⟩)

/-- The weights' gradient. -/
def dwIn (n : Arr S4352x1024) (d : Arr Wide) : Arr S1024x9232 :=
  fun i => ∑ k : Fin 4352, n (ix2 k (i 0)) * d (ix2 k (i 1))

section
variable (x1 : Arr S4352x1024) (x2 : Arr S4352x2048) (x3 : Arr S4352x128) (x4 : Arr S4352x4096) (x5 : Arr S4352x2048) (r : Fin 4352) (l : Fin 9232)
theorem glued_1 (h : l.val < 1024) : glued x1 x2 x3 x4 x5 (ix2 r l) = x1 (ix2 r ⟨l.val, h⟩) := dif_pos h
theorem glued_2 (h1 : ¬ l.val < 1024) (h : l.val < 3072) : glued x1 x2 x3 x4 x5 (ix2 r l) = x2 (ix2 r ⟨l.val - 1024, by omega⟩) :=
  (dif_neg h1).trans (dif_pos h)
theorem glued_3 (h1 : ¬ l.val < 3072) (h : l.val < 3088) : glued x1 x2 x3 x4 x5 (ix2 r l) = x3 (ix2 r ⟨l.val - 3072, by omega⟩) :=
  (dif_neg (by show ¬ l.val < 1024; omega)).trans ((dif_neg h1).trans (dif_pos h))
theorem glued_4 (h1 : ¬ l.val < 3088) (h : l.val < 7184) : glued x1 x2 x3 x4 x5 (ix2 r l) = x4 (ix2 r (back ⟨l.val - 3088, by omega⟩)) :=
  (dif_neg (by show ¬ l.val < 1024; omega)).trans ((dif_neg (by show ¬ l.val < 3072; omega)).trans ((dif_neg h1).trans (dif_pos h)))
theorem glued_5 (h1 : ¬ l.val < 7184) : glued x1 x2 x3 x4 x5 (ix2 r l) = x5 (ix2 r ⟨l.val - 7184, by omega⟩) :=
  (dif_neg (by show ¬ l.val < 1024; omega)).trans ((dif_neg (by show ¬ l.val < 3072; omega)).trans
    ((dif_neg (by show ¬ l.val < 3088; omega)).trans (dif_neg h1)))
end

theorem wD_lo (w : Arr S1024x9232) (r : Fin 1024) (l : Fin 128) (h : l.val < 16) : wD w (ix2 r l) = w (ix2 r ⟨3072 + l.val, by omega⟩) := dif_pos h
theorem wD_hi (w : Arr S1024x9232) (r : Fin 1024) (l : Fin 128) (h : ¬ l.val < 16) : wD w (ix2 r l) = 0 := dif_neg h

/-- A sum over `a + b` terms, split. -/
theorem sum_split {a b c : ℕ} (h : a + b = c) (f : Fin c → EReal) :
    ∑ k, f k = (∑ k : Fin a, f ⟨k.val, by omega⟩) + ∑ k : Fin b, f ⟨a + k.val, by omega⟩ := by
  subst h
  exact Fin.sum_univ_add f

/-- One product over all columns is the sum of the five products. -/
theorem sum_glued (x1 : Arr S4352x1024) (x2 : Arr S4352x2048) (x3 : Arr S4352x128) (x4 : Arr S4352x4096) (x5 : Arr S4352x2048)
    (w : Arr S1024x9232) (r : Fin 4352) (q : Fin 1024) :
    ∑ l : Fin 9232, glued x1 x2 x3 x4 x5 (ix2 r l) * w (ix2 q l) = five x1 x2 x3 x4 x5 (wZ w) (wX w) (wD w) (wQ w) (wG w) (ix2 r q) := by
  rw [sum_split (show 7184 + 2048 = 9232 from rfl), sum_split (show 3088 + 4096 = 7184 from rfl),
    sum_split (show 3072 + 16 = 3088 from rfl), sum_split (show 1024 + 2048 = 3072 from rfl)]
  refine congrArg₂ (· + ·) (congrArg₂ (· + ·) (congrArg₂ (· + ·) (congrArg₂ (· + ·) ?_ ?_) ?_) ?_) ?_
  · refine Finset.sum_congr rfl fun k _ => ?_
    rw [glued_1 _ _ _ _ _ _ _ (show k.val < 1024 from k.isLt)]
    rfl
  · refine Finset.sum_congr rfl fun k _ => ?_
    rw [glued_2 _ _ _ _ _ _ _ (show ¬ 1024 + k.val < 1024 by omega) (show 1024 + k.val < 3072 by omega)]
    exact congrArg (fun z => x2 (ix2 r z) * _) (Fin.ext (show 1024 + k.val - 1024 = k.val by omega))
  · refine Eq.trans ?_ (sum_split (show 16 + 112 = 128 from rfl) (fun l => x3 (ix2 r l) * wD w (ix2 q l))).symm
    rw [Finset.sum_eq_zero (s := (Finset.univ : Finset (Fin 112)))
      (fun k _ => by rw [wD_hi _ _ _ (show ¬ 16 + k.val < 16 by omega), mul_zero]), add_zero]
    refine Finset.sum_congr rfl fun k _ => ?_
    rw [glued_3 _ _ _ _ _ _ _ (show ¬ 3072 + k.val < 3072 by omega) (show 3072 + k.val < 3088 by omega),
      wD_lo _ _ _ (show k.val < 16 from k.isLt)]
    exact congrArg (fun z => x3 (ix2 r z) * _) (Fin.ext (show 3072 + k.val - 3072 = k.val by omega))
  · refine Fintype.sum_equiv ⟨back, perm, perm_back, back_perm⟩ _ _ fun k => ?_
    rw [glued_4 _ _ _ _ _ _ _ (show ¬ 3088 + k.val < 3088 by omega) (show 3088 + k.val < 7184 by omega)]
    have e : (⟨3088 + k.val - 3088, by omega⟩ : Fin 4096) = k := Fin.ext (show 3088 + k.val - 3088 = k.val by omega)
    refine congrArg₂ (fun y z => x4 (ix2 r (back y)) * w (ix2 q z)) e (Fin.ext ?_)
    show 3088 + k.val = 3088 + (perm (back k)).val
    rw [perm_back]
  · refine Finset.sum_congr rfl fun k _ => ?_
    rw [glued_5 _ _ _ _ _ _ _ (show ¬ 7184 + k.val < 7184 by omega)]
    exact congrArg (fun z => x5 (ix2 r z) * _) (Fin.ext (show 7184 + k.val - 7184 = k.val by omega))

end Cert.InProj
end
-- ==== Proof.InValue0.lean ====
module
public import proofs.«01_k».proof.Proof.Gen.Kernel3Ideal.Frame.Region0
public import proofs.«01_k».proof.Proof.InSpec
public import Idealize.ShloMosaic.Lib.Pipeline.ValueKit
public import Idealize.ShloMosaic.Lib.WritesUnit

/-! # Region 0 of the input projection: the normed rows -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx0 : ∀ t : Fin cfg0.N, win0_0.index t = ![t.val, 0] ∧ win0_1.index t = ![0, 0] ∧ win0_2.index t = ![t.val, 0] :=
  (by decide +kernel : ∀ t : Fin grid0.N, _)

/-- The result's buffer at the end. -/
theorem final0_2 (c : Dev nD) : (dat0 V c).arrAt 2 cfg0.N = normed (V c main_arg0) (V c main_arg1) := by
  refine (dat0 V c).arrAt_eq_of_covers 2 _ (by decide +kernel) fun t _ y => ?_
  blk_simp
  rw [after0_2]; frame_out
  pointwise [k0_pay1, normed]
  blk_point [iblk0, idx0 t]

end Cert.Kernel3Ideal.In
end
-- ==== Proof.InValue1.lean ====
module
public import proofs.«01_k».proof.Proof.Gen.Kernel3Ideal.Frame.Region1
public import proofs.«01_k».proof.Proof.InSpec
public import Idealize.ShloMosaic.Lib.Pipeline.ValueKit
public import Idealize.ShloMosaic.Lib.WritesUnit

/-! # Region 1 of the input projection: the columns of z -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx1 : ∀ t : Fin cfg1.N, win1_0.index t = ![t.val / 2, 0] ∧ win1_1.index t = ![0, t.val % 2] ∧ win1_2.index t = ![t.val / 2, t.val % 2] :=
  (by decide +kernel : ∀ t : Fin grid1.N, _)

/-- The result's buffer at the end. -/
theorem final1_2 (c : Dev nD) : (dat1 V c).arrAt 2 cfg1.N = mm (V c main_v0) (V c main_v5) := by
  refine (dat1 V c).arrAt_eq_of_covers 2 _ (by decide +kernel) fun t _ y => ?_
  blk_simp
  rw [after1_2]; frame_out
  pointwise [k1_pay1, mm]
  blk_point [iblk1, idx1 t]

end Cert.Kernel3Ideal.In
end
-- ==== Proof.InValue2.lean ====
module
public import proofs.«01_k».proof.Proof.Gen.Kernel3Ideal.Frame.Region2
public import proofs.«01_k».proof.Proof.InSpec
public import Idealize.ShloMosaic.Lib.Pipeline.ValueKit
public import Idealize.ShloMosaic.Lib.WritesUnit

/-! # Region 2 of the input projection: the columns of the convolution's input -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx2 : ∀ t : Fin cfg2.N, win2_0.index t = ![t.val / 2, 0] ∧ win2_1.index t = ![0, t.val % 2] ∧ win2_2.index t = ![t.val / 2, t.val % 2] :=
  (by decide +kernel : ∀ t : Fin grid2.N, _)

/-- The result's buffer at the end. -/
theorem final2_2 (c : Dev nD) : (dat2 V c).arrAt 2 cfg2.N = mm (V c main_v0) (V c main_v6) := by
  refine (dat2 V c).arrAt_eq_of_covers 2 _ (by decide +kernel) fun t _ y => ?_
  blk_simp
  rw [after2_2]; frame_out
  pointwise [k2_pay1, mm]
  blk_point [iblk2, idx2 t]

end Cert.Kernel3Ideal.In
end
-- ==== Proof.InValue3.lean ====
module
public import proofs.«01_k».proof.Proof.Gen.Kernel3Ideal.Frame.Region3
public import proofs.«01_k».proof.Proof.InSpec
public import Idealize.ShloMosaic.Lib.Pipeline.ValueKit
public import Idealize.ShloMosaic.Lib.WritesUnit

/-! # Region 3 of the input projection: the columns of the time steps -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx3 : ∀ t : Fin cfg3.N, win3_0.index t = ![t.val / 1, 0] ∧ win3_1.index t = ![0, t.val % 1] ∧ win3_2.index t = ![t.val / 1, t.val % 1] :=
  (by decide +kernel : ∀ t : Fin grid3.N, _)

/-- The result's buffer at the end. -/
theorem final3_2 (c : Dev nD) : (dat3 V c).arrAt 2 cfg3.N = mm (V c main_v0) (V c main_v8) := by
  refine (dat3 V c).arrAt_eq_of_covers 2 _ (by decide +kernel) fun t _ y => ?_
  blk_simp
  rw [after3_2]; frame_out
  pointwise [k3_pay1, mm]
  blk_point [iblk3, idx3 t]

end Cert.Kernel3Ideal.In
end
-- ==== Proof.InValue4.lean ====
module
public import proofs.«01_k».proof.Proof.Gen.Kernel3Ideal.Frame.Region4
public import proofs.«01_k».proof.Proof.InSpec
public import Idealize.ShloMosaic.Lib.Pipeline.ValueKit
public import Idealize.ShloMosaic.Lib.WritesUnit

/-! # Region 4 of the input projection: the columns of the second mixer -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx4 : ∀ t : Fin cfg4.N, win4_0.index t = ![t.val / 4, 0] ∧ win4_1.index t = ![0, t.val % 4] ∧ win4_2.index t = ![t.val / 4, t.val % 4] :=
  (by decide +kernel : ∀ t : Fin grid4.N, _)

/-- The result's buffer at the end. -/
theorem final4_2 (c : Dev nD) : (dat4 V c).arrAt 2 cfg4.N = mm (V c main_v0) (V c main_v4) := by
  refine (dat4 V c).arrAt_eq_of_covers 2 _ (by decide +kernel) fun t _ y => ?_
  blk_simp
  rw [after4_2]; frame_out
  pointwise [k4_pay1, mm]
  blk_point [iblk4, idx4 t]

end Cert.Kernel3Ideal.In
end
-- ==== Proof.InValue5.lean ====
module
public import proofs.«01_k».proof.Proof.Gen.Kernel3Ideal.Frame.Region5
public import proofs.«01_k».proof.Proof.InSpec
public import Idealize.ShloMosaic.Lib.Pipeline.ValueKit
public import Idealize.ShloMosaic.Lib.WritesUnit

/-! # Region 5 of the input projection: the gates' columns -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx5 : ∀ t : Fin cfg5.N, win5_0.index t = ![t.val / 4, 0] ∧ win5_1.index t = ![0, t.val % 4] ∧ win5_2.index t = ![t.val / 4, t.val % 4] :=
  (by decide +kernel : ∀ t : Fin grid5.N, _)

/-- The result's buffer at the end. -/
theorem final5_2 (c : Dev nD) : (dat5 V c).arrAt 2 cfg5.N = mm (V c main_v0) (V c main_v9) := by
  refine (dat5 V c).arrAt_eq_of_covers 2 _ (by decide +kernel) fun t _ y => ?_
  blk_simp
  rw [after5_2]; frame_out
  pointwise [k5_pay1, mm]
  blk_point [iblk5, idx5 t]

end Cert.Kernel3Ideal.In
end
-- ==== Proof.InValue6.lean ====
module
public import proofs.«01_k».proof.Proof.Gen.Kernel3Ideal.Frame.Region6
public import proofs.«01_k».proof.Proof.InSpec
public import Idealize.ShloMosaic.Lib.Pipeline.ValueKit
public import Idealize.ShloMosaic.Lib.WritesUnit

/-! # Region 6 of the input projection: the gradient of the normed rows -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx6 : ∀ t : Fin cfg6.N, win6_0.index t = ![t.val / 2, 0] ∧ win6_1.index t = ![t.val / 2, 0] ∧ win6_2.index t = ![t.val / 2, 0] ∧ win6_3.index t = ![t.val / 2, 0] ∧ win6_4.index t = ![t.val / 2, 0] ∧ win6_5.index t = ![t.val % 2, 0] ∧ win6_6.index t = ![t.val % 2, 0] ∧ win6_7.index t = ![t.val % 2, 0] ∧ win6_8.index t = ![t.val % 2, 0] ∧ win6_9.index t = ![t.val % 2, 0] ∧ win6_10.index t = ![t.val / 2, t.val % 2] :=
  (by decide +kernel : ∀ t : Fin grid6.N, _)

/-- The result's buffer at the end. -/
theorem final6_10 (c : Dev nD) : (dat6 V c).arrAt 10 cfg6.N = five (V c main_arg3) (V c main_arg4) (V c main_arg5) (V c main_arg6) (V c main_arg7) (V c main_v5) (V c main_v6) (V c main_v8) (V c main_v4) (V c main_v9) := by
  refine (dat6 V c).arrAt_eq_of_covers 10 _ (by decide +kernel) fun t _ y => ?_
  blk_simp
  rw [after6_10]; frame_out
  pointwise [k6_pay1, five, mmT]
  blk_point [iblk6, idx6 t]

end Cert.Kernel3Ideal.In
end
-- ==== Proof.InValue7.lean ====
module
public import proofs.«01_k».proof.Proof.Gen.Kernel3Ideal.Frame.Region7
public import proofs.«01_k».proof.Proof.InSpec
public import Idealize.ShloMosaic.Lib.Pipeline.ValueKit
public import Idealize.ShloMosaic.Lib.WritesUnit

/-! # Region 7 of the input projection: the gradient of the weights of z -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx7 : ∀ t : Fin cfg7.N, win7_0.index t = ![0, t.val / 2] ∧ win7_1.index t = ![0, t.val % 2] ∧ win7_2.index t = ![t.val / 2, t.val % 2] :=
  (by decide +kernel : ∀ t : Fin grid7.N, _)

/-- The result's buffer at the end. -/
theorem final7_2 (c : Dev nD) : (dat7 V c).arrAt 2 cfg7.N = tT (V c main_v0) (V c main_arg3) := by
  refine (dat7 V c).arrAt_eq_of_covers 2 _ (by decide +kernel) fun t _ y => ?_
  blk_simp
  rw [after7_2]; frame_out
  pointwise [k7_pay1, tT]
  blk_point [iblk7, idx7 t]

end Cert.Kernel3Ideal.In
end
-- ==== Proof.InValue8.lean ====
module
public import proofs.«01_k».proof.Proof.Gen.Kernel3Ideal.Frame.Region8
public import proofs.«01_k».proof.Proof.InSpec
public import Idealize.ShloMosaic.Lib.Pipeline.ValueKit
public import Idealize.ShloMosaic.Lib.WritesUnit

/-! # Region 8 of the input projection: the gradient of the weights of the convolution's input -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx8 : ∀ t : Fin cfg8.N, win8_0.index t = ![0, t.val / 4] ∧ win8_1.index t = ![0, t.val % 4] ∧ win8_2.index t = ![t.val / 4, t.val % 4] :=
  (by decide +kernel : ∀ t : Fin grid8.N, _)

/-- The result's buffer at the end. -/
theorem final8_2 (c : Dev nD) : (dat8 V c).arrAt 2 cfg8.N = tT (V c main_v0) (V c main_arg4) := by
  refine (dat8 V c).arrAt_eq_of_covers 2 _ (by decide +kernel) fun t _ y => ?_
  blk_simp
  rw [after8_2]; frame_out
  pointwise [k8_pay1, tT]
  blk_point [iblk8, idx8 t]

end Cert.Kernel3Ideal.In
end
-- ==== Proof.InValue9.lean ====
module
public import proofs.«01_k».proof.Proof.Gen.Kernel3Ideal.Frame.Region9
public import proofs.«01_k».proof.Proof.InSpec
public import Idealize.ShloMosaic.Lib.Pipeline.ValueKit
public import Idealize.ShloMosaic.Lib.WritesUnit

/-! # Region 9 of the input projection: the gradient of the weights of the time steps -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx9 : ∀ t : Fin cfg9.N, win9_0.index t = ![0, t.val / 1] ∧ win9_1.index t = ![0, t.val % 1] ∧ win9_2.index t = ![t.val / 1, t.val % 1] :=
  (by decide +kernel : ∀ t : Fin grid9.N, _)

/-- The result's buffer at the end. -/
theorem final9_2 (c : Dev nD) : (dat9 V c).arrAt 2 cfg9.N = tT (V c main_v0) (V c main_arg5) := by
  refine (dat9 V c).arrAt_eq_of_covers 2 _ (by decide +kernel) fun t _ y => ?_
  blk_simp
  rw [after9_2]; frame_out
  pointwise [k9_pay1, tT]
  blk_point [iblk9, idx9 t]

end Cert.Kernel3Ideal.In
end
-- ==== Proof.InValue10.lean ====
module
public import proofs.«01_k».proof.Proof.Gen.Kernel3Ideal.Frame.Region10
public import proofs.«01_k».proof.Proof.InSpec
public import Idealize.ShloMosaic.Lib.Pipeline.ValueKit
public import Idealize.ShloMosaic.Lib.WritesUnit

/-! # Region 10 of the input projection: the gradient of the weights of the second mixer -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx10 : ∀ t : Fin cfg10.N, win10_0.index t = ![0, t.val / 8] ∧ win10_1.index t = ![0, t.val % 8] ∧ win10_2.index t = ![t.val / 8, t.val % 8] :=
  (by decide +kernel : ∀ t : Fin grid10.N, _)

/-- The result's buffer at the end. -/
theorem final10_2 (c : Dev nD) : (dat10 V c).arrAt 2 cfg10.N = tT (V c main_v0) (V c main_arg6) := by
  refine (dat10 V c).arrAt_eq_of_covers 2 _ (by decide +kernel) fun t _ y => ?_
  blk_simp
  rw [after10_2]; frame_out
  pointwise [k10_pay1, tT]
  blk_point [iblk10, idx10 t]

end Cert.Kernel3Ideal.In
end
-- ==== Proof.InValue11.lean ====
module
public import proofs.«01_k».proof.Proof.Gen.Kernel3Ideal.Frame.Region11
public import proofs.«01_k».proof.Proof.InSpec
public import Idealize.ShloMosaic.Lib.Pipeline.ValueKit
public import Idealize.ShloMosaic.Lib.WritesUnit

/-! # Region 11 of the input projection: the gradient of the weights of the gates -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx11 : ∀ t : Fin cfg11.N, win11_0.index t = ![0, t.val / 4] ∧ win11_1.index t = ![0, t.val % 4] ∧ win11_2.index t = ![t.val / 4, t.val % 4] :=
  (by decide +kernel : ∀ t : Fin grid11.N, _)

/-- The result's buffer at the end. -/
theorem final11_2 (c : Dev nD) : (dat11 V c).arrAt 2 cfg11.N = tT (V c main_v0) (V c main_arg7) := by
  refine (dat11 V c).arrAt_eq_of_covers 2 _ (by decide +kernel) fun t _ y => ?_
  blk_simp
  rw [after11_2]; frame_out
  pointwise [k11_pay1, tT]
  blk_point [iblk11, idx11 t]

end Cert.Kernel3Ideal.In
end
-- ==== Proof.InValue12.lean ====
module
public import proofs.«01_k».proof.Proof.Gen.Kernel3Ideal.Frame.Region12
public import proofs.«01_k».proof.Proof.InSpec
public import Idealize.ShloMosaic.Lib.Pipeline.ValueKit
public import Idealize.ShloMosaic.Lib.WritesUnit

/-! # Region 12 of the input projection: the norm's gradient -/

@[expose] public section
set_option maxRecDepth 16384
noncomputable section
open Idealize.ShloMosaic Idealize.ShloMosaic.TcCoe Idealize.SL.Sem
open Idealize.ShloMosaic.Pipeline (Dat)
namespace Cert.Kernel3Ideal.In
open Cert.Kernel3Ideal Cert.Kernel3Ideal.Gen Cert.Merge Cert.Ffn Cert.InProj
variable (V : (c : Dev nD) → (b : Ref sig .tc) → Buf (Elt Ideal) ((c : Thread nD τ).loc b))

/-- The blocks' positions at a point. -/
theorem idx12 : ∀ t : Fin cfg12.N, win12_0.index t = ![t.val, 0] ∧ win12_1.index t = ![0, 0] ∧ win12_2.index t = ![t.val, 0] ∧ win12_3.index t = ![t.val, 0] ∧ win12_4.index t = ![t.val, 0] ∧ win12_5.index t = ![0, 0] :=
  (by decide +kernel : ∀ t : Fin grid12.N, _)

/-- Row `r` of the block at a point. -/
def row12 (t : Fin cfg12.N) (r : Fin 256) : Fin 4352 := ⟨256 * t.val + r.val, by
  have h : t.val < grid12.N := t.isLt; rw [N_12] at h; omega⟩

/-- The rows' gradient at a point. -/
theorem rows12 (c : Dev nD) (t : Fin cfg12.N) (y : S256x1024.Idx) :
    k12_pay7 (iblk12 V c 0 t) (iblk12 V c 1 t) (iblk12 V c 2 t) (iblk12 V c 3 t) y
      = dnormed (V c main_arg0) (V c main_arg1) (V c main_v15) (V c main_arg8) (ix2 (row12 t (y 0)) (y 1)) := by
  pointwise [k12_pay3, k12_pay4, k12_pay5, k12_pay7, dnormed, dmean, ms]
  simp only [Fin.sum_univ_one, Fintype.sum_unique, Finset.univ_unique, Finset.sum_singleton]
  blk_point [iblk12, idx12 t, row12]

/-- The rows' gradient at the end. -/
theorem final12_4 (c : Dev nD) : (dat12 V c).arrAt 4 cfg12.N
    = dnormed (V c main_arg0) (V c main_arg1) (V c main_v15) (V c main_arg8) := by
  refine (dat12 V c).arrAt_eq_of_covers 4 _ (by decide +kernel) fun t _ y => ?_
  blk_simp
  rw [after12_4]
  have he : ((View.whole main_v26_0).slice (win12_4.rect t)).emb y = ix2 (row12 t (y 0)) (y 1) := by
    blk_ext [idx12 t, row12]
  rw [he]
  by_cases h : t.val % 17 = 0
  · rw [outsAt12_A V c t h]; frame_out
    exact rows12 V c t y
  · rw [outsAt12_B V c t h]; frame_out
    exact rows12 V c t y

/-- What a point adds to column `q` of the weight's gradient. -/
def add12 (h d : Arr S4352x1024) (t : Fin cfg12.N) (q : Fin 1024) : EReal :=
  ∑ r : Fin 256, h (ix2 (row12 t r) q) * Ideal.rsqrt (ms h (row12 t r)) * d (ix2 (row12 t r) q)

/-- The stored row: the row read before, plus what the point adds. -/
theorem pay12 (c : Dev nD) (t : Fin cfg12.N) (v : Vec Ideal S1x1024 .f32) (q : Fin 1024) :
    k12_pay2 (k12_pay6 (iblk12 V c 0 t) (iblk12 V c 2 t)) v (ix2 0 q) = v (ix2 0 q) + add12 (V c main_arg0) (V c main_v15) t q := by
  pointwise [k12_pay2, k12_pay3, k12_pay4, k12_pay5, k12_pay6, add12, ms]
  blk_point [iblk12, idx12 t, row12]

/-- The filled buffer is zero. -/
theorem fill12 (z : S8x1024.Idx) : k12_pay1 (F := Ideal) z = 0 := by
  pointwise [k12_pay1]

/-- The weight's gradient at the end, in row 0 of its buffer. -/
theorem final12_5 (c : Dev nD) : (dat12 V c).arrAt 5 cfg12.N
    = fun i : S8x1024.Idx => if (i 0).val = 0 then dweight (V c main_arg0) (V c main_v15) (ix2 0 (i 1)) else 0 := by
  refine (dat12 V c).arrAt_eq_of_covers 5 _ (by decide +kernel) fun t hf j => ?_
  have hA : ∀ (t : Fin cfg12.N) (h : t.val % 17 = 0) (j : S8x1024.Idx), (outsAt12 V c t.val t.isLt).2 j
      = 0 + if (j 0).val = 0 then add12 (V c main_arg0) (V c main_v15) t (j 1) else 0 := by
    intro t h j
    rw [outsAt12_A V c t h]; frame_out
    by_cases hj : (j 0).val = 0
    · have hj' : j = (Rect.unit (s := S8x1024) ![0, 0] ![1, 1024] inb_S8x1024_S1x1024_0_0).emb (ix2 0 (j 1)) := by
        funext a; fin_cases a <;> apply Fin.ext <;> simp [hj]
      rw [hj', View.canon_cons_emb]
      refine (pay12 V c t _ _).trans ?_
      rw [View.readCov_eq_canon']
      beta_reduce
      rw [if_pos (by simp), View.canon_cons_unit_lit _ _ _ (by decide)]
      rw [fill12, congrFun hj'.symm 1]
    · rw [View.canon_cons_of_not_mem _ _ (by simp [Rect.mem_set_unit]; omega)]
      rw [if_neg hj, View.canon_cons_unit_lit _ _ _ (by decide)]
      rw [fill12, add_zero]
  have hB : ∀ (t : Fin cfg12.N) (h : ¬ t.val % 17 = 0) (j : S8x1024.Idx), (outsAt12 V c t.val t.isLt).2 j
      = (outsAt12 V c (t.val - 1) (Nat.lt_of_le_of_lt (Nat.sub_le _ _) t.isLt)).2 j
        + if (j 0).val = 0 then add12 (V c main_arg0) (V c main_v15) t (j 1) else 0 := by
    intro t h j
    rw [outsAt12_B V c t h]; frame_out
    by_cases hj : (j 0).val = 0
    · have hj' : j = (Rect.unit (s := S8x1024) ![0, 0] ![1, 1024] inb_S8x1024_S1x1024_0_0).emb (ix2 0 (j 1)) := by
        funext a; fin_cases a <;> apply Fin.ext <;> simp [hj]
      rw [View.read_writes_cons_unit_of_mem _ _ _ _ _ _ (ix2 0 (j 1)) rfl (by intro a; fin_cases a <;> simp [hj]), if_pos hj]
      refine (pay12 V c t _ _).trans ?_
      exact congrArg (fun z => (outsAt12 V c (t.val - 1) (Nat.lt_of_le_of_lt (Nat.sub_le _ _) t.isLt)).2 z
        + add12 (V c main_arg0) (V c main_v15) t (j 1)) hj'.symm
    · rw [View.read_writes_cons_unit_of_not_mem _ _ _ _ _ _ rfl 0 (by simp; omega), if_neg hj, add_zero]
      exact congrFun (Memref.IsWhole.read_unread _ _) j
  have ht : t.val % 17 = 16 := (flush12_5 t).mp hf
  have h17 : t.val / 17 = 0 := by have h : t.val < 17 := lt_of_lt_of_eq t.isLt N_12; omega
  have he : ((View.whole main_v26_1).slice (win12_5.rect t)).emb j = j := by
    blk_ext [idx12 t]
  blk_simp
  rw [he, after12_5]
  rw [Pipeline.eq_sum_fin_of_reset_step_apply_of_flush (fun n h => (outsAt12 V c n h).2) 17 (fun _ => 0) _
    hA hB t ht j, zero_add]
  by_cases hj : (j 0).val = 0
  · simp only [hj, if_true, add12, dweight]
    refine Fin.sum_mul_add_congr fun s k hl => ?_
    have hr : row12 ⟨17 * (t.val / 17) + s.val, Pipeline.run_point_lt_of_flush t ht s⟩ k = ⟨s.val * 256 + k.val, hl⟩ := Fin.ext (by simp only [row12]; omega)
    rw [hr]
    rfl
  · simp only [hj, if_false, Finset.sum_const_zero]
    simp [hj, (idx12 t).2.2.2.2.2]

end Cert.Kernel3Ideal.In
end
-- ==== Proof.InValues.lean ====
module
public import proofs.«01_k».proof.Proof.InValue0
public import proofs.«01_k».proof.Proof.InValue1
public import proofs.«01_k».proof.Proof.InValue2
public import proofs.«01_k».proof.Proof.InValue3
public import proofs.«01_k».proof.Proof.InValue4
public import proofs.«01_k».proof.Proof.InValue5
public import proofs.«01_k».proof.Proof.InValue6
public import proofs.«01_k».proof.Proof.InValue7
public import proofs.«01_k».proof.Proof.InValue8
public import proofs.«01_k».proof.Proof.InValue9
public import proofs.«01_k».proof.Proof.InValue10
public import proofs.«01_k».proof.Proof.InValue11
public import proofs.«01_k».proof.Proof.InValue12
-- ==== Proof.InExt.lean ====
module
public import proofs.«01_k».proof.Proof.InSpec

/-! # Equality of two-axis arrays, and the weights' gradient in its five parts -/

@[expose] public section
set_option maxRecDepth 16384
noncomputable section
open Idealize.ShloMosaic
namespace Cert.InProj
open Cert.Kernel3Ideal Cert.Merge

/-- Two arrays are equal if they are at every row and column. -/
theorem ext2 {m n : ℕ} {f g : Arr ⟨2, ![m, n]⟩} (h : ∀ (r : Fin m) (l : Fin n), f (ix2 r l) = g (ix2 r l)) : f = g :=
  funext fun i => by rw [eq_ix2 i]; exact h _ _

section
variable (n : Arr S4352x1024) (x1 : Arr S4352x1024) (x2 : Arr S4352x2048) (x3 : Arr S4352x128) (x4 : Arr S4352x4096) (x5 : Arr S4352x2048)
  (q : Fin 1024) (l : Fin 9232)
theorem dwIn_1 (h : l.val < 1024) : dwIn n (glued x1 x2 x3 x4 x5) (ix2 q l) = tT n x1 (ix2 q ⟨l.val, h⟩) :=
  Finset.sum_congr rfl fun k _ => congrArg (n (ix2 k q) * ·) (glued_1 _ _ _ _ _ k l h)
theorem dwIn_2 (h1 : ¬ l.val < 1024) (h : l.val < 3072) : dwIn n (glued x1 x2 x3 x4 x5) (ix2 q l) = tT n x2 (ix2 q ⟨l.val - 1024, by omega⟩) :=
  Finset.sum_congr rfl fun k _ => congrArg (n (ix2 k q) * ·) (glued_2 _ _ _ _ _ k l h1 h)
theorem dwIn_3 (h1 : ¬ l.val < 3072) (h : l.val < 3088) : dwIn n (glued x1 x2 x3 x4 x5) (ix2 q l) = tT n x3 (ix2 q ⟨l.val - 3072, by omega⟩) :=
  Finset.sum_congr rfl fun k _ => congrArg (n (ix2 k q) * ·) (glued_3 _ _ _ _ _ k l h1 h)
theorem dwIn_4 (h1 : ¬ l.val < 3088) (h : l.val < 7184) : dwIn n (glued x1 x2 x3 x4 x5) (ix2 q l) = tT n x4 (ix2 q (back ⟨l.val - 3088, by omega⟩)) :=
  Finset.sum_congr rfl fun k _ => congrArg (n (ix2 k q) * ·) (glued_4 _ _ _ _ _ k l h1 h)
theorem dwIn_5 (h1 : ¬ l.val < 7184) : dwIn n (glued x1 x2 x3 x4 x5) (ix2 q l) = tT n x5 (ix2 q ⟨l.val - 7184, by omega⟩) :=
  Finset.sum_congr rfl fun k _ => congrArg (n (ix2 k q) * ·) (glued_5 _ _ _ _ _ k l h1)
end

end Cert.InProj
end
-- ==== Proof.InChain.lean ====
module
public import proofs.«01_k».proof.Proof.InValues
public import proofs.«01_k».proof.Proof.InExt
public import proofs.«01_k».proof.Proof.Gen.Kernel3Ideal.Frame

/-! # The results of the input projection in terms of its arguments

Each boundary's buffers, followed from call to call, with the host's slices of the weights between the calls. -/

@[expose] public section
set_option maxRecDepth 16384
noncomputable section
namespace Cert.Kernel3Ideal.In
open Idealize.ShloMosaic Idealize.ShloMosaic.TcCoe Idealize.SL.Sem
open Cert.Kernel3Ideal Cert.Kernel3Ideal.Gen Cert.Merge Cert.Ffn Cert.InProj
variable (m : (ℓ : Loc nD τ sig) → Buf (Elt Ideal) ℓ) (ρ : Dev nD → PrngReg) (c : Dev nD)

/-- Argument 0 as launched. -/
abbrev x0 := m ((c : Thread nD τ).loc main_arg0)
/-- Argument 1 as launched. -/
abbrev x1 := m ((c : Thread nD τ).loc main_arg1)
/-- Argument 2 as launched. -/
abbrev x2 := m ((c : Thread nD τ).loc main_arg2)
/-- Argument 3 as launched. -/
abbrev x3 := m ((c : Thread nD τ).loc main_arg3)
/-- Argument 4 as launched. -/
abbrev x4 := m ((c : Thread nD τ).loc main_arg4)
/-- Argument 5 as launched. -/
abbrev x5 := m ((c : Thread nD τ).loc main_arg5)
/-- Argument 6 as launched. -/
abbrev x6 := m ((c : Thread nD τ).loc main_arg6)
/-- Argument 7 as launched. -/
abbrev x7 := m ((c : Thread nD τ).loc main_arg7)
/-- Argument 8 as launched. -/
abbrev x8 := m ((c : Thread nD τ).loc main_arg8)
/-- The normed rows. -/
abbrev nK : Arr S4352x1024 := normed (x0 m c) (x1 m c)
/-- The gradient of the normed rows. -/
abbrev dK : Arr S4352x1024 := five (x3 m c) (x4 m c) (x5 m c) (x6 m c) (x7 m c) (wZ (x2 m c)) (wX (x2 m c)) (wD (x2 m c)) (wQ (x2 m c)) (wG (x2 m c))
theorem V1_main_v0 : W1 m ρ c (Proc.devRef .tc main_v0) = nK m c :=
  (W1_arr m ρ c 2).trans (final0_2 (V0 m ρ) c)
theorem a2_W1 : W1 m ρ c (Proc.devRef .tc main_arg2) = x2 m c := W1_args m ρ c main_arg2 (by decide)
theorem h_z : W2 m ρ c (Proc.devRef .tc main_v5) = wZ (x2 m c) := by
  have h : W2 m ρ c (Proc.devRef .tc main_v5) = (extractStridedSlice S1024x1024 ![0, 0] (W1 m ρ c (Proc.devRef .tc main_arg2) : FVec Ideal S1024x9232 .bf16) slices_S1024x9232_S1024x1024_0_0 : FVec Ideal S1024x1024 .bf16) := by
    after_results_simp <;> rfl
  rw [h, a2_W1]
  funext i
  pointwise [wZ]
  all_goals blk_point []
theorem h_x : W2 m ρ c (Proc.devRef .tc main_v6) = wX (x2 m c) := by
  have h : W2 m ρ c (Proc.devRef .tc main_v6) = (extractStridedSlice S1024x2048 ![0, 1024] (W1 m ρ c (Proc.devRef .tc main_arg2) : FVec Ideal S1024x9232 .bf16) slices_S1024x9232_S1024x2048_0_1024 : FVec Ideal S1024x2048 .bf16) := by
    after_results_simp <;> rfl
  rw [h, a2_W1]
  funext i
  pointwise [wX]
  all_goals blk_point []
theorem h_q : W2 m ρ c (Proc.devRef .tc main_v4) = wQ (x2 m c) := by
  have h : W2 m ρ c (Proc.devRef .tc main_v4) = (shapeCast S1024x4096 (transpose S1024x8x4x128 [0, 2, 1, 3] (shapeCast S1024x4x8x128 (extractStridedSlice S1024x4096 ![0, 3088] (W1 m ρ c (Proc.devRef .tc main_arg2) : FVec Ideal S1024x9232 .bf16) slices_S1024x9232_S1024x4096_0_3088) shapeCasts_S1024x4096_S1024x4x8x128) transposes_S1024x4x8x128_S1024x8x4x128_0_2_1_3) shapeCasts_S1024x8x4x128_S1024x4096 : FVec Ideal S1024x4096 .bf16) := by
    after_results_simp <;> rfl
  rw [h, a2_W1]
  funext i
  pointwise [wQ, perm]
  all_goals blk_point []
theorem h_g : W4 m ρ c (Proc.devRef .tc main_v9) = wG (x2 m c) := by
  have h : W4 m ρ c (Proc.devRef .tc main_v9) = (extractStridedSlice S1024x2048 ![0, 7184] (W3 m ρ c (Proc.devRef .tc main_arg2) : FVec Ideal S1024x9232 .bf16) slices_S1024x9232_S1024x2048_0_7184 : FVec Ideal S1024x2048 .bf16) := by
    after_results_simp <;> rfl
  rw [h, W3_args m ρ c main_arg2 (by decide)]
  funext i
  pointwise [wG]
  all_goals blk_point []
theorem h_d : W3 m ρ c (Proc.devRef .tc main_v8) = wD (x2 m c) := by
  have h : W3 m ρ c (Proc.devRef .tc main_v8) = (pad S1024x128 ![0, 0] ![0, 112] ![0, 0] (extractStridedSlice S1024x16 ![0, 3072] (W1 m ρ c (Proc.devRef .tc main_arg2) : FVec Ideal S1024x9232 .bf16) slices_S1024x9232_S1024x16_0_3072) (sitofp .bf16 (constantI S_ 32 0#32) : FVec Ideal S_ .bf16) pads_S1024x16_S1024x128_000_01120 h_S_ : FVec Ideal S1024x128 .bf16) := by
    after_results_simp <;> rfl
  rw [h, a2_W1]
  refine ext2 (m := 1024) (n := 128) fun r l => ?_
  by_cases hl : l.val < 16
  · rw [wD_lo _ _ _ hl]
    pointwise [hl]
    all_goals blk_point []
  · rw [wD_hi _ _ _ hl]
    pointwise [hl]
    simp [FloatOps.sitofp]
theorem V4_main_v0 : V4 m ρ c main_v0 = nK m c := (W4_of m ρ c main_v0 (by decide)).trans ((W3_of m ρ c main_v0 (by decide)).trans ((W2_of m ρ c main_v0 (by decide)).trans (V1_main_v0 m ρ c)))
theorem V4_main_v5 : V4 m ρ c main_v5 = wZ (x2 m c) := (W4_of m ρ c main_v5 (by decide)).trans ((W3_of m ρ c main_v5 (by decide)).trans (h_z m ρ c))
theorem V5_main_v0 : V5 m ρ c main_v0 = nK m c := (W5_of m ρ c main_v0 (by decide +kernel)).trans ((W4_of m ρ c main_v0 (by decide)).trans ((W3_of m ρ c main_v0 (by decide)).trans ((W2_of m ρ c main_v0 (by decide)).trans (V1_main_v0 m ρ c))))
theorem V5_main_v6 : V5 m ρ c main_v6 = wX (x2 m c) := (W5_of m ρ c main_v6 (by decide +kernel)).trans ((W4_of m ρ c main_v6 (by decide)).trans ((W3_of m ρ c main_v6 (by decide)).trans (h_x m ρ c)))
theorem V6_main_v0 : V6 m ρ c main_v0 = nK m c := (W6_of m ρ c main_v0 (by decide +kernel)).trans ((W5_of m ρ c main_v0 (by decide +kernel)).trans ((W4_of m ρ c main_v0 (by decide)).trans ((W3_of m ρ c main_v0 (by decide)).trans ((W2_of m ρ c main_v0 (by decide)).trans (V1_main_v0 m ρ c)))))
theorem V6_main_v8 : V6 m ρ c main_v8 = wD (x2 m c) := (W6_of m ρ c main_v8 (by decide +kernel)).trans ((W5_of m ρ c main_v8 (by decide +kernel)).trans ((W4_of m ρ c main_v8 (by decide)).trans (h_d m ρ c)))
theorem V7_main_v0 : V7 m ρ c main_v0 = nK m c := (W7_of m ρ c main_v0 (by decide +kernel)).trans ((W6_of m ρ c main_v0 (by decide +kernel)).trans ((W5_of m ρ c main_v0 (by decide +kernel)).trans ((W4_of m ρ c main_v0 (by decide)).trans ((W3_of m ρ c main_v0 (by decide)).trans ((W2_of m ρ c main_v0 (by decide)).trans (V1_main_v0 m ρ c))))))
theorem V7_main_v4 : V7 m ρ c main_v4 = wQ (x2 m c) := (W7_of m ρ c main_v4 (by decide +kernel)).trans ((W6_of m ρ c main_v4 (by decide +kernel)).trans ((W5_of m ρ c main_v4 (by decide +kernel)).trans ((W4_of m ρ c main_v4 (by decide)).trans ((W3_of m ρ c main_v4 (by decide)).trans (h_q m ρ c)))))
theorem V8_main_v0 : V8 m ρ c main_v0 = nK m c := (W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide)).trans ((W3_of m ρ c main_v0 (by decide)).trans ((W2_of m ρ c main_v0 (by decide)).trans (V1_main_v0 m ρ c)))))))
theorem V8_main_v9 : V8 m ρ c main_v9 = wG (x2 m c) := (W8_of m ρ c main_v9 (by decide +kernel)).trans ((W7_of m ρ c main_v9 (by decide +kernel)).trans ((W6_of m ρ c main_v9 (by decide +kernel)).trans ((W5_of m ρ c main_v9 (by decide +kernel)).trans (h_g m ρ c))))
theorem V9_main_v4 : V9 m ρ c main_v4 = wQ (x2 m c) := (W9_of m ρ c main_v4 (by decide +kernel)).trans ((W8_of m ρ c main_v4 (by decide +kernel)).trans ((W7_of m ρ c main_v4 (by decide +kernel)).trans ((W6_of m ρ c main_v4 (by decide +kernel)).trans ((W5_of m ρ c main_v4 (by decide +kernel)).trans ((W4_of m ρ c main_v4 (by decide)).trans ((W3_of m ρ c main_v4 (by decide)).trans (h_q m ρ c)))))))
theorem V9_main_v5 : V9 m ρ c main_v5 = wZ (x2 m c) := (W9_of m ρ c main_v5 (by decide +kernel)).trans ((W8_of m ρ c main_v5 (by decide +kernel)).trans ((W7_of m ρ c main_v5 (by decide +kernel)).trans ((W6_of m ρ c main_v5 (by decide +kernel)).trans ((W5_of m ρ c main_v5 (by decide +kernel)).trans ((W4_of m ρ c main_v5 (by decide)).trans ((W3_of m ρ c main_v5 (by decide)).trans (h_z m ρ c)))))))
theorem V9_main_v6 : V9 m ρ c main_v6 = wX (x2 m c) := (W9_of m ρ c main_v6 (by decide +kernel)).trans ((W8_of m ρ c main_v6 (by decide +kernel)).trans ((W7_of m ρ c main_v6 (by decide +kernel)).trans ((W6_of m ρ c main_v6 (by decide +kernel)).trans ((W5_of m ρ c main_v6 (by decide +kernel)).trans ((W4_of m ρ c main_v6 (by decide)).trans ((W3_of m ρ c main_v6 (by decide)).trans (h_x m ρ c)))))))
theorem V9_main_v8 : V9 m ρ c main_v8 = wD (x2 m c) := (W9_of m ρ c main_v8 (by decide +kernel)).trans ((W8_of m ρ c main_v8 (by decide +kernel)).trans ((W7_of m ρ c main_v8 (by decide +kernel)).trans ((W6_of m ρ c main_v8 (by decide +kernel)).trans ((W5_of m ρ c main_v8 (by decide +kernel)).trans ((W4_of m ρ c main_v8 (by decide)).trans (h_d m ρ c))))))
theorem V9_main_v9 : V9 m ρ c main_v9 = wG (x2 m c) := (W9_of m ρ c main_v9 (by decide +kernel)).trans ((W8_of m ρ c main_v9 (by decide +kernel)).trans ((W7_of m ρ c main_v9 (by decide +kernel)).trans ((W6_of m ρ c main_v9 (by decide +kernel)).trans ((W5_of m ρ c main_v9 (by decide +kernel)).trans (h_g m ρ c)))))
theorem V10_main_v0 : V10 m ρ c main_v0 = nK m c := (W10_of m ρ c main_v0 (by decide +kernel)).trans ((W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide)).trans ((W3_of m ρ c main_v0 (by decide)).trans ((W2_of m ρ c main_v0 (by decide)).trans (V1_main_v0 m ρ c)))))))))
theorem V11_main_v0 : V11 m ρ c main_v0 = nK m c := (W11_of m ρ c main_v0 (by decide +kernel)).trans ((W10_of m ρ c main_v0 (by decide +kernel)).trans ((W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide)).trans ((W3_of m ρ c main_v0 (by decide)).trans ((W2_of m ρ c main_v0 (by decide)).trans (V1_main_v0 m ρ c))))))))))
theorem V12_main_v0 : V12 m ρ c main_v0 = nK m c := (W12_of m ρ c main_v0 (by decide +kernel)).trans ((W11_of m ρ c main_v0 (by decide +kernel)).trans ((W10_of m ρ c main_v0 (by decide +kernel)).trans ((W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide)).trans ((W3_of m ρ c main_v0 (by decide)).trans ((W2_of m ρ c main_v0 (by decide)).trans (V1_main_v0 m ρ c)))))))))))
theorem V13_main_v0 : V13 m ρ c main_v0 = nK m c := (W13_of m ρ c main_v0 (by decide +kernel)).trans ((W12_of m ρ c main_v0 (by decide +kernel)).trans ((W11_of m ρ c main_v0 (by decide +kernel)).trans ((W10_of m ρ c main_v0 (by decide +kernel)).trans ((W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide)).trans ((W3_of m ρ c main_v0 (by decide)).trans ((W2_of m ρ c main_v0 (by decide)).trans (V1_main_v0 m ρ c))))))))))))
theorem V14_main_v0 : V14 m ρ c main_v0 = nK m c := (W14_of m ρ c main_v0 (by decide +kernel)).trans ((W13_of m ρ c main_v0 (by decide +kernel)).trans ((W12_of m ρ c main_v0 (by decide +kernel)).trans ((W11_of m ρ c main_v0 (by decide +kernel)).trans ((W10_of m ρ c main_v0 (by decide +kernel)).trans ((W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide)).trans ((W3_of m ρ c main_v0 (by decide)).trans ((W2_of m ρ c main_v0 (by decide)).trans (V1_main_v0 m ρ c)))))))))))))
theorem W5_main_v10 : W5 m ρ c (Proc.devRef .tc main_v10) = mm (nK m c) (wZ (x2 m c)) :=
  (W5_arr m ρ c 2).trans ((final1_2 (V4 m ρ) c).trans (by rw [V4_main_v0 m ρ c, V4_main_v5 m ρ c]))
theorem out_main_v10 : W18 m ρ c (Proc.devRef .tc main_v10) = mm (nK m c) (wZ (x2 m c)) := (W18_of m ρ c main_v10 (by decide)).trans ((W17_of m ρ c main_v10 (by decide +kernel)).trans ((W16_of m ρ c main_v10 (by decide)).trans ((W15_of m ρ c main_v10 (by decide +kernel)).trans ((W14_of m ρ c main_v10 (by decide +kernel)).trans ((W13_of m ρ c main_v10 (by decide +kernel)).trans ((W12_of m ρ c main_v10 (by decide +kernel)).trans ((W11_of m ρ c main_v10 (by decide +kernel)).trans ((W10_of m ρ c main_v10 (by decide +kernel)).trans ((W9_of m ρ c main_v10 (by decide +kernel)).trans ((W8_of m ρ c main_v10 (by decide +kernel)).trans ((W7_of m ρ c main_v10 (by decide +kernel)).trans ((W6_of m ρ c main_v10 (by decide +kernel)).trans (W5_main_v10 m ρ c)))))))))))))
theorem W6_main_v11 : W6 m ρ c (Proc.devRef .tc main_v11) = mm (nK m c) (wX (x2 m c)) :=
  (W6_arr m ρ c 2).trans ((final2_2 (V5 m ρ) c).trans (by rw [V5_main_v0 m ρ c, V5_main_v6 m ρ c]))
theorem out_main_v11 : W18 m ρ c (Proc.devRef .tc main_v11) = mm (nK m c) (wX (x2 m c)) := (W18_of m ρ c main_v11 (by decide)).trans ((W17_of m ρ c main_v11 (by decide +kernel)).trans ((W16_of m ρ c main_v11 (by decide)).trans ((W15_of m ρ c main_v11 (by decide +kernel)).trans ((W14_of m ρ c main_v11 (by decide +kernel)).trans ((W13_of m ρ c main_v11 (by decide +kernel)).trans ((W12_of m ρ c main_v11 (by decide +kernel)).trans ((W11_of m ρ c main_v11 (by decide +kernel)).trans ((W10_of m ρ c main_v11 (by decide +kernel)).trans ((W9_of m ρ c main_v11 (by decide +kernel)).trans ((W8_of m ρ c main_v11 (by decide +kernel)).trans ((W7_of m ρ c main_v11 (by decide +kernel)).trans (W6_main_v11 m ρ c))))))))))))
theorem W7_main_v12 : W7 m ρ c (Proc.devRef .tc main_v12) = mm (nK m c) (wD (x2 m c)) :=
  (W7_arr m ρ c 2).trans ((final3_2 (V6 m ρ) c).trans (by rw [V6_main_v0 m ρ c, V6_main_v8 m ρ c]))
theorem out_main_v12 : W18 m ρ c (Proc.devRef .tc main_v12) = mm (nK m c) (wD (x2 m c)) := (W18_of m ρ c main_v12 (by decide)).trans ((W17_of m ρ c main_v12 (by decide +kernel)).trans ((W16_of m ρ c main_v12 (by decide)).trans ((W15_of m ρ c main_v12 (by decide +kernel)).trans ((W14_of m ρ c main_v12 (by decide +kernel)).trans ((W13_of m ρ c main_v12 (by decide +kernel)).trans ((W12_of m ρ c main_v12 (by decide +kernel)).trans ((W11_of m ρ c main_v12 (by decide +kernel)).trans ((W10_of m ρ c main_v12 (by decide +kernel)).trans ((W9_of m ρ c main_v12 (by decide +kernel)).trans ((W8_of m ρ c main_v12 (by decide +kernel)).trans (W7_main_v12 m ρ c)))))))))))
theorem W8_main_v13 : W8 m ρ c (Proc.devRef .tc main_v13) = mm (nK m c) (wQ (x2 m c)) :=
  (W8_arr m ρ c 2).trans ((final4_2 (V7 m ρ) c).trans (by rw [V7_main_v0 m ρ c, V7_main_v4 m ρ c]))
theorem out_main_v13 : W18 m ρ c (Proc.devRef .tc main_v13) = mm (nK m c) (wQ (x2 m c)) := (W18_of m ρ c main_v13 (by decide)).trans ((W17_of m ρ c main_v13 (by decide +kernel)).trans ((W16_of m ρ c main_v13 (by decide)).trans ((W15_of m ρ c main_v13 (by decide +kernel)).trans ((W14_of m ρ c main_v13 (by decide +kernel)).trans ((W13_of m ρ c main_v13 (by decide +kernel)).trans ((W12_of m ρ c main_v13 (by decide +kernel)).trans ((W11_of m ρ c main_v13 (by decide +kernel)).trans ((W10_of m ρ c main_v13 (by decide +kernel)).trans ((W9_of m ρ c main_v13 (by decide +kernel)).trans (W8_main_v13 m ρ c))))))))))
theorem W9_main_v14 : W9 m ρ c (Proc.devRef .tc main_v14) = mm (nK m c) (wG (x2 m c)) :=
  (W9_arr m ρ c 2).trans ((final5_2 (V8 m ρ) c).trans (by rw [V8_main_v0 m ρ c, V8_main_v9 m ρ c]))
theorem out_main_v14 : W18 m ρ c (Proc.devRef .tc main_v14) = mm (nK m c) (wG (x2 m c)) := (W18_of m ρ c main_v14 (by decide)).trans ((W17_of m ρ c main_v14 (by decide +kernel)).trans ((W16_of m ρ c main_v14 (by decide)).trans ((W15_of m ρ c main_v14 (by decide +kernel)).trans ((W14_of m ρ c main_v14 (by decide +kernel)).trans ((W13_of m ρ c main_v14 (by decide +kernel)).trans ((W12_of m ρ c main_v14 (by decide +kernel)).trans ((W11_of m ρ c main_v14 (by decide +kernel)).trans ((W10_of m ρ c main_v14 (by decide +kernel)).trans (W9_main_v14 m ρ c)))))))))
theorem W10_main_v15 : W10 m ρ c (Proc.devRef .tc main_v15) = dK m c :=
  (W10_arr m ρ c 10).trans ((final6_10 (V9 m ρ) c).trans (by rw [show V9 m ρ c main_arg3 = x3 m c from W9_args m ρ c main_arg3 (by decide), show V9 m ρ c main_arg4 = x4 m c from W9_args m ρ c main_arg4 (by decide), show V9 m ρ c main_arg5 = x5 m c from W9_args m ρ c main_arg5 (by decide), show V9 m ρ c main_arg6 = x6 m c from W9_args m ρ c main_arg6 (by decide), show V9 m ρ c main_arg7 = x7 m c from W9_args m ρ c main_arg7 (by decide), V9_main_v5 m ρ c, V9_main_v6 m ρ c, V9_main_v8 m ρ c, V9_main_v4 m ρ c, V9_main_v9 m ρ c]))
theorem W11_main_v16 : W11 m ρ c (Proc.devRef .tc main_v16) = tT (nK m c) (x3 m c) :=
  (W11_arr m ρ c 2).trans ((final7_2 (V10 m ρ) c).trans (by rw [V10_main_v0 m ρ c, show V10 m ρ c main_arg3 = x3 m c from W10_args m ρ c main_arg3 (by decide)]))
theorem W15_main_v16' : W15 m ρ c (Proc.devRef .tc main_v16) = tT (nK m c) (x3 m c) := (W15_of m ρ c main_v16 (by decide +kernel)).trans ((W14_of m ρ c main_v16 (by decide +kernel)).trans ((W13_of m ρ c main_v16 (by decide +kernel)).trans ((W12_of m ρ c main_v16 (by decide +kernel)).trans (W11_main_v16 m ρ c))))
theorem W12_main_v17 : W12 m ρ c (Proc.devRef .tc main_v17) = tT (nK m c) (x4 m c) :=
  (W12_arr m ρ c 2).trans ((final8_2 (V11 m ρ) c).trans (by rw [V11_main_v0 m ρ c, show V11 m ρ c main_arg4 = x4 m c from W11_args m ρ c main_arg4 (by decide)]))
theorem W15_main_v17' : W15 m ρ c (Proc.devRef .tc main_v17) = tT (nK m c) (x4 m c) := (W15_of m ρ c main_v17 (by decide +kernel)).trans ((W14_of m ρ c main_v17 (by decide +kernel)).trans ((W13_of m ρ c main_v17 (by decide +kernel)).trans (W12_main_v17 m ρ c)))
theorem W13_main_v18 : W13 m ρ c (Proc.devRef .tc main_v18) = tT (nK m c) (x5 m c) :=
  (W13_arr m ρ c 2).trans ((final9_2 (V12 m ρ) c).trans (by rw [V12_main_v0 m ρ c, show V12 m ρ c main_arg5 = x5 m c from W12_args m ρ c main_arg5 (by decide)]))
theorem W15_main_v18' : W15 m ρ c (Proc.devRef .tc main_v18) = tT (nK m c) (x5 m c) := (W15_of m ρ c main_v18 (by decide +kernel)).trans ((W14_of m ρ c main_v18 (by decide +kernel)).trans (W13_main_v18 m ρ c))
theorem W14_main_v19 : W14 m ρ c (Proc.devRef .tc main_v19) = tT (nK m c) (x6 m c) :=
  (W14_arr m ρ c 2).trans ((final10_2 (V13 m ρ) c).trans (by rw [V13_main_v0 m ρ c, show V13 m ρ c main_arg6 = x6 m c from W13_args m ρ c main_arg6 (by decide)]))
theorem W15_main_v19' : W15 m ρ c (Proc.devRef .tc main_v19) = tT (nK m c) (x6 m c) := (W15_of m ρ c main_v19 (by decide +kernel)).trans (W14_main_v19 m ρ c)
theorem W15_main_v20 : W15 m ρ c (Proc.devRef .tc main_v20) = tT (nK m c) (x7 m c) :=
  (W15_arr m ρ c 2).trans ((final11_2 (V14 m ρ) c).trans (by rw [V14_main_v0 m ρ c, show V14 m ρ c main_arg7 = x7 m c from W14_args m ρ c main_arg7 (by decide)]))
theorem W15_main_v20' : W15 m ρ c (Proc.devRef .tc main_v20) = tT (nK m c) (x7 m c) := W15_main_v20 m ρ c
/-- The five parts of the weights' gradient, put side by side. -/
theorem W16_main_v25 : W16 m ρ c (Proc.devRef .tc main_v25) = dwIn (nK m c) (glued (x3 m c) (x4 m c) (x5 m c) (x6 m c) (x7 m c)) := by
  have h : W16 m ρ c (Proc.devRef .tc main_v25) = (concatenate S1024x9232 1 [⟨S1024x1024, (W15 m ρ c (Proc.devRef .tc main_v16) : (⟨S1024x1024, .f32⟩ : BufTy).Contents (Elt Ideal))⟩, ⟨S1024x2048, (W15 m ρ c (Proc.devRef .tc main_v17) : (⟨S1024x2048, .f32⟩ : BufTy).Contents (Elt Ideal))⟩, ⟨S1024x16, (extractStridedSlice S1024x16 ![0, 0] (W15 m ρ c (Proc.devRef .tc main_v18) : FVec Ideal S1024x128 .f32) slices_S1024x128_S1024x16_0_0 : (⟨S1024x16, .f32⟩ : BufTy).Contents (Elt Ideal))⟩, ⟨S1024x4096, (shapeCast S1024x4096 (transpose S1024x4x8x128 [0, 2, 1, 3] (shapeCast S1024x8x4x128 (W15 m ρ c (Proc.devRef .tc main_v19) : FVec Ideal S1024x4096 .f32) shapeCasts_S1024x4096_S1024x8x4x128) transposes_S1024x8x4x128_S1024x4x8x128_0_2_1_3) shapeCasts_S1024x4x8x128_S1024x4096 : (⟨S1024x4096, .f32⟩ : BufTy).Contents (Elt Ideal))⟩, ⟨S1024x2048, (W15 m ρ c (Proc.devRef .tc main_v20) : (⟨S1024x2048, .f32⟩ : BufTy).Contents (Elt Ideal))⟩] concatenates_S1024x1024_S1024x2048_S1024x16_S1024x4096_S1024x2048_S1024x9232_d1 : FVec Ideal S1024x9232 .f32) := by
    after_results_simp <;> (try dsimp only [Matrix.cons_val]) <;> (try after_results_simp) <;> rfl
  rw [h, W15_main_v16', W15_main_v17', W15_main_v18', W15_main_v19', W15_main_v20']
  refine ext2 (m := 1024) (n := 9232) fun r l => ?_
  by_cases h1 : l.val < 1024
  · rw [dwIn_1 _ _ _ _ _ _ _ _ (by omega)]
    pointwise [h1]
    all_goals blk_point []
  by_cases h2 : l.val - 1024 < 2048
  · rw [dwIn_2 _ _ _ _ _ _ _ _ (by omega) (by omega)]
    pointwise [h1, h2]
    all_goals blk_point []
  by_cases h3 : l.val - 1024 - 2048 < 16
  · rw [dwIn_3 _ _ _ _ _ _ _ _ (by omega) (by omega)]
    pointwise [h1, h2, h3]
    all_goals blk_point []
  by_cases h4 : l.val - 1024 - 2048 - 16 < 4096
  · rw [dwIn_4 _ _ _ _ _ _ _ _ (by omega) (by omega)]
    pointwise [h1, h2, h3, h4]
    all_goals blk_point [back]
  rw [dwIn_5 _ _ _ _ _ _ _ _ (by omega)]
  pointwise [h1, h2, h3, h4]
  all_goals blk_point []
theorem out_main_v25 : W18 m ρ c (Proc.devRef .tc main_v25) = dwIn (nK m c) (glued (x3 m c) (x4 m c) (x5 m c) (x6 m c) (x7 m c)) := (W18_of m ρ c main_v25 (by decide)).trans ((W17_of m ρ c main_v25 (by decide +kernel)).trans (W16_main_v25 m ρ c))
theorem V16_main_v15 : V16 m ρ c main_v15 = dK m c := (W16_of m ρ c main_v15 (by decide)).trans ((W15_of m ρ c main_v15 (by decide +kernel)).trans ((W14_of m ρ c main_v15 (by decide +kernel)).trans ((W13_of m ρ c main_v15 (by decide +kernel)).trans ((W12_of m ρ c main_v15 (by decide +kernel)).trans ((W11_of m ρ c main_v15 (by decide +kernel)).trans (W10_main_v15 m ρ c))))))
theorem W17_main_v26_0 : W17 m ρ c (Proc.devRef .tc main_v26_0) = dnormed (x0 m c) (x1 m c) (dK m c) (x8 m c) :=
  (W17_arr m ρ c 4).trans ((final12_4 (V16 m ρ) c).trans (by rw [show V16 m ρ c main_arg0 = x0 m c from W16_args m ρ c main_arg0 (by decide), show V16 m ρ c main_arg1 = x1 m c from W16_args m ρ c main_arg1 (by decide), V16_main_v15 m ρ c, show V16 m ρ c main_arg8 = x8 m c from W16_args m ρ c main_arg8 (by decide)]))
theorem out_main_v26_0 : W18 m ρ c (Proc.devRef .tc main_v26_0) = dnormed (x0 m c) (x1 m c) (dK m c) (x8 m c) := (W18_of m ρ c main_v26_0 (by decide)).trans (W17_main_v26_0 m ρ c)
theorem W17_main_v26_1 : W17 m ρ c (Proc.devRef .tc main_v26_1) = fun i : S8x1024.Idx => if (i 0).val = 0 then dweight (x0 m c) (dK m c) (ix2 0 (i 1)) else 0 :=
  (W17_arr m ρ c 5).trans ((final12_5 (V16 m ρ) c).trans (by rw [show V16 m ρ c main_arg0 = x0 m c from W16_args m ρ c main_arg0 (by decide), V16_main_v15 m ρ c]))
theorem out_main_v27 : W18 m ρ c (Proc.devRef .tc main_v27) = dweight (x0 m c) (dK m c) := by
  have h : W18 m ρ c (Proc.devRef .tc main_v27) = (extractStridedSlice S1x1024 ![0, 0] (W17 m ρ c (Proc.devRef .tc main_v26_1) : FVec Ideal S8x1024 .f32) slices_S8x1024_S1x1024_0_0 : FVec Ideal S1x1024 .f32) := by
    after_results_simp <;> rfl
  rw [h, W17_main_v26_1]
  funext i
  pointwise []
  exact congrArg (dweight (x0 m c) (dK m c)) (by
    funext a
    match a with
    | 0 => exact Fin.ext (by have := (i 0).isLt; simp at this ⊢)
    | 1 => rfl)

end Cert.Kernel3Ideal.In
end
-- ==== Proof.InRef.lean ====
module
public import proofs.«01_k».proof.Proof.Gen.Reference3Ideal.Run
public import proofs.«01_k».proof.Proof.FfnRef
public import proofs.«01_k».proof.Proof.InExt

/-! # The reference of the input projection, entry by entry

The columns of the one product are those of five products; the gradient of the normed rows is a product over all the columns of the
five gradients side by side, which is a sum of five products; the weights' gradient is one product with these columns. -/

@[expose] public section
set_option maxRecDepth 16384
noncomputable section
namespace Cert.Reference3Ideal.In
open Cert.Reference3Ideal Cert.Reference3Ideal.Gen Idealize.ShloMosaic Cert.Merge Cert.Ffn Cert.InProj

variable (a2 : FVec Ideal S1024x9232 .bf16) (a3 : FVec Ideal S4352x1024 .bf16) (a4 : FVec Ideal S4352x2048 .bf16) (a5 : FVec Ideal S4352x128 .f32)
  (a6 : FVec Ideal S4352x4096 .bf16) (a7 : FVec Ideal S4352x2048 .bf16) (n : FVec Ideal S4352x1024 .f32)

/-- The one product. -/
def pT : FVec Ideal S4352x9232 .f32 := (Host.dotGeneral dot_S4352x1024_S1024x9232_S4352x9232_1_0_0_1_n_n none n (extf .f32 a2 bitsLt_bf16_f32))
theorem pT_eq (i : S4352x9232.Idx) : pT a2 n i = mm n a2 i := by
  pointwise [pT, mm]
  all_goals blk_point []

/-- The columns of z. -/
theorem out_z : (truncf .bf16 (extractStridedSlice S4352x1024 ![0, 0] (pT a2 n) slices_S4352x9232_S4352x1024_0_0) bitsLt_bf16_f32 : FVec Ideal S4352x1024 .bf16)
    = mm n (wZ a2) := by
  funext i
  pointwise [pT_eq, mm, wZ]
  all_goals blk_point []

/-- The columns of the convolution's input. -/
theorem out_x : (extractStridedSlice S4352x2048 ![0, 1024] (pT a2 n) slices_S4352x9232_S4352x2048_0_1024 : FVec Ideal S4352x2048 .f32)
    = mm n (wX a2) := by
  funext i
  pointwise [pT_eq, mm, wX]
  all_goals blk_point []

/-- The columns of the time steps, and zeros. -/
theorem out_d : (concatenate S4352x128 1 [⟨S4352x16, (extractStridedSlice S4352x16 ![0, 3072] (pT a2 n) slices_S4352x9232_S4352x16_0_3072)⟩, ⟨S4352x112, (broadcastInDim S4352x112 ![] bcast_S_S4352x112 (constant S_ .f32 0x00000000#32))⟩] concatenates_S4352x16_S4352x112_S4352x128_d1 : FVec Ideal S4352x128 .f32)
    = mm n (wD a2) := by
  refine ext2 (m := 4352) (n := 128) fun r l => ?_
  have e : mm n (wD a2) (ix2 r l) = ∑ k : Fin 1024, n (ix2 r k) * wD a2 (ix2 k l) := rfl
  rw [e]
  by_cases h : l.val < 16
  · simp only [wD_lo _ _ _ h]
    pointwise [pT_eq, mm, h]
    all_goals blk_point []
  · simp only [wD_hi _ _ _ h, mul_zero, Finset.sum_const_zero]
    pointwise [pT_eq, mm, h]

/-- The columns of the second mixer, head by head. -/
theorem out_q : (shapeCast S4352x4096 (transpose S4352x8x4x128 [0, 2, 1, 3] (shapeCast S4352x4x8x128 (extractStridedSlice S4352x4096 ![0, 3088] (pT a2 n) slices_S4352x9232_S4352x4096_0_3088) shapeCasts_S4352x4096_S4352x4x8x128) transposes_S4352x4x8x128_S4352x8x4x128_0_2_1_3) shapeCasts_S4352x8x4x128_S4352x4096 : FVec Ideal S4352x4096 .f32)
    = mm n (wQ a2) := by
  funext i
  pointwise [pT_eq, mm, wQ, perm]
  all_goals blk_point []

/-- The columns of the gates. -/
theorem out_g : (truncf .bf16 (extractStridedSlice S4352x2048 ![0, 7184] (pT a2 n) slices_S4352x9232_S4352x2048_0_7184) bitsLt_bf16_f32 : FVec Ideal S4352x2048 .bf16)
    = mm n (wG a2) := by
  funext i
  pointwise [pT_eq, mm, wG]
  all_goals blk_point []

/-- The five gradients side by side. -/
def cT : FVec Ideal S4352x9232 .f32 := ((concatenate S4352x9232 1 [⟨S4352x1024, ((extf .f32 a3 bitsLt_bf16_f32) : (⟨S4352x1024, .f32⟩ : BufTy).Contents (Elt Ideal))⟩, ⟨S4352x2048, ((extf .f32 a4 bitsLt_bf16_f32) : (⟨S4352x2048, .f32⟩ : BufTy).Contents (Elt Ideal))⟩, ⟨S4352x16, ((extractStridedSlice S4352x16 ![0, 0] a5 slices_S4352x128_S4352x16_0_0) : (⟨S4352x16, .f32⟩ : BufTy).Contents (Elt Ideal))⟩, ⟨S4352x4096, ((shapeCast S4352x4096 (transpose S4352x4x8x128 [0, 2, 1, 3] (shapeCast S4352x8x4x128 (extf .f32 a6 bitsLt_bf16_f32) shapeCasts_S4352x4096_S4352x8x4x128) transposes_S4352x8x4x128_S4352x4x8x128_0_2_1_3) shapeCasts_S4352x4x8x128_S4352x4096) : (⟨S4352x4096, .f32⟩ : BufTy).Contents (Elt Ideal))⟩, ⟨S4352x2048, ((extf .f32 a7 bitsLt_bf16_f32) : (⟨S4352x2048, .f32⟩ : BufTy).Contents (Elt Ideal))⟩] concatenates_S4352x1024_S4352x2048_S4352x16_S4352x4096_S4352x2048_S4352x9232_d1 : (⟨S4352x9232, .f32⟩ : BufTy).Contents (Elt Ideal)))
theorem cT_eq : cT a3 a4 a5 a6 a7 = glued a3 a4 a5 a6 a7 := by
  refine ext2 (m := 4352) (n := 9232) fun r l => ?_
  by_cases h1 : l.val < 1024
  · rw [glued_1 _ _ _ _ _ _ _ (by omega)]
    pointwise [cT, h1]
    all_goals blk_point []
  by_cases h2 : l.val - 1024 < 2048
  · rw [glued_2 _ _ _ _ _ _ _ (by omega) (by omega)]
    pointwise [cT, h1, h2]
    all_goals blk_point []
  by_cases h3 : l.val - 1024 - 2048 < 16
  · rw [glued_3 _ _ _ _ _ _ _ (by omega) (by omega)]
    pointwise [cT, h1, h2, h3]
    all_goals blk_point []
  by_cases h4 : l.val - 1024 - 2048 - 16 < 4096
  · rw [glued_4 _ _ _ _ _ _ _ (by omega) (by omega)]
    pointwise [cT, h1, h2, h3, h4]
    all_goals blk_point [back]
  rw [glued_5 _ _ _ _ _ _ _ (by omega)]
  pointwise [cT, h1, h2, h3, h4]
  all_goals blk_point []

/-- The gradient of the normed rows. -/
theorem dn_eq : (Host.dotGeneral dot_S4352x9232_S1024x9232_S4352x1024_1_1_0_0_n_n none (cT a3 a4 a5 a6 a7) (extf .f32 a2 bitsLt_bf16_f32) : FVec Ideal S4352x1024 .f32)
    = five a3 a4 a5 a6 a7 (wZ a2) (wX a2) (wD a2) (wQ a2) (wG a2) := by
  rw [cT_eq]
  funext i
  refine Eq.trans ?_ (sum_glued a3 a4 a5 a6 a7 a2 (i 0) (i 1))
  pointwise []
  all_goals blk_point []

/-- The weights' gradient. -/
theorem out_dw : (transpose S1024x9232 [1, 0] (Host.dotGeneral dot_S4352x9232_S4352x1024_S9232x1024_0_0_1_1_n_n none (cT a3 a4 a5 a6 a7) n) transposes_S9232x1024_S1024x9232_1_0 : FVec Ideal S1024x9232 .f32)
    = dwIn n (glued a3 a4 a5 a6 a7) := by
  rw [cT_eq]
  funext i
  have h : dwIn n (glued a3 a4 a5 a6 a7) i = ∑ k : Fin 4352, glued a3 a4 a5 a6 a7 (ix2 k (i 1)) * n (ix2 k (i 0)) :=
    Finset.sum_congr rfl fun k _ => mul_comm _ _
  rw [h]
  pointwise []
  all_goals blk_point []

end Cert.Reference3Ideal.In
end
-- ==== Proof.InRun.lean ====
module
public import proofs.«01_k».proof.Proof.Gen.Kernel3Ideal.Frame

/-! # The run of the input projection, with its results

The launch read at the end: besides the unchanged arguments, every result buffer holds what the last boundary of the program
says. -/

@[expose] public section

-- membership in a rectangle of production extents (`View.cover_of_tiled`): the elaborator's structural look
-- recurses once per coordinate of the long axes
set_option maxRecDepth 16384

noncomputable section

namespace Cert.Kernel3Ideal.In

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends, with the results of the last boundary and the arguments as launched. -/
theorem run : θ_run defs (onTc (τ := τ) (main (F := F))) ⟨m, fun _ => 0, ρ⟩ (fun r => ∀ c : Dev nD,
      r.2.mem ((c.tc : Thread nD τ).loc main_v10) = W18 m ρ c (Proc.devRef .tc main_v10)
      ∧ r.2.mem ((c.tc : Thread nD τ).loc main_v11) = W18 m ρ c (Proc.devRef .tc main_v11)
      ∧ r.2.mem ((c.tc : Thread nD τ).loc main_v12) = W18 m ρ c (Proc.devRef .tc main_v12)
      ∧ r.2.mem ((c.tc : Thread nD τ).loc main_v13) = W18 m ρ c (Proc.devRef .tc main_v13)
      ∧ r.2.mem ((c.tc : Thread nD τ).loc main_v14) = W18 m ρ c (Proc.devRef .tc main_v14)
      ∧ r.2.mem ((c.tc : Thread nD τ).loc main_v26_0) = W18 m ρ c (Proc.devRef .tc main_v26_0)
      ∧ r.2.mem ((c.tc : Thread nD τ).loc main_v27) = W18 m ρ c (Proc.devRef .tc main_v27)
      ∧ r.2.mem ((c.tc : Thread nD τ).loc main_v25) = W18 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz c =>
      ⟨h c _ (mem_uc main_v10 (by decide)),
       h c _ (mem_uc main_v11 (by decide)),
       h c _ (mem_uc main_v12 (by decide)),
       h c _ (mem_uc main_v13 (by decide)),
       h c _ (mem_uc main_v14 (by decide)),
       h c _ (mem_uc main_v26_0 (by decide)),
       h c _ (mem_uc main_v27 (by decide)),
       h c _ (mem_uc main_v25 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c)⟩)

end Cert.Kernel3Ideal.In

end
-- ==== Proof.InAll.lean ====
module
public import proofs.«01_k».proof.Proof.InChain
public import proofs.«01_k».proof.Proof.InRef
public import proofs.«01_k».proof.Proof.InRun
public import proofs.«01_k».proof.Proof.Gen.Kernel3.Frame
public import proofs.«01_k».proof.Proof.Gen.Kernel3Ideal.Frame
public import proofs.«01_k».proof.Defs

/-! # The input projection computes its reference's results, of all arguments -/

@[expose] public section
set_option maxRecDepth 16384
noncomputable section
namespace Cert.Proof
open Idealize.ShloMosaic Idealize.ShloMosaic.TcCoe Idealize.SL.Sem Cert.Merge Cert.Ffn Cert.InProj

/-- The kernel's frame over the bits. -/
theorem frame_kernel3 : Cert.quiescent_Kernel3 := fun m ρ _ => Cert.Kernel3.Gen.frame m ρ

/-- The kernel's frame over the extended reals. -/
theorem frame_ideal3 : Cert.quiescent_Kernel3Ideal := fun m ρ _ => Cert.Kernel3Ideal.Gen.frame m ρ

/-- The reference's frame: it writes no argument, and has no semaphore. -/
theorem frame_reference3 : Cert.quiescent_Reference3Ideal := fun m ρ _ =>
  (θ_run Cert.Reference3Ideal.defs _ _).mono (fun r h => ⟨fun c => (h c).2.2.2.2.2.2.2.2,
    Idealize.ShloMosaic.sem_eq_zero_of_no_sems (by decide) r.2⟩) (Cert.Reference3Ideal.Value.run m ρ)

set_option maxHeartbeats 2000000 in
open Cert.Kernel3Ideal.In in
/-- The kernel's eight results are the reference's. -/
theorem algebraic3 : Cert.algebraic_Kernel3Ideal_Reference3Ideal := by
  intro m ρ m' ρ' _ hargs
  refine ⟨fun c => Cert.Kernel3Ideal.Gen.W18 m ρ c (Proc.devRef .tc Cert.Kernel3Ideal.main_v10), fun c => Cert.Kernel3Ideal.Gen.W18 m ρ c (Proc.devRef .tc Cert.Kernel3Ideal.main_v11), fun c => Cert.Kernel3Ideal.Gen.W18 m ρ c (Proc.devRef .tc Cert.Kernel3Ideal.main_v12), fun c => Cert.Kernel3Ideal.Gen.W18 m ρ c (Proc.devRef .tc Cert.Kernel3Ideal.main_v13), fun c => Cert.Kernel3Ideal.Gen.W18 m ρ c (Proc.devRef .tc Cert.Kernel3Ideal.main_v14), fun c => Cert.Kernel3Ideal.Gen.W18 m ρ c (Proc.devRef .tc Cert.Kernel3Ideal.main_v26_0), fun c => Cert.Kernel3Ideal.Gen.W18 m ρ c (Proc.devRef .tc Cert.Kernel3Ideal.main_v27), fun c => Cert.Kernel3Ideal.Gen.W18 m ρ c (Proc.devRef .tc Cert.Kernel3Ideal.main_v25),
    run m ρ, (θ_run Cert.Reference3Ideal.defs _ _).mono (fun r h c => ?_) (Cert.Reference3Ideal.Value.run m' ρ')⟩
  obtain ⟨e0, e1, e2, e3, e4, e5, e6, e7, e8⟩ := hargs c
  obtain ⟨r0, r1, r2, r3, r4, r5, r6, r7, hA⟩ := h c
  have hn : Cert.Reference2Ideal.Ffn.nT (x0 m c) (x1 m c) = nK m c := Cert.Reference2Ideal.Ffn.nT_eq _ _
  have hd := Cert.Reference3Ideal.In.dn_eq (x2 m c) (x3 m c) (x4 m c) (x5 m c) (x6 m c) (x7 m c)
  refine ⟨r0.trans ?_, r1.trans ?_, r2.trans ?_, r3.trans ?_, r4.trans ?_, r5.trans ?_, r6.trans ?_, r7.trans ?_, hA⟩
  · rw [e0, e1, e2]
    exact (Cert.Reference3Ideal.In.out_z (x2 m c) (Cert.Reference2Ideal.Ffn.nT (x0 m c) (x1 m c))).trans ((congrArg (fun n => mm n (wZ (x2 m c))) hn).trans (out_main_v10 m ρ c).symm)
  · rw [e0, e1, e2]
    exact (Cert.Reference3Ideal.In.out_x (x2 m c) (Cert.Reference2Ideal.Ffn.nT (x0 m c) (x1 m c))).trans ((congrArg (fun n => mm n (wX (x2 m c))) hn).trans (out_main_v11 m ρ c).symm)
  · rw [e0, e1, e2]
    exact (Cert.Reference3Ideal.In.out_d (x2 m c) (Cert.Reference2Ideal.Ffn.nT (x0 m c) (x1 m c))).trans ((congrArg (fun n => mm n (wD (x2 m c))) hn).trans (out_main_v12 m ρ c).symm)
  · rw [e0, e1, e2]
    exact (Cert.Reference3Ideal.In.out_q (x2 m c) (Cert.Reference2Ideal.Ffn.nT (x0 m c) (x1 m c))).trans ((congrArg (fun n => mm n (wQ (x2 m c))) hn).trans (out_main_v13 m ρ c).symm)
  · rw [e0, e1, e2]
    exact (Cert.Reference3Ideal.In.out_g (x2 m c) (Cert.Reference2Ideal.Ffn.nT (x0 m c) (x1 m c))).trans ((congrArg (fun n => mm n (wG (x2 m c))) hn).trans (out_main_v14 m ρ c).symm)
  · unfold Cert.Reference3Ideal.Value.res_main_v62
    rw [e0, e1, e2, e3, e4, e5, e6, e7, e8]
    exact (Cert.Reference2Ideal.Ffn.ref_dh _ _ _ _).trans ((congrArg (fun d => dnormed (x0 m c) (x1 m c) d (x8 m c)) hd).trans (out_main_v26_0 m ρ c).symm)
  · rw [e0, e2, e3, e4, e5, e6, e7]
    exact (Cert.Reference2Ideal.Ffn.ref_dnw _ _).trans ((congrArg (fun d => dweight (x0 m c) d) hd).trans (out_main_v27 m ρ c).symm)
  · rw [e0, e1, e3, e4, e5, e6, e7]
    exact (Cert.Reference3Ideal.In.out_dw (x3 m c) (x4 m c) (x5 m c) (x6 m c) (x7 m c) (Cert.Reference2Ideal.Ffn.nT (x0 m c) (x1 m c))).trans ((congrArg (fun n => dwIn n (glued (x3 m c) (x4 m c) (x5 m c) (x6 m c) (x7 m c))) hn).trans (out_main_v25 m ρ c).symm)

end Cert.Proof
end
-- ==== Proof.SsdSpec.lean ====
module
public import proofs.«01_k».proof.Kernel4Ideal
public import Idealize.ShloMosaic.Lib.Pipeline.ValueKit

/-! # The mathematics of the scan's gate and grouped norm, row by row

The scan's output `y` times `silu z`, each group of 256 columns over the root of its mean square, times the weight: what the
gradient of this is, for one row of each array and the row `d` of the result's gradient. -/

@[expose] public section
set_option maxRecDepth 16384
noncomputable section
open Idealize.ShloMosaic
namespace Cert.Ssd

/-- A row of 1024 columns. -/
abbrev Row := Fin 1024 → EReal

/-- The column at place `l` of the group of column `q`. -/
def col (q : Fin 1024) (l : Fin 256) : Fin 1024 := ⟨256 * (q.val / 256) + l.val, by omega⟩

variable (y z w d : Row) (q : Fin 1024)

/-- The gate's factor. -/
def gate : EReal := z q * Ideal.logistic (z q)
/-- The gated row. -/
def gated : EReal := y q * gate z q
/-- The mean square of the group of column `q`, plus the norm's small constant. -/
def msq : EReal := Ideal.div (∑ l : Fin 256, gated y z (col q l) * gated y z (col q l)) (Ideal.ofBits .f32 0x43800000#32)
  + Ideal.ofBits .f32 0x358637BD#32
/-- One over its root. -/
def rsq : EReal := Ideal.rsqrt (msq y z q)
/-- The gradient of the normed row, before the weight. -/
def dw : EReal := d q * w q
/-- The gradient of the mean square over the group, for one column. -/
def coef : EReal := Ideal.div ((∑ l : Fin 256, gated y z (col q l) * dw w d (col q l))
  * (Ideal.ofBits .f32 0xBF000000#32 * Ideal.div (rsq y z q) (msq y z q))) (Ideal.ofBits .f32 0x43800000#32)
/-- The gradient of the gated row. -/
def dgated : EReal := dw w d q * rsq y z q + gated y z q * coef y z w d q + coef y z w d q * gated y z q
/-- The gradient of the gate's argument. -/
def dzRow : EReal := y q * dgated y z w d q * Ideal.logistic (z q)
  + z q * (y q * dgated y z w d q) * (Ideal.logistic (z q) * (1 - Ideal.logistic (z q)))
/-- The gradient of the scan's output. -/
def dyRow : EReal := dgated y z w d q * gate z q
/-- What the row adds to the weight's gradient. -/
def dnwRow : EReal := gated y z q * rsq y z q * d q

end Cert.Ssd
end
-- ==== Proof.SsdGate.lean ====
module
public import proofs.«01_k».proof.Proof.Gen.Kernel4Ideal.Skeleton
public import proofs.«01_k».proof.Proof.SsdSpec

/-! # The kernel's gate and norm gradient at a point, row by row -/

@[expose] public section
set_option maxRecDepth 16384
noncomputable section
open Idealize.ShloMosaic Idealize.ShloMosaic.TcCoe
namespace Cert.Kernel4Ideal.Ssd
open Cert.Kernel4Ideal Cert.Kernel4Ideal.Gen Cert.Ssd

variable (vy vz : FVec Ideal S128x1024 .f32) (vw : Vec Ideal S1x1024 .f32) (vd : FVec Ideal S128x1024 .f32)

/-- A row of a block. -/
def rowOf (v : FVec Ideal S128x1024 .f32) (r : Fin 128) : Row := fun q => v (ix2 r q)
/-- The weight's row. -/
def rowW (v : Vec Ideal S1x1024 .f32) : Row := fun q => v (ix2 0 q)

theorem gated_at (r : Fin 128) (q : Fin 1024) : k0_pay369 vy vz (ix2 r q) = gated (rowOf vy r) (rowOf vz r) q := by
  pointwise [k0_pay369, k0_pay368, k0_pay366, gated, gate, rowOf]

theorem dw_at (r : Fin 128) (q : Fin 1024) : k0_pay399 vw vd (ix2 r q) = dw (rowW vw) (rowOf vd r) q := by
  pointwise [k0_pay399, dw, rowOf, rowW]

/-- The column of a group, by the group's number. -/
theorem col_of (q : Fin 1024) (l : Fin 256) (k : ℕ) (h : q.val / 256 = k) (hk : 256 * k + l.val < 1024) : col q l = ⟨256 * k + l.val, hk⟩ := by
  subst h; rfl

section
variable (r : Fin 128) (l : Fin 256) (q : Fin 1024)
theorem g0 (h : q.val / 256 = 0) : k0_pay370 vy vz (ix2 r l) = gated (rowOf vy r) (rowOf vz r) (col q l) := by
  rw [← gated_at, col_of q l 0 h (by omega)]; pointwise [k0_pay370]
theorem g1 (h : q.val / 256 = 1) : k0_pay375 vy vz (ix2 r l) = gated (rowOf vy r) (rowOf vz r) (col q l) := by
  rw [← gated_at, col_of q l 1 h (by omega)]; pointwise [k0_pay375]
theorem g2 (h : q.val / 256 = 2) : k0_pay379 (k0_pay369 vy vz) (ix2 r l) = gated (rowOf vy r) (rowOf vz r) (col q l) := by
  rw [← gated_at, col_of q l 2 h (by omega)]; pointwise [k0_pay379]
theorem g3 (h : q.val / 256 = 3) : k0_pay383 (k0_pay369 vy vz) (ix2 r l) = gated (rowOf vy r) (rowOf vz r) (col q l) := by
  rw [← gated_at, col_of q l 3 h (by omega)]; pointwise [k0_pay383]
theorem d0 (h : q.val / 256 = 0) : k0_pay400 vw vd (ix2 r l) = dw (rowW vw) (rowOf vd r) (col q l) := by
  rw [← dw_at, col_of q l 0 h (by omega)]; pointwise [k0_pay400]
theorem d1 (h : q.val / 256 = 1) : k0_pay401 vw vd (ix2 r l) = dw (rowW vw) (rowOf vd r) (col q l) := by
  rw [← dw_at, col_of q l 1 h (by omega)]; pointwise [k0_pay401]
theorem d2 (h : q.val / 256 = 2) : k0_pay402 vw vd (ix2 r l) = dw (rowW vw) (rowOf vd r) (col q l) := by
  rw [← dw_at, col_of q l 2 h (by omega)]; pointwise [k0_pay402]
theorem m0 (h : q.val / 256 = 0) (j : Fin 1) : k0_pay371 vy vz (ix2 r j) = msq (rowOf vy r) (rowOf vz r) q := by
  pointwise [k0_pay371]
  simp only [g0 vy vz r _ q h, msq]
theorem i0 (h : q.val / 256 = 0) (j : Fin 1) : k0_pay372 vy vz (ix2 r j) = rsq (rowOf vy r) (rowOf vz r) q := by
  pointwise [k0_pay372]
  simp only [m0 vy vz r q h, rsq]
theorem c0 (h : q.val / 256 = 0) (j : Fin 1) : k0_pay373 vy vz (ix2 r j)
    = Ideal.ofBits .f32 0xBF000000#32 * Ideal.div (rsq (rowOf vy r) (rowOf vz r) q) (msq (rowOf vy r) (rowOf vz r) q) := by
  pointwise [k0_pay373]
  simp only [m0 vy vz r q h, i0 vy vz r q h]
theorem m1 (h : q.val / 256 = 1) (j : Fin 1) : k0_pay376 (k0_pay375 vy vz) (ix2 r j) = msq (rowOf vy r) (rowOf vz r) q := by
  pointwise [k0_pay376]
  simp only [g1 vy vz r _ q h, msq]
theorem i1 (h : q.val / 256 = 1) (j : Fin 1) : k0_pay377 (k0_pay375 vy vz) (ix2 r j) = rsq (rowOf vy r) (rowOf vz r) q := by
  pointwise [k0_pay377]
  simp only [m1 vy vz r q h, rsq]
theorem c1 (h : q.val / 256 = 1) (j : Fin 1) : k0_pay378 (k0_pay375 vy vz) (ix2 r j)
    = Ideal.ofBits .f32 0xBF000000#32 * Ideal.div (rsq (rowOf vy r) (rowOf vz r) q) (msq (rowOf vy r) (rowOf vz r) q) := by
  pointwise [k0_pay378]
  simp only [m1 vy vz r q h, i1 vy vz r q h]
theorem m2 (h : q.val / 256 = 2) (j : Fin 1) : k0_pay380 (k0_pay369 vy vz) (ix2 r j) = msq (rowOf vy r) (rowOf vz r) q := by
  pointwise [k0_pay380]
  simp only [g2 vy vz r _ q h, msq]
theorem i2 (h : q.val / 256 = 2) (j : Fin 1) : k0_pay381 (k0_pay369 vy vz) (ix2 r j) = rsq (rowOf vy r) (rowOf vz r) q := by
  pointwise [k0_pay381]
  simp only [m2 vy vz r q h, rsq]
theorem c2 (h : q.val / 256 = 2) (j : Fin 1) : k0_pay382 (k0_pay369 vy vz) (ix2 r j)
    = Ideal.ofBits .f32 0xBF000000#32 * Ideal.div (rsq (rowOf vy r) (rowOf vz r) q) (msq (rowOf vy r) (rowOf vz r) q) := by
  pointwise [k0_pay382]
  simp only [m2 vy vz r q h, i2 vy vz r q h]
theorem m3 (h : q.val / 256 = 3) (j : Fin 1) : k0_pay384 (k0_pay369 vy vz) (ix2 r j) = msq (rowOf vy r) (rowOf vz r) q := by
  pointwise [k0_pay384]
  simp only [g3 vy vz r _ q h, msq]
theorem i3 (h : q.val / 256 = 3) (j : Fin 1) : k0_pay385 (k0_pay369 vy vz) (ix2 r j) = rsq (rowOf vy r) (rowOf vz r) q := by
  pointwise [k0_pay385]
  simp only [m3 vy vz r q h, rsq]
theorem c3 (h : q.val / 256 = 3) (j : Fin 1) : k0_pay386 (k0_pay369 vy vz) (ix2 r j)
    = Ideal.ofBits .f32 0xBF000000#32 * Ideal.div (rsq (rowOf vy r) (rowOf vz r) q) (msq (rowOf vy r) (rowOf vz r) q) := by
  pointwise [k0_pay386]
  simp only [m3 vy vz r q h, i3 vy vz r q h]
end

end Cert.Kernel4Ideal.Ssd
end
-- ==== Proof.SsdGrad.lean ====
module
public import proofs.«01_k».proof.Proof.SsdGate

/-! # The gate's and the norm's gradients, as the kernel stores them -/

@[expose] public section
set_option maxRecDepth 16384
noncomputable section
open Idealize.ShloMosaic Idealize.ShloMosaic.TcCoe
namespace Cert.Kernel4Ideal.Ssd
open Cert.Kernel4Ideal Cert.Kernel4Ideal.Gen Cert.Ssd

variable (vy vz : FVec Ideal S128x1024 .f32) (vw : Vec Ideal S1x1024 .f32) (vd : FVec Ideal S128x1024 .f32)

/-- The gradient of the gated rows, as the kernel forms it: one group of columns after the other. -/
def kdg : FVec Ideal S128x1024 .f32 := k0_pay406 (k0_pay370 vy vz) (k0_pay372 vy vz) (k0_pay373 vy vz) (k0_pay375 vy vz) (k0_pay377 (k0_pay375 vy vz)) (k0_pay378 (k0_pay375 vy vz)) (k0_pay379 (k0_pay369 vy vz)) (k0_pay400 vw vd) (k0_pay401 vw vd) (k0_pay403 vw (k0_pay383 (k0_pay369 vy vz)) (k0_pay385 (k0_pay369 vy vz)) (k0_pay386 (k0_pay369 vy vz)) vd) (k0_pay404 vw (k0_pay379 (k0_pay369 vy vz)) (k0_pay382 (k0_pay369 vy vz)) vd) (k0_pay405 vw (k0_pay379 (k0_pay369 vy vz)) (k0_pay381 (k0_pay369 vy vz)) (k0_pay382 (k0_pay369 vy vz)) vd)
/-- The gradient of the scan's output. -/
def kdy : FVec Ideal S128x1024 .f32 := k0_pay407 (k0_pay368 vz) (k0_pay370 vy vz) (k0_pay372 vy vz) (k0_pay373 vy vz) (k0_pay375 vy vz) (k0_pay377 (k0_pay375 vy vz)) (k0_pay378 (k0_pay375 vy vz)) (k0_pay379 (k0_pay369 vy vz)) (k0_pay400 vw vd) (k0_pay401 vw vd) (k0_pay403 vw (k0_pay383 (k0_pay369 vy vz)) (k0_pay385 (k0_pay369 vy vz)) (k0_pay386 (k0_pay369 vy vz)) vd) (k0_pay404 vw (k0_pay379 (k0_pay369 vy vz)) (k0_pay382 (k0_pay369 vy vz)) vd) (k0_pay405 vw (k0_pay379 (k0_pay369 vy vz)) (k0_pay381 (k0_pay369 vy vz)) (k0_pay382 (k0_pay369 vy vz)) vd)
/-- The gradient of the gate's argument. -/
def kdz : FVec Ideal S128x1024 .f32 := k0_pay408 vy vz (k0_pay366 vz) (k0_pay367 vz) (k0_pay370 vy vz) (k0_pay372 vy vz) (k0_pay373 vy vz) (k0_pay375 vy vz) (k0_pay377 (k0_pay375 vy vz)) (k0_pay378 (k0_pay375 vy vz)) (k0_pay379 (k0_pay369 vy vz)) (k0_pay400 vw vd) (k0_pay401 vw vd) (k0_pay403 vw (k0_pay383 (k0_pay369 vy vz)) (k0_pay385 (k0_pay369 vy vz)) (k0_pay386 (k0_pay369 vy vz)) vd) (k0_pay404 vw (k0_pay379 (k0_pay369 vy vz)) (k0_pay382 (k0_pay369 vy vz)) vd) (k0_pay405 vw (k0_pay379 (k0_pay369 vy vz)) (k0_pay381 (k0_pay369 vy vz)) (k0_pay382 (k0_pay369 vy vz)) vd)
/-- What a block adds to the weight's gradient. -/
def kdnw : FVec Ideal S1x1024 .f32 := k0_pay398 (k0_pay387 (k0_pay369 vy vz) (k0_pay374 vy vz) (k0_pay375 vy vz)) vd

theorem place (q : Fin 1024) (k : ℕ) (h : q.val / 256 = k) (l : Fin 256) (hl : l.val = q.val - 256 * k) : col q l = q := by
  apply Fin.ext; simp only [col]; omega

variable (r : Fin 128) (q : Fin 1024)

theorem d3 (l : Fin 256) (h : q.val / 256 = 3) (hl : 768 + l.val < 1024) :
    k0_pay399 vw vd (ix2 r ⟨768 + l.val, hl⟩) = dw (rowW vw) (rowOf vd r) (col q l) := by
  rw [dw_at, col_of q l 3 h (by omega)]
theorem d3' (l : ℕ) (h : q.val / 256 = 3) (hl : 768 + l < 1024) (e : 768 + l = q.val) :
    k0_pay399 vw vd (ix2 r ⟨768 + l, hl⟩) = dw (rowW vw) (rowOf vd r) q := by
  rw [dw_at]; congr 1; exact Fin.ext e

theorem dgated_0 (h : q.val / 256 = 0) : kdg vy vz vw vd (ix2 r q) = dgated (rowOf vy r) (rowOf vz r) (rowW vw) (rowOf vd r) q := by
  unfold kdg
  pointwise [k0_pay406, k0_pay403, k0_pay404, k0_pay405]
  simp only [dif_pos (show q.val < 256 by omega), dif_pos (show q.val < 512 by omega), dif_pos (show q.val < 768 by omega), zero_add, add_zero, Fin.sum_univ_one, Fintype.sum_unique, Finset.univ_unique, Finset.sum_singleton, g0 vy vz r _ q h, c0 vy vz r q h, i0 vy vz r q h, d0 vw vd r _ q h]
  rw [place q 0 h _ (by simp)]
  simp only [dgated, coef]

theorem dgated_1 (h : q.val / 256 = 1) : kdg vy vz vw vd (ix2 r q) = dgated (rowOf vy r) (rowOf vz r) (rowW vw) (rowOf vd r) q := by
  unfold kdg
  pointwise [k0_pay406, k0_pay403, k0_pay404, k0_pay405]
  simp only [dif_neg (show ¬ q.val < 256 by omega), dif_pos (show q.val < 512 by omega), dif_pos (show q.val < 768 by omega), zero_add, add_zero, Fin.sum_univ_one, Fintype.sum_unique, Finset.univ_unique, Finset.sum_singleton, g1 vy vz r _ q h, c1 vy vz r q h, i1 vy vz r q h, d1 vw vd r _ q h]
  rw [place q 1 h _ rfl]
  simp only [dgated, coef]

theorem dgated_2 (h : q.val / 256 = 2) : kdg vy vz vw vd (ix2 r q) = dgated (rowOf vy r) (rowOf vz r) (rowW vw) (rowOf vd r) q := by
  unfold kdg
  pointwise [k0_pay406, k0_pay403, k0_pay404, k0_pay405]
  simp only [dif_neg (show ¬ q.val < 256 by omega), dif_neg (show ¬ q.val < 512 by omega), dif_pos (show q.val < 768 by omega), zero_add, add_zero, Fin.sum_univ_one, Fintype.sum_unique, Finset.univ_unique, Finset.sum_singleton, g2 vy vz r _ q h, c2 vy vz r q h, i2 vy vz r q h, d2 vw vd r _ q h]
  rw [place q 2 h _ rfl]
  simp only [dgated, coef]

theorem dgated_3 (h : q.val / 256 = 3) : kdg vy vz vw vd (ix2 r q) = dgated (rowOf vy r) (rowOf vz r) (rowW vw) (rowOf vd r) q := by
  unfold kdg
  pointwise [k0_pay406, k0_pay403, k0_pay404, k0_pay405]
  simp only [dif_neg (show ¬ q.val < 256 by omega), dif_neg (show ¬ q.val < 512 by omega), dif_neg (show ¬ q.val < 768 by omega), zero_add, add_zero, Fin.sum_univ_one, Fintype.sum_unique, Finset.univ_unique, Finset.sum_singleton, g3 vy vz r _ q h, c3 vy vz r q h, i3 vy vz r q h, d3 vw vd r q _ h]
  rw [d3' vw vd r q _ h _ (by omega), place q 3 h _ rfl]
  simp only [dgated, coef]

/-- The gradient of the gated rows is the reference's. -/
theorem dgated_at : kdg vy vz vw vd (ix2 r q) = dgated (rowOf vy r) (rowOf vz r) (rowW vw) (rowOf vd r) q := by
  have h : q.val / 256 < 4 := by omega
  interval_cases hk : q.val / 256
  · exact dgated_0 vy vz vw vd r q hk
  · exact dgated_1 vy vz vw vd r q hk
  · exact dgated_2 vy vz vw vd r q hk
  · exact dgated_3 vy vz vw vd r q hk

theorem dz_at : kdz vy vz vw vd (ix2 r q) = dzRow (rowOf vy r) (rowOf vz r) (rowW vw) (rowOf vd r) q := by
  have h := dgated_at vy vz vw vd r q
  unfold kdg at h
  unfold kdz
  pointwise [k0_pay408, k0_pay366, k0_pay367]
  rw [h]; rfl

theorem dy_at : kdy vy vz vw vd (ix2 r q) = dyRow (rowOf vy r) (rowOf vz r) (rowW vw) (rowOf vd r) q := by
  have h := dgated_at vy vz vw vd r q
  unfold kdg at h
  unfold kdy
  pointwise [k0_pay407, k0_pay366, k0_pay368]
  rw [h]; rfl

theorem normed_at : k0_pay387 (k0_pay369 vy vz) (k0_pay374 vy vz) (k0_pay375 vy vz) (ix2 r q)
    = gated (rowOf vy r) (rowOf vz r) q * rsq (rowOf vy r) (rowOf vz r) q := by
  have h : q.val / 256 < 4 := by omega
  pointwise [k0_pay387, k0_pay374]
  interval_cases hk : q.val / 256
  · simp only [dif_pos (show q.val < 256 by omega), g0 vy vz r _ q hk, i0 vy vz r q hk]
    rw [place q 0 hk _ (by simp; try omega)]
  · simp only [dif_neg (show ¬ q.val < 256 by omega), dif_pos (show q.val - 256 < 256 by omega), g1 vy vz r _ q hk, i1 vy vz r q hk]
    rw [place q 1 hk _ (by simp; try omega)]
  · simp only [dif_neg (show ¬ q.val < 256 by omega), dif_neg (show ¬ q.val - 256 < 256 by omega), dif_pos (show q.val - 256 - 256 < 256 by omega), g2 vy vz r _ q hk, i2 vy vz r q hk]
    rw [place q 2 hk _ (by simp; try omega)]
  · simp only [dif_neg (show ¬ q.val < 256 by omega), dif_neg (show ¬ q.val - 256 < 256 by omega), dif_neg (show ¬ q.val - 256 - 256 < 256 by omega), g3 vy vz r _ q hk, i3 vy vz r q hk]
    rw [place q 3 hk _ (by simp; try omega)]

theorem dnw_at : kdnw vy vz vd (ix2 0 q) = ∑ r : Fin 128, dnwRow (rowOf vy r) (rowOf vz r) (rowOf vd r) q := by
  unfold kdnw
  pointwise [k0_pay398]
  refine Finset.sum_congr rfl fun r _ => ?_
  rw [normed_at]; rfl

end Cert.Kernel4Ideal.Ssd
end
-- ==== Proof.SsdSkip.lean ====
module
public import proofs.«01_k».proof.Proof.SsdGrad

/-! # The gradient of the direct term's weights at a point: one head's sum after another

The kernel takes two heads' 128 columns together: it sums gradient times input over the block's rows, and keeps the first or the
last 64 columns of that. -/

@[expose] public section
set_option maxRecDepth 16384
noncomputable section
open Idealize.ShloMosaic Idealize.ShloMosaic.TcCoe
namespace Cert.Kernel4Ideal.Ssd
open Cert.Kernel4Ideal Cert.Kernel4Ideal.Gen Cert.Ssd

/-- The columns below 64. -/
def low : IVec S1x128 1 := k0_pay33 (iota .tc S1x128 32 [1] iota_S1x128_d1_w32)

variable (x g : FVec Ideal S128x1024 .f32) (acc : FVec Ideal S1x128 .f32)

def dd7 : FVec Ideal S1x128 .f32 := k0_pay418 low (k0_pay325 x) k0_pay363 k0_pay364 g
def dd6 : FVec Ideal S1x128 .f32 := k0_pay470 k0_pay322 k0_pay323 acc (k0_pay468 low (k0_pay284 x) (k0_pay415 g)) (k0_pay469 low (k0_pay284 x) (k0_pay415 g))
def dd5 : FVec Ideal S1x128 .f32 := k0_pay521 k0_pay278 k0_pay279 acc (k0_pay519 low (k0_pay242 x) (k0_pay414 g)) (k0_pay520 low (k0_pay242 x) (k0_pay414 g))
def dd4 : FVec Ideal S1x128 .f32 := k0_pay570 k0_pay239 (k0_pay568 low (k0_pay201 x) (k0_pay413 g)) (k0_pay569 low (k0_pay201 x) k0_pay240 (k0_pay413 g) acc)
def dd3 : FVec Ideal S1x128 .f32 := k0_pay624 k0_pay195 k0_pay196 acc (k0_pay622 low (k0_pay159 x) (k0_pay412 g)) (k0_pay623 low (k0_pay159 x) (k0_pay412 g))
def dd2 : FVec Ideal S1x128 .f32 := k0_pay675 k0_pay156 (k0_pay673 low (k0_pay120 x) k0_pay157 (k0_pay411 g) acc) (k0_pay674 low (k0_pay120 x) (k0_pay411 g)) (Scalar.ofBits .f32 0x00000000#32)
def dd1 : FVec Ideal S1x128 .f32 := k0_pay734 k0_pay114 (k0_pay732 low (k0_pay77 x) k0_pay115 (k0_pay410 g) acc) (k0_pay733 low (k0_pay77 x) (k0_pay410 g))
def dd0 : FVec Ideal S1x128 .f32 := k0_pay789 low (k0_pay38 x) k0_pay74 k0_pay75 (k0_pay409 g) acc
/-- The sixteen heads' sums, each on its own lane. -/
def kdd : FVec Ideal S1x128 .f32 := dd0 x g (dd1 x g (dd2 x g (dd3 x g (dd4 x g (dd5 x g (dd6 x g (dd7 x g)))))))

/-- One head's sum of gradient times input, over the block's rows. -/
def headSum (h : Fin 16) : EReal := ∑ l : Fin 64, ∑ r : Fin 128, x (ix2 r ⟨64 * h.val + l.val, by omega⟩) * g (ix2 r ⟨64 * h.val + l.val, by omega⟩)

theorem low_at : ∀ q : Fin 128, low (ix2 0 q) = if q.val < 64 then 1#1 else 0#1 := by
  intro q
  have h : ∀ q : Fin 128, IntOp.cmpi .slt (BitVec.ofNat 32 q.val) 64#32 = if q.val < 64 then 1#1 else 0#1 := by decide
  rw [← h q]
  pointwise [low, k0_pay33]
theorem select_if {α : Type} (c : Prop) [Decidable c] (a b : α) : Scalar.select (if c then 1#1 else 0#1) a b = if c then a else b := by
  by_cases h : c <;> simp [h, Scalar.select]

/-- The sum over the columns below 64. -/
theorem sum_low (f : Fin 128 → EReal) : (∑ q : Fin 128, if q.val < 64 then f q else 0) = ∑ l : Fin 64, f ⟨l.val, by omega⟩ := by
  refine (Fin.sum_univ_add (M := EReal) (a := 64) (b := 64) (fun q : Fin (64 + 64) => if q.val < 64 then f ⟨q.val, q.isLt⟩ else 0)).trans ?_
  simp only [Fin.val_castAdd, Fin.is_lt, if_true, Fin.val_natAdd, Nat.not_lt.mpr (Nat.le_add_right _ _), if_false, Finset.sum_const_zero, add_zero]
/-- The sum over the columns from 64 on. -/
theorem sum_high (f : Fin 128 → EReal) : (∑ q : Fin 128, if q.val < 64 then 0 else f q) = ∑ l : Fin 64, f ⟨64 + l.val, by omega⟩ := by
  refine (Fin.sum_univ_add (M := EReal) (a := 64) (b := 64) (fun q : Fin (64 + 64) => if q.val < 64 then 0 else f ⟨q.val, q.isLt⟩)).trans ?_
  simp only [Fin.val_castAdd, Fin.is_lt, if_true, Fin.val_natAdd, Nat.not_lt.mpr (Nat.le_add_right _ _), if_false, Finset.sum_const_zero, zero_add]
/-- The columns of one head, however they are counted. -/
theorem head_of (h : Fin 16) (i : Fin 64 → Fin 1024) (hi : ∀ l, (i l).val = 64 * h.val + l.val) :
    ∑ l : Fin 64, ∑ r : Fin 128, x (ix2 r (i l)) * g (ix2 r (i l)) = headSum x g h := by
  unfold headSum
  refine Finset.sum_congr rfl fun l _ => ?_
  rw [show i l = ⟨64 * h.val + l.val, by omega⟩ from Fin.ext (hi l)]

theorem dd7_at (j : Fin 128) : dd7 x g (ix2 0 j)
    = (if j.val = 15 then headSum x g 15 else 0) + (if j.val = 14 then headSum x g 14 else 0) := by
  have e1 : ∀ j : Fin 128, IntOp.cmpi .eq (BitVec.ofNat 32 j.val) 15#32 = if j.val = 15 then 1#1 else 0#1 := by decide
  have e0 : ∀ j : Fin 128, IntOp.cmpi .eq (BitVec.ofNat 32 j.val) 14#32 = if j.val = 14 then 1#1 else 0#1 := by decide
  unfold dd7
  pointwise [k0_pay418, k0_pay325, k0_pay363, k0_pay364, k0_pay416]
  simp only [Fin.sum_univ_one, Fintype.sum_unique, Finset.univ_unique, Finset.sum_singleton, low_at, e1 j, e0 j, select_if, sum_low, sum_high]
  refine congrArg₂ (· + ·) (if_congr Iff.rfl (head_of x g 15 _ fun l => ?_) rfl) (if_congr Iff.rfl (head_of x g 14 _ fun l => ?_) rfl)
  · show _ = 960 + l.val; dsimp only; omega
  · show _ = 896 + l.val; rfl
theorem dd6_at (j : Fin 128) : dd6 x g acc (ix2 0 j)
    = acc (ix2 0 j) + (if j.val = 13 then headSum x g 13 else 0) + (if j.val = 12 then headSum x g 12 else 0) := by
  have e1 : ∀ j : Fin 128, IntOp.cmpi .eq (BitVec.ofNat 32 j.val) 13#32 = if j.val = 13 then 1#1 else 0#1 := by decide
  have e0 : ∀ j : Fin 128, IntOp.cmpi .eq (BitVec.ofNat 32 j.val) 12#32 = if j.val = 12 then 1#1 else 0#1 := by decide
  unfold dd6
  pointwise [k0_pay470, k0_pay322, k0_pay323, k0_pay468, k0_pay284, k0_pay415, k0_pay469, k0_pay467, k0_pay465]
  simp only [Fin.sum_univ_one, Fintype.sum_unique, Finset.univ_unique, Finset.sum_singleton, low_at, e1 j, e0 j, select_if, sum_low, sum_high]
  refine congrArg₂ (· + ·) (congrArg (acc (ix2 0 j) + ·) (if_congr Iff.rfl (head_of x g 13 _ fun l => ?_) rfl)) (if_congr Iff.rfl (head_of x g 12 _ fun l => ?_) rfl)
  · show _ = 832 + l.val; dsimp only; omega
  · show _ = 768 + l.val; rfl
theorem dd5_at (j : Fin 128) : dd5 x g acc (ix2 0 j)
    = acc (ix2 0 j) + (if j.val = 11 then headSum x g 11 else 0) + (if j.val = 10 then headSum x g 10 else 0) := by
  have e1 : ∀ j : Fin 128, IntOp.cmpi .eq (BitVec.ofNat 32 j.val) 11#32 = if j.val = 11 then 1#1 else 0#1 := by decide
  have e0 : ∀ j : Fin 128, IntOp.cmpi .eq (BitVec.ofNat 32 j.val) 10#32 = if j.val = 10 then 1#1 else 0#1 := by decide
  unfold dd5
  pointwise [k0_pay521, k0_pay278, k0_pay279, k0_pay519, k0_pay242, k0_pay414, k0_pay520, k0_pay518, k0_pay516]
  simp only [Fin.sum_univ_one, Fintype.sum_unique, Finset.univ_unique, Finset.sum_singleton, low_at, e1 j, e0 j, select_if, sum_low, sum_high]
  refine congrArg₂ (· + ·) (congrArg (acc (ix2 0 j) + ·) (if_congr Iff.rfl (head_of x g 11 _ fun l => ?_) rfl)) (if_congr Iff.rfl (head_of x g 10 _ fun l => ?_) rfl)
  · show _ = 704 + l.val; dsimp only; omega
  · show _ = 640 + l.val; rfl
theorem dd4_at (j : Fin 128) : dd4 x g acc (ix2 0 j)
    = acc (ix2 0 j) + (if j.val = 9 then headSum x g 9 else 0) + (if j.val = 8 then headSum x g 8 else 0) := by
  have e1 : ∀ j : Fin 128, IntOp.cmpi .eq (BitVec.ofNat 32 j.val) 9#32 = if j.val = 9 then 1#1 else 0#1 := by decide
  have e0 : ∀ j : Fin 128, IntOp.cmpi .eq (BitVec.ofNat 32 j.val) 8#32 = if j.val = 8 then 1#1 else 0#1 := by decide
  unfold dd4
  pointwise [k0_pay570, k0_pay239, k0_pay568, k0_pay201, k0_pay413, k0_pay569, k0_pay240, k0_pay565, k0_pay567]
  simp only [Fin.sum_univ_one, Fintype.sum_unique, Finset.univ_unique, Finset.sum_singleton, low_at, e1 j, e0 j, select_if, sum_low, sum_high]
  refine congrArg₂ (· + ·) (congrArg (acc (ix2 0 j) + ·) (if_congr Iff.rfl (head_of x g 9 _ fun l => ?_) rfl)) (if_congr Iff.rfl (head_of x g 8 _ fun l => ?_) rfl)
  · show _ = 576 + l.val; dsimp only; omega
  · show _ = 512 + l.val; rfl
theorem dd3_at (j : Fin 128) : dd3 x g acc (ix2 0 j)
    = acc (ix2 0 j) + (if j.val = 7 then headSum x g 7 else 0) + (if j.val = 6 then headSum x g 6 else 0) := by
  have e1 : ∀ j : Fin 128, IntOp.cmpi .eq (BitVec.ofNat 32 j.val) 7#32 = if j.val = 7 then 1#1 else 0#1 := by decide
  have e0 : ∀ j : Fin 128, IntOp.cmpi .eq (BitVec.ofNat 32 j.val) 6#32 = if j.val = 6 then 1#1 else 0#1 := by decide
  unfold dd3
  pointwise [k0_pay624, k0_pay195, k0_pay196, k0_pay622, k0_pay159, k0_pay412, k0_pay623, k0_pay619, k0_pay621]
  simp only [Fin.sum_univ_one, Fintype.sum_unique, Finset.univ_unique, Finset.sum_singleton, low_at, e1 j, e0 j, select_if, sum_low, sum_high]
  refine congrArg₂ (· + ·) (congrArg (acc (ix2 0 j) + ·) (if_congr Iff.rfl (head_of x g 7 _ fun l => ?_) rfl)) (if_congr Iff.rfl (head_of x g 6 _ fun l => ?_) rfl)
  · show _ = 448 + l.val; dsimp only; omega
  · show _ = 384 + l.val; rfl
theorem dd2_at (j : Fin 128) : dd2 x g acc (ix2 0 j)
    = acc (ix2 0 j) + (if j.val = 5 then headSum x g 5 else 0) + (if j.val = 4 then headSum x g 4 else 0) := by
  have e1 : ∀ j : Fin 128, IntOp.cmpi .eq (BitVec.ofNat 32 j.val) 5#32 = if j.val = 5 then 1#1 else 0#1 := by decide
  have e0 : ∀ j : Fin 128, IntOp.cmpi .eq (BitVec.ofNat 32 j.val) 4#32 = if j.val = 4 then 1#1 else 0#1 := by decide
  unfold dd2
  pointwise [k0_pay675, k0_pay156, k0_pay673, k0_pay120, k0_pay157, k0_pay411, k0_pay674, k0_pay672, k0_pay670]
  simp only [Fin.sum_univ_one, Fintype.sum_unique, Finset.univ_unique, Finset.sum_singleton, low_at, e1 j, e0 j, select_if, sum_low, sum_high]
  refine congrArg₂ (· + ·) (congrArg (acc (ix2 0 j) + ·) (if_congr Iff.rfl (head_of x g 5 _ fun l => ?_) rfl)) (if_congr Iff.rfl (head_of x g 4 _ fun l => ?_) rfl)
  · show _ = 320 + l.val; dsimp only; omega
  · show _ = 256 + l.val; rfl
theorem dd1_at (j : Fin 128) : dd1 x g acc (ix2 0 j)
    = acc (ix2 0 j) + (if j.val = 3 then headSum x g 3 else 0) + (if j.val = 2 then headSum x g 2 else 0) := by
  have e1 : ∀ j : Fin 128, IntOp.cmpi .eq (BitVec.ofNat 32 j.val) 3#32 = if j.val = 3 then 1#1 else 0#1 := by decide
  have e0 : ∀ j : Fin 128, IntOp.cmpi .eq (BitVec.ofNat 32 j.val) 2#32 = if j.val = 2 then 1#1 else 0#1 := by decide
  unfold dd1
  pointwise [k0_pay734, k0_pay114, k0_pay732, k0_pay77, k0_pay115, k0_pay410, k0_pay733, k0_pay731, k0_pay729]
  simp only [Fin.sum_univ_one, Fintype.sum_unique, Finset.univ_unique, Finset.sum_singleton, low_at, e1 j, e0 j, select_if, sum_low, sum_high]
  refine congrArg₂ (· + ·) (congrArg (acc (ix2 0 j) + ·) (if_congr Iff.rfl (head_of x g 3 _ fun l => ?_) rfl)) (if_congr Iff.rfl (head_of x g 2 _ fun l => ?_) rfl)
  · show _ = 192 + l.val; dsimp only; omega
  · show _ = 128 + l.val; rfl
theorem dd0_at (j : Fin 128) : dd0 x g acc (ix2 0 j)
    = acc (ix2 0 j) + (if j.val = 1 then headSum x g 1 else 0) + (if j.val = 0 then headSum x g 0 else 0) := by
  have e1 : ∀ j : Fin 128, IntOp.cmpi .eq (BitVec.ofNat 32 j.val) 1#32 = if j.val = 1 then 1#1 else 0#1 := by decide
  have e0 : ∀ j : Fin 128, IntOp.cmpi .eq (BitVec.ofNat 32 j.val) 0#32 = if j.val = 0 then 1#1 else 0#1 := by decide
  unfold dd0
  pointwise [k0_pay789, k0_pay38, k0_pay74, k0_pay75, k0_pay409]
  simp only [Fin.sum_univ_one, Fintype.sum_unique, Finset.univ_unique, Finset.sum_singleton, low_at, e1 j, e0 j, select_if, sum_low, sum_high]
  refine congrArg₂ (· + ·) (congrArg (acc (ix2 0 j) + ·) (if_congr Iff.rfl (head_of x g 1 _ fun l => ?_) rfl)) (if_congr Iff.rfl (head_of x g 0 _ fun l => ?_) rfl)
  · show _ = 64 + l.val; rfl
  · show _ = 0 + l.val; dsimp only; omega

/-- Lane `h` holds head `h`'s sum, the lanes from 16 on hold zero. -/
theorem kdd_at (j : Fin 128) : kdd x g (ix2 0 j) = if h : j.val < 16 then headSum x g ⟨j.val, h⟩ else 0 := by
  unfold kdd
  rw [dd0_at, dd1_at, dd2_at, dd3_at, dd4_at, dd5_at, dd6_at, dd7_at]
  obtain ⟨v, hv⟩ := j
  by_cases h : v < 16
  · simp only [h, dif_pos]
    interval_cases v <;> simp <;> rfl
  · rw [dif_neg h]
    simp [show ¬ v = 0 by omega, show ¬ v = 1 by omega, show ¬ v = 2 by omega, show ¬ v = 3 by omega, show ¬ v = 4 by omega, show ¬ v = 5 by omega, show ¬ v = 6 by omega, show ¬ v = 7 by omega, show ¬ v = 8 by omega, show ¬ v = 9 by omega, show ¬ v = 10 by omega, show ¬ v = 11 by omega, show ¬ v = 12 by omega, show ¬ v = 13 by omega, show ¬ v = 14 by omega, show ¬ v = 15 by omega]

end Cert.Kernel4Ideal.Ssd
end
-- ==== Proof.SsdCol.lean ====
module
public import proofs.«01_k».proof.Proof.SsdSkip

/-! # What the kernel takes for each head: the decays, the scaled inputs and the masks

A head's column of the running sums is a masked sum over the lanes, its row a masked sum over the transposed block's rows. -/

@[expose] public section
set_option maxRecDepth 16384
noncomputable section
open Idealize.ShloMosaic Idealize.ShloMosaic.TcCoe
namespace Cert.Kernel4Ideal.Ssd
open Cert.Kernel4Ideal Cert.Kernel4Ideal.Gen Cert.Ssd

variable (cs dtr : FVec Ideal S128x128 .f32) (x : FVec Ideal S128x1024 .f32) (db : Vec Ideal S1x128 .f32) (valid : FVec Ideal S128x1 .f32)

/-- The time steps, zero on the rows in front. -/
def dtv : FVec Ideal S128x128 .f32 := (k0_pay26 valid (k0_pay23 dtr db) k0_pay24 k0_pay25)
/-- Places in or below the diagonal. -/
theorem tri_at (r s : Fin 128) : k0_pay29 (ix2 r s) = if s.val ≤ r.val then 1#1 else 0#1 := by
  have h : ∀ r s : Fin 128, IntOp.cmpi .sge (BitVec.ofNat 32 r.val) (BitVec.ofNat 32 s.val) = if s.val ≤ r.val then 1#1 else 0#1 := by decide +kernel
  rw [← h r s]
  pointwise [k0_pay29]
/-- A sum of which one entry stays. -/
theorem sum_pick (f : Fin 128 → EReal) (h : Fin 128) : (∑ q : Fin 128, if q.val = h.val then f q else 0) = f h := by
  simp only [Fin.val_inj, Finset.sum_ite_eq', Finset.mem_univ, if_true]
/-- The decay from row `s` to row `r` for one head. -/
def decay (h : Fin 128) (r s : Fin 128) : EReal := Ideal.exp (if s.val ≤ r.val then cs (ix2 r h) - cs (ix2 s h) else ⊥)

def cc0 : FVec Ideal S128x1 .f32 := (k0_pay40 cs)
theorem cc0_at (r : Fin 128) (j : Fin 1) : cc0 cs (ix2 r j) = cs (ix2 r ⟨0, by decide⟩) := by
  have e : ∀ j : Fin 128, IntOp.cmpi .eq (BitVec.ofNat 32 j.val) 0#32 = if j.val = 0 then 1#1 else 0#1 := by decide
  unfold cc0
  pointwise [k0_pay39, k0_pay40]
  simp only [e, select_if]
  exact sum_pick (fun q => cs (ix2 r q)) ⟨0, by decide⟩
def cc1 : FVec Ideal S128x1 .f32 := (k0_pay42 cs)
theorem cc1_at (r : Fin 128) (j : Fin 1) : cc1 cs (ix2 r j) = cs (ix2 r ⟨1, by decide⟩) := by
  have e : ∀ j : Fin 128, IntOp.cmpi .eq (BitVec.ofNat 32 j.val) 1#32 = if j.val = 1 then 1#1 else 0#1 := by decide
  unfold cc1
  pointwise [k0_pay41, k0_pay42]
  simp only [e, select_if]
  exact sum_pick (fun q => cs (ix2 r q)) ⟨1, by decide⟩
/-- Head 0's decays. -/
def ll0 : FVec Ideal S128x128 .f32 := (k0_pay54 k0_pay29 (cc0 cs) (k0_pay53 (k0_pay30 cs)))
theorem ll0_at (r s : Fin 128) : ll0 cs (ix2 r s) = decay cs ⟨0, by decide⟩ r s := by
  have e : ∀ j : Fin 128, IntOp.cmpi .eq (BitVec.ofNat 32 j.val) 0#32 = if j.val = 0 then 1#1 else 0#1 := by decide
  unfold ll0
  pointwise [k0_pay30, k0_pay52, k0_pay53, k0_pay54, k0_pay30]
  simp only [e, select_if, tri_at, cc0_at, decay]
  rw [sum_pick (fun q => cs (ix2 s q)) ⟨0, by decide⟩]
  all_goals rfl
/-- Head 1's decays. -/
def ll1 : FVec Ideal S128x128 .f32 := (k0_pay56 k0_pay29 (k0_pay30 cs) (cc1 cs))
theorem ll1_at (r s : Fin 128) : ll1 cs (ix2 r s) = decay cs ⟨1, by decide⟩ r s := by
  have e : ∀ j : Fin 128, IntOp.cmpi .eq (BitVec.ofNat 32 j.val) 1#32 = if j.val = 1 then 1#1 else 0#1 := by decide
  unfold ll1
  pointwise [k0_pay30, k0_pay55, k0_pay56, k0_pay30]
  simp only [e, select_if, tri_at, cc1_at, decay]
  rw [sum_pick (fun q => cs (ix2 s q)) ⟨1, by decide⟩]
  all_goals rfl
/-- The inputs of heads 0 and 1 times their time steps. -/
def xd0 : FVec Ideal S128x128 .f32 := (k0_pay51 (dtv dtr db valid) low (k0_pay38 x))
theorem xd0_at (s q : Fin 128) : xd0 dtr x db valid (ix2 s q)
    = x (ix2 s ⟨0 + q.val, by omega⟩) * dtv dtr db valid (ix2 s (if q.val < 64 then ⟨0, by decide⟩ else ⟨1, by decide⟩)) := by
  have e0 : ∀ j : Fin 128, IntOp.cmpi .eq (BitVec.ofNat 32 j.val) 0#32 = if j.val = 0 then 1#1 else 0#1 := by decide
  have e1 : ∀ j : Fin 128, IntOp.cmpi .eq (BitVec.ofNat 32 j.val) 1#32 = if j.val = 1 then 1#1 else 0#1 := by decide
  unfold xd0
  pointwise [k0_pay38, k0_pay47, k0_pay48, k0_pay49, k0_pay50, k0_pay51]
  simp only [e0, e1, low_at, select_if]
  rw [sum_pick (fun q => dtv dtr db valid (ix2 s q)) ⟨0, by decide⟩, sum_pick (fun q => dtv dtr db valid (ix2 s q)) ⟨1, by decide⟩]
  split <;> simp
/-- The decays of heads 0 and 1 from the block's start. -/
def ee0 : FVec Ideal S128x128 .f32 := (k0_pay69 low (cc0 cs) (cc1 cs))
theorem ee0_at (r q : Fin 128) : ee0 cs (ix2 r q) = Ideal.exp (cs (ix2 r (if q.val < 64 then ⟨0, by decide⟩ else ⟨1, by decide⟩))) := by
  unfold ee0
  pointwise [k0_pay66, k0_pay67, k0_pay68, k0_pay69]
  simp only [low_at, select_if, cc0_at, cc1_at]
  split <;> rfl
def cc2 : FVec Ideal S128x1 .f32 := (k0_pay79 cs)
theorem cc2_at (r : Fin 128) (j : Fin 1) : cc2 cs (ix2 r j) = cs (ix2 r ⟨2, by decide⟩) := by
  have e : ∀ j : Fin 128, IntOp.cmpi .eq (BitVec.ofNat 32 j.val) 2#32 = if j.val = 2 then 1#1 else 0#1 := by decide
  unfold cc2
  pointwise [k0_pay78, k0_pay79]
  simp only [e, select_if]
  exact sum_pick (fun q => cs (ix2 r q)) ⟨2, by decide⟩
def cc3 : FVec Ideal S128x1 .f32 := (k0_pay81 cs)
theorem cc3_at (r : Fin 128) (j : Fin 1) : cc3 cs (ix2 r j) = cs (ix2 r ⟨3, by decide⟩) := by
  have e : ∀ j : Fin 128, IntOp.cmpi .eq (BitVec.ofNat 32 j.val) 3#32 = if j.val = 3 then 1#1 else 0#1 := by decide
  unfold cc3
  pointwise [k0_pay80, k0_pay81]
  simp only [e, select_if]
  exact sum_pick (fun q => cs (ix2 r q)) ⟨3, by decide⟩
/-- Head 2's decays. -/
def ll2 : FVec Ideal S128x128 .f32 := (k0_pay94 k0_pay29 (cc2 cs) (k0_pay93 (k0_pay30 cs)))
theorem ll2_at (r s : Fin 128) : ll2 cs (ix2 r s) = decay cs ⟨2, by decide⟩ r s := by
  have e : ∀ j : Fin 128, IntOp.cmpi .eq (BitVec.ofNat 32 j.val) 2#32 = if j.val = 2 then 1#1 else 0#1 := by decide
  unfold ll2
  pointwise [k0_pay30, k0_pay92, k0_pay93, k0_pay94, k0_pay30]
  simp only [e, select_if, tri_at, cc2_at, decay]
  rw [sum_pick (fun q => cs (ix2 s q)) ⟨2, by decide⟩]
  all_goals rfl
/-- Head 3's decays. -/
def ll3 : FVec Ideal S128x128 .f32 := (k0_pay96 k0_pay29 (k0_pay30 cs) (cc3 cs))
theorem ll3_at (r s : Fin 128) : ll3 cs (ix2 r s) = decay cs ⟨3, by decide⟩ r s := by
  have e : ∀ j : Fin 128, IntOp.cmpi .eq (BitVec.ofNat 32 j.val) 3#32 = if j.val = 3 then 1#1 else 0#1 := by decide
  unfold ll3
  pointwise [k0_pay30, k0_pay95, k0_pay96, k0_pay30]
  simp only [e, select_if, tri_at, cc3_at, decay]
  rw [sum_pick (fun q => cs (ix2 s q)) ⟨3, by decide⟩]
  all_goals rfl
/-- The inputs of heads 2 and 3 times their time steps. -/
def xd1 : FVec Ideal S128x128 .f32 := (k0_pay91 (dtv dtr db valid) low (k0_pay77 x))
theorem xd1_at (s q : Fin 128) : xd1 dtr x db valid (ix2 s q)
    = x (ix2 s ⟨128 + q.val, by omega⟩) * dtv dtr db valid (ix2 s (if q.val < 64 then ⟨2, by decide⟩ else ⟨3, by decide⟩)) := by
  have e0 : ∀ j : Fin 128, IntOp.cmpi .eq (BitVec.ofNat 32 j.val) 2#32 = if j.val = 2 then 1#1 else 0#1 := by decide
  have e1 : ∀ j : Fin 128, IntOp.cmpi .eq (BitVec.ofNat 32 j.val) 3#32 = if j.val = 3 then 1#1 else 0#1 := by decide
  unfold xd1
  pointwise [k0_pay77, k0_pay87, k0_pay88, k0_pay89, k0_pay90, k0_pay91]
  simp only [e0, e1, low_at, select_if]
  rw [sum_pick (fun q => dtv dtr db valid (ix2 s q)) ⟨2, by decide⟩, sum_pick (fun q => dtv dtr db valid (ix2 s q)) ⟨3, by decide⟩]
  split <;> rfl
/-- The decays of heads 2 and 3 from the block's start. -/
def ee1 : FVec Ideal S128x128 .f32 := (k0_pay109 low (cc2 cs) (cc3 cs))
theorem ee1_at (r q : Fin 128) : ee1 cs (ix2 r q) = Ideal.exp (cs (ix2 r (if q.val < 64 then ⟨2, by decide⟩ else ⟨3, by decide⟩))) := by
  unfold ee1
  pointwise [k0_pay106, k0_pay107, k0_pay108, k0_pay109]
  simp only [low_at, select_if, cc2_at, cc3_at]
  split <;> rfl
def cc4 : FVec Ideal S128x1 .f32 := (k0_pay122 cs)
theorem cc4_at (r : Fin 128) (j : Fin 1) : cc4 cs (ix2 r j) = cs (ix2 r ⟨4, by decide⟩) := by
  have e : ∀ j : Fin 128, IntOp.cmpi .eq (BitVec.ofNat 32 j.val) 4#32 = if j.val = 4 then 1#1 else 0#1 := by decide
  unfold cc4
  pointwise [k0_pay121, k0_pay122]
  simp only [e, select_if]
  exact sum_pick (fun q => cs (ix2 r q)) ⟨4, by decide⟩
def cc5 : FVec Ideal S128x1 .f32 := (k0_pay124 cs)
theorem cc5_at (r : Fin 128) (j : Fin 1) : cc5 cs (ix2 r j) = cs (ix2 r ⟨5, by decide⟩) := by
  have e : ∀ j : Fin 128, IntOp.cmpi .eq (BitVec.ofNat 32 j.val) 5#32 = if j.val = 5 then 1#1 else 0#1 := by decide
  unfold cc5
  pointwise [k0_pay123, k0_pay124]
  simp only [e, select_if]
  exact sum_pick (fun q => cs (ix2 r q)) ⟨5, by decide⟩
/-- Head 4's decays. -/
def ll4 : FVec Ideal S128x128 .f32 := (k0_pay136 k0_pay29 (cc4 cs) (k0_pay135 (k0_pay30 cs)))
theorem ll4_at (r s : Fin 128) : ll4 cs (ix2 r s) = decay cs ⟨4, by decide⟩ r s := by
  have e : ∀ j : Fin 128, IntOp.cmpi .eq (BitVec.ofNat 32 j.val) 4#32 = if j.val = 4 then 1#1 else 0#1 := by decide
  unfold ll4
  pointwise [k0_pay30, k0_pay134, k0_pay135, k0_pay136, k0_pay30]
  simp only [e, select_if, tri_at, cc4_at, decay]
  rw [sum_pick (fun q => cs (ix2 s q)) ⟨4, by decide⟩]
  all_goals rfl
/-- Head 5's decays. -/
def ll5 : FVec Ideal S128x128 .f32 := (k0_pay138 k0_pay29 (k0_pay30 cs) (cc5 cs))
theorem ll5_at (r s : Fin 128) : ll5 cs (ix2 r s) = decay cs ⟨5, by decide⟩ r s := by
  have e : ∀ j : Fin 128, IntOp.cmpi .eq (BitVec.ofNat 32 j.val) 5#32 = if j.val = 5 then 1#1 else 0#1 := by decide
  unfold ll5
  pointwise [k0_pay30, k0_pay137, k0_pay138, k0_pay30]
  simp only [e, select_if, tri_at, cc5_at, decay]
  rw [sum_pick (fun q => cs (ix2 s q)) ⟨5, by decide⟩]
  all_goals rfl
/-- The inputs of heads 4 and 5 times their time steps. -/
def xd2 : FVec Ideal S128x128 .f32 := (k0_pay133 (dtv dtr db valid) low (k0_pay120 x))
theorem xd2_at (s q : Fin 128) : xd2 dtr x db valid (ix2 s q)
    = x (ix2 s ⟨256 + q.val, by omega⟩) * dtv dtr db valid (ix2 s (if q.val < 64 then ⟨4, by decide⟩ else ⟨5, by decide⟩)) := by
  have e0 : ∀ j : Fin 128, IntOp.cmpi .eq (BitVec.ofNat 32 j.val) 4#32 = if j.val = 4 then 1#1 else 0#1 := by decide
  have e1 : ∀ j : Fin 128, IntOp.cmpi .eq (BitVec.ofNat 32 j.val) 5#32 = if j.val = 5 then 1#1 else 0#1 := by decide
  unfold xd2
  pointwise [k0_pay120, k0_pay129, k0_pay130, k0_pay131, k0_pay132, k0_pay133]
  simp only [e0, e1, low_at, select_if]
  rw [sum_pick (fun q => dtv dtr db valid (ix2 s q)) ⟨4, by decide⟩, sum_pick (fun q => dtv dtr db valid (ix2 s q)) ⟨5, by decide⟩]
  split <;> rfl
/-- The decays of heads 4 and 5 from the block's start. -/
def ee2 : FVec Ideal S128x128 .f32 := (k0_pay151 low (cc4 cs) (cc5 cs))
theorem ee2_at (r q : Fin 128) : ee2 cs (ix2 r q) = Ideal.exp (cs (ix2 r (if q.val < 64 then ⟨4, by decide⟩ else ⟨5, by decide⟩))) := by
  unfold ee2
  pointwise [k0_pay148, k0_pay149, k0_pay150, k0_pay151]
  simp only [low_at, select_if, cc4_at, cc5_at]
  split <;> rfl
def cc6 : FVec Ideal S128x1 .f32 := (k0_pay161 cs)
theorem cc6_at (r : Fin 128) (j : Fin 1) : cc6 cs (ix2 r j) = cs (ix2 r ⟨6, by decide⟩) := by
  have e : ∀ j : Fin 128, IntOp.cmpi .eq (BitVec.ofNat 32 j.val) 6#32 = if j.val = 6 then 1#1 else 0#1 := by decide
  unfold cc6
  pointwise [k0_pay160, k0_pay161]
  simp only [e, select_if]
  exact sum_pick (fun q => cs (ix2 r q)) ⟨6, by decide⟩
def cc7 : FVec Ideal S128x1 .f32 := (k0_pay163 cs)
theorem cc7_at (r : Fin 128) (j : Fin 1) : cc7 cs (ix2 r j) = cs (ix2 r ⟨7, by decide⟩) := by
  have e : ∀ j : Fin 128, IntOp.cmpi .eq (BitVec.ofNat 32 j.val) 7#32 = if j.val = 7 then 1#1 else 0#1 := by decide
  unfold cc7
  pointwise [k0_pay162, k0_pay163]
  simp only [e, select_if]
  exact sum_pick (fun q => cs (ix2 r q)) ⟨7, by decide⟩
/-- Head 6's decays. -/
def ll6 : FVec Ideal S128x128 .f32 := (k0_pay175 k0_pay29 (cc6 cs) (k0_pay174 (k0_pay30 cs)))
theorem ll6_at (r s : Fin 128) : ll6 cs (ix2 r s) = decay cs ⟨6, by decide⟩ r s := by
  have e : ∀ j : Fin 128, IntOp.cmpi .eq (BitVec.ofNat 32 j.val) 6#32 = if j.val = 6 then 1#1 else 0#1 := by decide
  unfold ll6
  pointwise [k0_pay30, k0_pay173, k0_pay174, k0_pay175, k0_pay30]
  simp only [e, select_if, tri_at, cc6_at, decay]
  rw [sum_pick (fun q => cs (ix2 s q)) ⟨6, by decide⟩]
  all_goals rfl
/-- Head 7's decays. -/
def ll7 : FVec Ideal S128x128 .f32 := (k0_pay177 k0_pay29 (k0_pay30 cs) (cc7 cs))
theorem ll7_at (r s : Fin 128) : ll7 cs (ix2 r s) = decay cs ⟨7, by decide⟩ r s := by
  have e : ∀ j : Fin 128, IntOp.cmpi .eq (BitVec.ofNat 32 j.val) 7#32 = if j.val = 7 then 1#1 else 0#1 := by decide
  unfold ll7
  pointwise [k0_pay30, k0_pay176, k0_pay177, k0_pay30]
  simp only [e, select_if, tri_at, cc7_at, decay]
  rw [sum_pick (fun q => cs (ix2 s q)) ⟨7, by decide⟩]
  all_goals rfl
/-- The inputs of heads 6 and 7 times their time steps. -/
def xd3 : FVec Ideal S128x128 .f32 := (k0_pay172 (dtv dtr db valid) low (k0_pay159 x))
theorem xd3_at (s q : Fin 128) : xd3 dtr x db valid (ix2 s q)
    = x (ix2 s ⟨384 + q.val, by omega⟩) * dtv dtr db valid (ix2 s (if q.val < 64 then ⟨6, by decide⟩ else ⟨7, by decide⟩)) := by
  have e0 : ∀ j : Fin 128, IntOp.cmpi .eq (BitVec.ofNat 32 j.val) 6#32 = if j.val = 6 then 1#1 else 0#1 := by decide
  have e1 : ∀ j : Fin 128, IntOp.cmpi .eq (BitVec.ofNat 32 j.val) 7#32 = if j.val = 7 then 1#1 else 0#1 := by decide
  unfold xd3
  pointwise [k0_pay159, k0_pay168, k0_pay169, k0_pay170, k0_pay171, k0_pay172]
  simp only [e0, e1, low_at, select_if]
  rw [sum_pick (fun q => dtv dtr db valid (ix2 s q)) ⟨6, by decide⟩, sum_pick (fun q => dtv dtr db valid (ix2 s q)) ⟨7, by decide⟩]
  split <;> rfl
/-- The decays of heads 6 and 7 from the block's start. -/
def ee3 : FVec Ideal S128x128 .f32 := (k0_pay190 low (cc6 cs) (cc7 cs))
theorem ee3_at (r q : Fin 128) : ee3 cs (ix2 r q) = Ideal.exp (cs (ix2 r (if q.val < 64 then ⟨6, by decide⟩ else ⟨7, by decide⟩))) := by
  unfold ee3
  pointwise [k0_pay187, k0_pay188, k0_pay189, k0_pay190]
  simp only [low_at, select_if, cc6_at, cc7_at]
  split <;> rfl
def cc8 : FVec Ideal S128x1 .f32 := (k0_pay203 cs)
theorem cc8_at (r : Fin 128) (j : Fin 1) : cc8 cs (ix2 r j) = cs (ix2 r ⟨8, by decide⟩) := by
  have e : ∀ j : Fin 128, IntOp.cmpi .eq (BitVec.ofNat 32 j.val) 8#32 = if j.val = 8 then 1#1 else 0#1 := by decide
  unfold cc8
  pointwise [k0_pay202, k0_pay203]
  simp only [e, select_if]
  exact sum_pick (fun q => cs (ix2 r q)) ⟨8, by decide⟩
def cc9 : FVec Ideal S128x1 .f32 := (k0_pay205 cs)
theorem cc9_at (r : Fin 128) (j : Fin 1) : cc9 cs (ix2 r j) = cs (ix2 r ⟨9, by decide⟩) := by
  have e : ∀ j : Fin 128, IntOp.cmpi .eq (BitVec.ofNat 32 j.val) 9#32 = if j.val = 9 then 1#1 else 0#1 := by decide
  unfold cc9
  pointwise [k0_pay204, k0_pay205]
  simp only [e, select_if]
  exact sum_pick (fun q => cs (ix2 r q)) ⟨9, by decide⟩
/-- Head 8's decays. -/
def ll8 : FVec Ideal S128x128 .f32 := (k0_pay217 k0_pay29 (k0_pay30 cs) (cc8 cs) k0_pay215 k0_pay216)
theorem ll8_at (r s : Fin 128) : ll8 cs (ix2 r s) = decay cs ⟨8, by decide⟩ r s := by
  have e : ∀ j : Fin 128, IntOp.cmpi .eq (BitVec.ofNat 32 j.val) 8#32 = if j.val = 8 then 1#1 else 0#1 := by decide
  unfold ll8
  pointwise [k0_pay30, k0_pay215, k0_pay216, k0_pay217, k0_pay30]
  simp only [e, select_if, tri_at, cc8_at, decay]
  rw [sum_pick (fun q => cs (ix2 s q)) ⟨8, by decide⟩]
  all_goals rfl
/-- Head 9's decays. -/
def ll9 : FVec Ideal S128x128 .f32 := (k0_pay219 k0_pay29 (k0_pay30 cs) (cc9 cs))
theorem ll9_at (r s : Fin 128) : ll9 cs (ix2 r s) = decay cs ⟨9, by decide⟩ r s := by
  have e : ∀ j : Fin 128, IntOp.cmpi .eq (BitVec.ofNat 32 j.val) 9#32 = if j.val = 9 then 1#1 else 0#1 := by decide
  unfold ll9
  pointwise [k0_pay30, k0_pay218, k0_pay219, k0_pay30]
  simp only [e, select_if, tri_at, cc9_at, decay]
  rw [sum_pick (fun q => cs (ix2 s q)) ⟨9, by decide⟩]
  all_goals rfl
/-- The inputs of heads 8 and 9 times their time steps. -/
def xd4 : FVec Ideal S128x128 .f32 := (k0_pay214 (dtv dtr db valid) low (k0_pay201 x))
theorem xd4_at (s q : Fin 128) : xd4 dtr x db valid (ix2 s q)
    = x (ix2 s ⟨512 + q.val, by omega⟩) * dtv dtr db valid (ix2 s (if q.val < 64 then ⟨8, by decide⟩ else ⟨9, by decide⟩)) := by
  have e0 : ∀ j : Fin 128, IntOp.cmpi .eq (BitVec.ofNat 32 j.val) 8#32 = if j.val = 8 then 1#1 else 0#1 := by decide
  have e1 : ∀ j : Fin 128, IntOp.cmpi .eq (BitVec.ofNat 32 j.val) 9#32 = if j.val = 9 then 1#1 else 0#1 := by decide
  unfold xd4
  pointwise [k0_pay201, k0_pay210, k0_pay211, k0_pay212, k0_pay213, k0_pay214]
  simp only [e0, e1, low_at, select_if]
  rw [sum_pick (fun q => dtv dtr db valid (ix2 s q)) ⟨8, by decide⟩, sum_pick (fun q => dtv dtr db valid (ix2 s q)) ⟨9, by decide⟩]
  split <;> rfl
/-- The decays of heads 8 and 9 from the block's start. -/
def ee4 : FVec Ideal S128x128 .f32 := (k0_pay234 (k0_pay231 low) (k0_pay232 (cc8 cs)) (k0_pay233 (cc9 cs)))
theorem ee4_at (r q : Fin 128) : ee4 cs (ix2 r q) = Ideal.exp (cs (ix2 r (if q.val < 64 then ⟨8, by decide⟩ else ⟨9, by decide⟩))) := by
  unfold ee4
  pointwise [k0_pay229, k0_pay230, k0_pay231, k0_pay232, k0_pay233, k0_pay234]
  simp only [low_at, select_if, cc8_at, cc9_at]
  split <;> rfl
def cc10 : FVec Ideal S128x1 .f32 := (k0_pay244 cs)
theorem cc10_at (r : Fin 128) (j : Fin 1) : cc10 cs (ix2 r j) = cs (ix2 r ⟨10, by decide⟩) := by
  have e : ∀ j : Fin 128, IntOp.cmpi .eq (BitVec.ofNat 32 j.val) 10#32 = if j.val = 10 then 1#1 else 0#1 := by decide
  unfold cc10
  pointwise [k0_pay243, k0_pay244]
  simp only [e, select_if]
  exact sum_pick (fun q => cs (ix2 r q)) ⟨10, by decide⟩
def cc11 : FVec Ideal S128x1 .f32 := (k0_pay246 cs)
theorem cc11_at (r : Fin 128) (j : Fin 1) : cc11 cs (ix2 r j) = cs (ix2 r ⟨11, by decide⟩) := by
  have e : ∀ j : Fin 128, IntOp.cmpi .eq (BitVec.ofNat 32 j.val) 11#32 = if j.val = 11 then 1#1 else 0#1 := by decide
  unfold cc11
  pointwise [k0_pay245, k0_pay246]
  simp only [e, select_if]
  exact sum_pick (fun q => cs (ix2 r q)) ⟨11, by decide⟩
/-- Head 10's decays. -/
def ll10 : FVec Ideal S128x128 .f32 := (k0_pay258 k0_pay29 (cc10 cs) (k0_pay257 (k0_pay30 cs)))
theorem ll10_at (r s : Fin 128) : ll10 cs (ix2 r s) = decay cs ⟨10, by decide⟩ r s := by
  have e : ∀ j : Fin 128, IntOp.cmpi .eq (BitVec.ofNat 32 j.val) 10#32 = if j.val = 10 then 1#1 else 0#1 := by decide
  unfold ll10
  pointwise [k0_pay30, k0_pay256, k0_pay257, k0_pay258, k0_pay30]
  simp only [e, select_if, tri_at, cc10_at, decay]
  rw [sum_pick (fun q => cs (ix2 s q)) ⟨10, by decide⟩]
  all_goals rfl
/-- Head 11's decays. -/
def ll11 : FVec Ideal S128x128 .f32 := (k0_pay260 k0_pay29 (k0_pay30 cs) (cc11 cs))
theorem ll11_at (r s : Fin 128) : ll11 cs (ix2 r s) = decay cs ⟨11, by decide⟩ r s := by
  have e : ∀ j : Fin 128, IntOp.cmpi .eq (BitVec.ofNat 32 j.val) 11#32 = if j.val = 11 then 1#1 else 0#1 := by decide
  unfold ll11
  pointwise [k0_pay30, k0_pay259, k0_pay260, k0_pay30]
  simp only [e, select_if, tri_at, cc11_at, decay]
  rw [sum_pick (fun q => cs (ix2 s q)) ⟨11, by decide⟩]
  all_goals rfl
/-- The inputs of heads 10 and 11 times their time steps. -/
def xd5 : FVec Ideal S128x128 .f32 := (k0_pay255 (dtv dtr db valid) low (k0_pay242 x))
theorem xd5_at (s q : Fin 128) : xd5 dtr x db valid (ix2 s q)
    = x (ix2 s ⟨640 + q.val, by omega⟩) * dtv dtr db valid (ix2 s (if q.val < 64 then ⟨10, by decide⟩ else ⟨11, by decide⟩)) := by
  have e0 : ∀ j : Fin 128, IntOp.cmpi .eq (BitVec.ofNat 32 j.val) 10#32 = if j.val = 10 then 1#1 else 0#1 := by decide
  have e1 : ∀ j : Fin 128, IntOp.cmpi .eq (BitVec.ofNat 32 j.val) 11#32 = if j.val = 11 then 1#1 else 0#1 := by decide
  unfold xd5
  pointwise [k0_pay242, k0_pay251, k0_pay252, k0_pay253, k0_pay254, k0_pay255]
  simp only [e0, e1, low_at, select_if]
  rw [sum_pick (fun q => dtv dtr db valid (ix2 s q)) ⟨10, by decide⟩, sum_pick (fun q => dtv dtr db valid (ix2 s q)) ⟨11, by decide⟩]
  split <;> rfl
/-- The decays of heads 10 and 11 from the block's start. -/
def ee5 : FVec Ideal S128x128 .f32 := (k0_pay273 low (cc10 cs) (cc11 cs))
theorem ee5_at (r q : Fin 128) : ee5 cs (ix2 r q) = Ideal.exp (cs (ix2 r (if q.val < 64 then ⟨10, by decide⟩ else ⟨11, by decide⟩))) := by
  unfold ee5
  pointwise [k0_pay270, k0_pay271, k0_pay272, k0_pay273]
  simp only [low_at, select_if, cc10_at, cc11_at]
  split <;> rfl
def cc12 : FVec Ideal S128x1 .f32 := (k0_pay286 cs)
theorem cc12_at (r : Fin 128) (j : Fin 1) : cc12 cs (ix2 r j) = cs (ix2 r ⟨12, by decide⟩) := by
  have e : ∀ j : Fin 128, IntOp.cmpi .eq (BitVec.ofNat 32 j.val) 12#32 = if j.val = 12 then 1#1 else 0#1 := by decide
  unfold cc12
  pointwise [k0_pay285, k0_pay286]
  simp only [e, select_if]
  exact sum_pick (fun q => cs (ix2 r q)) ⟨12, by decide⟩
def cc13 : FVec Ideal S128x1 .f32 := (k0_pay289 (k0_pay288 cs))
theorem cc13_at (r : Fin 128) (j : Fin 1) : cc13 cs (ix2 r j) = cs (ix2 r ⟨13, by decide⟩) := by
  have e : ∀ j : Fin 128, IntOp.cmpi .eq (BitVec.ofNat 32 j.val) 13#32 = if j.val = 13 then 1#1 else 0#1 := by decide
  unfold cc13
  pointwise [k0_pay287, k0_pay288, k0_pay289]
  simp only [e, select_if]
  exact sum_pick (fun q => cs (ix2 r q)) ⟨13, by decide⟩
/-- Head 12's decays. -/
def ll12 : FVec Ideal S128x128 .f32 := (k0_pay300 k0_pay29 (k0_pay30 cs) (cc12 cs) (Scalar.ofBits .f32 0x00000000#32) k0_pay299)
theorem ll12_at (r s : Fin 128) : ll12 cs (ix2 r s) = decay cs ⟨12, by decide⟩ r s := by
  have e : ∀ j : Fin 128, IntOp.cmpi .eq (BitVec.ofNat 32 j.val) 12#32 = if j.val = 12 then 1#1 else 0#1 := by decide
  unfold ll12
  pointwise [k0_pay30, k0_pay299, k0_pay300, k0_pay30]
  simp only [e, select_if, tri_at, cc12_at, decay]
  rw [sum_pick (fun q => cs (ix2 s q)) ⟨12, by decide⟩]
  all_goals rfl
/-- Head 13's decays. -/
def ll13 : FVec Ideal S128x128 .f32 := (k0_pay302 k0_pay29 (k0_pay30 cs) (cc13 cs))
theorem ll13_at (r s : Fin 128) : ll13 cs (ix2 r s) = decay cs ⟨13, by decide⟩ r s := by
  have e : ∀ j : Fin 128, IntOp.cmpi .eq (BitVec.ofNat 32 j.val) 13#32 = if j.val = 13 then 1#1 else 0#1 := by decide
  unfold ll13
  pointwise [k0_pay30, k0_pay301, k0_pay302, k0_pay30]
  simp only [e, select_if, tri_at, cc13_at, decay]
  rw [sum_pick (fun q => cs (ix2 s q)) ⟨13, by decide⟩]
  all_goals rfl
/-- The inputs of heads 12 and 13 times their time steps. -/
def xd6 : FVec Ideal S128x128 .f32 := (k0_pay298 (dtv dtr db valid) low (k0_pay284 x))
theorem xd6_at (s q : Fin 128) : xd6 dtr x db valid (ix2 s q)
    = x (ix2 s ⟨768 + q.val, by omega⟩) * dtv dtr db valid (ix2 s (if q.val < 64 then ⟨12, by decide⟩ else ⟨13, by decide⟩)) := by
  have e0 : ∀ j : Fin 128, IntOp.cmpi .eq (BitVec.ofNat 32 j.val) 12#32 = if j.val = 12 then 1#1 else 0#1 := by decide
  have e1 : ∀ j : Fin 128, IntOp.cmpi .eq (BitVec.ofNat 32 j.val) 13#32 = if j.val = 13 then 1#1 else 0#1 := by decide
  unfold xd6
  pointwise [k0_pay284, k0_pay294, k0_pay295, k0_pay296, k0_pay297, k0_pay298]
  simp only [e0, e1, low_at, select_if]
  rw [sum_pick (fun q => dtv dtr db valid (ix2 s q)) ⟨12, by decide⟩, sum_pick (fun q => dtv dtr db valid (ix2 s q)) ⟨13, by decide⟩]
  split <;> rfl
/-- The decays of heads 12 and 13 from the block's start. -/
def ee6 : FVec Ideal S128x128 .f32 := (k0_pay317 (k0_pay314 low) (k0_pay315 (cc12 cs)) (k0_pay316 (cc13 cs)))
theorem ee6_at (r q : Fin 128) : ee6 cs (ix2 r q) = Ideal.exp (cs (ix2 r (if q.val < 64 then ⟨12, by decide⟩ else ⟨13, by decide⟩))) := by
  unfold ee6
  pointwise [k0_pay312, k0_pay313, k0_pay314, k0_pay315, k0_pay316, k0_pay317]
  simp only [low_at, select_if, cc12_at, cc13_at]
  split <;> rfl
def cc14 : FVec Ideal S128x1 .f32 := (k0_pay327 cs)
theorem cc14_at (r : Fin 128) (j : Fin 1) : cc14 cs (ix2 r j) = cs (ix2 r ⟨14, by decide⟩) := by
  have e : ∀ j : Fin 128, IntOp.cmpi .eq (BitVec.ofNat 32 j.val) 14#32 = if j.val = 14 then 1#1 else 0#1 := by decide
  unfold cc14
  pointwise [k0_pay326, k0_pay327]
  simp only [e, select_if]
  exact sum_pick (fun q => cs (ix2 r q)) ⟨14, by decide⟩
def cc15 : FVec Ideal S128x1 .f32 := (k0_pay329 cs)
theorem cc15_at (r : Fin 128) (j : Fin 1) : cc15 cs (ix2 r j) = cs (ix2 r ⟨15, by decide⟩) := by
  have e : ∀ j : Fin 128, IntOp.cmpi .eq (BitVec.ofNat 32 j.val) 15#32 = if j.val = 15 then 1#1 else 0#1 := by decide
  unfold cc15
  pointwise [k0_pay328, k0_pay329]
  simp only [e, select_if]
  exact sum_pick (fun q => cs (ix2 r q)) ⟨15, by decide⟩
/-- Head 14's decays. -/
def ll14 : FVec Ideal S128x128 .f32 := (k0_pay341 k0_pay29 (k0_pay30 cs) (cc14 cs) k0_pay339 k0_pay340)
theorem ll14_at (r s : Fin 128) : ll14 cs (ix2 r s) = decay cs ⟨14, by decide⟩ r s := by
  have e : ∀ j : Fin 128, IntOp.cmpi .eq (BitVec.ofNat 32 j.val) 14#32 = if j.val = 14 then 1#1 else 0#1 := by decide
  unfold ll14
  pointwise [k0_pay30, k0_pay339, k0_pay340, k0_pay341, k0_pay30]
  simp only [e, select_if, tri_at, cc14_at, decay]
  rw [sum_pick (fun q => cs (ix2 s q)) ⟨14, by decide⟩]
  all_goals rfl
/-- Head 15's decays. -/
def ll15 : FVec Ideal S128x128 .f32 := (k0_pay343 k0_pay29 (k0_pay30 cs) (cc15 cs))
theorem ll15_at (r s : Fin 128) : ll15 cs (ix2 r s) = decay cs ⟨15, by decide⟩ r s := by
  have e : ∀ j : Fin 128, IntOp.cmpi .eq (BitVec.ofNat 32 j.val) 15#32 = if j.val = 15 then 1#1 else 0#1 := by decide
  unfold ll15
  pointwise [k0_pay30, k0_pay342, k0_pay343, k0_pay30]
  simp only [e, select_if, tri_at, cc15_at, decay]
  rw [sum_pick (fun q => cs (ix2 s q)) ⟨15, by decide⟩]
  all_goals rfl
/-- The inputs of heads 14 and 15 times their time steps. -/
def xd7 : FVec Ideal S128x128 .f32 := (k0_pay338 (dtv dtr db valid) low (k0_pay325 x))
theorem xd7_at (s q : Fin 128) : xd7 dtr x db valid (ix2 s q)
    = x (ix2 s ⟨896 + q.val, by omega⟩) * dtv dtr db valid (ix2 s (if q.val < 64 then ⟨14, by decide⟩ else ⟨15, by decide⟩)) := by
  have e0 : ∀ j : Fin 128, IntOp.cmpi .eq (BitVec.ofNat 32 j.val) 14#32 = if j.val = 14 then 1#1 else 0#1 := by decide
  have e1 : ∀ j : Fin 128, IntOp.cmpi .eq (BitVec.ofNat 32 j.val) 15#32 = if j.val = 15 then 1#1 else 0#1 := by decide
  unfold xd7
  pointwise [k0_pay325, k0_pay334, k0_pay335, k0_pay336, k0_pay337, k0_pay338]
  simp only [e0, e1, low_at, select_if]
  rw [sum_pick (fun q => dtv dtr db valid (ix2 s q)) ⟨14, by decide⟩, sum_pick (fun q => dtv dtr db valid (ix2 s q)) ⟨15, by decide⟩]
  split <;> rfl
/-- The decays of heads 14 and 15 from the block's start. -/
def ee7 : FVec Ideal S128x128 .f32 := (k0_pay358 (k0_pay355 low) (k0_pay356 (cc14 cs)) (k0_pay357 (cc15 cs)))
theorem ee7_at (r q : Fin 128) : ee7 cs (ix2 r q) = Ideal.exp (cs (ix2 r (if q.val < 64 then ⟨14, by decide⟩ else ⟨15, by decide⟩))) := by
  unfold ee7
  pointwise [k0_pay353, k0_pay354, k0_pay355, k0_pay356, k0_pay357, k0_pay358]
  simp only [low_at, select_if, cc14_at, cc15_at]
  split <;> rfl

end Cert.Kernel4Ideal.Ssd
end
-- ==== Proof.SsdOff.lean ====
module
public import proofs.«01_k».proof.Proof.SsdCol

/-! # The gradient of the reading weights at a point: the state's part and the block's part -/

@[expose] public section
set_option maxRecDepth 16384
noncomputable section
open Idealize.ShloMosaic Idealize.ShloMosaic.TcCoe
namespace Cert.Kernel4Ideal.Ssd
open Cert.Kernel4Ideal Cert.Kernel4Ideal.Gen Cert.Ssd

variable (cs dtr : FVec Ideal S128x128 .f32) (x : FVec Ideal S128x1024 .f32) (bm : FVec Ideal S128x512 .f32) (sv : FVec Ideal S1024x128 .f32)
  (db : Vec Ideal S1x128 .f32) (valid : FVec Ideal S128x1 .f32) (g : FVec Ideal S128x1024 .f32)

/-- One head's part from the state at the block's start. -/
def headOff (h : Fin 16) (r n : Fin 128) : EReal := ∑ l : Fin 64, g (ix2 r ⟨64 * h.val + l.val, by omega⟩) * Ideal.exp (cs (ix2 r ⟨h.val, by omega⟩))
  * sv (ix2 ⟨64 * h.val + l.val, by omega⟩ n)
/-- One head's products of gradient and scaled input. -/
def headProd (h : Fin 16) (r s : Fin 128) : EReal := ∑ l : Fin 64, g (ix2 r ⟨64 * h.val + l.val, by omega⟩)
  * (x (ix2 s ⟨64 * h.val + l.val, by omega⟩) * dtv dtr db valid (ix2 s ⟨h.val, by omega⟩))

/-- A sum over 128 columns, half by half. -/
theorem halves (f : Fin 128 → EReal) : (∑ q : Fin 128, f q) = (∑ l : Fin 64, f ⟨l.val, by omega⟩) + ∑ l : Fin 64, f ⟨64 + l.val, by omega⟩ :=
  Fin.sum_univ_add (M := EReal) (a := 64) (b := 64) (fun q : Fin (64 + 64) => f ⟨q.val, q.isLt⟩)
theorem off_of (r n : Fin 128) (h : Fin 16) (i : Fin 64 → Fin 1024) (e : Fin 128) (he : e.val = h.val) (hi : ∀ l, (i l).val = 64 * h.val + l.val) :
    ∑ l : Fin 64, g (ix2 r (i l)) * Ideal.exp (cs (ix2 r e)) * sv (ix2 (i l) n) = headOff cs sv g h r n := by
  obtain rfl : e = ⟨h.val, lt_of_lt_of_le h.isLt (by decide)⟩ := Fin.ext he
  unfold headOff
  refine Finset.sum_congr rfl fun l _ => ?_
  rw [show i l = ⟨64 * h.val + l.val, by omega⟩ from Fin.ext (hi l)]
theorem prod_of (r s : Fin 128) (h : Fin 16) (i : Fin 64 → Fin 1024) (e : Fin 128) (he : e.val = h.val) (hi : ∀ l, (i l).val = 64 * h.val + l.val) :
    ∑ l : Fin 64, g (ix2 r (i l)) * (x (ix2 s (i l)) * dtv dtr db valid (ix2 s e)) = headProd dtr x db valid g h r s := by
  obtain rfl : e = ⟨h.val, lt_of_lt_of_le h.isLt (by decide)⟩ := Fin.ext he
  unfold headProd
  refine Finset.sum_congr rfl fun l _ => ?_
  rw [show i l = ⟨64 * h.val + l.val, by omega⟩ from Fin.ext (hi l)]
theorem turn (a b c d : EReal) : (a + b) + (c + d) = b + a + d + c := by abel

def off0 : FVec Ideal S128x128 .f32 := (k0_pay805 (k0_pay64 sv) (ee0 cs) (k0_pay409 g) (k0_pay750 (k0_pay104 sv) (k0_pay749 (ee1 cs) (k0_pay410 g))))
theorem off0_at (r n : Fin 128) : off0 cs sv g (ix2 r n) = headOff cs sv g 3 r n + headOff cs sv g 2 r n + headOff cs sv g 1 r n + headOff cs sv g 0 r n := by
  unfold off0
  pointwise [k0_pay64, k0_pay104, k0_pay409, k0_pay410, k0_pay745, k0_pay749, k0_pay750, k0_pay801, k0_pay805]
  simp only [ee0_at, ee1_at, halves, Fin.is_lt, if_true, Nat.not_lt.mpr (Nat.le_add_right _ _), if_false]
  refine (turn _ _ _ _).trans (congrArg₂ (· + ·) (congrArg₂ (· + ·) (congrArg₂ (· + ·) (off_of cs sv g r n 3 _ _ rfl fun l => ?_) (off_of cs sv g r n 2 _ _ rfl fun l => ?_))
    (off_of cs sv g r n 1 _ _ rfl fun l => ?_)) (off_of cs sv g r n 0 _ _ rfl fun l => ?_))
  · show _ = 192 + l.val; first | rfl | (dsimp only; omega)
  · show _ = 128 + l.val; first | rfl | (dsimp only; omega)
  · show _ = 64 + l.val; first | rfl | (dsimp only; omega)
  · show _ = 0 + l.val; first | rfl | (dsimp only; omega)
def dia0 : FVec Ideal S128x128 .f32 := (k0_pay822 (xd0 dtr x db valid) (ll0 cs) (ll1 cs) (k0_pay59 low) (k0_pay409 g) (k0_pay770 (ll2 cs) (k0_pay765 (xd1 dtr x db valid) (ll3 cs) (k0_pay99 low) (k0_pay410 g)) (k0_pay766 (k0_pay99 low) (k0_pay410 g)) (k0_pay767 (xd1 dtr x db valid)) (constant S128x128 .f32 0x00000000#32)))
theorem dia0_at (r s : Fin 128) : dia0 cs dtr x db valid g (ix2 r s) = headProd dtr x db valid g 3 r s * decay cs 3 r s + headProd dtr x db valid g 2 r s * decay cs 2 r s
    + headProd dtr x db valid g 1 r s * decay cs 1 r s + headProd dtr x db valid g 0 r s * decay cs 0 r s := by
  unfold dia0
  pointwise [k0_pay59, k0_pay99, k0_pay409, k0_pay410, k0_pay759, k0_pay760, k0_pay761, k0_pay762, k0_pay765, k0_pay766, k0_pay767, k0_pay768, k0_pay770, k0_pay815, k0_pay816, k0_pay817, k0_pay818, k0_pay819, k0_pay822]
  simp only [xd0_at, xd1_at, ll0_at, ll1_at, ll2_at, ll3_at, low_at, select_if, Nat.zero_add, sum_low, sum_high, Fin.is_lt, if_true, Nat.not_lt.mpr (Nat.le_add_right _ _), if_false]
  refine congrArg₂ (· + ·) (congrArg₂ (· + ·) (congrArg₂ (· + ·) (congrArg₂ (· * ·) (prod_of dtr x db valid g r s 3 _ _ rfl fun l => ?_) rfl) (congrArg₂ (· * ·) (prod_of dtr x db valid g r s 2 _ _ rfl fun l => ?_) rfl))
    (congrArg₂ (· * ·) (prod_of dtr x db valid g r s 1 _ _ rfl fun l => ?_) rfl)) (congrArg₂ (· * ·) (prod_of dtr x db valid g r s 0 _ _ rfl fun l => ?_) rfl)
  · show _ = 192 + l.val; first | rfl | (dsimp only; omega)
  · show _ = 128 + l.val; first | rfl | (dsimp only; omega)
  · show _ = 64 + l.val; first | rfl | (dsimp only; omega)
  · show _ = 0 + l.val; first | rfl | (dsimp only; omega)
def off1 : FVec Ideal S128x128 .f32 := (k0_pay692 (k0_pay639 (k0_pay185 sv) (k0_pay635 (ee3 cs) (k0_pay412 g))) (k0_pay690 (k0_pay146 sv) (ee2 cs) (k0_pay411 g)))
theorem off1_at (r n : Fin 128) : off1 cs sv g (ix2 r n) = headOff cs sv g 7 r n + headOff cs sv g 6 r n + headOff cs sv g 5 r n + headOff cs sv g 4 r n := by
  unfold off1
  pointwise [k0_pay146, k0_pay185, k0_pay411, k0_pay412, k0_pay635, k0_pay639, k0_pay686, k0_pay690, k0_pay692]
  simp only [ee2_at, ee3_at, halves, Fin.is_lt, if_true, Nat.not_lt.mpr (Nat.le_add_right _ _), if_false]
  refine (turn _ _ _ _).trans (congrArg₂ (· + ·) (congrArg₂ (· + ·) (congrArg₂ (· + ·) (off_of cs sv g r n 7 _ _ rfl fun l => ?_) (off_of cs sv g r n 6 _ _ rfl fun l => ?_))
    (off_of cs sv g r n 5 _ _ rfl fun l => ?_)) (off_of cs sv g r n 4 _ _ rfl fun l => ?_))
  · show _ = 448 + l.val; first | rfl | (dsimp only; omega)
  · show _ = 384 + l.val; first | rfl | (dsimp only; omega)
  · show _ = 320 + l.val; first | rfl | (dsimp only; omega)
  · show _ = 256 + l.val; first | rfl | (dsimp only; omega)
def dia1 : FVec Ideal S128x128 .f32 := (k0_pay711 (ll4 cs) (k0_pay707 (xd2 dtr x db valid) (ll5 cs) (k0_pay141 low) (k0_pay411 g) (k0_pay655 (xd3 dtr x db valid) (ll6 cs) (ll7 cs) (k0_pay650 (k0_pay180 low) (k0_pay412 g)) (k0_pay651 (xd3 dtr x db valid) (k0_pay180 low) (k0_pay412 g)))) (k0_pay708 (xd2 dtr x db valid) (k0_pay141 low) (k0_pay411 g)))
theorem dia1_at (r s : Fin 128) : dia1 cs dtr x db valid g (ix2 r s) = headProd dtr x db valid g 7 r s * decay cs 7 r s + headProd dtr x db valid g 6 r s * decay cs 6 r s
    + headProd dtr x db valid g 5 r s * decay cs 5 r s + headProd dtr x db valid g 4 r s * decay cs 4 r s := by
  unfold dia1
  pointwise [k0_pay141, k0_pay180, k0_pay411, k0_pay412, k0_pay648, k0_pay649, k0_pay650, k0_pay651, k0_pay653, k0_pay655, k0_pay701, k0_pay702, k0_pay703, k0_pay704, k0_pay707, k0_pay708, k0_pay711]
  simp only [xd2_at, xd3_at, ll4_at, ll5_at, ll6_at, ll7_at, low_at, select_if, Nat.zero_add, sum_low, sum_high, Fin.is_lt, if_true, Nat.not_lt.mpr (Nat.le_add_right _ _), if_false]
  refine congrArg₂ (· + ·) (congrArg₂ (· + ·) (congrArg₂ (· + ·) (congrArg₂ (· * ·) (prod_of dtr x db valid g r s 7 _ _ rfl fun l => ?_) rfl) (congrArg₂ (· * ·) (prod_of dtr x db valid g r s 6 _ _ rfl fun l => ?_) rfl))
    (congrArg₂ (· * ·) (prod_of dtr x db valid g r s 5 _ _ rfl fun l => ?_) rfl)) (congrArg₂ (· * ·) (prod_of dtr x db valid g r s 4 _ _ rfl fun l => ?_) rfl)
  · show _ = 448 + l.val; first | rfl | (dsimp only; omega)
  · show _ = 384 + l.val; first | rfl | (dsimp only; omega)
  · show _ = 320 + l.val; first | rfl | (dsimp only; omega)
  · show _ = 256 + l.val; first | rfl | (dsimp only; omega)
def off2 : FVec Ideal S128x128 .f32 := (k0_pay585 (k0_pay227 sv) (k0_pay534 (k0_pay268 sv) (ee5 cs) (k0_pay414 g)) (k0_pay581 (ee4 cs) (k0_pay413 g)))
theorem off2_at (r n : Fin 128) : off2 cs sv g (ix2 r n) = headOff cs sv g 11 r n + headOff cs sv g 10 r n + headOff cs sv g 9 r n + headOff cs sv g 8 r n := by
  unfold off2
  pointwise [k0_pay227, k0_pay268, k0_pay413, k0_pay414, k0_pay532, k0_pay534, k0_pay581, k0_pay585]
  simp only [ee4_at, ee5_at, halves, Fin.is_lt, if_true, Nat.not_lt.mpr (Nat.le_add_right _ _), if_false]
  refine (turn _ _ _ _).trans (congrArg₂ (· + ·) (congrArg₂ (· + ·) (congrArg₂ (· + ·) (off_of cs sv g r n 11 _ _ rfl fun l => ?_) (off_of cs sv g r n 10 _ _ rfl fun l => ?_))
    (off_of cs sv g r n 9 _ _ rfl fun l => ?_)) (off_of cs sv g r n 8 _ _ rfl fun l => ?_))
  · show _ = 704 + l.val; first | rfl | (dsimp only; omega)
  · show _ = 640 + l.val; first | rfl | (dsimp only; omega)
  · show _ = 576 + l.val; first | rfl | (dsimp only; omega)
  · show _ = 512 + l.val; first | rfl | (dsimp only; omega)
def dia2 : FVec Ideal S128x128 .f32 := (k0_pay603 (xd4 dtr x db valid) (ll8 cs) (k0_pay549 (xd5 dtr x db valid) (ll10 cs) (ll11 cs) (k0_pay263 low) (k0_pay414 g)) (k0_pay596 (k0_pay222 low) (k0_pay413 g)) (k0_pay600 (xd4 dtr x db valid) (ll9 cs) (k0_pay222 low) (k0_pay413 g)))
theorem dia2_at (r s : Fin 128) : dia2 cs dtr x db valid g (ix2 r s) = headProd dtr x db valid g 11 r s * decay cs 11 r s + headProd dtr x db valid g 10 r s * decay cs 10 r s
    + headProd dtr x db valid g 9 r s * decay cs 9 r s + headProd dtr x db valid g 8 r s * decay cs 8 r s := by
  unfold dia2
  pointwise [k0_pay222, k0_pay263, k0_pay413, k0_pay414, k0_pay543, k0_pay544, k0_pay545, k0_pay546, k0_pay547, k0_pay549, k0_pay594, k0_pay595, k0_pay596, k0_pay597, k0_pay600, k0_pay601, k0_pay603]
  simp only [xd4_at, xd5_at, ll8_at, ll9_at, ll10_at, ll11_at, low_at, select_if, Nat.zero_add, sum_low, sum_high, Fin.is_lt, if_true, Nat.not_lt.mpr (Nat.le_add_right _ _), if_false]
  refine congrArg₂ (· + ·) (congrArg₂ (· + ·) (congrArg₂ (· + ·) (congrArg₂ (· * ·) (prod_of dtr x db valid g r s 11 _ _ rfl fun l => ?_) rfl) (congrArg₂ (· * ·) (prod_of dtr x db valid g r s 10 _ _ rfl fun l => ?_) rfl))
    (congrArg₂ (· * ·) (prod_of dtr x db valid g r s 9 _ _ rfl fun l => ?_) rfl)) (congrArg₂ (· * ·) (prod_of dtr x db valid g r s 8 _ _ rfl fun l => ?_) rfl)
  · show _ = 704 + l.val; first | rfl | (dsimp only; omega)
  · show _ = 640 + l.val; first | rfl | (dsimp only; omega)
  · show _ = 576 + l.val; first | rfl | (dsimp only; omega)
  · show _ = 512 + l.val; first | rfl | (dsimp only; omega)
def off3 : FVec Ideal S128x128 .f32 := (k0_pay483 (k0_pay310 sv) (ee6 cs) (k0_pay415 g) (k0_pay434 (k0_pay351 sv) (ee7 cs) (k0_pay416 g)))
theorem off3_at (r n : Fin 128) : off3 cs sv g (ix2 r n) = headOff cs sv g 15 r n + headOff cs sv g 14 r n + headOff cs sv g 13 r n + headOff cs sv g 12 r n := by
  unfold off3
  pointwise [k0_pay310, k0_pay351, k0_pay415, k0_pay416, k0_pay430, k0_pay434, k0_pay481, k0_pay483]
  simp only [ee6_at, ee7_at, halves, Fin.is_lt, if_true, Nat.not_lt.mpr (Nat.le_add_right _ _), if_false]
  refine (turn _ _ _ _).trans (congrArg₂ (· + ·) (congrArg₂ (· + ·) (congrArg₂ (· + ·) (off_of cs sv g r n 15 _ _ rfl fun l => ?_) (off_of cs sv g r n 14 _ _ rfl fun l => ?_))
    (off_of cs sv g r n 13 _ _ rfl fun l => ?_)) (off_of cs sv g r n 12 _ _ rfl fun l => ?_))
  · show _ = 960 + l.val; first | rfl | (dsimp only; omega)
  · show _ = 896 + l.val; first | rfl | (dsimp only; omega)
  · show _ = 832 + l.val; first | rfl | (dsimp only; omega)
  · show _ = 768 + l.val; first | rfl | (dsimp only; omega)
def dia3 : FVec Ideal S128x128 .f32 := (k0_pay498 (xd6 dtr x db valid) (ll12 cs) (ll13 cs) (k0_pay305 low) (k0_pay415 g) (k0_pay452 (xd7 dtr x db valid) (ll14 cs) (ll15 cs) (k0_pay346 low) (k0_pay416 g)))
theorem dia3_at (r s : Fin 128) : dia3 cs dtr x db valid g (ix2 r s) = headProd dtr x db valid g 15 r s * decay cs 15 r s + headProd dtr x db valid g 14 r s * decay cs 14 r s
    + headProd dtr x db valid g 13 r s * decay cs 13 r s + headProd dtr x db valid g 12 r s * decay cs 12 r s := by
  unfold dia3
  pointwise [k0_pay305, k0_pay346, k0_pay415, k0_pay416, k0_pay445, k0_pay446, k0_pay447, k0_pay448, k0_pay449, k0_pay452, k0_pay492, k0_pay493, k0_pay494, k0_pay495, k0_pay496, k0_pay498]
  simp only [xd6_at, xd7_at, ll12_at, ll13_at, ll14_at, ll15_at, low_at, select_if, Nat.zero_add, sum_low, sum_high, Fin.is_lt, if_true, Nat.not_lt.mpr (Nat.le_add_right _ _), if_false]
  refine congrArg₂ (· + ·) (congrArg₂ (· + ·) (congrArg₂ (· + ·) (congrArg₂ (· * ·) (prod_of dtr x db valid g r s 15 _ _ rfl fun l => ?_) rfl) (congrArg₂ (· * ·) (prod_of dtr x db valid g r s 14 _ _ rfl fun l => ?_) rfl))
    (congrArg₂ (· * ·) (prod_of dtr x db valid g r s 13 _ _ rfl fun l => ?_) rfl)) (congrArg₂ (· * ·) (prod_of dtr x db valid g r s 12 _ _ rfl fun l => ?_) rfl)
  · show _ = 960 + l.val; first | rfl | (dsimp only; omega)
  · show _ = 896 + l.val; first | rfl | (dsimp only; omega)
  · show _ = 832 + l.val; first | rfl | (dsimp only; omega)
  · show _ = 768 + l.val; first | rfl | (dsimp only; omega)
def kdc : FVec Ideal S128x512 .f32 := (k0_pay840 (k0_pay727 (k0_pay117 bm) (k0_pay617 (k0_pay198 bm) (k0_pay514 (k0_pay281 bm) (off3 cs sv g) (dia3 cs dtr x db valid g)) (off2 cs sv g) (dia2 cs dtr x db valid g)) (off1 cs sv g) (dia1 cs dtr x db valid g)) (k0_pay838 (k0_pay35 bm) (off0 cs sv g) (dia0 cs dtr x db valid g)))

/-- The reading weights' gradient for one group's column. -/
def groupGrad (G : Fin 4) (r n : Fin 128) : EReal := (∑ R : Fin 4, headOff cs sv g ⟨4 * G.val + R.val, by omega⟩ r n)
  + ∑ s : Fin 128, (∑ R : Fin 4, headProd dtr x db valid g ⟨4 * G.val + R.val, by omega⟩ r s * decay cs ⟨4 * G.val + R.val, by omega⟩ r s)
    * bm (ix2 s ⟨128 * G.val + n.val, by omega⟩)
theorem four (f : Fin 4 → EReal) : f 3 + f 2 + f 1 + f 0 = ∑ R : Fin 4, f R := by
  rw [Fin.sum_univ_four]; abel

theorem off0_sum (r n : Fin 128) : off0 cs sv g (ix2 r n) = ∑ R : Fin 4, headOff cs sv g ⟨4 * 0 + R.val, by omega⟩ r n :=
  (off0_at cs sv g r n).trans (four fun R => headOff cs sv g ⟨4 * 0 + R.val, by omega⟩ r n)
theorem dia0_sum (r s : Fin 128) : dia0 cs dtr x db valid g (ix2 r s)
    = ∑ R : Fin 4, headProd dtr x db valid g ⟨4 * 0 + R.val, by omega⟩ r s * decay cs ⟨4 * 0 + R.val, by omega⟩ r s :=
  (dia0_at cs dtr x db valid g r s).trans (four fun R => headProd dtr x db valid g ⟨4 * 0 + R.val, by omega⟩ r s * decay cs ⟨4 * 0 + R.val, by omega⟩ r s)
theorem off1_sum (r n : Fin 128) : off1 cs sv g (ix2 r n) = ∑ R : Fin 4, headOff cs sv g ⟨4 * 1 + R.val, by omega⟩ r n :=
  (off1_at cs sv g r n).trans (four fun R => headOff cs sv g ⟨4 * 1 + R.val, by omega⟩ r n)
theorem dia1_sum (r s : Fin 128) : dia1 cs dtr x db valid g (ix2 r s)
    = ∑ R : Fin 4, headProd dtr x db valid g ⟨4 * 1 + R.val, by omega⟩ r s * decay cs ⟨4 * 1 + R.val, by omega⟩ r s :=
  (dia1_at cs dtr x db valid g r s).trans (four fun R => headProd dtr x db valid g ⟨4 * 1 + R.val, by omega⟩ r s * decay cs ⟨4 * 1 + R.val, by omega⟩ r s)
theorem off2_sum (r n : Fin 128) : off2 cs sv g (ix2 r n) = ∑ R : Fin 4, headOff cs sv g ⟨4 * 2 + R.val, by omega⟩ r n :=
  (off2_at cs sv g r n).trans (four fun R => headOff cs sv g ⟨4 * 2 + R.val, by omega⟩ r n)
theorem dia2_sum (r s : Fin 128) : dia2 cs dtr x db valid g (ix2 r s)
    = ∑ R : Fin 4, headProd dtr x db valid g ⟨4 * 2 + R.val, by omega⟩ r s * decay cs ⟨4 * 2 + R.val, by omega⟩ r s :=
  (dia2_at cs dtr x db valid g r s).trans (four fun R => headProd dtr x db valid g ⟨4 * 2 + R.val, by omega⟩ r s * decay cs ⟨4 * 2 + R.val, by omega⟩ r s)
theorem off3_sum (r n : Fin 128) : off3 cs sv g (ix2 r n) = ∑ R : Fin 4, headOff cs sv g ⟨4 * 3 + R.val, by omega⟩ r n :=
  (off3_at cs sv g r n).trans (four fun R => headOff cs sv g ⟨4 * 3 + R.val, by omega⟩ r n)
theorem dia3_sum (r s : Fin 128) : dia3 cs dtr x db valid g (ix2 r s)
    = ∑ R : Fin 4, headProd dtr x db valid g ⟨4 * 3 + R.val, by omega⟩ r s * decay cs ⟨4 * 3 + R.val, by omega⟩ r s :=
  (dia3_at cs dtr x db valid g r s).trans (four fun R => headProd dtr x db valid g ⟨4 * 3 + R.val, by omega⟩ r s * decay cs ⟨4 * 3 + R.val, by omega⟩ r s)
theorem kdc_at (r : Fin 128) (q : Fin 512) : kdc cs dtr x bm sv db valid g (ix2 r q) = groupGrad cs dtr x bm sv db valid g ⟨q.val / 128, by omega⟩ r ⟨q.val % 128, by omega⟩ := by
  have e : ∀ (G : Fin 4) (h : q.val / 128 = G.val), groupGrad cs dtr x bm sv db valid g ⟨q.val / 128, by omega⟩ r ⟨q.val % 128, by omega⟩
      = groupGrad cs dtr x bm sv db valid g G r ⟨q.val - 128 * G.val, by omega⟩ := by
    intro G h
    congr 1
    · exact Fin.ext h
    · apply Fin.ext; dsimp only; omega
  unfold kdc
  pointwise [k0_pay35, k0_pay117, k0_pay198, k0_pay281, k0_pay514, k0_pay617, k0_pay727, k0_pay838, k0_pay840]
  rcases (show q.val / 128 = 0 ∨ q.val / 128 = 1 ∨ q.val / 128 = 2 ∨ q.val / 128 = 3 by omega) with h | h | h | h
  · rw [e 0 h]
    simp only [dif_pos (show q.val < 128 by omega), dif_pos (show q.val < 256 by omega), dif_pos (show q.val < 384 by omega), zero_add, add_zero, off0_sum, dia0_sum]
    unfold groupGrad
    refine congrArg₂ (· + ·) rfl (Finset.sum_congr rfl fun s _ => congrArg₂ (· * ·) rfl (congrArg bm (congrArg (ix2 s) (Fin.ext ?_))))
    show _ = 0 + (q.val - 0); first | rfl | omega
  · rw [e 1 h]
    simp only [dif_neg (show ¬ q.val < 128 by omega), dif_pos (show q.val < 256 by omega), dif_pos (show q.val < 384 by omega), zero_add, add_zero, off1_sum, dia1_sum]
    unfold groupGrad
    refine congrArg₂ (· + ·) rfl (Finset.sum_congr rfl fun s _ => congrArg₂ (· * ·) rfl (congrArg bm (congrArg (ix2 s) (Fin.ext ?_))))
    show _ = 128 + (q.val - 128); first | rfl | omega
  · rw [e 2 h]
    simp only [dif_neg (show ¬ q.val < 128 by omega), dif_neg (show ¬ q.val < 256 by omega), dif_pos (show q.val < 384 by omega), zero_add, add_zero, off2_sum, dia2_sum]
    unfold groupGrad
    refine congrArg₂ (· + ·) rfl (Finset.sum_congr rfl fun s _ => congrArg₂ (· * ·) rfl (congrArg bm (congrArg (ix2 s) (Fin.ext ?_))))
    show _ = 256 + (q.val - 256); first | rfl | omega
  · rw [e 3 h]
    simp only [dif_neg (show ¬ q.val < 128 by omega), dif_neg (show ¬ q.val < 256 by omega), dif_neg (show ¬ q.val < 384 by omega), zero_add, add_zero, off3_sum, dia3_sum]
    unfold groupGrad
    refine congrArg₂ (· + ·) rfl (Finset.sum_congr rfl fun s _ => congrArg₂ (· * ·) rfl (congrArg bm (congrArg (ix2 s) (Fin.ext ?_))))
    show _ = 384 + (q.val - 384); first | rfl | omega

end Cert.Kernel4Ideal.Ssd
end
-- ==== Proof.SsdBlock.lean ====
module
public import proofs.«01_k».proof.Proof.Gen.Kernel4Ideal.Frame
public import proofs.«01_k».proof.Proof.SsdOff

/-! # The blocks the kernel takes at a point -/

@[expose] public section
set_option maxRecDepth 16384
noncomputable section
open Idealize.ShloMosaic Idealize.ShloMosaic.TcCoe Idealize.SL.Sem
open Idealize.ShloMosaic.Pipeline (Dat)
namespace Cert.Kernel4Ideal.Ssd
open Cert.Kernel4Ideal Cert.Kernel4Ideal.Gen Cert.Ssd
variable (m : (ℓ : Loc nD τ sig) → Buf (Elt Ideal) ℓ)

/-- The blocks' positions at a point: the blocks of rows are taken from the last to the first. -/
theorem idx0 : ∀ t : Fin cfg0.N, win0_0.index t = ![t.val / 17, 16 - t.val % 17, 0] ∧ win0_1.index t = ![t.val / 17, 16 - t.val % 17, 2]
    ∧ win0_3.index t = ![t.val / 17, 16 - t.val % 17, 0] ∧ win0_4.index t = ![t.val / 17, 16 - t.val % 17, 0] ∧ win0_5.index t = ![0, 0]
    ∧ win0_8.index t = ![0, 0] ∧ win0_9.index t = ![t.val / 17, 16 - t.val % 17, 0, 0] ∧ win0_10.index t = ![t.val / 17, 16 - t.val % 17, 0]
    ∧ win0_12.index t = ![t.val / 17, 16 - t.val % 17, 0] ∧ win0_13.index t = ![t.val / 17, 16 - t.val % 17, 0]
    ∧ win0_14.index t = ![t.val / 17, 16 - t.val % 17, 0] ∧ win0_16.index t = ![t.val / 17, 16 - t.val % 17, 0]
    ∧ win0_17.index t = ![0, 0] ∧ win0_18.index t = ![0, 0] :=
  (by decide +kernel : ∀ t : Fin grid0.N, _)

theorem lt34 (t : Fin cfg0.N) : t.val < 34 := lt_of_lt_of_eq t.isLt (by decide +kernel)
/-- The sequence of a point. -/
def bat (t : Fin cfg0.N) : Fin 2 := ⟨t.val / 17, by have := lt34 t; omega⟩
/-- The number of a point's block of rows. -/
def chk (t : Fin cfg0.N) : Fin 17 := ⟨16 - t.val % 17, by omega⟩
/-- Row `r` of a block. -/
def at0 (k : Fin 17) (r : Fin 128) : Fin 2176 := ⟨128 * k.val + r.val, by omega⟩

variable (c : Dev nD) (t : Fin cfg0.N) (r : Fin 128) (q : Fin 1024) (l : Fin 128) (p : Fin 512)

theorem y_blk : k0_pay11 (iblk m c 12 t) (ix2 r q) = V m c main_arg10 (ix3 (bat t) (at0 (chk t) r) q) := by
  pointwise [k0_pay11]
  blk_point [iblk, idx0 t, bat, chk, at0]
theorem z_blk : k0_pay16 (iblk m c 4 t) (ix2 r q) = V m c main_arg2 (ix3 (bat t) (at0 (chk t) r) q) := by
  pointwise [k0_pay16]
  blk_point [iblk, idx0 t, bat, chk, at0]
theorem d_blk : k0_pay388 (iblk m c 13 t) (ix2 r q) = V m c main_arg11 (ix3 (bat t) (at0 (chk t) r) q) := by
  pointwise [k0_pay388]
  blk_point [iblk, idx0 t, bat, chk, at0]
theorem x_blk : k0_pay12 (iblk m c 0 t) (ix2 r q) = V m c main_arg0 (ix3 (bat t) (at0 (chk t) r) ⟨q.val, by omega⟩) := by
  pointwise [k0_pay12]
  blk_point [iblk, idx0 t, bat, chk, at0]
theorem b_blk : k0_pay13 (iblk m c 1 t) (ix2 r p) = V m c main_arg0 (ix3 (bat t) (at0 (chk t) r) ⟨1024 + p.val, by omega⟩) := by
  pointwise [k0_pay13]
  blk_point [iblk, idx0 t, bat, chk, at0]
theorem dt_blk : k0_pay15 (iblk m c 3 t) (ix2 r l) = V m c main_arg1 (ix3 (bat t) (at0 (chk t) r) l) := by
  pointwise [k0_pay15]
  blk_point [iblk, idx0 t, bat, chk, at0]
theorem cs_blk : k0_pay9 (iblk m c 10 t) (ix2 r l) = V m c main_arg8 (ix3 (bat t) (at0 (chk t) r) l) := by
  pointwise [k0_pay9]
  blk_point [iblk, idx0 t, bat, chk, at0]
theorem sv_blk : k0_pay17 (iblk m c 9 t) (ix2 q l) = V m c main_arg7 (ix4 (bat t) (chk t) q l) := by
  pointwise [k0_pay17]
  blk_point [iblk, idx0 t, bat, chk, at0]
theorem w_blk : iblk m c 8 t (ix2 0 q) = V m c main_arg6 (ix2 0 q) := by
  blk_point [iblk, idx0 t]
theorem db_blk : iblk m c 5 t (ix2 0 l) = V m c main_arg3 (ix2 0 l) := by
  blk_point [iblk, idx0 t]

end Cert.Kernel4Ideal.Ssd
end
-- ==== Proof.SsdWhole.lean ====
module
public import proofs.«01_k».proof.Proof.SsdBlock
public import proofs.«01_k».proof.Proof.SsdOff
public import proofs.«01_k».proof.Proof.SsdSkip

/-! # The mixer's gradients as formulas of whole arrays -/

@[expose] public section
set_option maxRecDepth 16384
noncomputable section
open Idealize.ShloMosaic Idealize.ShloMosaic.TcCoe Idealize.SL.Sem
namespace Cert.Kernel4Ideal.Ssd
open Cert.Kernel4Ideal Cert.Kernel4Ideal.Gen Cert.Ssd

/-- A row of an array. -/
def row3 (a : S2x2176x1024.Idx → EReal) (b : Fin 2) (r : Fin 2176) : Row := fun q => a (ix3 b r q)

/-- The absolute value. -/
def mag (x : EReal) : EReal := @FloatOps.absf Ideal _ .f32 x

/-- A column of a head. -/
def hcol (h : Fin 16) (l : Fin 64) : Fin 1024 := ⟨64 * h.val + l.val, by omega⟩
/-- A head of a group. -/
def hd (G R : Fin 4) : Fin 16 := ⟨4 * G.val + R.val, by omega⟩

variable (y z d : S2x2176x1024.Idx → EReal) (w : S1x1024.Idx → EReal) (xa : S2x2176x2048.Idx → EReal)
  (dtr cs : S2x2176x128.Idx → EReal) (db : S1x128.Idx → EReal) (sv : S2x17x1024x128.Idx → EReal)

/-- The gradient of the mixer's output before the gate. -/
def dyAt (b : Fin 2) (r : Fin 2176) (q : Fin 1024) : EReal := dyRow (row3 y b r) (row3 z b r) (fun q => w (ix2 0 q)) (row3 d b r) q
/-- The gradient of the gate's argument. -/
def dzAt (b : Fin 2) (r : Fin 2176) (q : Fin 1024) : EReal := dzRow (row3 y b r) (row3 z b r) (fun q => w (ix2 0 q)) (row3 d b r) q
/-- The gradient of the norm's weight. -/
def dnwAt (q : Fin 1024) : EReal := ∑ b : Fin 2, ∑ r : Fin 2176, dnwRow (row3 y b r) (row3 z b r) (row3 d b r) q
/-- The gradient of a head's skip weight. -/
def ddAt (h : Fin 16) : EReal := ∑ b : Fin 2, ∑ r : Fin 2176, ∑ l : Fin 64, xa (ix3 b r ⟨(hcol h l).val, by omega⟩) * dyAt y z d w b r (hcol h l)
/-- The time steps, zero on the rows in front. -/
def stepAt (b : Fin 2) (r : Fin 2176) (h : Fin 16) : EReal :=
  if r.val < 112 then 0 else
    max (dtr (ix3 b r ⟨h.val, by omega⟩) + db (ix2 0 ⟨h.val, by omega⟩)) 0
      + Ideal.log (1 + Ideal.exp (0 - mag (dtr (ix3 b r ⟨h.val, by omega⟩) + db (ix2 0 ⟨h.val, by omega⟩))))
/-- The decay from one row of a block to another. -/
def decAt (b : Fin 2) (k : Fin 17) (h : Fin 16) (r s : Fin 128) : EReal :=
  Ideal.exp (if s.val ≤ r.val then cs (ix3 b (at0 k r) ⟨h.val, by omega⟩) - cs (ix3 b (at0 k s) ⟨h.val, by omega⟩) else ⊥)
/-- A head's part from the state carried into the block. -/
def offAt (b : Fin 2) (k : Fin 17) (h : Fin 16) (r n : Fin 128) : EReal :=
  ∑ l : Fin 64, dyAt y z d w b (at0 k r) (hcol h l) * Ideal.exp (cs (ix3 b (at0 k r) ⟨h.val, by omega⟩)) * sv (ix4 b k (hcol h l) n)
/-- A head's products of gradient and scaled input within the block. -/
def prodAt (b : Fin 2) (k : Fin 17) (h : Fin 16) (r s : Fin 128) : EReal :=
  ∑ l : Fin 64, dyAt y z d w b (at0 k r) (hcol h l) * (xa (ix3 b (at0 k s) ⟨(hcol h l).val, by omega⟩) * stepAt dtr db b (at0 k s) h)
/-- The gradient of the reading weights. -/
def dcAt (b : Fin 2) (k : Fin 17) (r : Fin 128) (G : Fin 4) (n : Fin 128) : EReal :=
  (∑ R : Fin 4, offAt y z d w cs sv b k (hd G R) r n)
    + ∑ s : Fin 128, (∑ R : Fin 4, prodAt y z d w xa dtr db b k (hd G R) r s * decAt cs b k (hd G R) r s) * xa (ix3 b (at0 k s) ⟨1024 + (128 * G.val + n.val), by omega⟩)

/-- The sum over the region's points and a block's rows is the sum over the sequences and their rows. -/
theorem sum_points (f : Fin 2 → Fin 2176 → EReal) :
    (∑ s : Fin 34, ∑ r : Fin 128, f ⟨s.val / 17, by omega⟩ (at0 ⟨16 - s.val % 17, by omega⟩ r)) = ∑ b : Fin 2, ∑ R : Fin 2176, f b R := by
  have h1 : ∀ b : Fin 2, (∑ R : Fin 2176, f b R) = ∑ k : Fin 17, ∑ r : Fin 128, f b (at0 k r) := by
    intro b
    rw [← Equiv.sum_comp (finProdFinEquiv (m := 17) (n := 128)) (fun R => f b R), Fintype.sum_prod_type]
    refine Finset.sum_congr rfl fun k _ => Finset.sum_congr rfl fun r _ => congrArg (f b) (Fin.ext ?_)
    simp only [finProdFinEquiv_apply_val, at0]; omega
  rw [← Equiv.sum_comp (finProdFinEquiv (m := 2) (n := 17)) (fun s : Fin 34 => ∑ r : Fin 128, f ⟨s.val / 17, by omega⟩ (at0 ⟨16 - s.val % 17, by omega⟩ r)), Fintype.sum_prod_type]
  refine Finset.sum_congr rfl fun b _ => ?_
  rw [h1, ← Equiv.sum_comp Fin.revPerm (fun k : Fin 17 => ∑ r : Fin 128, f b (at0 k r))]
  refine Finset.sum_congr rfl fun k _ => Finset.sum_congr rfl fun r _ => ?_
  congr 1
  · apply Fin.ext; simp only [finProdFinEquiv_apply_val]; omega
  · congr 1; apply Fin.ext; simp only [finProdFinEquiv_apply_val, Fin.revPerm_apply, Fin.val_rev]; omega

/-- A point of the region by its number. -/
def pt (s : Fin 34) : Fin cfg0.N := ⟨s.val, by rw [show cfg0.N = 34 from by decide +kernel]; exact s.isLt⟩
theorem bat_pt (s : Fin 34) : bat (pt s) = ⟨s.val / 17, by omega⟩ := rfl
theorem chk_pt (s : Fin 34) : chk (pt s) = ⟨16 - s.val % 17, by omega⟩ := rfl

variable (m : (ℓ : Loc nD τ sig) → Buf (Elt Ideal) ℓ) (c : Dev nD) (t : Fin cfg0.N) (r : Fin 128)

/-- What the last point leaves. -/
theorem same (ht : t.val % 34 = 33) (h33 : 33 < cfg0.N) : outsAt0 m c t.val t.isLt = outsAt0 m c 33 h33 := by
  have hv : ∀ (n : ℕ) (hn : n < cfg0.N), n = 33 → outsAt0 m c n hn = outsAt0 m c 33 h33 := by
    intro n hn e; subst e; rfl
  exact hv t.val t.isLt (by have := lt34 t; omega)

theorem y_row : rowOf (k0_pay11 (iblk m c 12 t)) r = row3 (V m c main_arg10) (bat t) (at0 (chk t) r) := funext fun q => y_blk m c t r q
theorem z_row : rowOf (k0_pay16 (iblk m c 4 t)) r = row3 (V m c main_arg2) (bat t) (at0 (chk t) r) := funext fun q => z_blk m c t r q
theorem d_row : rowOf (k0_pay388 (iblk m c 13 t)) r = row3 (V m c main_arg11) (bat t) (at0 (chk t) r) := funext fun q => d_blk m c t r q
theorem w_row : rowW (iblk m c 8 t) = fun q => V m c main_arg6 (ix2 0 q) := funext fun q => w_blk m c t q

/-- The block of the gate argument's gradient. -/
def dzBlk : FVec Ideal S128x1024 .f32 := kdz (k0_pay11 (iblk m c 12 t)) (k0_pay16 (iblk m c 4 t)) (iblk m c 8 t) (k0_pay388 (iblk m c 13 t))
/-- The block of the output's gradient before the gate. -/
def dyBlk : FVec Ideal S128x1024 .f32 := kdy (k0_pay11 (iblk m c 12 t)) (k0_pay16 (iblk m c 4 t)) (iblk m c 8 t) (k0_pay388 (iblk m c 13 t))
/-- What a block adds to the norm's weight's gradient. -/
def dnwBlk : FVec Ideal S1x1024 .f32 := kdnw (k0_pay11 (iblk m c 12 t)) (k0_pay16 (iblk m c 4 t)) (k0_pay388 (iblk m c 13 t))
/-- What a block adds to the skip weights' gradient. -/
def ddBlk : FVec Ideal S1x128 .f32 := kdd (k0_pay12 (iblk m c 0 t)) (dyBlk m c t)
/-- The block of the reading weights' gradient. -/
def dcBlk : FVec Ideal S128x512 .f32 := kdc (k0_pay9 (iblk m c 10 t)) (k0_pay15 (iblk m c 3 t)) (k0_pay12 (iblk m c 0 t)) (k0_pay13 (iblk m c 1 t)) (k0_pay17 (iblk m c 9 t)) (iblk m c 5 t) (k0_pay8 (grid0.coords t)) (dyBlk m c t)

theorem dzBlk_at (q : Fin 1024) : dzBlk m c t (ix2 r q) = dzAt (V m c main_arg10) (V m c main_arg2) (V m c main_arg11) (V m c main_arg6) (bat t) (at0 (chk t) r) q := by
  rw [dzBlk, dz_at, y_row, z_row, d_row, w_row]; rfl
theorem dyBlk_at (q : Fin 1024) : dyBlk m c t (ix2 r q) = dyAt (V m c main_arg10) (V m c main_arg2) (V m c main_arg11) (V m c main_arg6) (bat t) (at0 (chk t) r) q := by
  rw [dyBlk, dy_at, y_row, z_row, d_row, w_row]; rfl
theorem dnwBlk_at (q : Fin 1024) : dnwBlk m c t (ix2 0 q) = ∑ r : Fin 128, dnwRow (row3 (V m c main_arg10) (bat t) (at0 (chk t) r)) (row3 (V m c main_arg2) (bat t) (at0 (chk t) r)) (row3 (V m c main_arg11) (bat t) (at0 (chk t) r)) q := by
  rw [dnwBlk, dnw_at]
  exact Finset.sum_congr rfl fun r _ => by rw [y_row, z_row, d_row]
theorem ddBlk_at (h : Fin 16) : ddBlk m c t (ix2 0 ⟨h.val, by omega⟩) = ∑ r : Fin 128, ∑ l : Fin 64,
    (show EReal from V m c main_arg0 (ix3 (bat t) (at0 (chk t) r) ⟨(hcol h l).val, by omega⟩)) * dyAt (V m c main_arg10) (V m c main_arg2) (V m c main_arg11) (V m c main_arg6) (bat t) (at0 (chk t) r) (hcol h l) := by
  rw [ddBlk, kdd_at, dif_pos h.isLt, headSum, Finset.sum_comm]
  exact Finset.sum_congr rfl fun r _ => Finset.sum_congr rfl fun l _ => by rw [x_blk, dyBlk_at]; rfl
theorem ddBlk_zero (l : Fin 128) (h : 16 ≤ l.val) : ddBlk m c t (ix2 0 l) = 0 := by
  rw [ddBlk, kdd_at, dif_neg (by omega)]

/-- The factor that clears the rows in front. -/
theorem valid_at : k0_pay8 (F := Ideal) (grid0.coords t) (ix2 r 0) = if (at0 (chk t) r).val < 112 then 0 else 1 := by
  have h : ∀ t : Fin grid0.N, ∀ r : Fin 128, BitVec.setWidth 32 (IntOp.cmpi .sge (IntOp.addi (Scalar.muli (Scalar.subi 16#32 (BitVec.ofNat 32 (grid0.coords t 1).val)) 128#32) (BitVec.ofNat 32 r.val)) 112#32)
      = if 128 * (16 - t.val % 17) + r.val < 112 then 0#32 else 1#32 := by decide +kernel
  pointwise [k0_pay8]
  rw [h t r]
  by_cases hh : 128 * (16 - t.val % 17) + r.val < 112
  · rw [if_pos hh, if_pos (show (at0 (chk t) r).val < 112 from hh)]; simp [FloatOps.sitofp]
  · rw [if_neg hh, if_neg (show ¬(at0 (chk t) r).val < 112 from hh)]; simp [FloatOps.sitofp]
theorem step_at (h : Fin 16) : dtv (k0_pay15 (iblk m c 3 t)) (iblk m c 5 t) (k0_pay8 (grid0.coords t)) (ix2 r ⟨h.val, by omega⟩)
    = stepAt (V m c main_arg1) (V m c main_arg3) (bat t) (at0 (chk t) r) h := by
  have e : ∀ h : Fin 16, IntOp.cmpi .slt (BitVec.ofNat 32 h.val) 16#32 = 1#1 := by decide
  unfold dtv
  pointwise [k0_pay26, k0_pay23, k0_pay24, k0_pay25, k0_pay18, k0_pay22, k0_pay21, k0_pay20, k0_pay19]
  rw [e h, dt_blk, db_blk, valid_at]
  unfold stepAt
  refine (if_pos rfl).trans ?_
  by_cases hh : (at0 (chk t) r).val < 112
  · rw [if_pos hh, if_pos hh]; exact mul_zero _
  · rw [if_neg hh, if_neg hh, mul_one]; rfl

theorem dcBlk_at (q : Fin 512) : dcBlk m c t (ix2 r q) = dcAt (V m c main_arg10) (V m c main_arg2) (V m c main_arg11) (V m c main_arg6) (V m c main_arg0) (V m c main_arg1) (V m c main_arg8) (V m c main_arg3) (V m c main_arg7)
    (bat t) (chk t) r ⟨q.val / 128, by omega⟩ ⟨q.val % 128, by omega⟩ := by
  rw [dcBlk, kdc_at]
  unfold groupGrad dcAt
  refine congrArg₂ (· + ·) (Finset.sum_congr rfl fun R _ => Finset.sum_congr rfl fun l _ => ?_) (Finset.sum_congr rfl fun s _ => congrArg₂ (· * ·) (Finset.sum_congr rfl fun R _ => congrArg₂ (· * ·) (Finset.sum_congr rfl fun l _ => ?_) ?_) ?_)
  · rw [dyBlk_at, cs_blk, sv_blk]; rfl
  · rw [dyBlk_at, x_blk]
    exact congrArg₂ (· * ·) rfl (congrArg₂ (· * ·) rfl (step_at m c t s _))
  · unfold decay decAt; rw [cs_blk, cs_blk]; rfl
  · rw [b_blk]

end Cert.Kernel4Ideal.Ssd
end
-- ==== Proof.SsdRunA.lean ====
module
public import proofs.«01_k».proof.Proof.SsdBlock

/-! # The stored blocks of one case of the region, in the gate's terms -/

@[expose] public section
set_option maxRecDepth 16384
noncomputable section
open Idealize.ShloMosaic Idealize.ShloMosaic.TcCoe Idealize.SL.Sem
namespace Cert.Kernel4Ideal.Ssd
open Cert.Kernel4Ideal Cert.Kernel4Ideal.Gen Cert.Ssd
theorem ldA_v17 : ∀ c arg14 harg14 x12, kernelRun0_A.sl.v17 (F := Ideal) c arg14 harg14 x12 = k0_pay11 x12 := by
  intro c arg14 harg14 x12
  unfold kernelRun0_A.sl.v17
  simp (disch := decide) only [View.readAt_eq_ld, View.ld_unit_lit', Memref.IsWhole.read_unread]
  try rfl
theorem ldA_v1332 : ∀ c arg15 harg15 x13, kernelRun0_A.sl.v1332 (F := Ideal) c arg15 harg15 x13 = k0_pay388 x13 := by
  intro c arg15 harg15 x13
  unfold kernelRun0_A.sl.v1332
  simp (disch := decide) only [View.readAt_eq_ld, View.ld_unit_lit', Memref.IsWhole.read_unread]
  try rfl
theorem ldA_r_3 : ∀ c arg10 harg10 x8, kernelRun0_A.sl.r_3 (F := Ideal) c arg10 harg10 x8 = x8 := by
  intro c arg10 harg10 x8
  unfold kernelRun0_A.sl.r_3
  simp (disch := decide) only [View.readAt_eq_ld, View.ld_unit_lit', Memref.IsWhole.read_unread]
  try rfl
theorem ldA_r : ∀ c arg6 harg6 x4, kernelRun0_A.sl.r (F := Ideal) c arg6 harg6 x4 = x4 := by
  intro c arg6 harg6 x4
  unfold kernelRun0_A.sl.r
  simp (disch := decide) only [View.readAt_eq_ld, View.ld_unit_lit', Memref.IsWhole.read_unread]
  try rfl
theorem ldA_v13 : ∀ c arg12 harg12 x10, kernelRun0_A.sl.v13 (F := Ideal) c arg12 harg12 x10 = k0_pay9 x10 := by
  intro c arg12 harg12 x10
  unfold kernelRun0_A.sl.v13
  simp (disch := decide) only [View.readAt_eq_ld, View.ld_unit_lit', Memref.IsWhole.read_unread]
  try rfl
theorem ldA_v19 : ∀ c arg2 harg2 x0, kernelRun0_A.sl.v19 (F := Ideal) c arg2 harg2 x0 = k0_pay12 x0 := by
  intro c arg2 harg2 x0
  unfold kernelRun0_A.sl.v19
  simp (disch := decide) only [View.readAt_eq_ld, View.ld_unit_lit', Memref.IsWhole.read_unread]
  try rfl
theorem ldA_v21 : ∀ c arg3 harg3 x1, kernelRun0_A.sl.v21 (F := Ideal) c arg3 harg3 x1 = k0_pay13 x1 := by
  intro c arg3 harg3 x1
  unfold kernelRun0_A.sl.v21
  simp (disch := decide) only [View.readAt_eq_ld, View.ld_unit_lit', Memref.IsWhole.read_unread]
  try rfl
theorem ldA_v25 : ∀ c arg5 harg5 x3, kernelRun0_A.sl.v25 (F := Ideal) c arg5 harg5 x3 = k0_pay15 x3 := by
  intro c arg5 harg5 x3
  unfold kernelRun0_A.sl.v25
  simp (disch := decide) only [View.readAt_eq_ld, View.ld_unit_lit', Memref.IsWhole.read_unread]
  try rfl
theorem ldA_v30 : ∀ c arg11 harg11 x9, kernelRun0_A.sl.v30 (F := Ideal) c arg11 harg11 x9 = k0_pay17 x9 := by
  intro c arg11 harg11 x9
  unfold kernelRun0_A.sl.v30
  simp (disch := decide) only [View.readAt_eq_ld, View.ld_unit_lit', Memref.IsWhole.read_unread]
  try rfl
theorem ldA_v38 : ∀ c arg7 harg7 x5, kernelRun0_A.sl.v38 (F := Ideal) c arg7 harg7 x5 = broadcastTo S128x128 x5 broadcasts_S1x128_S128x128 := by
  intro c arg7 harg7 x5
  unfold kernelRun0_A.sl.v38
  simp (disch := decide) only [View.readAt_eq_ld, View.ld_unit_lit', Memref.IsWhole.read_unread]
  try rfl
theorem ldA_v11 : ∀ i, kernelRun0_A.sl.v11 (F := Ideal) i = k0_pay8 i := fun i => rfl
theorem wA_v1429 : ∀ c arg6 harg6 arg10 harg10 arg14 harg14 arg15 harg15 x4 x8 x12 x13, kernelRun0_A.sl.v1429 (F := Ideal) c arg6 harg6 arg10 harg10 arg14 harg14 arg15 harg15 x4 x8 x12 x13 = kdy (k0_pay11 x12) (k0_pay16 x4) x8 (k0_pay388 x13) := by
  intro c arg6 harg6 arg10 harg10 arg14 harg14 arg15 harg15 x4 x8 x12 x13
  dsimp only [kernelRun0_A.sl.v1429, kernelRun0_A.sl.v1427, kernelRun0_A.sl.v1409, kernelRun0_A.sl.v1408, kernelRun0_A.sl.v1406, kernelRun0_A.sl.v1404, kernelRun0_A.sl.v1402, kernelRun0_A.sl.v1401, kernelRun0_A.sl.v1394, kernelRun0_A.sl.v1300, kernelRun0_A.sl.v1403, kernelRun0_A.sl.v1400, kernelRun0_A.sl.v1399, kernelRun0_A.sl.v1398, kernelRun0_A.sl.v1397, kernelRun0_A.sl.v1395, kernelRun0_A.sl.v1392, kernelRun0_A.sl.v1391, kernelRun0_A.sl.v1390, kernelRun0_A.sl.v1350, kernelRun0_A.sl.v1299, kernelRun0_A.sl.v1297, kernelRun0_A.sl.v1296, kernelRun0_A.sl.v1295, kernelRun0_A.sl.v1293, kernelRun0_A.sl.v1291, kernelRun0_A.sl.v1290, kernelRun0_A.sl.v1289, kernelRun0_A.sl.v1288, kernelRun0_A.sl.v1389, kernelRun0_A.sl.v1388, kernelRun0_A.sl.v1386, kernelRun0_A.sl.v1384, kernelRun0_A.sl.v1383, kernelRun0_A.sl.v1382, kernelRun0_A.sl.v1381, kernelRun0_A.sl.v1380, kernelRun0_A.sl.v1379, kernelRun0_A.sl.v1378, kernelRun0_A.sl.v1377, kernelRun0_A.sl.v1375, kernelRun0_A.sl.v1313, kernelRun0_A.sl.v1311, kernelRun0_A.sl.v1372, kernelRun0_A.sl.v1371, kernelRun0_A.sl.v1370, kernelRun0_A.sl.v1374, kernelRun0_A.sl.v1314, kernelRun0_A.sl.v1310, kernelRun0_A.sl.v1309, kernelRun0_A.sl.v1307, kernelRun0_A.sl.v1305, kernelRun0_A.sl.v1304, kernelRun0_A.sl.v1303, kernelRun0_A.sl.v1302, kernelRun0_A.sl.v1351, kernelRun0_A.sl.v1385, kernelRun0_A.sl.v1387, kernelRun0_A.sl.v1369, kernelRun0_A.sl.v1367, kernelRun0_A.sl.v1366, kernelRun0_A.sl.v1365, kernelRun0_A.sl.v1364, kernelRun0_A.sl.v1363, kernelRun0_A.sl.v1362, kernelRun0_A.sl.v1361, kernelRun0_A.sl.v1360, kernelRun0_A.sl.v1358, kernelRun0_A.sl.v1327, kernelRun0_A.sl.v1325, kernelRun0_A.sl.v1355, kernelRun0_A.sl.v1354, kernelRun0_A.sl.v1353, kernelRun0_A.sl.v1357, kernelRun0_A.sl.v1328, kernelRun0_A.sl.v1324, kernelRun0_A.sl.v1323, kernelRun0_A.sl.v1321, kernelRun0_A.sl.v1319, kernelRun0_A.sl.v1318, kernelRun0_A.sl.v1317, kernelRun0_A.sl.v1316, kernelRun0_A.sl.v1352, kernelRun0_A.sl.v1426, kernelRun0_A.sl.v1368, kernelRun0_A.sl.cst_880, kernelRun0_A.sl.v1424, kernelRun0_A.sl.v1423, kernelRun0_A.sl.v1422, kernelRun0_A.sl.v1414, kernelRun0_A.sl.v1286, kernelRun0_A.sl.v1421, kernelRun0_A.sl.v1420, kernelRun0_A.sl.v1419, kernelRun0_A.sl.v1418, kernelRun0_A.sl.v1417, kernelRun0_A.sl.v1415, kernelRun0_A.sl.v1412, kernelRun0_A.sl.v1411, kernelRun0_A.sl.v1410, kernelRun0_A.sl.v1349, kernelRun0_A.sl.v1348, kernelRun0_A.sl.v1347, kernelRun0_A.sl.v1333, kernelRun0_A.sl.v1285, kernelRun0_A.sl.v1283, kernelRun0_A.sl.v1282, kernelRun0_A.sl.v1281, kernelRun0_A.sl.v1280, kernelRun0_A.sl.cst_303, kernelRun0_A.sl.v1279, kernelRun0_A.sl.v1277, kernelRun0_A.sl.v1276, kernelRun0_A.sl.v1275, kernelRun0_A.sl.v1278, kernelRun0_A.sl.cst_302, kernelRun0_A.sl.v1284, kernelRun0_A.sl.cst_304, kernelRun0_A.sl.v1274, kernelRun0_A.sl.v1273, kernelRun0_A.sl.v1272, kernelRun0_A.sl.v1268, kernelRun0_A.sl.v28, kernelRun0_A.sl.v27]
  rw [ldA_v17, ldA_v1332, ldA_r_3, ldA_r]
  dsimp only [kdy]
  rfl
theorem wA_v1433 : ∀ c arg6 harg6 arg10 harg10 arg14 harg14 arg15 harg15 x4 x8 x12 x13, kernelRun0_A.sl.v1433 (F := Ideal) c arg6 harg6 arg10 harg10 arg14 harg14 arg15 harg15 x4 x8 x12 x13 = kdz (k0_pay11 x12) (k0_pay16 x4) x8 (k0_pay388 x13) := by
  intro c arg6 harg6 arg10 harg10 arg14 harg14 arg15 harg15 x4 x8 x12 x13
  dsimp only [kernelRun0_A.sl.v1433, kernelRun0_A.sl.v1432, kernelRun0_A.sl.v1271, kernelRun0_A.sl.v1270, kernelRun0_A.sl.v1269, kernelRun0_A.sl.cst_40, kernelRun0_A.sl.v1430, kernelRun0_A.sl.v1431, kernelRun0_A.sl.v1428, kernelRun0_A.sl.v1427, kernelRun0_A.sl.v1409, kernelRun0_A.sl.v1408, kernelRun0_A.sl.v1406, kernelRun0_A.sl.v1404, kernelRun0_A.sl.v1402, kernelRun0_A.sl.v1401, kernelRun0_A.sl.v1394, kernelRun0_A.sl.v1300, kernelRun0_A.sl.v1403, kernelRun0_A.sl.v1400, kernelRun0_A.sl.v1399, kernelRun0_A.sl.v1398, kernelRun0_A.sl.v1397, kernelRun0_A.sl.v1395, kernelRun0_A.sl.v1392, kernelRun0_A.sl.v1391, kernelRun0_A.sl.v1390, kernelRun0_A.sl.v1350, kernelRun0_A.sl.v1299, kernelRun0_A.sl.v1297, kernelRun0_A.sl.v1296, kernelRun0_A.sl.v1295, kernelRun0_A.sl.v1293, kernelRun0_A.sl.v1291, kernelRun0_A.sl.v1290, kernelRun0_A.sl.v1289, kernelRun0_A.sl.v1288, kernelRun0_A.sl.v1389, kernelRun0_A.sl.v1388, kernelRun0_A.sl.v1386, kernelRun0_A.sl.v1384, kernelRun0_A.sl.v1383, kernelRun0_A.sl.v1382, kernelRun0_A.sl.v1381, kernelRun0_A.sl.v1380, kernelRun0_A.sl.v1379, kernelRun0_A.sl.v1378, kernelRun0_A.sl.v1377, kernelRun0_A.sl.v1375, kernelRun0_A.sl.v1313, kernelRun0_A.sl.v1311, kernelRun0_A.sl.v1372, kernelRun0_A.sl.v1371, kernelRun0_A.sl.v1370, kernelRun0_A.sl.v1374, kernelRun0_A.sl.v1314, kernelRun0_A.sl.v1310, kernelRun0_A.sl.v1309, kernelRun0_A.sl.v1307, kernelRun0_A.sl.v1305, kernelRun0_A.sl.v1304, kernelRun0_A.sl.v1303, kernelRun0_A.sl.v1302, kernelRun0_A.sl.v1351, kernelRun0_A.sl.v1385, kernelRun0_A.sl.v1387, kernelRun0_A.sl.v1369, kernelRun0_A.sl.v1367, kernelRun0_A.sl.v1366, kernelRun0_A.sl.v1365, kernelRun0_A.sl.v1364, kernelRun0_A.sl.v1363, kernelRun0_A.sl.v1362, kernelRun0_A.sl.v1361, kernelRun0_A.sl.v1360, kernelRun0_A.sl.v1358, kernelRun0_A.sl.v1327, kernelRun0_A.sl.v1325, kernelRun0_A.sl.v1355, kernelRun0_A.sl.v1354, kernelRun0_A.sl.v1353, kernelRun0_A.sl.v1357, kernelRun0_A.sl.v1328, kernelRun0_A.sl.v1324, kernelRun0_A.sl.v1323, kernelRun0_A.sl.v1321, kernelRun0_A.sl.v1319, kernelRun0_A.sl.v1318, kernelRun0_A.sl.v1317, kernelRun0_A.sl.v1316, kernelRun0_A.sl.v1352, kernelRun0_A.sl.v1426, kernelRun0_A.sl.v1368, kernelRun0_A.sl.cst_880, kernelRun0_A.sl.v1424, kernelRun0_A.sl.v1423, kernelRun0_A.sl.v1422, kernelRun0_A.sl.v1414, kernelRun0_A.sl.v1286, kernelRun0_A.sl.v1421, kernelRun0_A.sl.v1420, kernelRun0_A.sl.v1419, kernelRun0_A.sl.v1418, kernelRun0_A.sl.v1417, kernelRun0_A.sl.v1415, kernelRun0_A.sl.v1412, kernelRun0_A.sl.v1411, kernelRun0_A.sl.v1410, kernelRun0_A.sl.v1349, kernelRun0_A.sl.v1348, kernelRun0_A.sl.v1347, kernelRun0_A.sl.v1333, kernelRun0_A.sl.v1285, kernelRun0_A.sl.v1283, kernelRun0_A.sl.v1282, kernelRun0_A.sl.v1281, kernelRun0_A.sl.v1280, kernelRun0_A.sl.cst_303, kernelRun0_A.sl.v1279, kernelRun0_A.sl.v1277, kernelRun0_A.sl.v1276, kernelRun0_A.sl.v1275, kernelRun0_A.sl.v1278, kernelRun0_A.sl.cst_302, kernelRun0_A.sl.v1284, kernelRun0_A.sl.cst_304, kernelRun0_A.sl.v1274, kernelRun0_A.sl.v1273, kernelRun0_A.sl.v1272, kernelRun0_A.sl.v1268, kernelRun0_A.sl.v28, kernelRun0_A.sl.v27]
  rw [ldA_v17, ldA_v1332, ldA_r_3, ldA_r]
  dsimp only [kdz]
  rfl
theorem wA_v1346 : ∀ c arg6 harg6 arg14 harg14 arg15 harg15 x4 x12 x13, kernelRun0_A.sl.v1346 (F := Ideal) c arg6 harg6 arg14 harg14 arg15 harg15 x4 x12 x13 = kdnw (k0_pay11 x12) (k0_pay16 x4) (k0_pay388 x13) := by
  intro c arg6 harg6 arg14 harg14 arg15 harg15 x4 x12 x13
  dsimp only [kernelRun0_A.sl.v1346, kernelRun0_A.sl.v1345, kernelRun0_A.sl.v1344, kernelRun0_A.sl.v1330, kernelRun0_A.sl.v1301, kernelRun0_A.sl.v1300, kernelRun0_A.sl.v1296, kernelRun0_A.sl.v1295, kernelRun0_A.sl.v1293, kernelRun0_A.sl.v1291, kernelRun0_A.sl.v1290, kernelRun0_A.sl.v1289, kernelRun0_A.sl.v1288, kernelRun0_A.sl.v1287, kernelRun0_A.sl.v1286, kernelRun0_A.sl.v1282, kernelRun0_A.sl.v1281, kernelRun0_A.sl.v1279, kernelRun0_A.sl.v1277, kernelRun0_A.sl.v1276, kernelRun0_A.sl.v1275, kernelRun0_A.sl.v1274, kernelRun0_A.sl.v1315, kernelRun0_A.sl.v1314, kernelRun0_A.sl.v1310, kernelRun0_A.sl.v1309, kernelRun0_A.sl.v1307, kernelRun0_A.sl.v1305, kernelRun0_A.sl.v1304, kernelRun0_A.sl.v1303, kernelRun0_A.sl.v1302, kernelRun0_A.sl.v1329, kernelRun0_A.sl.v1328, kernelRun0_A.sl.v1324, kernelRun0_A.sl.v1323, kernelRun0_A.sl.v1280, kernelRun0_A.sl.cst_303, kernelRun0_A.sl.v1321, kernelRun0_A.sl.v1278, kernelRun0_A.sl.cst_302, kernelRun0_A.sl.v1319, kernelRun0_A.sl.v1318, kernelRun0_A.sl.v1317, kernelRun0_A.sl.v1316, kernelRun0_A.sl.v1273, kernelRun0_A.sl.v1272, kernelRun0_A.sl.v1268, kernelRun0_A.sl.v28, kernelRun0_A.sl.v27, kernelRun0_A.sl.v1333]
  rw [ldA_v17, ldA_v1332, ldA_r]
  dsimp only [kdnw]
  rfl

end Cert.Kernel4Ideal.Ssd
end
-- ==== Proof.SsdRunAC.lean ====
module
public import proofs.«01_k».proof.Proof.SsdOff
public import proofs.«01_k».proof.Proof.SsdRunA

/-! # The reading weights' block of one case of the region -/

@[expose] public section
set_option maxRecDepth 16384
noncomputable section
open Idealize.ShloMosaic Idealize.ShloMosaic.TcCoe Idealize.SL.Sem
namespace Cert.Kernel4Ideal.Ssd
open Cert.Kernel4Ideal Cert.Kernel4Ideal.Gen Cert.Ssd
theorem wA_r_179 : ∀ c i arg2 harg2 arg3 harg3 arg5 harg5 arg6 harg6 arg7 harg7 arg10 harg10 arg11 harg11 arg12 harg12 arg14 harg14 arg15 harg15 x0 x1 x3 x4 x5 x8 x9 x10 x12 x13, kernelRun0_A.sl.r_179 (F := Ideal) c i arg2 harg2 arg3 harg3 arg5 harg5 arg6 harg6 arg7 harg7 arg10 harg10 arg11 harg11 arg12 harg12 arg14 harg14 arg15 harg15 x0 x1 x3 x4 x5 x8 x9 x10 x12 x13 = kdc (k0_pay9 x10) (k0_pay15 x3) (k0_pay12 x0) (k0_pay13 x1) (k0_pay17 x9) x5 (k0_pay8 i) (kdy (k0_pay11 x12) (k0_pay16 x4) x8 (k0_pay388 x13)) := by
  intro c i arg2 harg2 arg3 harg3 arg5 harg5 arg6 harg6 arg7 harg7 arg10 harg10 arg11 harg11 arg12 harg12 arg14 harg14 arg15 harg15 x0 x1 x3 x4 x5 x8 x9 x10 x12 x13
  dsimp only [kernelRun0_A.sl.r_179, kernelRun0_A.sl.v2821, kernelRun0_A.sl.v2820, kernelRun0_A.sl.v2818, kernelRun0_A.sl.v2815, kernelRun0_A.sl.v2667, kernelRun0_A.sl.v2663, kernelRun0_A.sl.v2662, kernelRun0_A.sl.r_38, kernelRun0_A.sl.v2661, kernelRun0_A.sl.v2651, kernelRun0_A.sl.r_42, kernelRun0_A.sl.v2439, kernelRun0_A.sl.v2438, kernelRun0_A.sl.r_50, kernelRun0_A.sl.v2437, kernelRun0_A.sl.v2427, kernelRun0_A.sl.r_54, kernelRun0_A.sl.v2811, kernelRun0_A.sl.v2809, kernelRun0_A.sl.v2717, kernelRun0_A.sl.v2716, kernelRun0_A.sl.v2710, kernelRun0_A.sl.v2708, kernelRun0_A.sl.v2697, kernelRun0_A.sl.r_31, kernelRun0_A.sl.v451, kernelRun0_A.sl.v448, kernelRun0_A.sl.v446, kernelRun0_A.sl.v395, kernelRun0_A.sl.v394, kernelRun0_A.sl.v393, kernelRun0_A.sl.v2707, kernelRun0_A.sl.v2706, kernelRun0_A.sl.v2700, kernelRun0_A.sl.v2698, kernelRun0_A.sl.v2696, kernelRun0_A.sl.v1436, kernelRun0_A.sl.v2699, kernelRun0_A.sl.v444, kernelRun0_A.sl.v386, kernelRun0_A.sl.v443, kernelRun0_A.sl.v440, kernelRun0_A.sl.v439, kernelRun0_A.sl.v427, kernelRun0_A.sl.v426, kernelRun0_A.sl.v425, kernelRun0_A.sl.v390, kernelRun0_A.sl.v388, kernelRun0_A.sl.v442, kernelRun0_A.sl.v441, kernelRun0_A.sl.v436, kernelRun0_A.sl.v435, kernelRun0_A.sl.v434, kernelRun0_A.sl.r_32, kernelRun0_A.sl.v404, kernelRun0_A.sl.v403, kernelRun0_A.sl.v402, kernelRun0_A.sl.v399, kernelRun0_A.sl.v397, kernelRun0_A.sl.v2491, kernelRun0_A.sl.v2490, kernelRun0_A.sl.v2484, kernelRun0_A.sl.v2482, kernelRun0_A.sl.v2472, kernelRun0_A.sl.r_43, kernelRun0_A.sl.v541, kernelRun0_A.sl.v540, kernelRun0_A.sl.v539, kernelRun0_A.sl.v597, kernelRun0_A.sl.v594, kernelRun0_A.sl.v592, kernelRun0_A.sl.v2481, kernelRun0_A.sl.v2475, kernelRun0_A.sl.v2474, kernelRun0_A.sl.v590, kernelRun0_A.sl.v589, kernelRun0_A.sl.v588, kernelRun0_A.sl.v587, kernelRun0_A.sl.v582, kernelRun0_A.sl.v581, kernelRun0_A.sl.v580, kernelRun0_A.sl.v586, kernelRun0_A.sl.v585, kernelRun0_A.sl.v573, kernelRun0_A.sl.v572, kernelRun0_A.sl.v571, kernelRun0_A.sl.v536, kernelRun0_A.sl.v534, kernelRun0_A.sl.v532, kernelRun0_A.sl.v2473, kernelRun0_A.sl.v2471, kernelRun0_A.sl.v1437, kernelRun0_A.sl.r_44, kernelRun0_A.sl.v550, kernelRun0_A.sl.v549, kernelRun0_A.sl.v548, kernelRun0_A.sl.v545, kernelRun0_A.sl.v543, kernelRun0_A.sl.v2398, kernelRun0_A.sl.v383, kernelRun0_A.sl.v2354, kernelRun0_A.sl.v1890, kernelRun0_A.sl.v1887, kernelRun0_A.sl.v1739, kernelRun0_A.sl.v1520, kernelRun0_A.sl.v1519, kernelRun0_A.sl.r_101, kernelRun0_A.sl.v1518, kernelRun0_A.sl.v1508, kernelRun0_A.sl.v1240, kernelRun0_A.sl.r_106, kernelRun0_A.sl.r_105, kernelRun0_A.sl.v1735, kernelRun0_A.sl.v1733, kernelRun0_A.sl.v1723, kernelRun0_A.sl.v1094, kernelRun0_A.sl.r_92, kernelRun0_A.sl.v1093, kernelRun0_A.sl.r_93, kernelRun0_A.sl.v1734, kernelRun0_A.sl.r_88, kernelRun0_A.sl.v1883, kernelRun0_A.sl.v1881, kernelRun0_A.sl.v1789, kernelRun0_A.sl.v1788, kernelRun0_A.sl.v1782, kernelRun0_A.sl.v1780, kernelRun0_A.sl.v1769, kernelRun0_A.sl.r_81, kernelRun0_A.sl.v1038, kernelRun0_A.sl.v1036, kernelRun0_A.sl.v985, kernelRun0_A.sl.v984, kernelRun0_A.sl.v983, kernelRun0_A.sl.v1779, kernelRun0_A.sl.v1778, kernelRun0_A.sl.r_82, kernelRun0_A.sl.v994, kernelRun0_A.sl.v993, kernelRun0_A.sl.v992, kernelRun0_A.sl.v1772, kernelRun0_A.sl.v1771, kernelRun0_A.sl.v1034, kernelRun0_A.sl.v976, kernelRun0_A.sl.v1033, kernelRun0_A.sl.v1030, kernelRun0_A.sl.v1029, kernelRun0_A.sl.v1017, kernelRun0_A.sl.v1016, kernelRun0_A.sl.v1015, kernelRun0_A.sl.v980, kernelRun0_A.sl.v978, kernelRun0_A.sl.v1032, kernelRun0_A.sl.v1031, kernelRun0_A.sl.v1026, kernelRun0_A.sl.v1025, kernelRun0_A.sl.v1024, kernelRun0_A.sl.v989, kernelRun0_A.sl.v987, kernelRun0_A.sl.v1770, kernelRun0_A.sl.v1768, kernelRun0_A.sl.v1440, kernelRun0_A.sl.v1570, kernelRun0_A.sl.v1569, kernelRun0_A.sl.r_94, kernelRun0_A.sl.v1131, kernelRun0_A.sl.v1130, kernelRun0_A.sl.v1129, kernelRun0_A.sl.v1184, kernelRun0_A.sl.v1182, kernelRun0_A.sl.v1563, kernelRun0_A.sl.v1561, kernelRun0_A.sl.v1551, kernelRun0_A.sl.v1560, kernelRun0_A.sl.r_95, kernelRun0_A.sl.v1140, kernelRun0_A.sl.v1139, kernelRun0_A.sl.v1138, kernelRun0_A.sl.v1554, kernelRun0_A.sl.v1552, kernelRun0_A.sl.v1550, kernelRun0_A.sl.v1441, kernelRun0_A.sl.v1553, kernelRun0_A.sl.v1180, kernelRun0_A.sl.v1122, kernelRun0_A.sl.v1179, kernelRun0_A.sl.v1176, kernelRun0_A.sl.v1175, kernelRun0_A.sl.v1163, kernelRun0_A.sl.v1162, kernelRun0_A.sl.v1161, kernelRun0_A.sl.v1126, kernelRun0_A.sl.v1124, kernelRun0_A.sl.v1178, kernelRun0_A.sl.v1177, kernelRun0_A.sl.v1172, kernelRun0_A.sl.v1171, kernelRun0_A.sl.v1170, kernelRun0_A.sl.v1135, kernelRun0_A.sl.v1133, kernelRun0_A.sl.v1479, kernelRun0_A.sl.v973, kernelRun0_A.sl.v1889, kernelRun0_A.sl.v2353, kernelRun0_A.sl.v2351, kernelRun0_A.sl.v1387, kernelRun0_A.sl.v2348, kernelRun0_A.sl.v2200, kernelRun0_A.sl.v1972, kernelRun0_A.sl.v1970, kernelRun0_A.sl.v1960, kernelRun0_A.sl.r_80, kernelRun0_A.sl.v1971, kernelRun0_A.sl.r_76, kernelRun0_A.sl.v2196, kernelRun0_A.sl.v2195, kernelRun0_A.sl.r_63, kernelRun0_A.sl.v2194, kernelRun0_A.sl.v2184, kernelRun0_A.sl.v799, kernelRun0_A.sl.r_68, kernelRun0_A.sl.r_67, kernelRun0_A.sl.v2344, kernelRun0_A.sl.v2342, kernelRun0_A.sl.v2250, kernelRun0_A.sl.v2249, kernelRun0_A.sl.v2243, kernelRun0_A.sl.v2241, kernelRun0_A.sl.v2230, kernelRun0_A.sl.r_56, kernelRun0_A.sl.v743, kernelRun0_A.sl.v741, kernelRun0_A.sl.v690, kernelRun0_A.sl.v689, kernelRun0_A.sl.v688, kernelRun0_A.sl.v2240, kernelRun0_A.sl.v2024, kernelRun0_A.sl.v2014, kernelRun0_A.sl.v2008, kernelRun0_A.sl.v2006, kernelRun0_A.sl.v2004, kernelRun0_A.sl.r_70, kernelRun0_A.sl.v845, kernelRun0_A.sl.v844, kernelRun0_A.sl.v843, kernelRun0_A.sl.v2023, kernelRun0_A.sl.v2017, kernelRun0_A.sl.v2007, kernelRun0_A.sl.v885, kernelRun0_A.sl.v827, kernelRun0_A.sl.v884, kernelRun0_A.sl.v883, kernelRun0_A.sl.v882, kernelRun0_A.sl.v877, kernelRun0_A.sl.v876, kernelRun0_A.sl.v875, kernelRun0_A.sl.v840, kernelRun0_A.sl.v838, kernelRun0_A.sl.v881, kernelRun0_A.sl.v880, kernelRun0_A.sl.v868, kernelRun0_A.sl.v867, kernelRun0_A.sl.v866, kernelRun0_A.sl.v2015, kernelRun0_A.sl.v2005, kernelRun0_A.sl.v1439, kernelRun0_A.sl.r_69, kernelRun0_A.sl.v892, kernelRun0_A.sl.v889, kernelRun0_A.sl.v887, kernelRun0_A.sl.v836, kernelRun0_A.sl.v835, kernelRun0_A.sl.v834, kernelRun0_A.sl.v831, kernelRun0_A.sl.v829, kernelRun0_A.sl.v2239, kernelRun0_A.sl.r_57, kernelRun0_A.sl.v699, kernelRun0_A.sl.v698, kernelRun0_A.sl.v697, kernelRun0_A.sl.v2233, kernelRun0_A.sl.v2231, kernelRun0_A.sl.v2229, kernelRun0_A.sl.v1438, kernelRun0_A.sl.v2232, kernelRun0_A.sl.v739, kernelRun0_A.sl.v681, kernelRun0_A.sl.v738, kernelRun0_A.sl.v737, kernelRun0_A.sl.v736, kernelRun0_A.sl.v731, kernelRun0_A.sl.v730, kernelRun0_A.sl.v729, kernelRun0_A.sl.v694, kernelRun0_A.sl.v692, kernelRun0_A.sl.v735, kernelRun0_A.sl.v734, kernelRun0_A.sl.v722, kernelRun0_A.sl.v721, kernelRun0_A.sl.v720, kernelRun0_A.sl.v685, kernelRun0_A.sl.v683, kernelRun0_A.sl.v1931, kernelRun0_A.sl.v678, kernelRun0_A.sl.r_177, kernelRun0_A.sl.r_155, kernelRun0_A.sl.r_118, kernelRun0_A.sl.r_117, kernelRun0_A.sl.r_28, kernelRun0_A.sl.r_24, kernelRun0_A.sl.r_15, kernelRun0_A.sl.r_11, kernelRun0_A.sl.r_164, kernelRun0_A.sl.v1434, kernelRun0_A.sl.r_4, kernelRun0_A.sl.v156, kernelRun0_A.sl.v153, kernelRun0_A.sl.v151, kernelRun0_A.sl.v100, kernelRun0_A.sl.v99, kernelRun0_A.sl.v98, kernelRun0_A.sl.r_5, kernelRun0_A.sl.v109, kernelRun0_A.sl.v108, kernelRun0_A.sl.v107, kernelRun0_A.sl.r_130, kernelRun0_A.sl.r_17, kernelRun0_A.sl.v303, kernelRun0_A.sl.v302, kernelRun0_A.sl.v299, kernelRun0_A.sl.v297, kernelRun0_A.sl.v5, kernelRun0_A.sl.v246, kernelRun0_A.sl.v245, kernelRun0_A.sl.v244, kernelRun0_A.sl.r_128, kernelRun0_A.sl.cst_348, kernelRun0_A.sl.r_129, kernelRun0_A.sl.r_127, kernelRun0_A.sl.v1435, kernelRun0_A.sl.r_18, kernelRun0_A.sl.v255, kernelRun0_A.sl.v254, kernelRun0_A.sl.v253, kernelRun0_A.sl.v73, kernelRun0_A.sl.v71, kernelRun0_A.sl.v70, kernelRun0_A.sl.v295, kernelRun0_A.sl.v237, kernelRun0_A.sl.v294, kernelRun0_A.sl.v293, kernelRun0_A.sl.v292, kernelRun0_A.sl.v287, kernelRun0_A.sl.v286, kernelRun0_A.sl.v285, kernelRun0_A.sl.v250, kernelRun0_A.sl.v248, kernelRun0_A.sl.v291, kernelRun0_A.sl.v290, kernelRun0_A.sl.v278, kernelRun0_A.sl.v277, kernelRun0_A.sl.v276, kernelRun0_A.sl.v241, kernelRun0_A.sl.v239, kernelRun0_A.sl.v149, kernelRun0_A.sl.v148, kernelRun0_A.sl.v147, kernelRun0_A.sl.v146, kernelRun0_A.sl.v141, kernelRun0_A.sl.v140, kernelRun0_A.sl.v139, kernelRun0_A.sl.v104, kernelRun0_A.sl.v102, kernelRun0_A.sl.v145, kernelRun0_A.sl.v144, kernelRun0_A.sl.v132, kernelRun0_A.sl.v131, kernelRun0_A.sl.v130, kernelRun0_A.sl.v95, kernelRun0_A.sl.v93, kernelRun0_A.sl.v66, kernelRun0_A.sl.v65, kernelRun0_A.sl.v64, kernelRun0_A.sl.v61, kernelRun0_A.sl.v36, kernelRun0_A.sl.v60, kernelRun0_A.sl.v41, kernelRun0_A.sl.v59, kernelRun0_A.sl.v58, kernelRun0_A.sl.v56, kernelRun0_A.sl.v55, kernelRun0_A.sl.v51, kernelRun0_A.sl.v39, kernelRun0_A.sl.v46, kernelRun0_A.sl.cst_40, kernelRun0_A.sl.v40, kernelRun0_A.sl.cst_880, kernelRun0_A.sl.v142, kernelRun0_A.sl.v35, kernelRun0_A.sl.v83, kernelRun0_A.sl.v91, kernelRun0_A.sl.v88]
  rw [ldA_v19, wA_v1429, ldA_v13, ldA_v21, ldA_v25, ldA_v30, ldA_v38, ldA_v11]
  dsimp only [kdc]
  rfl

end Cert.Kernel4Ideal.Ssd
end
-- ==== Proof.SsdRunB.lean ====
module
public import proofs.«01_k».proof.Proof.SsdBlock

/-! # The stored blocks of one case of the region, in the gate's terms -/

@[expose] public section
set_option maxRecDepth 16384
noncomputable section
open Idealize.ShloMosaic Idealize.ShloMosaic.TcCoe Idealize.SL.Sem
namespace Cert.Kernel4Ideal.Ssd
open Cert.Kernel4Ideal Cert.Kernel4Ideal.Gen Cert.Ssd
theorem ldB_v17 : ∀ c arg14 harg14 x12, kernelRun0_B.sl.v17 (F := Ideal) c arg14 harg14 x12 = k0_pay11 x12 := by
  intro c arg14 harg14 x12
  unfold kernelRun0_B.sl.v17
  simp (disch := decide) only [View.readAt_eq_ld, View.ld_unit_lit', Memref.IsWhole.read_unread]
  try rfl
theorem ldB_v1332 : ∀ c arg15 harg15 x13, kernelRun0_B.sl.v1332 (F := Ideal) c arg15 harg15 x13 = k0_pay388 x13 := by
  intro c arg15 harg15 x13
  unfold kernelRun0_B.sl.v1332
  simp (disch := decide) only [View.readAt_eq_ld, View.ld_unit_lit', Memref.IsWhole.read_unread]
  try rfl
theorem ldB_r_3 : ∀ c arg10 harg10 x8, kernelRun0_B.sl.r_3 (F := Ideal) c arg10 harg10 x8 = x8 := by
  intro c arg10 harg10 x8
  unfold kernelRun0_B.sl.r_3
  simp (disch := decide) only [View.readAt_eq_ld, View.ld_unit_lit', Memref.IsWhole.read_unread]
  try rfl
theorem ldB_r : ∀ c arg6 harg6 x4, kernelRun0_B.sl.r (F := Ideal) c arg6 harg6 x4 = x4 := by
  intro c arg6 harg6 x4
  unfold kernelRun0_B.sl.r
  simp (disch := decide) only [View.readAt_eq_ld, View.ld_unit_lit', Memref.IsWhole.read_unread]
  try rfl
theorem ldB_v13 : ∀ c arg12 harg12 x10, kernelRun0_B.sl.v13 (F := Ideal) c arg12 harg12 x10 = k0_pay9 x10 := by
  intro c arg12 harg12 x10
  unfold kernelRun0_B.sl.v13
  simp (disch := decide) only [View.readAt_eq_ld, View.ld_unit_lit', Memref.IsWhole.read_unread]
  try rfl
theorem ldB_v19 : ∀ c arg2 harg2 x0, kernelRun0_B.sl.v19 (F := Ideal) c arg2 harg2 x0 = k0_pay12 x0 := by
  intro c arg2 harg2 x0
  unfold kernelRun0_B.sl.v19
  simp (disch := decide) only [View.readAt_eq_ld, View.ld_unit_lit', Memref.IsWhole.read_unread]
  try rfl
theorem ldB_v21 : ∀ c arg3 harg3 x1, kernelRun0_B.sl.v21 (F := Ideal) c arg3 harg3 x1 = k0_pay13 x1 := by
  intro c arg3 harg3 x1
  unfold kernelRun0_B.sl.v21
  simp (disch := decide) only [View.readAt_eq_ld, View.ld_unit_lit', Memref.IsWhole.read_unread]
  try rfl
theorem ldB_v25 : ∀ c arg5 harg5 x3, kernelRun0_B.sl.v25 (F := Ideal) c arg5 harg5 x3 = k0_pay15 x3 := by
  intro c arg5 harg5 x3
  unfold kernelRun0_B.sl.v25
  simp (disch := decide) only [View.readAt_eq_ld, View.ld_unit_lit', Memref.IsWhole.read_unread]
  try rfl
theorem ldB_v30 : ∀ c arg11 harg11 x9, kernelRun0_B.sl.v30 (F := Ideal) c arg11 harg11 x9 = k0_pay17 x9 := by
  intro c arg11 harg11 x9
  unfold kernelRun0_B.sl.v30
  simp (disch := decide) only [View.readAt_eq_ld, View.ld_unit_lit', Memref.IsWhole.read_unread]
  try rfl
theorem ldB_v38 : ∀ c arg7 harg7 x5, kernelRun0_B.sl.v38 (F := Ideal) c arg7 harg7 x5 = broadcastTo S128x128 x5 broadcasts_S1x128_S128x128 := by
  intro c arg7 harg7 x5
  unfold kernelRun0_B.sl.v38
  simp (disch := decide) only [View.readAt_eq_ld, View.ld_unit_lit', Memref.IsWhole.read_unread]
  try rfl
theorem ldB_v11 : ∀ i, kernelRun0_B.sl.v11 (F := Ideal) i = k0_pay8 i := fun i => rfl
theorem wB_v1429 : ∀ c arg6 harg6 arg10 harg10 arg14 harg14 arg15 harg15 x4 x8 x12 x13, kernelRun0_B.sl.v1429 (F := Ideal) c arg6 harg6 arg10 harg10 arg14 harg14 arg15 harg15 x4 x8 x12 x13 = kdy (k0_pay11 x12) (k0_pay16 x4) x8 (k0_pay388 x13) := by
  intro c arg6 harg6 arg10 harg10 arg14 harg14 arg15 harg15 x4 x8 x12 x13
  dsimp only [kernelRun0_B.sl.v1429, kernelRun0_B.sl.v1427, kernelRun0_B.sl.v1426, kernelRun0_B.sl.v1424, kernelRun0_B.sl.v1423, kernelRun0_B.sl.v1422, kernelRun0_B.sl.v1414, kernelRun0_B.sl.v1286, kernelRun0_B.sl.v1421, kernelRun0_B.sl.v1420, kernelRun0_B.sl.v1419, kernelRun0_B.sl.v1418, kernelRun0_B.sl.v1417, kernelRun0_B.sl.v1415, kernelRun0_B.sl.v1412, kernelRun0_B.sl.v1411, kernelRun0_B.sl.v1410, kernelRun0_B.sl.v1349, kernelRun0_B.sl.v1285, kernelRun0_B.sl.v1283, kernelRun0_B.sl.v1282, kernelRun0_B.sl.v1281, kernelRun0_B.sl.v1279, kernelRun0_B.sl.v1277, kernelRun0_B.sl.v1276, kernelRun0_B.sl.v1275, kernelRun0_B.sl.v1274, kernelRun0_B.sl.v1409, kernelRun0_B.sl.v1408, kernelRun0_B.sl.v1406, kernelRun0_B.sl.v1404, kernelRun0_B.sl.v1402, kernelRun0_B.sl.v1394, kernelRun0_B.sl.v1300, kernelRun0_B.sl.v1401, kernelRun0_B.sl.v1403, kernelRun0_B.sl.v1400, kernelRun0_B.sl.v1399, kernelRun0_B.sl.v1398, kernelRun0_B.sl.v1397, kernelRun0_B.sl.v1395, kernelRun0_B.sl.v1392, kernelRun0_B.sl.v1391, kernelRun0_B.sl.v1390, kernelRun0_B.sl.v1350, kernelRun0_B.sl.v1299, kernelRun0_B.sl.v1297, kernelRun0_B.sl.v1296, kernelRun0_B.sl.v1295, kernelRun0_B.sl.v1293, kernelRun0_B.sl.v1291, kernelRun0_B.sl.v1290, kernelRun0_B.sl.v1289, kernelRun0_B.sl.v1288, kernelRun0_B.sl.v1389, kernelRun0_B.sl.v1369, kernelRun0_B.sl.v1367, kernelRun0_B.sl.v1365, kernelRun0_B.sl.v1364, kernelRun0_B.sl.v1357, kernelRun0_B.sl.v1328, kernelRun0_B.sl.v1366, kernelRun0_B.sl.v1363, kernelRun0_B.sl.v1362, kernelRun0_B.sl.v1361, kernelRun0_B.sl.v1360, kernelRun0_B.sl.v1358, kernelRun0_B.sl.v1327, kernelRun0_B.sl.v1325, kernelRun0_B.sl.v1324, kernelRun0_B.sl.v1323, kernelRun0_B.sl.v1321, kernelRun0_B.sl.v1319, kernelRun0_B.sl.v1318, kernelRun0_B.sl.v1317, kernelRun0_B.sl.v1355, kernelRun0_B.sl.v1354, kernelRun0_B.sl.v1353, kernelRun0_B.sl.v1316, kernelRun0_B.sl.v1352, kernelRun0_B.sl.v1368, kernelRun0_B.sl.v1388, kernelRun0_B.sl.v1387, kernelRun0_B.sl.v1386, kernelRun0_B.sl.v1384, kernelRun0_B.sl.v1382, kernelRun0_B.sl.v1381, kernelRun0_B.sl.v1374, kernelRun0_B.sl.v1314, kernelRun0_B.sl.v1383, kernelRun0_B.sl.v1380, kernelRun0_B.sl.v1379, kernelRun0_B.sl.v1378, kernelRun0_B.sl.v1377, kernelRun0_B.sl.v1375, kernelRun0_B.sl.v1372, kernelRun0_B.sl.v1371, kernelRun0_B.sl.v1370, kernelRun0_B.sl.v1351, kernelRun0_B.sl.v1348, kernelRun0_B.sl.v1347, kernelRun0_B.sl.v1333, kernelRun0_B.sl.v1313, kernelRun0_B.sl.v1311, kernelRun0_B.sl.v1310, kernelRun0_B.sl.v1309, kernelRun0_B.sl.v1307, kernelRun0_B.sl.v1305, kernelRun0_B.sl.v1304, kernelRun0_B.sl.v1303, kernelRun0_B.sl.v1302, kernelRun0_B.sl.v1273, kernelRun0_B.sl.v1272, kernelRun0_B.sl.v1268, kernelRun0_B.sl.v28, kernelRun0_B.sl.v27, kernelRun0_B.sl.v1280, kernelRun0_B.sl.cst_303, kernelRun0_B.sl.v1284, kernelRun0_B.sl.cst_304, kernelRun0_B.sl.v1278, kernelRun0_B.sl.cst_302, kernelRun0_B.sl.v1385, kernelRun0_B.sl.cst]
  rw [ldB_v17, ldB_v1332, ldB_r_3, ldB_r]
  dsimp only [kdy]
  rfl
theorem wB_v1433 : ∀ c arg6 harg6 arg10 harg10 arg14 harg14 arg15 harg15 x4 x8 x12 x13, kernelRun0_B.sl.v1433 (F := Ideal) c arg6 harg6 arg10 harg10 arg14 harg14 arg15 harg15 x4 x8 x12 x13 = kdz (k0_pay11 x12) (k0_pay16 x4) x8 (k0_pay388 x13) := by
  intro c arg6 harg6 arg10 harg10 arg14 harg14 arg15 harg15 x4 x8 x12 x13
  dsimp only [kernelRun0_B.sl.v1433, kernelRun0_B.sl.v1431, kernelRun0_B.sl.v1432, kernelRun0_B.sl.v1430, kernelRun0_B.sl.v1428, kernelRun0_B.sl.v1427, kernelRun0_B.sl.v1426, kernelRun0_B.sl.v1424, kernelRun0_B.sl.v1423, kernelRun0_B.sl.v1422, kernelRun0_B.sl.v1414, kernelRun0_B.sl.v1286, kernelRun0_B.sl.v1421, kernelRun0_B.sl.v1420, kernelRun0_B.sl.v1419, kernelRun0_B.sl.v1418, kernelRun0_B.sl.v1417, kernelRun0_B.sl.v1415, kernelRun0_B.sl.v1412, kernelRun0_B.sl.v1411, kernelRun0_B.sl.v1410, kernelRun0_B.sl.v1349, kernelRun0_B.sl.v1285, kernelRun0_B.sl.v1283, kernelRun0_B.sl.v1282, kernelRun0_B.sl.v1281, kernelRun0_B.sl.v1279, kernelRun0_B.sl.v1277, kernelRun0_B.sl.v1276, kernelRun0_B.sl.v1275, kernelRun0_B.sl.v1274, kernelRun0_B.sl.v1409, kernelRun0_B.sl.v1408, kernelRun0_B.sl.v1406, kernelRun0_B.sl.v1404, kernelRun0_B.sl.v1402, kernelRun0_B.sl.v1394, kernelRun0_B.sl.v1300, kernelRun0_B.sl.v1401, kernelRun0_B.sl.v1403, kernelRun0_B.sl.v1400, kernelRun0_B.sl.v1399, kernelRun0_B.sl.v1398, kernelRun0_B.sl.v1397, kernelRun0_B.sl.v1395, kernelRun0_B.sl.v1392, kernelRun0_B.sl.v1391, kernelRun0_B.sl.v1390, kernelRun0_B.sl.v1350, kernelRun0_B.sl.v1299, kernelRun0_B.sl.v1297, kernelRun0_B.sl.v1296, kernelRun0_B.sl.v1295, kernelRun0_B.sl.v1293, kernelRun0_B.sl.v1291, kernelRun0_B.sl.v1290, kernelRun0_B.sl.v1289, kernelRun0_B.sl.v1288, kernelRun0_B.sl.v1389, kernelRun0_B.sl.v1369, kernelRun0_B.sl.v1367, kernelRun0_B.sl.v1365, kernelRun0_B.sl.v1364, kernelRun0_B.sl.v1357, kernelRun0_B.sl.v1328, kernelRun0_B.sl.v1366, kernelRun0_B.sl.v1363, kernelRun0_B.sl.v1362, kernelRun0_B.sl.v1361, kernelRun0_B.sl.v1360, kernelRun0_B.sl.v1358, kernelRun0_B.sl.v1327, kernelRun0_B.sl.v1325, kernelRun0_B.sl.v1324, kernelRun0_B.sl.v1323, kernelRun0_B.sl.v1321, kernelRun0_B.sl.v1319, kernelRun0_B.sl.v1318, kernelRun0_B.sl.v1317, kernelRun0_B.sl.v1355, kernelRun0_B.sl.v1354, kernelRun0_B.sl.v1353, kernelRun0_B.sl.v1316, kernelRun0_B.sl.v1352, kernelRun0_B.sl.v1368, kernelRun0_B.sl.v1388, kernelRun0_B.sl.v1387, kernelRun0_B.sl.v1386, kernelRun0_B.sl.v1384, kernelRun0_B.sl.v1382, kernelRun0_B.sl.v1381, kernelRun0_B.sl.v1374, kernelRun0_B.sl.v1314, kernelRun0_B.sl.v1383, kernelRun0_B.sl.v1380, kernelRun0_B.sl.v1379, kernelRun0_B.sl.v1378, kernelRun0_B.sl.v1377, kernelRun0_B.sl.v1375, kernelRun0_B.sl.v1372, kernelRun0_B.sl.v1371, kernelRun0_B.sl.v1370, kernelRun0_B.sl.v1351, kernelRun0_B.sl.v1348, kernelRun0_B.sl.v1347, kernelRun0_B.sl.v1333, kernelRun0_B.sl.v1313, kernelRun0_B.sl.v1311, kernelRun0_B.sl.v1310, kernelRun0_B.sl.v1309, kernelRun0_B.sl.v1307, kernelRun0_B.sl.v1305, kernelRun0_B.sl.v1304, kernelRun0_B.sl.v1303, kernelRun0_B.sl.v1302, kernelRun0_B.sl.v1273, kernelRun0_B.sl.v1272, kernelRun0_B.sl.v1280, kernelRun0_B.sl.cst_303, kernelRun0_B.sl.v1284, kernelRun0_B.sl.cst_304, kernelRun0_B.sl.v1278, kernelRun0_B.sl.cst_302, kernelRun0_B.sl.v1385, kernelRun0_B.sl.cst, kernelRun0_B.sl.v1271, kernelRun0_B.sl.v1270, kernelRun0_B.sl.v1268, kernelRun0_B.sl.v28, kernelRun0_B.sl.v27, kernelRun0_B.sl.v1269, kernelRun0_B.sl.cst_40]
  rw [ldB_v17, ldB_v1332, ldB_r_3, ldB_r]
  dsimp only [kdz]
  rfl
theorem wB_v1346 : ∀ c arg6 harg6 arg14 harg14 arg15 harg15 x4 x12 x13, kernelRun0_B.sl.v1346 (F := Ideal) c arg6 harg6 arg14 harg14 arg15 harg15 x4 x12 x13 = kdnw (k0_pay11 x12) (k0_pay16 x4) (k0_pay388 x13) := by
  intro c arg6 harg6 arg14 harg14 arg15 harg15 x4 x12 x13
  dsimp only [kernelRun0_B.sl.v1346, kernelRun0_B.sl.v1345, kernelRun0_B.sl.v1344, kernelRun0_B.sl.v1330, kernelRun0_B.sl.v1315, kernelRun0_B.sl.v1314, kernelRun0_B.sl.v1310, kernelRun0_B.sl.v1309, kernelRun0_B.sl.v1307, kernelRun0_B.sl.v1305, kernelRun0_B.sl.v1304, kernelRun0_B.sl.v1303, kernelRun0_B.sl.v1302, kernelRun0_B.sl.v1301, kernelRun0_B.sl.v1300, kernelRun0_B.sl.v1296, kernelRun0_B.sl.v1295, kernelRun0_B.sl.v1293, kernelRun0_B.sl.v1291, kernelRun0_B.sl.v1290, kernelRun0_B.sl.v1289, kernelRun0_B.sl.v1288, kernelRun0_B.sl.v1329, kernelRun0_B.sl.v1328, kernelRun0_B.sl.v1324, kernelRun0_B.sl.v1323, kernelRun0_B.sl.v1321, kernelRun0_B.sl.v1319, kernelRun0_B.sl.v1318, kernelRun0_B.sl.v1317, kernelRun0_B.sl.v1316, kernelRun0_B.sl.v1287, kernelRun0_B.sl.v1286, kernelRun0_B.sl.v1282, kernelRun0_B.sl.v1281, kernelRun0_B.sl.v1279, kernelRun0_B.sl.v1278, kernelRun0_B.sl.cst_302, kernelRun0_B.sl.v1277, kernelRun0_B.sl.v1276, kernelRun0_B.sl.v1275, kernelRun0_B.sl.v1274, kernelRun0_B.sl.v1273, kernelRun0_B.sl.v1272, kernelRun0_B.sl.v1268, kernelRun0_B.sl.v28, kernelRun0_B.sl.v27, kernelRun0_B.sl.v1280, kernelRun0_B.sl.cst_303, kernelRun0_B.sl.v1333]
  rw [ldB_v17, ldB_v1332, ldB_r]
  dsimp only [kdnw]
  rfl

end Cert.Kernel4Ideal.Ssd
end
-- ==== Proof.SsdRunBC.lean ====
module
public import proofs.«01_k».proof.Proof.SsdOff
public import proofs.«01_k».proof.Proof.SsdRunB

/-! # The reading weights' block of one case of the region -/

@[expose] public section
set_option maxRecDepth 16384
noncomputable section
open Idealize.ShloMosaic Idealize.ShloMosaic.TcCoe Idealize.SL.Sem
namespace Cert.Kernel4Ideal.Ssd
open Cert.Kernel4Ideal Cert.Kernel4Ideal.Gen Cert.Ssd
theorem wB_r_179 : ∀ c i arg2 harg2 arg3 harg3 arg5 harg5 arg6 harg6 arg7 harg7 arg10 harg10 arg11 harg11 arg12 harg12 arg14 harg14 arg15 harg15 x0 x1 x3 x4 x5 x8 x9 x10 x12 x13, kernelRun0_B.sl.r_179 (F := Ideal) c i arg2 harg2 arg3 harg3 arg5 harg5 arg6 harg6 arg7 harg7 arg10 harg10 arg11 harg11 arg12 harg12 arg14 harg14 arg15 harg15 x0 x1 x3 x4 x5 x8 x9 x10 x12 x13 = kdc (k0_pay9 x10) (k0_pay15 x3) (k0_pay12 x0) (k0_pay13 x1) (k0_pay17 x9) x5 (k0_pay8 i) (kdy (k0_pay11 x12) (k0_pay16 x4) x8 (k0_pay388 x13)) := by
  intro c i arg2 harg2 arg3 harg3 arg5 harg5 arg6 harg6 arg7 harg7 arg10 harg10 arg11 harg11 arg12 harg12 arg14 harg14 arg15 harg15 x0 x1 x3 x4 x5 x8 x9 x10 x12 x13
  dsimp only [kernelRun0_B.sl.r_179, kernelRun0_B.sl.r_177, kernelRun0_B.sl.r_164, kernelRun0_B.sl.v149, kernelRun0_B.sl.v91, kernelRun0_B.sl.v148, kernelRun0_B.sl.v145, kernelRun0_B.sl.v144, kernelRun0_B.sl.v132, kernelRun0_B.sl.v131, kernelRun0_B.sl.v130, kernelRun0_B.sl.v147, kernelRun0_B.sl.v146, kernelRun0_B.sl.v141, kernelRun0_B.sl.v140, kernelRun0_B.sl.v139, kernelRun0_B.sl.r_4, kernelRun0_B.sl.v156, kernelRun0_B.sl.v153, kernelRun0_B.sl.v151, kernelRun0_B.sl.r_5, kernelRun0_B.sl.r_130, kernelRun0_B.sl.r_128, kernelRun0_B.sl.r_127, kernelRun0_B.sl.r_18, kernelRun0_B.sl.r_129, kernelRun0_B.sl.v295, kernelRun0_B.sl.v294, kernelRun0_B.sl.v293, kernelRun0_B.sl.v292, kernelRun0_B.sl.v287, kernelRun0_B.sl.v286, kernelRun0_B.sl.v285, kernelRun0_B.sl.v291, kernelRun0_B.sl.v290, kernelRun0_B.sl.v278, kernelRun0_B.sl.v277, kernelRun0_B.sl.v276, kernelRun0_B.sl.v237, kernelRun0_B.sl.r_17, kernelRun0_B.sl.v303, kernelRun0_B.sl.v302, kernelRun0_B.sl.v299, kernelRun0_B.sl.v297, kernelRun0_B.sl.v88, kernelRun0_B.sl.r_155, kernelRun0_B.sl.r_15, kernelRun0_B.sl.v109, kernelRun0_B.sl.v108, kernelRun0_B.sl.v107, kernelRun0_B.sl.v104, kernelRun0_B.sl.v102, kernelRun0_B.sl.v100, kernelRun0_B.sl.v99, kernelRun0_B.sl.v98, kernelRun0_B.sl.v95, kernelRun0_B.sl.v93, kernelRun0_B.sl.v1434, kernelRun0_B.sl.r_118, kernelRun0_B.sl.r_117, kernelRun0_B.sl.v1435, kernelRun0_B.sl.r_28, kernelRun0_B.sl.v246, kernelRun0_B.sl.v245, kernelRun0_B.sl.v244, kernelRun0_B.sl.v241, kernelRun0_B.sl.v239, kernelRun0_B.sl.v255, kernelRun0_B.sl.v254, kernelRun0_B.sl.v253, kernelRun0_B.sl.v250, kernelRun0_B.sl.v248, kernelRun0_B.sl.r_24, kernelRun0_B.sl.r_11, kernelRun0_B.sl.v2821, kernelRun0_B.sl.v2354, kernelRun0_B.sl.v1890, kernelRun0_B.sl.v1887, kernelRun0_B.sl.v1883, kernelRun0_B.sl.v1881, kernelRun0_B.sl.v1789, kernelRun0_B.sl.v1779, kernelRun0_B.sl.v1778, kernelRun0_B.sl.v1772, kernelRun0_B.sl.v1770, kernelRun0_B.sl.v1768, kernelRun0_B.sl.r_82, kernelRun0_B.sl.v1570, kernelRun0_B.sl.v1560, kernelRun0_B.sl.r_95, kernelRun0_B.sl.v1554, kernelRun0_B.sl.v1552, kernelRun0_B.sl.v1550, kernelRun0_B.sl.v1569, kernelRun0_B.sl.v1563, kernelRun0_B.sl.v1561, kernelRun0_B.sl.v1551, kernelRun0_B.sl.v1553, kernelRun0_B.sl.v1180, kernelRun0_B.sl.v1122, kernelRun0_B.sl.v1179, kernelRun0_B.sl.v1176, kernelRun0_B.sl.v1175, kernelRun0_B.sl.v1163, kernelRun0_B.sl.v1162, kernelRun0_B.sl.v1161, kernelRun0_B.sl.v1178, kernelRun0_B.sl.v1177, kernelRun0_B.sl.v1172, kernelRun0_B.sl.v1171, kernelRun0_B.sl.v1170, kernelRun0_B.sl.r_94, kernelRun0_B.sl.v1184, kernelRun0_B.sl.v1182, kernelRun0_B.sl.v1788, kernelRun0_B.sl.v1782, kernelRun0_B.sl.v1771, kernelRun0_B.sl.v1034, kernelRun0_B.sl.v976, kernelRun0_B.sl.v1033, kernelRun0_B.sl.v1030, kernelRun0_B.sl.v1029, kernelRun0_B.sl.v1017, kernelRun0_B.sl.v1016, kernelRun0_B.sl.v1015, kernelRun0_B.sl.v1032, kernelRun0_B.sl.v1031, kernelRun0_B.sl.v1026, kernelRun0_B.sl.v1025, kernelRun0_B.sl.v1024, kernelRun0_B.sl.v1780, kernelRun0_B.sl.v1769, kernelRun0_B.sl.r_81, kernelRun0_B.sl.v1038, kernelRun0_B.sl.v1036, kernelRun0_B.sl.v1479, kernelRun0_B.sl.v973, kernelRun0_B.sl.v1739, kernelRun0_B.sl.v1735, kernelRun0_B.sl.v1734, kernelRun0_B.sl.r_88, kernelRun0_B.sl.v1733, kernelRun0_B.sl.v1723, kernelRun0_B.sl.v1094, kernelRun0_B.sl.v1093, kernelRun0_B.sl.r_93, kernelRun0_B.sl.v994, kernelRun0_B.sl.v993, kernelRun0_B.sl.v992, kernelRun0_B.sl.v989, kernelRun0_B.sl.v987, kernelRun0_B.sl.r_92, kernelRun0_B.sl.v985, kernelRun0_B.sl.v984, kernelRun0_B.sl.v983, kernelRun0_B.sl.v980, kernelRun0_B.sl.v978, kernelRun0_B.sl.v1440, kernelRun0_B.sl.v1520, kernelRun0_B.sl.v1519, kernelRun0_B.sl.r_101, kernelRun0_B.sl.v1518, kernelRun0_B.sl.v1508, kernelRun0_B.sl.v1240, kernelRun0_B.sl.r_105, kernelRun0_B.sl.v1131, kernelRun0_B.sl.v1130, kernelRun0_B.sl.v1129, kernelRun0_B.sl.v1126, kernelRun0_B.sl.v1124, kernelRun0_B.sl.r_106, kernelRun0_B.sl.v1140, kernelRun0_B.sl.v1139, kernelRun0_B.sl.v1138, kernelRun0_B.sl.v1135, kernelRun0_B.sl.v1133, kernelRun0_B.sl.v1441, kernelRun0_B.sl.v1889, kernelRun0_B.sl.v2353, kernelRun0_B.sl.v2351, kernelRun0_B.sl.v2348, kernelRun0_B.sl.v2200, kernelRun0_B.sl.v1972, kernelRun0_B.sl.v1971, kernelRun0_B.sl.r_76, kernelRun0_B.sl.v1970, kernelRun0_B.sl.v1960, kernelRun0_B.sl.r_80, kernelRun0_B.sl.v2196, kernelRun0_B.sl.v2195, kernelRun0_B.sl.r_63, kernelRun0_B.sl.v2194, kernelRun0_B.sl.v2184, kernelRun0_B.sl.v799, kernelRun0_B.sl.r_68, kernelRun0_B.sl.r_67, kernelRun0_B.sl.v2344, kernelRun0_B.sl.v1931, kernelRun0_B.sl.v678, kernelRun0_B.sl.v2342, kernelRun0_B.sl.v2250, kernelRun0_B.sl.v2249, kernelRun0_B.sl.r_56, kernelRun0_B.sl.v690, kernelRun0_B.sl.v689, kernelRun0_B.sl.v688, kernelRun0_B.sl.v743, kernelRun0_B.sl.v741, kernelRun0_B.sl.v2243, kernelRun0_B.sl.v2241, kernelRun0_B.sl.v2230, kernelRun0_B.sl.v2240, kernelRun0_B.sl.v2239, kernelRun0_B.sl.r_57, kernelRun0_B.sl.v699, kernelRun0_B.sl.v698, kernelRun0_B.sl.v697, kernelRun0_B.sl.v2233, kernelRun0_B.sl.v2232, kernelRun0_B.sl.v739, kernelRun0_B.sl.v738, kernelRun0_B.sl.v737, kernelRun0_B.sl.v736, kernelRun0_B.sl.v731, kernelRun0_B.sl.v730, kernelRun0_B.sl.v729, kernelRun0_B.sl.v694, kernelRun0_B.sl.v692, kernelRun0_B.sl.v735, kernelRun0_B.sl.v734, kernelRun0_B.sl.v722, kernelRun0_B.sl.v721, kernelRun0_B.sl.v720, kernelRun0_B.sl.v685, kernelRun0_B.sl.v683, kernelRun0_B.sl.v681, kernelRun0_B.sl.v2231, kernelRun0_B.sl.v2229, kernelRun0_B.sl.v1438, kernelRun0_B.sl.v2024, kernelRun0_B.sl.v2014, kernelRun0_B.sl.v2008, kernelRun0_B.sl.v2006, kernelRun0_B.sl.v2004, kernelRun0_B.sl.r_70, kernelRun0_B.sl.v845, kernelRun0_B.sl.v844, kernelRun0_B.sl.v843, kernelRun0_B.sl.v2023, kernelRun0_B.sl.r_69, kernelRun0_B.sl.v892, kernelRun0_B.sl.v889, kernelRun0_B.sl.v887, kernelRun0_B.sl.v836, kernelRun0_B.sl.v835, kernelRun0_B.sl.v834, kernelRun0_B.sl.v2017, kernelRun0_B.sl.v2007, kernelRun0_B.sl.v885, kernelRun0_B.sl.v884, kernelRun0_B.sl.v883, kernelRun0_B.sl.v882, kernelRun0_B.sl.v877, kernelRun0_B.sl.v876, kernelRun0_B.sl.v875, kernelRun0_B.sl.v840, kernelRun0_B.sl.v838, kernelRun0_B.sl.v881, kernelRun0_B.sl.v880, kernelRun0_B.sl.v868, kernelRun0_B.sl.v867, kernelRun0_B.sl.v866, kernelRun0_B.sl.v831, kernelRun0_B.sl.v829, kernelRun0_B.sl.v827, kernelRun0_B.sl.v2015, kernelRun0_B.sl.v2005, kernelRun0_B.sl.v1439, kernelRun0_B.sl.v2820, kernelRun0_B.sl.v1387, kernelRun0_B.sl.v2818, kernelRun0_B.sl.v2815, kernelRun0_B.sl.v2667, kernelRun0_B.sl.v2439, kernelRun0_B.sl.v2437, kernelRun0_B.sl.v2427, kernelRun0_B.sl.r_54, kernelRun0_B.sl.v2438, kernelRun0_B.sl.r_50, kernelRun0_B.sl.v2663, kernelRun0_B.sl.v2661, kernelRun0_B.sl.v2651, kernelRun0_B.sl.r_42, kernelRun0_B.sl.v2662, kernelRun0_B.sl.r_38, kernelRun0_B.sl.v2811, kernelRun0_B.sl.v2398, kernelRun0_B.sl.v383, kernelRun0_B.sl.v2809, kernelRun0_B.sl.v2717, kernelRun0_B.sl.v2707, kernelRun0_B.sl.v2491, kernelRun0_B.sl.v2490, kernelRun0_B.sl.r_43, kernelRun0_B.sl.v597, kernelRun0_B.sl.v594, kernelRun0_B.sl.v592, kernelRun0_B.sl.v541, kernelRun0_B.sl.v540, kernelRun0_B.sl.v539, kernelRun0_B.sl.v2484, kernelRun0_B.sl.v2482, kernelRun0_B.sl.v2472, kernelRun0_B.sl.v2481, kernelRun0_B.sl.r_44, kernelRun0_B.sl.v550, kernelRun0_B.sl.v549, kernelRun0_B.sl.v548, kernelRun0_B.sl.v2475, kernelRun0_B.sl.v2474, kernelRun0_B.sl.v590, kernelRun0_B.sl.v532, kernelRun0_B.sl.v589, kernelRun0_B.sl.v588, kernelRun0_B.sl.v587, kernelRun0_B.sl.v582, kernelRun0_B.sl.v581, kernelRun0_B.sl.v580, kernelRun0_B.sl.v545, kernelRun0_B.sl.v543, kernelRun0_B.sl.v586, kernelRun0_B.sl.v585, kernelRun0_B.sl.v573, kernelRun0_B.sl.v572, kernelRun0_B.sl.v571, kernelRun0_B.sl.v536, kernelRun0_B.sl.v534, kernelRun0_B.sl.v2473, kernelRun0_B.sl.v2471, kernelRun0_B.sl.v1437, kernelRun0_B.sl.v2706, kernelRun0_B.sl.r_32, kernelRun0_B.sl.v404, kernelRun0_B.sl.v403, kernelRun0_B.sl.v402, kernelRun0_B.sl.v2700, kernelRun0_B.sl.v2698, kernelRun0_B.sl.v2696, kernelRun0_B.sl.v2716, kernelRun0_B.sl.v2710, kernelRun0_B.sl.v2699, kernelRun0_B.sl.v444, kernelRun0_B.sl.v443, kernelRun0_B.sl.v142, kernelRun0_B.sl.v442, kernelRun0_B.sl.v441, kernelRun0_B.sl.v436, kernelRun0_B.sl.v435, kernelRun0_B.sl.v434, kernelRun0_B.sl.v399, kernelRun0_B.sl.v397, kernelRun0_B.sl.v440, kernelRun0_B.sl.v439, kernelRun0_B.sl.v427, kernelRun0_B.sl.v426, kernelRun0_B.sl.v425, kernelRun0_B.sl.v66, kernelRun0_B.sl.v64, kernelRun0_B.sl.v61, kernelRun0_B.sl.v36, kernelRun0_B.sl.v60, kernelRun0_B.sl.v41, kernelRun0_B.sl.v59, kernelRun0_B.sl.v58, kernelRun0_B.sl.v46, kernelRun0_B.sl.cst_40, kernelRun0_B.sl.v56, kernelRun0_B.sl.v55, kernelRun0_B.sl.v51, kernelRun0_B.sl.v39, kernelRun0_B.sl.v65, kernelRun0_B.sl.v386, kernelRun0_B.sl.v2708, kernelRun0_B.sl.v2697, kernelRun0_B.sl.v83, kernelRun0_B.sl.v1436, kernelRun0_B.sl.cst_348, kernelRun0_B.sl.r_31, kernelRun0_B.sl.v70, kernelRun0_B.sl.v451, kernelRun0_B.sl.v73, kernelRun0_B.sl.v448, kernelRun0_B.sl.v5, kernelRun0_B.sl.v446, kernelRun0_B.sl.v395, kernelRun0_B.sl.v394, kernelRun0_B.sl.v393, kernelRun0_B.sl.v390, kernelRun0_B.sl.v388, kernelRun0_B.sl.v35, kernelRun0_B.sl.v71, kernelRun0_B.sl.v40, kernelRun0_B.sl.cst]
  rw [ldB_v19, wB_v1429, ldB_v13, ldB_v21, ldB_v25, ldB_v30, ldB_v38, ldB_v11]
  dsimp only [kdc]
  rfl

end Cert.Kernel4Ideal.Ssd
end
-- ==== Proof.SsdRunC.lean ====
module
public import proofs.«01_k».proof.Proof.SsdBlock

/-! # The stored blocks of one case of the region, in the gate's terms -/

@[expose] public section
set_option maxRecDepth 16384
noncomputable section
open Idealize.ShloMosaic Idealize.ShloMosaic.TcCoe Idealize.SL.Sem
namespace Cert.Kernel4Ideal.Ssd
open Cert.Kernel4Ideal Cert.Kernel4Ideal.Gen Cert.Ssd
theorem ldC_v17 : ∀ c arg14 harg14 x12, kernelRun0_C.sl.v17 (F := Ideal) c arg14 harg14 x12 = k0_pay11 x12 := by
  intro c arg14 harg14 x12
  unfold kernelRun0_C.sl.v17
  simp (disch := decide) only [View.readAt_eq_ld, View.ld_unit_lit', Memref.IsWhole.read_unread]
  try rfl
theorem ldC_v1332 : ∀ c arg15 harg15 x13, kernelRun0_C.sl.v1332 (F := Ideal) c arg15 harg15 x13 = k0_pay388 x13 := by
  intro c arg15 harg15 x13
  unfold kernelRun0_C.sl.v1332
  simp (disch := decide) only [View.readAt_eq_ld, View.ld_unit_lit', Memref.IsWhole.read_unread]
  try rfl
theorem ldC_r_3 : ∀ c arg10 harg10 x8, kernelRun0_C.sl.r_3 (F := Ideal) c arg10 harg10 x8 = x8 := by
  intro c arg10 harg10 x8
  unfold kernelRun0_C.sl.r_3
  simp (disch := decide) only [View.readAt_eq_ld, View.ld_unit_lit', Memref.IsWhole.read_unread]
  try rfl
theorem ldC_r : ∀ c arg6 harg6 x4, kernelRun0_C.sl.r (F := Ideal) c arg6 harg6 x4 = x4 := by
  intro c arg6 harg6 x4
  unfold kernelRun0_C.sl.r
  simp (disch := decide) only [View.readAt_eq_ld, View.ld_unit_lit', Memref.IsWhole.read_unread]
  try rfl
theorem ldC_v13 : ∀ c arg12 harg12 x10, kernelRun0_C.sl.v13 (F := Ideal) c arg12 harg12 x10 = k0_pay9 x10 := by
  intro c arg12 harg12 x10
  unfold kernelRun0_C.sl.v13
  simp (disch := decide) only [View.readAt_eq_ld, View.ld_unit_lit', Memref.IsWhole.read_unread]
  try rfl
theorem ldC_v19 : ∀ c arg2 harg2 x0, kernelRun0_C.sl.v19 (F := Ideal) c arg2 harg2 x0 = k0_pay12 x0 := by
  intro c arg2 harg2 x0
  unfold kernelRun0_C.sl.v19
  simp (disch := decide) only [View.readAt_eq_ld, View.ld_unit_lit', Memref.IsWhole.read_unread]
  try rfl
theorem ldC_v21 : ∀ c arg3 harg3 x1, kernelRun0_C.sl.v21 (F := Ideal) c arg3 harg3 x1 = k0_pay13 x1 := by
  intro c arg3 harg3 x1
  unfold kernelRun0_C.sl.v21
  simp (disch := decide) only [View.readAt_eq_ld, View.ld_unit_lit', Memref.IsWhole.read_unread]
  try rfl
theorem ldC_v25 : ∀ c arg5 harg5 x3, kernelRun0_C.sl.v25 (F := Ideal) c arg5 harg5 x3 = k0_pay15 x3 := by
  intro c arg5 harg5 x3
  unfold kernelRun0_C.sl.v25
  simp (disch := decide) only [View.readAt_eq_ld, View.ld_unit_lit', Memref.IsWhole.read_unread]
  try rfl
theorem ldC_v30 : ∀ c arg11 harg11 x9, kernelRun0_C.sl.v30 (F := Ideal) c arg11 harg11 x9 = k0_pay17 x9 := by
  intro c arg11 harg11 x9
  unfold kernelRun0_C.sl.v30
  simp (disch := decide) only [View.readAt_eq_ld, View.ld_unit_lit', Memref.IsWhole.read_unread]
  try rfl
theorem ldC_v38 : ∀ c arg7 harg7 x5, kernelRun0_C.sl.v38 (F := Ideal) c arg7 harg7 x5 = broadcastTo S128x128 x5 broadcasts_S1x128_S128x128 := by
  intro c arg7 harg7 x5
  unfold kernelRun0_C.sl.v38
  simp (disch := decide) only [View.readAt_eq_ld, View.ld_unit_lit', Memref.IsWhole.read_unread]
  try rfl
theorem ldC_v11 : ∀ i, kernelRun0_C.sl.v11 (F := Ideal) i = k0_pay8 i := fun i => rfl
theorem wC_v1429 : ∀ c arg6 harg6 arg10 harg10 arg14 harg14 arg15 harg15 x4 x8 x12 x13, kernelRun0_C.sl.v1429 (F := Ideal) c arg6 harg6 arg10 harg10 arg14 harg14 arg15 harg15 x4 x8 x12 x13 = kdy (k0_pay11 x12) (k0_pay16 x4) x8 (k0_pay388 x13) := by
  intro c arg6 harg6 arg10 harg10 arg14 harg14 arg15 harg15 x4 x8 x12 x13
  dsimp only [kernelRun0_C.sl.v1429, kernelRun0_C.sl.v1427, kernelRun0_C.sl.v1409, kernelRun0_C.sl.v1408, kernelRun0_C.sl.v1406, kernelRun0_C.sl.v1404, kernelRun0_C.sl.v1403, kernelRun0_C.sl.v1402, kernelRun0_C.sl.v1401, kernelRun0_C.sl.v1400, kernelRun0_C.sl.v1399, kernelRun0_C.sl.v1398, kernelRun0_C.sl.v1397, kernelRun0_C.sl.v1395, kernelRun0_C.sl.v1392, kernelRun0_C.sl.v1391, kernelRun0_C.sl.v1390, kernelRun0_C.sl.v1299, kernelRun0_C.sl.v1297, kernelRun0_C.sl.v1394, kernelRun0_C.sl.v1300, kernelRun0_C.sl.v1296, kernelRun0_C.sl.v1295, kernelRun0_C.sl.v1293, kernelRun0_C.sl.v1291, kernelRun0_C.sl.v1290, kernelRun0_C.sl.v1289, kernelRun0_C.sl.v1288, kernelRun0_C.sl.v1350, kernelRun0_C.sl.v1389, kernelRun0_C.sl.v1388, kernelRun0_C.sl.v1386, kernelRun0_C.sl.v1385, kernelRun0_C.sl.v1384, kernelRun0_C.sl.v1383, kernelRun0_C.sl.v1382, kernelRun0_C.sl.v1381, kernelRun0_C.sl.v1380, kernelRun0_C.sl.v1379, kernelRun0_C.sl.v1378, kernelRun0_C.sl.v1377, kernelRun0_C.sl.v1375, kernelRun0_C.sl.v1313, kernelRun0_C.sl.v1311, kernelRun0_C.sl.v1372, kernelRun0_C.sl.v1371, kernelRun0_C.sl.v1370, kernelRun0_C.sl.v1374, kernelRun0_C.sl.v1314, kernelRun0_C.sl.v1310, kernelRun0_C.sl.v1309, kernelRun0_C.sl.v1307, kernelRun0_C.sl.v1305, kernelRun0_C.sl.v1304, kernelRun0_C.sl.v1303, kernelRun0_C.sl.v1302, kernelRun0_C.sl.v1351, kernelRun0_C.sl.v1387, kernelRun0_C.sl.v1369, kernelRun0_C.sl.v1367, kernelRun0_C.sl.v1366, kernelRun0_C.sl.v1365, kernelRun0_C.sl.v1364, kernelRun0_C.sl.v1363, kernelRun0_C.sl.v1362, kernelRun0_C.sl.v1361, kernelRun0_C.sl.v1360, kernelRun0_C.sl.v1358, kernelRun0_C.sl.v1355, kernelRun0_C.sl.v1354, kernelRun0_C.sl.v1353, kernelRun0_C.sl.v1327, kernelRun0_C.sl.v1325, kernelRun0_C.sl.v1357, kernelRun0_C.sl.v1328, kernelRun0_C.sl.v1324, kernelRun0_C.sl.v1323, kernelRun0_C.sl.v1321, kernelRun0_C.sl.v1319, kernelRun0_C.sl.v1318, kernelRun0_C.sl.v1317, kernelRun0_C.sl.v1316, kernelRun0_C.sl.v1352, kernelRun0_C.sl.v1426, kernelRun0_C.sl.v1368, kernelRun0_C.sl.cst_880, kernelRun0_C.sl.v1424, kernelRun0_C.sl.v1422, kernelRun0_C.sl.v1414, kernelRun0_C.sl.v1286, kernelRun0_C.sl.v1421, kernelRun0_C.sl.v1423, kernelRun0_C.sl.v1420, kernelRun0_C.sl.v1419, kernelRun0_C.sl.v1418, kernelRun0_C.sl.v1417, kernelRun0_C.sl.v1415, kernelRun0_C.sl.v1412, kernelRun0_C.sl.v1411, kernelRun0_C.sl.v1410, kernelRun0_C.sl.v1349, kernelRun0_C.sl.v1348, kernelRun0_C.sl.v1333, kernelRun0_C.sl.v1347, kernelRun0_C.sl.v1285, kernelRun0_C.sl.v1284, kernelRun0_C.sl.cst_304, kernelRun0_C.sl.v1283, kernelRun0_C.sl.v1282, kernelRun0_C.sl.v1281, kernelRun0_C.sl.v1280, kernelRun0_C.sl.cst_303, kernelRun0_C.sl.v1279, kernelRun0_C.sl.v1278, kernelRun0_C.sl.cst_302, kernelRun0_C.sl.v1277, kernelRun0_C.sl.v1276, kernelRun0_C.sl.v1275, kernelRun0_C.sl.v1274, kernelRun0_C.sl.v1273, kernelRun0_C.sl.v1272, kernelRun0_C.sl.v1268, kernelRun0_C.sl.v28, kernelRun0_C.sl.v27]
  rw [ldC_v17, ldC_v1332, ldC_r_3, ldC_r]
  dsimp only [kdy]
  rfl
theorem wC_v1433 : ∀ c arg6 harg6 arg10 harg10 arg14 harg14 arg15 harg15 x4 x8 x12 x13, kernelRun0_C.sl.v1433 (F := Ideal) c arg6 harg6 arg10 harg10 arg14 harg14 arg15 harg15 x4 x8 x12 x13 = kdz (k0_pay11 x12) (k0_pay16 x4) x8 (k0_pay388 x13) := by
  intro c arg6 harg6 arg10 harg10 arg14 harg14 arg15 harg15 x4 x8 x12 x13
  dsimp only [kernelRun0_C.sl.v1433, kernelRun0_C.sl.v1432, kernelRun0_C.sl.v1430, kernelRun0_C.sl.v1271, kernelRun0_C.sl.v1270, kernelRun0_C.sl.v1269, kernelRun0_C.sl.cst_40, kernelRun0_C.sl.v1431, kernelRun0_C.sl.v1428, kernelRun0_C.sl.v1427, kernelRun0_C.sl.v1409, kernelRun0_C.sl.v1408, kernelRun0_C.sl.v1406, kernelRun0_C.sl.v1404, kernelRun0_C.sl.v1403, kernelRun0_C.sl.v1402, kernelRun0_C.sl.v1401, kernelRun0_C.sl.v1400, kernelRun0_C.sl.v1399, kernelRun0_C.sl.v1398, kernelRun0_C.sl.v1397, kernelRun0_C.sl.v1395, kernelRun0_C.sl.v1392, kernelRun0_C.sl.v1391, kernelRun0_C.sl.v1390, kernelRun0_C.sl.v1299, kernelRun0_C.sl.v1297, kernelRun0_C.sl.v1394, kernelRun0_C.sl.v1300, kernelRun0_C.sl.v1296, kernelRun0_C.sl.v1295, kernelRun0_C.sl.v1293, kernelRun0_C.sl.v1291, kernelRun0_C.sl.v1290, kernelRun0_C.sl.v1289, kernelRun0_C.sl.v1288, kernelRun0_C.sl.v1350, kernelRun0_C.sl.v1389, kernelRun0_C.sl.v1388, kernelRun0_C.sl.v1386, kernelRun0_C.sl.v1385, kernelRun0_C.sl.v1384, kernelRun0_C.sl.v1383, kernelRun0_C.sl.v1382, kernelRun0_C.sl.v1381, kernelRun0_C.sl.v1380, kernelRun0_C.sl.v1379, kernelRun0_C.sl.v1378, kernelRun0_C.sl.v1377, kernelRun0_C.sl.v1375, kernelRun0_C.sl.v1313, kernelRun0_C.sl.v1311, kernelRun0_C.sl.v1372, kernelRun0_C.sl.v1371, kernelRun0_C.sl.v1370, kernelRun0_C.sl.v1374, kernelRun0_C.sl.v1314, kernelRun0_C.sl.v1310, kernelRun0_C.sl.v1309, kernelRun0_C.sl.v1307, kernelRun0_C.sl.v1305, kernelRun0_C.sl.v1304, kernelRun0_C.sl.v1303, kernelRun0_C.sl.v1302, kernelRun0_C.sl.v1351, kernelRun0_C.sl.v1387, kernelRun0_C.sl.v1369, kernelRun0_C.sl.v1367, kernelRun0_C.sl.v1366, kernelRun0_C.sl.v1365, kernelRun0_C.sl.v1364, kernelRun0_C.sl.v1363, kernelRun0_C.sl.v1362, kernelRun0_C.sl.v1361, kernelRun0_C.sl.v1360, kernelRun0_C.sl.v1358, kernelRun0_C.sl.v1355, kernelRun0_C.sl.v1354, kernelRun0_C.sl.v1353, kernelRun0_C.sl.v1327, kernelRun0_C.sl.v1325, kernelRun0_C.sl.v1357, kernelRun0_C.sl.v1328, kernelRun0_C.sl.v1324, kernelRun0_C.sl.v1323, kernelRun0_C.sl.v1321, kernelRun0_C.sl.v1319, kernelRun0_C.sl.v1318, kernelRun0_C.sl.v1317, kernelRun0_C.sl.v1316, kernelRun0_C.sl.v1352, kernelRun0_C.sl.v1426, kernelRun0_C.sl.v1368, kernelRun0_C.sl.cst_880, kernelRun0_C.sl.v1424, kernelRun0_C.sl.v1422, kernelRun0_C.sl.v1414, kernelRun0_C.sl.v1286, kernelRun0_C.sl.v1421, kernelRun0_C.sl.v1423, kernelRun0_C.sl.v1420, kernelRun0_C.sl.v1419, kernelRun0_C.sl.v1418, kernelRun0_C.sl.v1417, kernelRun0_C.sl.v1415, kernelRun0_C.sl.v1412, kernelRun0_C.sl.v1411, kernelRun0_C.sl.v1410, kernelRun0_C.sl.v1349, kernelRun0_C.sl.v1348, kernelRun0_C.sl.v1333, kernelRun0_C.sl.v1347, kernelRun0_C.sl.v1285, kernelRun0_C.sl.v1284, kernelRun0_C.sl.cst_304, kernelRun0_C.sl.v1283, kernelRun0_C.sl.v1282, kernelRun0_C.sl.v1281, kernelRun0_C.sl.v1280, kernelRun0_C.sl.cst_303, kernelRun0_C.sl.v1279, kernelRun0_C.sl.v1278, kernelRun0_C.sl.cst_302, kernelRun0_C.sl.v1277, kernelRun0_C.sl.v1276, kernelRun0_C.sl.v1275, kernelRun0_C.sl.v1274, kernelRun0_C.sl.v1273, kernelRun0_C.sl.v1272, kernelRun0_C.sl.v1268, kernelRun0_C.sl.v28, kernelRun0_C.sl.v27]
  rw [ldC_v17, ldC_v1332, ldC_r_3, ldC_r]
  dsimp only [kdz]
  rfl
theorem wC_v1346 : ∀ c arg6 harg6 arg14 harg14 arg15 harg15 x4 x12 x13, kernelRun0_C.sl.v1346 (F := Ideal) c arg6 harg6 arg14 harg14 arg15 harg15 x4 x12 x13 = kdnw (k0_pay11 x12) (k0_pay16 x4) (k0_pay388 x13) := by
  intro c arg6 harg6 arg14 harg14 arg15 harg15 x4 x12 x13
  dsimp only [kernelRun0_C.sl.v1346, kernelRun0_C.sl.v1345, kernelRun0_C.sl.v1344, kernelRun0_C.sl.v1330, kernelRun0_C.sl.v1287, kernelRun0_C.sl.v1286, kernelRun0_C.sl.v1282, kernelRun0_C.sl.v1281, kernelRun0_C.sl.v1279, kernelRun0_C.sl.v1277, kernelRun0_C.sl.v1276, kernelRun0_C.sl.v1275, kernelRun0_C.sl.v1274, kernelRun0_C.sl.v1301, kernelRun0_C.sl.v1300, kernelRun0_C.sl.v1296, kernelRun0_C.sl.v1295, kernelRun0_C.sl.v1293, kernelRun0_C.sl.v1291, kernelRun0_C.sl.v1290, kernelRun0_C.sl.v1289, kernelRun0_C.sl.v1288, kernelRun0_C.sl.v1329, kernelRun0_C.sl.v1328, kernelRun0_C.sl.v1324, kernelRun0_C.sl.v1323, kernelRun0_C.sl.v1321, kernelRun0_C.sl.v1319, kernelRun0_C.sl.v1318, kernelRun0_C.sl.v1317, kernelRun0_C.sl.v1316, kernelRun0_C.sl.v1315, kernelRun0_C.sl.v1314, kernelRun0_C.sl.v1310, kernelRun0_C.sl.v1309, kernelRun0_C.sl.v1307, kernelRun0_C.sl.v1278, kernelRun0_C.sl.cst_302, kernelRun0_C.sl.v1305, kernelRun0_C.sl.v1304, kernelRun0_C.sl.v1303, kernelRun0_C.sl.v1302, kernelRun0_C.sl.v1273, kernelRun0_C.sl.v1272, kernelRun0_C.sl.v1268, kernelRun0_C.sl.v28, kernelRun0_C.sl.v27, kernelRun0_C.sl.v1280, kernelRun0_C.sl.cst_303, kernelRun0_C.sl.v1333]
  rw [ldC_v17, ldC_v1332, ldC_r]
  dsimp only [kdnw]
  rfl

end Cert.Kernel4Ideal.Ssd
end
-- ==== Proof.SsdRunCC.lean ====
module
public import proofs.«01_k».proof.Proof.SsdOff
public import proofs.«01_k».proof.Proof.SsdRunC

/-! # The reading weights' block of one case of the region -/

@[expose] public section
set_option maxRecDepth 16384
noncomputable section
open Idealize.ShloMosaic Idealize.ShloMosaic.TcCoe Idealize.SL.Sem
namespace Cert.Kernel4Ideal.Ssd
open Cert.Kernel4Ideal Cert.Kernel4Ideal.Gen Cert.Ssd
theorem wC_r_179 : ∀ c i arg2 harg2 arg3 harg3 arg5 harg5 arg6 harg6 arg7 harg7 arg10 harg10 arg11 harg11 arg12 harg12 arg14 harg14 arg15 harg15 x0 x1 x3 x4 x5 x8 x9 x10 x12 x13, kernelRun0_C.sl.r_179 (F := Ideal) c i arg2 harg2 arg3 harg3 arg5 harg5 arg6 harg6 arg7 harg7 arg10 harg10 arg11 harg11 arg12 harg12 arg14 harg14 arg15 harg15 x0 x1 x3 x4 x5 x8 x9 x10 x12 x13 = kdc (k0_pay9 x10) (k0_pay15 x3) (k0_pay12 x0) (k0_pay13 x1) (k0_pay17 x9) x5 (k0_pay8 i) (kdy (k0_pay11 x12) (k0_pay16 x4) x8 (k0_pay388 x13)) := by
  intro c i arg2 harg2 arg3 harg3 arg5 harg5 arg6 harg6 arg7 harg7 arg10 harg10 arg11 harg11 arg12 harg12 arg14 harg14 arg15 harg15 x0 x1 x3 x4 x5 x8 x9 x10 x12 x13
  dsimp only [kernelRun0_C.sl.r_179, kernelRun0_C.sl.r_177, kernelRun0_C.sl.r_155, kernelRun0_C.sl.r_118, kernelRun0_C.sl.r_117, kernelRun0_C.sl.r_28, kernelRun0_C.sl.r_24, kernelRun0_C.sl.r_11, kernelRun0_C.sl.r_15, kernelRun0_C.sl.r_164, kernelRun0_C.sl.v149, kernelRun0_C.sl.v91, kernelRun0_C.sl.v148, kernelRun0_C.sl.v145, kernelRun0_C.sl.v144, kernelRun0_C.sl.v132, kernelRun0_C.sl.v131, kernelRun0_C.sl.v130, kernelRun0_C.sl.v147, kernelRun0_C.sl.v146, kernelRun0_C.sl.v141, kernelRun0_C.sl.v140, kernelRun0_C.sl.v139, kernelRun0_C.sl.r_130, kernelRun0_C.sl.r_127, kernelRun0_C.sl.r_18, kernelRun0_C.sl.v255, kernelRun0_C.sl.v254, kernelRun0_C.sl.v253, kernelRun0_C.sl.r_17, kernelRun0_C.sl.v246, kernelRun0_C.sl.v245, kernelRun0_C.sl.v244, kernelRun0_C.sl.v303, kernelRun0_C.sl.v302, kernelRun0_C.sl.v299, kernelRun0_C.sl.v297, kernelRun0_C.sl.r_129, kernelRun0_C.sl.v295, kernelRun0_C.sl.v237, kernelRun0_C.sl.v294, kernelRun0_C.sl.v293, kernelRun0_C.sl.v292, kernelRun0_C.sl.v287, kernelRun0_C.sl.v286, kernelRun0_C.sl.v285, kernelRun0_C.sl.v250, kernelRun0_C.sl.v248, kernelRun0_C.sl.v291, kernelRun0_C.sl.v290, kernelRun0_C.sl.v278, kernelRun0_C.sl.v277, kernelRun0_C.sl.v276, kernelRun0_C.sl.v241, kernelRun0_C.sl.v239, kernelRun0_C.sl.r_128, kernelRun0_C.sl.v1435, kernelRun0_C.sl.r_5, kernelRun0_C.sl.v109, kernelRun0_C.sl.v108, kernelRun0_C.sl.v107, kernelRun0_C.sl.v104, kernelRun0_C.sl.v102, kernelRun0_C.sl.r_4, kernelRun0_C.sl.v100, kernelRun0_C.sl.v99, kernelRun0_C.sl.v98, kernelRun0_C.sl.v95, kernelRun0_C.sl.v93, kernelRun0_C.sl.v156, kernelRun0_C.sl.v153, kernelRun0_C.sl.v151, kernelRun0_C.sl.v1434, kernelRun0_C.sl.v88, kernelRun0_C.sl.v2821, kernelRun0_C.sl.v2354, kernelRun0_C.sl.v1890, kernelRun0_C.sl.v1887, kernelRun0_C.sl.v1883, kernelRun0_C.sl.v1479, kernelRun0_C.sl.v973, kernelRun0_C.sl.v1881, kernelRun0_C.sl.v1789, kernelRun0_C.sl.v1788, kernelRun0_C.sl.r_81, kernelRun0_C.sl.v1038, kernelRun0_C.sl.v1036, kernelRun0_C.sl.v1782, kernelRun0_C.sl.v1780, kernelRun0_C.sl.v1769, kernelRun0_C.sl.v1779, kernelRun0_C.sl.v1778, kernelRun0_C.sl.v1772, kernelRun0_C.sl.v1771, kernelRun0_C.sl.v1034, kernelRun0_C.sl.v1033, kernelRun0_C.sl.v1030, kernelRun0_C.sl.v1029, kernelRun0_C.sl.v1017, kernelRun0_C.sl.v1016, kernelRun0_C.sl.v1015, kernelRun0_C.sl.v1032, kernelRun0_C.sl.v1031, kernelRun0_C.sl.v1026, kernelRun0_C.sl.v1025, kernelRun0_C.sl.v1024, kernelRun0_C.sl.v976, kernelRun0_C.sl.v1770, kernelRun0_C.sl.v1768, kernelRun0_C.sl.r_82, kernelRun0_C.sl.v1570, kernelRun0_C.sl.v1569, kernelRun0_C.sl.r_94, kernelRun0_C.sl.v1184, kernelRun0_C.sl.v1182, kernelRun0_C.sl.v1563, kernelRun0_C.sl.v1561, kernelRun0_C.sl.v1551, kernelRun0_C.sl.v1560, kernelRun0_C.sl.r_95, kernelRun0_C.sl.v1554, kernelRun0_C.sl.v1552, kernelRun0_C.sl.v1550, kernelRun0_C.sl.v1553, kernelRun0_C.sl.v1180, kernelRun0_C.sl.v1179, kernelRun0_C.sl.v1178, kernelRun0_C.sl.v1177, kernelRun0_C.sl.v1172, kernelRun0_C.sl.v1171, kernelRun0_C.sl.v1170, kernelRun0_C.sl.v1176, kernelRun0_C.sl.v1175, kernelRun0_C.sl.v1163, kernelRun0_C.sl.v1162, kernelRun0_C.sl.v1161, kernelRun0_C.sl.v1122, kernelRun0_C.sl.v1739, kernelRun0_C.sl.v1520, kernelRun0_C.sl.v1519, kernelRun0_C.sl.r_101, kernelRun0_C.sl.v1518, kernelRun0_C.sl.v1508, kernelRun0_C.sl.v1240, kernelRun0_C.sl.r_105, kernelRun0_C.sl.v1131, kernelRun0_C.sl.v1130, kernelRun0_C.sl.v1129, kernelRun0_C.sl.v1126, kernelRun0_C.sl.v1124, kernelRun0_C.sl.r_106, kernelRun0_C.sl.v1140, kernelRun0_C.sl.v1139, kernelRun0_C.sl.v1138, kernelRun0_C.sl.v1135, kernelRun0_C.sl.v1133, kernelRun0_C.sl.v1441, kernelRun0_C.sl.v1735, kernelRun0_C.sl.v1734, kernelRun0_C.sl.r_88, kernelRun0_C.sl.v1733, kernelRun0_C.sl.v1723, kernelRun0_C.sl.v1094, kernelRun0_C.sl.r_92, kernelRun0_C.sl.v985, kernelRun0_C.sl.v984, kernelRun0_C.sl.v983, kernelRun0_C.sl.v980, kernelRun0_C.sl.v978, kernelRun0_C.sl.v1093, kernelRun0_C.sl.r_93, kernelRun0_C.sl.v994, kernelRun0_C.sl.v993, kernelRun0_C.sl.v992, kernelRun0_C.sl.v989, kernelRun0_C.sl.v987, kernelRun0_C.sl.v1440, kernelRun0_C.sl.v1889, kernelRun0_C.sl.v2353, kernelRun0_C.sl.v2351, kernelRun0_C.sl.v2348, kernelRun0_C.sl.v2200, kernelRun0_C.sl.v1972, kernelRun0_C.sl.v1970, kernelRun0_C.sl.v1960, kernelRun0_C.sl.r_80, kernelRun0_C.sl.v1971, kernelRun0_C.sl.r_76, kernelRun0_C.sl.v2196, kernelRun0_C.sl.v2194, kernelRun0_C.sl.v2184, kernelRun0_C.sl.v799, kernelRun0_C.sl.r_68, kernelRun0_C.sl.r_67, kernelRun0_C.sl.v2195, kernelRun0_C.sl.r_63, kernelRun0_C.sl.v2344, kernelRun0_C.sl.v1931, kernelRun0_C.sl.v678, kernelRun0_C.sl.v2342, kernelRun0_C.sl.v2250, kernelRun0_C.sl.v2249, kernelRun0_C.sl.v2243, kernelRun0_C.sl.v2241, kernelRun0_C.sl.v2230, kernelRun0_C.sl.r_56, kernelRun0_C.sl.v743, kernelRun0_C.sl.v741, kernelRun0_C.sl.v690, kernelRun0_C.sl.v689, kernelRun0_C.sl.v688, kernelRun0_C.sl.v2240, kernelRun0_C.sl.v2024, kernelRun0_C.sl.v2023, kernelRun0_C.sl.r_69, kernelRun0_C.sl.v892, kernelRun0_C.sl.v889, kernelRun0_C.sl.v887, kernelRun0_C.sl.v836, kernelRun0_C.sl.v835, kernelRun0_C.sl.v834, kernelRun0_C.sl.v2017, kernelRun0_C.sl.v2015, kernelRun0_C.sl.v2005, kernelRun0_C.sl.v2014, kernelRun0_C.sl.v2008, kernelRun0_C.sl.v2007, kernelRun0_C.sl.v885, kernelRun0_C.sl.v827, kernelRun0_C.sl.v884, kernelRun0_C.sl.v883, kernelRun0_C.sl.v882, kernelRun0_C.sl.v877, kernelRun0_C.sl.v876, kernelRun0_C.sl.v875, kernelRun0_C.sl.v881, kernelRun0_C.sl.v880, kernelRun0_C.sl.v868, kernelRun0_C.sl.v867, kernelRun0_C.sl.v866, kernelRun0_C.sl.v831, kernelRun0_C.sl.v829, kernelRun0_C.sl.v2006, kernelRun0_C.sl.v2004, kernelRun0_C.sl.v1439, kernelRun0_C.sl.r_70, kernelRun0_C.sl.v845, kernelRun0_C.sl.v844, kernelRun0_C.sl.v843, kernelRun0_C.sl.v840, kernelRun0_C.sl.v838, kernelRun0_C.sl.v2239, kernelRun0_C.sl.r_57, kernelRun0_C.sl.v699, kernelRun0_C.sl.v698, kernelRun0_C.sl.v697, kernelRun0_C.sl.v2233, kernelRun0_C.sl.v2232, kernelRun0_C.sl.v739, kernelRun0_C.sl.v738, kernelRun0_C.sl.v735, kernelRun0_C.sl.v734, kernelRun0_C.sl.v722, kernelRun0_C.sl.v721, kernelRun0_C.sl.v720, kernelRun0_C.sl.v685, kernelRun0_C.sl.v683, kernelRun0_C.sl.v737, kernelRun0_C.sl.v736, kernelRun0_C.sl.v731, kernelRun0_C.sl.v730, kernelRun0_C.sl.v729, kernelRun0_C.sl.v694, kernelRun0_C.sl.v692, kernelRun0_C.sl.v681, kernelRun0_C.sl.v2231, kernelRun0_C.sl.v2229, kernelRun0_C.sl.v1438, kernelRun0_C.sl.v2820, kernelRun0_C.sl.v1387, kernelRun0_C.sl.v2818, kernelRun0_C.sl.v2815, kernelRun0_C.sl.v2811, kernelRun0_C.sl.v2809, kernelRun0_C.sl.v2717, kernelRun0_C.sl.v2716, kernelRun0_C.sl.r_31, kernelRun0_C.sl.v451, kernelRun0_C.sl.v448, kernelRun0_C.sl.v446, kernelRun0_C.sl.v2710, kernelRun0_C.sl.v2708, kernelRun0_C.sl.v2697, kernelRun0_C.sl.v2707, kernelRun0_C.sl.v2491, kernelRun0_C.sl.v2481, kernelRun0_C.sl.v2475, kernelRun0_C.sl.v2473, kernelRun0_C.sl.v2471, kernelRun0_C.sl.r_44, kernelRun0_C.sl.v2490, kernelRun0_C.sl.r_43, kernelRun0_C.sl.v597, kernelRun0_C.sl.v594, kernelRun0_C.sl.v5, kernelRun0_C.sl.v592, kernelRun0_C.sl.v2484, kernelRun0_C.sl.v2474, kernelRun0_C.sl.v590, kernelRun0_C.sl.v589, kernelRun0_C.sl.v588, kernelRun0_C.sl.v587, kernelRun0_C.sl.v582, kernelRun0_C.sl.v581, kernelRun0_C.sl.v580, kernelRun0_C.sl.v586, kernelRun0_C.sl.v585, kernelRun0_C.sl.v573, kernelRun0_C.sl.v572, kernelRun0_C.sl.v571, kernelRun0_C.sl.v532, kernelRun0_C.sl.v2482, kernelRun0_C.sl.v2472, kernelRun0_C.sl.v2706, kernelRun0_C.sl.r_32, kernelRun0_C.sl.v73, kernelRun0_C.sl.v71, kernelRun0_C.sl.v70, kernelRun0_C.sl.v2700, kernelRun0_C.sl.v2698, kernelRun0_C.sl.v2696, kernelRun0_C.sl.v2699, kernelRun0_C.sl.v444, kernelRun0_C.sl.v443, kernelRun0_C.sl.v442, kernelRun0_C.sl.v441, kernelRun0_C.sl.v436, kernelRun0_C.sl.v435, kernelRun0_C.sl.v434, kernelRun0_C.sl.v440, kernelRun0_C.sl.v439, kernelRun0_C.sl.v427, kernelRun0_C.sl.v426, kernelRun0_C.sl.v425, kernelRun0_C.sl.v66, kernelRun0_C.sl.v64, kernelRun0_C.sl.v60, kernelRun0_C.sl.v41, kernelRun0_C.sl.v59, kernelRun0_C.sl.v58, kernelRun0_C.sl.v56, kernelRun0_C.sl.v55, kernelRun0_C.sl.v51, kernelRun0_C.sl.v39, kernelRun0_C.sl.v46, kernelRun0_C.sl.cst_40, kernelRun0_C.sl.v61, kernelRun0_C.sl.v36, kernelRun0_C.sl.v65, kernelRun0_C.sl.v142, kernelRun0_C.sl.v386, kernelRun0_C.sl.v2398, kernelRun0_C.sl.v383, kernelRun0_C.sl.v2667, kernelRun0_C.sl.v2663, kernelRun0_C.sl.v2661, kernelRun0_C.sl.v2651, kernelRun0_C.sl.r_42, kernelRun0_C.sl.v395, kernelRun0_C.sl.v394, kernelRun0_C.sl.v393, kernelRun0_C.sl.v390, kernelRun0_C.sl.v388, kernelRun0_C.sl.v404, kernelRun0_C.sl.v403, kernelRun0_C.sl.v402, kernelRun0_C.sl.v399, kernelRun0_C.sl.v397, kernelRun0_C.sl.v1436, kernelRun0_C.sl.v2662, kernelRun0_C.sl.r_38, kernelRun0_C.sl.v2439, kernelRun0_C.sl.cst_348, kernelRun0_C.sl.v2438, kernelRun0_C.sl.r_50, kernelRun0_C.sl.v2437, kernelRun0_C.sl.v2427, kernelRun0_C.sl.r_54, kernelRun0_C.sl.v541, kernelRun0_C.sl.v540, kernelRun0_C.sl.v539, kernelRun0_C.sl.v536, kernelRun0_C.sl.v534, kernelRun0_C.sl.v83, kernelRun0_C.sl.v550, kernelRun0_C.sl.v549, kernelRun0_C.sl.v548, kernelRun0_C.sl.v545, kernelRun0_C.sl.v543, kernelRun0_C.sl.v35, kernelRun0_C.sl.v1437, kernelRun0_C.sl.v40, kernelRun0_C.sl.cst_880]
  rw [ldC_v19, wC_v1429, ldC_v13, ldC_v21, ldC_v25, ldC_v30, ldC_v38, ldC_v11]
  dsimp only [kdc]
  rfl

end Cert.Kernel4Ideal.Ssd
end
-- ==== Proof.SsdValue14.lean ====
module
public import proofs.«01_k».proof.Proof.SsdWhole
public import proofs.«01_k».proof.Proof.SsdRunAC
public import proofs.«01_k».proof.Proof.SsdRunBC
public import proofs.«01_k».proof.Proof.SsdRunCC
public import Idealize.ShloMosaic.Lib.Pipeline.ValueKit
public import Idealize.ShloMosaic.Lib.WritesUnit

/-! # The reading weights' gradient at the end of the region -/

@[expose] public section
set_option maxRecDepth 16384
noncomputable section
open Idealize.ShloMosaic Idealize.ShloMosaic.TcCoe Idealize.SL.Sem
open Idealize.ShloMosaic.Pipeline (Dat)
namespace Cert.Kernel4Ideal.Ssd
open Cert.Kernel4Ideal Cert.Kernel4Ideal.Gen Cert.Ssd

theorem emb14 (r : Fin 128) (p : Fin 512) : (ix3 0 r ⟨1536 + p.val, by omega⟩ : S1x128x2048.Idx) = (Rect.unit (s := S1x128x2048) ![0, 0, 1536] S1x128x512.size inb_S1x128x2048_S1x128x512_0_0_1536).emb (ix3 0 r p) := by
  funext a; fin_cases a <;> apply Fin.ext <;> simp
theorem cast14 (a : FVec Ideal S128x512 .f32) (r : Fin 128) (p : Fin 512) : k0_pay850 a (ix3 0 r p) = a (ix2 r p) := by
  pointwise [k0_pay850]
theorem o14A (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : cond0_0 i) (hc1 : cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (r : Fin 128) (p : Fin 512) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 (ix3 0 r ⟨1536 + p.val, by omega⟩) = kdc (k0_pay9 x10) (k0_pay15 x3) (k0_pay12 x0) (k0_pay13 x1) (k0_pay17 x9) x5 (k0_pay8 i) (kdy (k0_pay11 x12) (k0_pay16 x4) x8 (k0_pay388 x13)) (ix2 r p) := by
  unfold out0_A_14
  rw [View.read_writes_junk_eq_canon]
  have e : ∃ L, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).1 = ⟨Rect.unit ![0, 0, 1536] S1x128x512.size inb_S1x128x2048_S1x128x512_0_0_1536, k0_pay850 (kernelRun0_A.sl.r_179 c i arg2 harg2 arg3 harg3 arg5 harg5 arg6 harg6 arg7 harg7 arg10 harg10 arg11 harg11 arg12 harg12 arg14 harg14 arg15 harg15 x0 x1 x3 x4 x5 x8 x9 x10 x12 x13)⟩ :: L := ⟨_, rfl⟩
  obtain ⟨L, e⟩ := e
  rw [e, wA_r_179 _ _ _ _ _ _ _ _ _ _ _ _ _ _ _ _ _ _ _ _ _ _ _ _ _ _ _ _ _ _ _ _]
  refine (congrArg _ (emb14 r p)).trans ?_
  rw [View.canon_cons_emb]
  exact cast14 _ r p
theorem o14B (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : ¬cond0_0 i) (hc1 : ¬cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (xo17 : Vec Ideal S8x128 .f32) (xo18 : Vec Ideal S8x1024 .f32) (xs0 : Vec Ideal S1024x128 .f32) (r : Fin 128) (p : Fin 512) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 xs0 (ix3 0 r ⟨1536 + p.val, by omega⟩) = kdc (k0_pay9 x10) (k0_pay15 x3) (k0_pay12 x0) (k0_pay13 x1) (k0_pay17 x9) x5 (k0_pay8 i) (kdy (k0_pay11 x12) (k0_pay16 x4) x8 (k0_pay388 x13)) (ix2 r p) := by
  unfold out0_B_14
  rw [View.read_writes_junk_eq_canon]
  have e : ∃ L, (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 xs0).1 = ⟨Rect.unit ![0, 0, 1536] S1x128x512.size inb_S1x128x2048_S1x128x512_0_0_1536, k0_pay850 (kernelRun0_B.sl.r_179 c i arg2 harg2 arg3 harg3 arg5 harg5 arg6 harg6 arg7 harg7 arg10 harg10 arg11 harg11 arg12 harg12 arg14 harg14 arg15 harg15 x0 x1 x3 x4 x5 x8 x9 x10 x12 x13)⟩ :: L := ⟨_, rfl⟩
  obtain ⟨L, e⟩ := e
  rw [e, wB_r_179 _ _ _ _ _ _ _ _ _ _ _ _ _ _ _ _ _ _ _ _ _ _ _ _ _ _ _ _ _ _ _ _]
  refine (congrArg _ (emb14 r p)).trans ?_
  rw [View.canon_cons_emb]
  exact cast14 _ r p
theorem o14C (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : cond0_0 i) (hc1 : ¬cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (xo17 : Vec Ideal S8x128 .f32) (xo18 : Vec Ideal S8x1024 .f32) (r : Fin 128) (p : Fin 512) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 (ix3 0 r ⟨1536 + p.val, by omega⟩) = kdc (k0_pay9 x10) (k0_pay15 x3) (k0_pay12 x0) (k0_pay13 x1) (k0_pay17 x9) x5 (k0_pay8 i) (kdy (k0_pay11 x12) (k0_pay16 x4) x8 (k0_pay388 x13)) (ix2 r p) := by
  unfold out0_C_14
  rw [View.read_writes_junk_eq_canon]
  have e : ∃ L, (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18).1 = ⟨Rect.unit ![0, 0, 1536] S1x128x512.size inb_S1x128x2048_S1x128x512_0_0_1536, k0_pay850 (kernelRun0_C.sl.r_179 c i arg2 harg2 arg3 harg3 arg5 harg5 arg6 harg6 arg7 harg7 arg10 harg10 arg11 harg11 arg12 harg12 arg14 harg14 arg15 harg15 x0 x1 x3 x4 x5 x8 x9 x10 x12 x13)⟩ :: L := ⟨_, rfl⟩
  obtain ⟨L, e⟩ := e
  rw [e, wC_r_179 _ _ _ _ _ _ _ _ _ _ _ _ _ _ _ _ _ _ _ _ _ _ _ _ _ _ _ _ _ _ _ _]
  refine (congrArg _ (emb14 r p)).trans ?_
  rw [View.canon_cons_emb]
  exact cast14 _ r p

variable (m : (ℓ : Loc nD τ sig) → Buf (Elt Ideal) ℓ) (c : Dev nD) (t : Fin cfg0.N)

theorem out14 (r : Fin 128) (p : Fin 512) : (outsAt0 m c t.val t.isLt).1 (ix3 0 r ⟨1536 + p.val, by omega⟩) = dcBlk m c t (ix2 r p) := by
  by_cases h : t.val % 17 = 0
  · by_cases h' : t.val % 34 = 0
    · rw [outsAt0_A m c t h h']
      dsimp only
      rw [o14A]
      rfl
    · rw [outsAt0_C m c t h h']
      dsimp only
      rw [o14C]
      rfl
  · rw [outsAt0_B m c t h (by omega)]
    dsimp only
    rw [o14B]
    rfl

/-- The point of a block. -/
def ptOf (b : Fin 2) (R : Fin 2176) : Fin 34 := ⟨17 * b.val + (16 - R.val / 128), by omega⟩
/-- What a block's point leaves at a row and a column. -/
def kept (b : Fin 2) (R : Fin 2176) (q : Fin 2048) : EReal := (outsAt0 m c (pt (ptOf b R)).val (pt (ptOf b R)).isLt).1 (ix3 0 ⟨R.val % 128, Nat.mod_lt _ (by decide)⟩ q)
/-- The array at the end is, block by block, what the points leave. -/
theorem final_14 : (dats m 0 c).arrAt 14 cfg0.N = fun i : S2x2176x2048.Idx => kept m c (i 0) (i 1) (i 2) := by
  refine (dats m 0 c).arrAt_eq_of_covers 14 _ (by decide +kernel) fun t _ y => ?_
  blk_simp
  rw [after0_14]
  have he : ((View.whole main_v0_0).slice (win0_14.rect t)).emb y = ix3 (bat t) (at0 (chk t) (y 1)) (y 2) := by
    blk_ext [idx0 t, bat, chk, at0]
  rw [he]
  have h0 : (y 0).val < 1 := (y 0).isLt
  have h1 : (y 1).val < 128 := (y 1).isLt
  have hp : pt (ptOf (bat t) (at0 (chk t) (y 1))) = t := Fin.ext (by have := lt34 t; simp only [pt, ptOf, bat, at0, chk]; omega)
  have hs : ∀ s : Fin cfg0.N, s = t → outsAt0 m c s.val s.isLt = outsAt0 m c t.val t.isLt := by
    intro s e; subst e; rfl
  change _ = kept m c (bat t) (at0 (chk t) (y 1)) (y 2)
  refine Eq.trans (congrArg (outsAt0 m c t.val t.isLt).1 (?_ : y = ix3 0 ⟨(at0 (chk t) (y 1)).val % 128, Nat.mod_lt _ (by decide)⟩ (y 2)))
    (congrArg (fun o => o.1 (ix3 0 ⟨(at0 (chk t) (y 1)).val % 128, Nat.mod_lt _ (by decide)⟩ (y 2))) (hs _ hp).symm)
  funext a
  fin_cases a <;> apply Fin.ext
  · show (y 0).val = 0; omega
  · show (y 1).val = (128 * (chk t).val + (y 1).val) % 128; omega
  · rfl

/-- The reading weights' gradient at the end, in the last 512 columns. -/
theorem col_14 (b : Fin 2) (k : Fin 17) (r : Fin 128) (p : Fin 512) : (dats m 0 c).arrAt 14 cfg0.N (ix3 b (at0 k r) ⟨1536 + p.val, by omega⟩)
    = dcAt (V m c main_arg10) (V m c main_arg2) (V m c main_arg11) (V m c main_arg6) (V m c main_arg0) (V m c main_arg1) (V m c main_arg8) (V m c main_arg3) (V m c main_arg7)
      b k r ⟨p.val / 128, by omega⟩ ⟨p.val % 128, by omega⟩ := by
  rw [final_14]
  have hb : bat (pt (ptOf b (at0 k r))) = b := Fin.ext (by simp only [pt, ptOf, bat, at0]; omega)
  have hk : chk (pt (ptOf b (at0 k r))) = k := Fin.ext (by simp only [pt, ptOf, chk, at0]; omega)
  have hr : (⟨(at0 k r).val % 128, Nat.mod_lt _ (by decide)⟩ : Fin 128) = r := Fin.ext (by simp only [at0]; omega)
  have h := (out14 m c (pt (ptOf b (at0 k r))) r p).trans (dcBlk_at m c (pt (ptOf b (at0 k r))) r p)
  rw [hb, hk] at h
  refine Eq.trans ?_ h
  change (outsAt0 m c (pt (ptOf b (at0 k r))).val (pt (ptOf b (at0 k r))).isLt).1 (ix3 0 (⟨(at0 k r).val % 128, Nat.mod_lt _ (by decide)⟩ : Fin 128) ⟨1536 + p.val, by omega⟩) = _
  rw [hr]

end Cert.Kernel4Ideal.Ssd
end
-- ==== Proof.SsdValue16.lean ====
module
public import proofs.«01_k».proof.Proof.SsdWhole
public import proofs.«01_k».proof.Proof.SsdRunA
public import proofs.«01_k».proof.Proof.SsdRunB
public import proofs.«01_k».proof.Proof.SsdRunC
public import Idealize.ShloMosaic.Lib.Pipeline.ValueKit
public import Idealize.ShloMosaic.Lib.WritesUnit

/-! # The gate argument's gradient at the end of the region -/

@[expose] public section
set_option maxRecDepth 16384
noncomputable section
open Idealize.ShloMosaic Idealize.ShloMosaic.TcCoe Idealize.SL.Sem
open Idealize.ShloMosaic.Pipeline (Dat)
namespace Cert.Kernel4Ideal.Ssd
open Cert.Kernel4Ideal Cert.Kernel4Ideal.Gen Cert.Ssd

theorem o16A (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : cond0_0 i) (hc1 : cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 = k0_pay852 (kdz (k0_pay11 x12) (k0_pay16 x4) x8 (k0_pay388 x13)) := by
  unfold out0_A_16
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.1 = [⟨Rect.unit ![0, 0, 0] S1x128x1024.size inb_S1x128x1024_S1x128x1024_0_0_0, k0_pay852 (kernelRun0_A.sl.v1433 c arg6 harg6 arg10 harg10 arg14 harg14 arg15 harg15 x4 x8 x12 x13)⟩] := rfl
  rw [e, wA_v1433 _ _ _ _ _ _ _ _ _ _ _ _ _]
  exact View.canon_cons_unit_lit _ _ _ (by decide)
theorem o16B (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : ¬cond0_0 i) (hc1 : ¬cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (xo17 : Vec Ideal S8x128 .f32) (xo18 : Vec Ideal S8x1024 .f32) (xs0 : Vec Ideal S1024x128 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 xs0 = k0_pay852 (kdz (k0_pay11 x12) (k0_pay16 x4) x8 (k0_pay388 x13)) := by
  unfold out0_B_16
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 xs0).2.2.1 = [⟨Rect.unit ![0, 0, 0] S1x128x1024.size inb_S1x128x1024_S1x128x1024_0_0_0, k0_pay852 (kernelRun0_B.sl.v1433 c arg6 harg6 arg10 harg10 arg14 harg14 arg15 harg15 x4 x8 x12 x13)⟩] := rfl
  rw [e, wB_v1433 _ _ _ _ _ _ _ _ _ _ _ _ _]
  exact View.canon_cons_unit_lit _ _ _ (by decide)
theorem o16C (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : cond0_0 i) (hc1 : ¬cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (xo17 : Vec Ideal S8x128 .f32) (xo18 : Vec Ideal S8x1024 .f32) :
    out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 = k0_pay852 (kdz (k0_pay11 x12) (k0_pay16 x4) x8 (k0_pay388 x13)) := by
  unfold out0_C_16
  rw [View.read_writes_junk_eq_canon]
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18).2.2.1 = [⟨Rect.unit ![0, 0, 0] S1x128x1024.size inb_S1x128x1024_S1x128x1024_0_0_0, k0_pay852 (kernelRun0_C.sl.v1433 c arg6 harg6 arg10 harg10 arg14 harg14 arg15 harg15 x4 x8 x12 x13)⟩] := rfl
  rw [e, wC_v1433 _ _ _ _ _ _ _ _ _ _ _ _ _]
  exact View.canon_cons_unit_lit _ _ _ (by decide)

variable (m : (ℓ : Loc nD τ sig) → Buf (Elt Ideal) ℓ) (c : Dev nD) (t : Fin cfg0.N)

theorem out16 (y : S1x128x1024.Idx) : (outsAt0 m c t.val t.isLt).2.2.1 y = k0_pay852 (dzBlk m c t) y := by
  by_cases h : t.val % 17 = 0
  · by_cases h' : t.val % 34 = 0
    · rw [outsAt0_A m c t h h']
      dsimp only
      rw [o16A, dzBlk]
    · rw [outsAt0_C m c t h h']
      dsimp only
      rw [o16C, dzBlk]
  · rw [outsAt0_B m c t h (by omega)]
    dsimp only
    rw [o16B, dzBlk]

/-- The gate argument's gradient at the end. -/
theorem final_16 : (dats m 0 c).arrAt 16 cfg0.N = fun i : S2x2176x1024.Idx => dzAt (V m c main_arg10) (V m c main_arg2) (V m c main_arg11) (V m c main_arg6) (i 0) (i 1) (i 2) := by
  refine (dats m 0 c).arrAt_eq_of_covers 16 _ (by decide +kernel) fun t _ y => ?_
  blk_simp
  rw [after0_16]
  have he : ((View.whole main_v0_2).slice (win0_16.rect t)).emb y = ix3 (bat t) (at0 (chk t) (y 1)) (y 2) := by
    blk_ext [idx0 t, bat, chk, at0]
  rw [he]
  refine (out16 m c t y).trans ?_
  refine Eq.trans ?_ (dzBlk_at m c t (y 1) (y 2))
  pointwise [k0_pay852]
  all_goals blk_point []

end Cert.Kernel4Ideal.Ssd
end
-- ==== Proof.SsdRunAD.lean ====
module
public import proofs.«01_k».proof.Proof.SsdSkip
public import proofs.«01_k».proof.Proof.SsdRunA

/-! # The skip weights' row of one case of the region -/

@[expose] public section
set_option maxRecDepth 16384
noncomputable section
open Idealize.ShloMosaic Idealize.ShloMosaic.TcCoe Idealize.SL.Sem
namespace Cert.Kernel4Ideal.Ssd
open Cert.Kernel4Ideal Cert.Kernel4Ideal.Gen Cert.Ssd
theorem wA_r_144 : ∀ c arg2 harg2 arg6 harg6 arg10 harg10 arg14 harg14 arg15 harg15 x0 x4 x8 x12 x13, kernelRun0_A.sl.r_144 (F := Ideal) c arg2 harg2 arg6 harg6 arg10 harg10 arg14 harg14 arg15 harg15 x0 x4 x8 x12 x13 = kdd (k0_pay12 x0) (kdy (k0_pay11 x12) (k0_pay16 x4) x8 (k0_pay388 x13)) := by
  intro c arg2 harg2 arg6 harg6 arg10 harg10 arg14 harg14 arg15 harg15 x0 x4 x8 x12 x13
  dsimp only [kernelRun0_A.sl.r_144, kernelRun0_A.sl.r_107, kernelRun0_A.sl.v2855, kernelRun0_A.sl.v2844, kernelRun0_A.sl.v2843, kernelRun0_A.sl.v2842, kernelRun0_A.sl.v2841, kernelRun0_A.sl.v2840, kernelRun0_A.sl.v2834, kernelRun0_A.sl.v2854, kernelRun0_A.sl.v2853, kernelRun0_A.sl.v248, kernelRun0_A.sl.v2851, kernelRun0_A.sl.v2850, kernelRun0_A.sl.v2849, kernelRun0_A.sl.v2848, kernelRun0_A.sl.v2847, kernelRun0_A.sl.v2846, kernelRun0_A.sl.v2845, kernelRun0_A.sl.v2839, kernelRun0_A.sl.v2838, kernelRun0_A.sl.v2837, kernelRun0_A.sl.v2836, kernelRun0_A.sl.v2835, kernelRun0_A.sl.v2833, kernelRun0_A.sl.v2829, kernelRun0_A.sl.v2828, kernelRun0_A.sl.v2827, kernelRun0_A.sl.v1435, kernelRun0_A.sl.v237, kernelRun0_A.sl.v2620, kernelRun0_A.sl.v2610, kernelRun0_A.sl.v2609, kernelRun0_A.sl.v2607, kernelRun0_A.sl.v2606, kernelRun0_A.sl.v2605, kernelRun0_A.sl.v2604, kernelRun0_A.sl.v2603, kernelRun0_A.sl.v2602, kernelRun0_A.sl.v2601, kernelRun0_A.sl.v2595, kernelRun0_A.sl.v2594, kernelRun0_A.sl.v2593, kernelRun0_A.sl.v2592, kernelRun0_A.sl.v2591, kernelRun0_A.sl.v2589, kernelRun0_A.sl.v397, kernelRun0_A.sl.v2397, kernelRun0_A.sl.v2387, kernelRun0_A.sl.v2153, kernelRun0_A.sl.v2143, kernelRun0_A.sl.v1930, kernelRun0_A.sl.v1929, kernelRun0_A.sl.v829, kernelRun0_A.sl.v1927, kernelRun0_A.sl.v1926, kernelRun0_A.sl.v1925, kernelRun0_A.sl.v1924, kernelRun0_A.sl.v1923, kernelRun0_A.sl.v1922, kernelRun0_A.sl.v1921, kernelRun0_A.sl.v1910, kernelRun0_A.sl.v1909, kernelRun0_A.sl.v1908, kernelRun0_A.sl.v1907, kernelRun0_A.sl.v1906, kernelRun0_A.sl.v1900, kernelRun0_A.sl.v1920, kernelRun0_A.sl.v1919, kernelRun0_A.sl.v1917, kernelRun0_A.sl.v1916, kernelRun0_A.sl.v1915, kernelRun0_A.sl.v1914, kernelRun0_A.sl.v1913, kernelRun0_A.sl.v1912, kernelRun0_A.sl.v1911, kernelRun0_A.sl.v1905, kernelRun0_A.sl.v1904, kernelRun0_A.sl.v1903, kernelRun0_A.sl.v1902, kernelRun0_A.sl.v1901, kernelRun0_A.sl.v1899, kernelRun0_A.sl.v1895, kernelRun0_A.sl.v1894, kernelRun0_A.sl.v1893, kernelRun0_A.sl.v827, kernelRun0_A.sl.v1439, kernelRun0_A.sl.v838, kernelRun0_A.sl.v1692, kernelRun0_A.sl.v1682, kernelRun0_A.sl.v1681, kernelRun0_A.sl.v987, kernelRun0_A.sl.v1679, kernelRun0_A.sl.v1678, kernelRun0_A.sl.v1677, kernelRun0_A.sl.v1676, kernelRun0_A.sl.v1675, kernelRun0_A.sl.v1674, kernelRun0_A.sl.v1673, kernelRun0_A.sl.v1667, kernelRun0_A.sl.v1666, kernelRun0_A.sl.v1665, kernelRun0_A.sl.v1664, kernelRun0_A.sl.v1663, kernelRun0_A.sl.v1661, kernelRun0_A.sl.v1478, kernelRun0_A.sl.v1468, kernelRun0_A.sl.v1466, kernelRun0_A.sl.v1465, kernelRun0_A.sl.v1464, kernelRun0_A.sl.v1463, kernelRun0_A.sl.v1462, kernelRun0_A.sl.v1461, kernelRun0_A.sl.v1460, kernelRun0_A.sl.v1454, kernelRun0_A.sl.v1453, kernelRun0_A.sl.v1452, kernelRun0_A.sl.v1451, kernelRun0_A.sl.v1450, kernelRun0_A.sl.v1448, kernelRun0_A.sl.v1133, kernelRun0_A.sl.v1477, kernelRun0_A.sl.v1124, kernelRun0_A.sl.v1475, kernelRun0_A.sl.v1474, kernelRun0_A.sl.v1473, kernelRun0_A.sl.v1472, kernelRun0_A.sl.v1471, kernelRun0_A.sl.v1470, kernelRun0_A.sl.v1469, kernelRun0_A.sl.v1459, kernelRun0_A.sl.v1458, kernelRun0_A.sl.v1457, kernelRun0_A.sl.v1456, kernelRun0_A.sl.v1455, kernelRun0_A.sl.v1449, kernelRun0_A.sl.v1444, kernelRun0_A.sl.v1443, kernelRun0_A.sl.v1442, kernelRun0_A.sl.v1441, kernelRun0_A.sl.v1122, kernelRun0_A.sl.v1691, kernelRun0_A.sl.v1689, kernelRun0_A.sl.v1688, kernelRun0_A.sl.v1687, kernelRun0_A.sl.v1686, kernelRun0_A.sl.v1685, kernelRun0_A.sl.v1684, kernelRun0_A.sl.v1683, kernelRun0_A.sl.v1672, kernelRun0_A.sl.v1671, kernelRun0_A.sl.v1670, kernelRun0_A.sl.v1669, kernelRun0_A.sl.v1668, kernelRun0_A.sl.v1662, kernelRun0_A.sl.v1657, kernelRun0_A.sl.v1656, kernelRun0_A.sl.v1655, kernelRun0_A.sl.v1440, kernelRun0_A.sl.v976, kernelRun0_A.sl.v978, kernelRun0_A.sl.v2142, kernelRun0_A.sl.v2140, kernelRun0_A.sl.v2139, kernelRun0_A.sl.v2138, kernelRun0_A.sl.v2137, kernelRun0_A.sl.v2136, kernelRun0_A.sl.v2135, kernelRun0_A.sl.v2134, kernelRun0_A.sl.v2128, kernelRun0_A.sl.v2127, kernelRun0_A.sl.v2126, kernelRun0_A.sl.v2125, kernelRun0_A.sl.v2124, kernelRun0_A.sl.v2122, kernelRun0_A.sl.v692, kernelRun0_A.sl.v2152, kernelRun0_A.sl.v2150, kernelRun0_A.sl.v2149, kernelRun0_A.sl.v2148, kernelRun0_A.sl.v2147, kernelRun0_A.sl.v2146, kernelRun0_A.sl.v2145, kernelRun0_A.sl.v2144, kernelRun0_A.sl.v2133, kernelRun0_A.sl.v2132, kernelRun0_A.sl.v2131, kernelRun0_A.sl.v2130, kernelRun0_A.sl.v2129, kernelRun0_A.sl.v2123, kernelRun0_A.sl.v2118, kernelRun0_A.sl.v2117, kernelRun0_A.sl.v2116, kernelRun0_A.sl.v681, kernelRun0_A.sl.v1438, kernelRun0_A.sl.v683, kernelRun0_A.sl.v2386, kernelRun0_A.sl.v2384, kernelRun0_A.sl.v2383, kernelRun0_A.sl.v2382, kernelRun0_A.sl.v2381, kernelRun0_A.sl.v2380, kernelRun0_A.sl.v2379, kernelRun0_A.sl.v2378, kernelRun0_A.sl.v2372, kernelRun0_A.sl.v2371, kernelRun0_A.sl.v2370, kernelRun0_A.sl.v2369, kernelRun0_A.sl.v2368, kernelRun0_A.sl.v2366, kernelRun0_A.sl.v543, kernelRun0_A.sl.v2396, kernelRun0_A.sl.v534, kernelRun0_A.sl.v2394, kernelRun0_A.sl.v2393, kernelRun0_A.sl.v2392, kernelRun0_A.sl.v2391, kernelRun0_A.sl.v2390, kernelRun0_A.sl.v2389, kernelRun0_A.sl.v2388, kernelRun0_A.sl.v2377, kernelRun0_A.sl.v2376, kernelRun0_A.sl.v2375, kernelRun0_A.sl.v2374, kernelRun0_A.sl.v2373, kernelRun0_A.sl.v2367, kernelRun0_A.sl.v2362, kernelRun0_A.sl.v2361, kernelRun0_A.sl.v2360, kernelRun0_A.sl.v1437, kernelRun0_A.sl.v532, kernelRun0_A.sl.v2619, kernelRun0_A.sl.v2617, kernelRun0_A.sl.v2616, kernelRun0_A.sl.v2615, kernelRun0_A.sl.v2614, kernelRun0_A.sl.v2613, kernelRun0_A.sl.v2612, kernelRun0_A.sl.v2611, kernelRun0_A.sl.v2600, kernelRun0_A.sl.v2599, kernelRun0_A.sl.v2598, kernelRun0_A.sl.v2597, kernelRun0_A.sl.v2596, kernelRun0_A.sl.v2590, kernelRun0_A.sl.v2585, kernelRun0_A.sl.v2584, kernelRun0_A.sl.v2583, kernelRun0_A.sl.v1436, kernelRun0_A.sl.v386, kernelRun0_A.sl.v68, kernelRun0_A.sl.cst_880, kernelRun0_A.sl.v388, kernelRun0_A.sl.v239, kernelRun0_A.sl.v35, kernelRun0_A.sl.v93, kernelRun0_A.sl.v83, kernelRun0_A.sl.v1434, kernelRun0_A.sl.v91, kernelRun0_A.sl.v102]
  rw [ldA_v19, wA_v1429]
  dsimp only [kdd]
  rfl

end Cert.Kernel4Ideal.Ssd
end
-- ==== Proof.SsdRunBD.lean ====
module
public import proofs.«01_k».proof.Proof.SsdSkip
public import proofs.«01_k».proof.Proof.SsdRunB

/-! # The skip weights' row of one case of the region -/

@[expose] public section
set_option maxRecDepth 16384
noncomputable section
open Idealize.ShloMosaic Idealize.ShloMosaic.TcCoe Idealize.SL.Sem
namespace Cert.Kernel4Ideal.Ssd
open Cert.Kernel4Ideal Cert.Kernel4Ideal.Gen Cert.Ssd
theorem wB_r_144 : ∀ c arg2 harg2 arg6 harg6 arg10 harg10 arg14 harg14 arg15 harg15 x0 x4 x8 x12 x13, kernelRun0_B.sl.r_144 (F := Ideal) c arg2 harg2 arg6 harg6 arg10 harg10 arg14 harg14 arg15 harg15 x0 x4 x8 x12 x13 = kdd (k0_pay12 x0) (kdy (k0_pay11 x12) (k0_pay16 x4) x8 (k0_pay388 x13)) := by
  intro c arg2 harg2 arg6 harg6 arg10 harg10 arg14 harg14 arg15 harg15 x0 x4 x8 x12 x13
  dsimp only [kernelRun0_B.sl.r_144, kernelRun0_B.sl.r_107, kernelRun0_B.sl.v2855, kernelRun0_B.sl.v2844, kernelRun0_B.sl.v2843, kernelRun0_B.sl.v2842, kernelRun0_B.sl.v2841, kernelRun0_B.sl.v2840, kernelRun0_B.sl.v2834, kernelRun0_B.sl.v239, kernelRun0_B.sl.v2854, kernelRun0_B.sl.v2853, kernelRun0_B.sl.v2851, kernelRun0_B.sl.v2850, kernelRun0_B.sl.v2849, kernelRun0_B.sl.v2848, kernelRun0_B.sl.v2847, kernelRun0_B.sl.v2846, kernelRun0_B.sl.v2845, kernelRun0_B.sl.v2839, kernelRun0_B.sl.v2838, kernelRun0_B.sl.v2837, kernelRun0_B.sl.v2836, kernelRun0_B.sl.v2835, kernelRun0_B.sl.v2833, kernelRun0_B.sl.v2829, kernelRun0_B.sl.v2828, kernelRun0_B.sl.v2827, kernelRun0_B.sl.v1435, kernelRun0_B.sl.v237, kernelRun0_B.sl.v248, kernelRun0_B.sl.v2620, kernelRun0_B.sl.v2619, kernelRun0_B.sl.v388, kernelRun0_B.sl.v2617, kernelRun0_B.sl.v2616, kernelRun0_B.sl.v2615, kernelRun0_B.sl.v2614, kernelRun0_B.sl.v2613, kernelRun0_B.sl.v2612, kernelRun0_B.sl.v2611, kernelRun0_B.sl.v2600, kernelRun0_B.sl.v2599, kernelRun0_B.sl.v2598, kernelRun0_B.sl.v2597, kernelRun0_B.sl.v2596, kernelRun0_B.sl.v2590, kernelRun0_B.sl.v2610, kernelRun0_B.sl.v2609, kernelRun0_B.sl.v397, kernelRun0_B.sl.v2607, kernelRun0_B.sl.v2606, kernelRun0_B.sl.v2605, kernelRun0_B.sl.v2604, kernelRun0_B.sl.v2603, kernelRun0_B.sl.v2602, kernelRun0_B.sl.v2601, kernelRun0_B.sl.v2595, kernelRun0_B.sl.v2594, kernelRun0_B.sl.v2593, kernelRun0_B.sl.v2592, kernelRun0_B.sl.v2591, kernelRun0_B.sl.v2589, kernelRun0_B.sl.v2585, kernelRun0_B.sl.v2584, kernelRun0_B.sl.v2583, kernelRun0_B.sl.v1436, kernelRun0_B.sl.v386, kernelRun0_B.sl.v2397, kernelRun0_B.sl.v2396, kernelRun0_B.sl.v2394, kernelRun0_B.sl.v2393, kernelRun0_B.sl.v2392, kernelRun0_B.sl.v2391, kernelRun0_B.sl.v2390, kernelRun0_B.sl.v2389, kernelRun0_B.sl.v2388, kernelRun0_B.sl.v2377, kernelRun0_B.sl.v2376, kernelRun0_B.sl.v2375, kernelRun0_B.sl.v2374, kernelRun0_B.sl.v2373, kernelRun0_B.sl.v2367, kernelRun0_B.sl.v534, kernelRun0_B.sl.v2387, kernelRun0_B.sl.v2386, kernelRun0_B.sl.v2384, kernelRun0_B.sl.v2383, kernelRun0_B.sl.v2382, kernelRun0_B.sl.v2381, kernelRun0_B.sl.v2380, kernelRun0_B.sl.v2379, kernelRun0_B.sl.v2378, kernelRun0_B.sl.v2372, kernelRun0_B.sl.v2371, kernelRun0_B.sl.v2370, kernelRun0_B.sl.v2369, kernelRun0_B.sl.v2368, kernelRun0_B.sl.v2366, kernelRun0_B.sl.v2362, kernelRun0_B.sl.v2361, kernelRun0_B.sl.v2360, kernelRun0_B.sl.v532, kernelRun0_B.sl.v1437, kernelRun0_B.sl.v543, kernelRun0_B.sl.v2153, kernelRun0_B.sl.v2143, kernelRun0_B.sl.v1930, kernelRun0_B.sl.v1929, kernelRun0_B.sl.v829, kernelRun0_B.sl.v1927, kernelRun0_B.sl.v1926, kernelRun0_B.sl.v1925, kernelRun0_B.sl.v1924, kernelRun0_B.sl.v1923, kernelRun0_B.sl.v1922, kernelRun0_B.sl.v1921, kernelRun0_B.sl.v1910, kernelRun0_B.sl.v1909, kernelRun0_B.sl.v1908, kernelRun0_B.sl.v1907, kernelRun0_B.sl.v1906, kernelRun0_B.sl.v1900, kernelRun0_B.sl.v1920, kernelRun0_B.sl.v1919, kernelRun0_B.sl.v1917, kernelRun0_B.sl.v1916, kernelRun0_B.sl.v1915, kernelRun0_B.sl.v1914, kernelRun0_B.sl.v1913, kernelRun0_B.sl.v1912, kernelRun0_B.sl.v1911, kernelRun0_B.sl.v1905, kernelRun0_B.sl.v1904, kernelRun0_B.sl.v1903, kernelRun0_B.sl.v1902, kernelRun0_B.sl.v1901, kernelRun0_B.sl.v1899, kernelRun0_B.sl.v1895, kernelRun0_B.sl.v1894, kernelRun0_B.sl.v1893, kernelRun0_B.sl.v1439, kernelRun0_B.sl.v827, kernelRun0_B.sl.v838, kernelRun0_B.sl.v1692, kernelRun0_B.sl.v1691, kernelRun0_B.sl.v978, kernelRun0_B.sl.v1689, kernelRun0_B.sl.v1688, kernelRun0_B.sl.v1687, kernelRun0_B.sl.v1686, kernelRun0_B.sl.v1685, kernelRun0_B.sl.v1684, kernelRun0_B.sl.v1683, kernelRun0_B.sl.v1672, kernelRun0_B.sl.v1671, kernelRun0_B.sl.v1670, kernelRun0_B.sl.v1669, kernelRun0_B.sl.v1668, kernelRun0_B.sl.v1662, kernelRun0_B.sl.v1682, kernelRun0_B.sl.v1478, kernelRun0_B.sl.v1477, kernelRun0_B.sl.v1124, kernelRun0_B.sl.v1475, kernelRun0_B.sl.v1474, kernelRun0_B.sl.v1473, kernelRun0_B.sl.v1472, kernelRun0_B.sl.v1471, kernelRun0_B.sl.v1470, kernelRun0_B.sl.v1469, kernelRun0_B.sl.v1459, kernelRun0_B.sl.v1458, kernelRun0_B.sl.v1457, kernelRun0_B.sl.v1456, kernelRun0_B.sl.v1455, kernelRun0_B.sl.v1449, kernelRun0_B.sl.v1468, kernelRun0_B.sl.v1466, kernelRun0_B.sl.v1465, kernelRun0_B.sl.v1464, kernelRun0_B.sl.v1463, kernelRun0_B.sl.v1462, kernelRun0_B.sl.v1461, kernelRun0_B.sl.v1460, kernelRun0_B.sl.v1454, kernelRun0_B.sl.v1453, kernelRun0_B.sl.v1452, kernelRun0_B.sl.v1451, kernelRun0_B.sl.v1450, kernelRun0_B.sl.v1448, kernelRun0_B.sl.v1444, kernelRun0_B.sl.v1443, kernelRun0_B.sl.v1442, kernelRun0_B.sl.v1122, kernelRun0_B.sl.v1441, kernelRun0_B.sl.v1133, kernelRun0_B.sl.v1681, kernelRun0_B.sl.v987, kernelRun0_B.sl.v1679, kernelRun0_B.sl.v1678, kernelRun0_B.sl.v1677, kernelRun0_B.sl.v1676, kernelRun0_B.sl.v1675, kernelRun0_B.sl.v1674, kernelRun0_B.sl.v1673, kernelRun0_B.sl.v1667, kernelRun0_B.sl.v1666, kernelRun0_B.sl.v1665, kernelRun0_B.sl.v1664, kernelRun0_B.sl.v1663, kernelRun0_B.sl.v1661, kernelRun0_B.sl.v1657, kernelRun0_B.sl.v1656, kernelRun0_B.sl.v1655, kernelRun0_B.sl.v976, kernelRun0_B.sl.v1440, kernelRun0_B.sl.v2142, kernelRun0_B.sl.v692, kernelRun0_B.sl.v2140, kernelRun0_B.sl.v2139, kernelRun0_B.sl.v2138, kernelRun0_B.sl.v2137, kernelRun0_B.sl.v2136, kernelRun0_B.sl.v2135, kernelRun0_B.sl.v2134, kernelRun0_B.sl.v2128, kernelRun0_B.sl.v2127, kernelRun0_B.sl.v2126, kernelRun0_B.sl.v2125, kernelRun0_B.sl.v2124, kernelRun0_B.sl.v2122, kernelRun0_B.sl.v2152, kernelRun0_B.sl.v2150, kernelRun0_B.sl.v2149, kernelRun0_B.sl.v2148, kernelRun0_B.sl.v2147, kernelRun0_B.sl.v2146, kernelRun0_B.sl.v2145, kernelRun0_B.sl.v2144, kernelRun0_B.sl.v2133, kernelRun0_B.sl.v2132, kernelRun0_B.sl.v2131, kernelRun0_B.sl.v2130, kernelRun0_B.sl.v2129, kernelRun0_B.sl.v2123, kernelRun0_B.sl.v83, kernelRun0_B.sl.v2118, kernelRun0_B.sl.v2117, kernelRun0_B.sl.v2116, kernelRun0_B.sl.v1438, kernelRun0_B.sl.v681, kernelRun0_B.sl.v68, kernelRun0_B.sl.cst, kernelRun0_B.sl.v683, kernelRun0_B.sl.v102, kernelRun0_B.sl.v93, kernelRun0_B.sl.v1434, kernelRun0_B.sl.v91, kernelRun0_B.sl.v35]
  rw [ldB_v19, wB_v1429]
  dsimp only [kdd]
  rfl

end Cert.Kernel4Ideal.Ssd
end
-- ==== Proof.SsdRunCD.lean ====
module
public import proofs.«01_k».proof.Proof.SsdSkip
public import proofs.«01_k».proof.Proof.SsdRunC

/-! # The skip weights' row of one case of the region -/

@[expose] public section
set_option maxRecDepth 16384
noncomputable section
open Idealize.ShloMosaic Idealize.ShloMosaic.TcCoe Idealize.SL.Sem
namespace Cert.Kernel4Ideal.Ssd
open Cert.Kernel4Ideal Cert.Kernel4Ideal.Gen Cert.Ssd
theorem wC_r_144 : ∀ c arg2 harg2 arg6 harg6 arg10 harg10 arg14 harg14 arg15 harg15 x0 x4 x8 x12 x13, kernelRun0_C.sl.r_144 (F := Ideal) c arg2 harg2 arg6 harg6 arg10 harg10 arg14 harg14 arg15 harg15 x0 x4 x8 x12 x13 = kdd (k0_pay12 x0) (kdy (k0_pay11 x12) (k0_pay16 x4) x8 (k0_pay388 x13)) := by
  intro c arg2 harg2 arg6 harg6 arg10 harg10 arg14 harg14 arg15 harg15 x0 x4 x8 x12 x13
  dsimp only [kernelRun0_C.sl.r_144, kernelRun0_C.sl.v102, kernelRun0_C.sl.v91, kernelRun0_C.sl.v93, kernelRun0_C.sl.r_107, kernelRun0_C.sl.v239, kernelRun0_C.sl.v2855, kernelRun0_C.sl.v2844, kernelRun0_C.sl.v2843, kernelRun0_C.sl.v2842, kernelRun0_C.sl.v2841, kernelRun0_C.sl.v2840, kernelRun0_C.sl.v2834, kernelRun0_C.sl.v2854, kernelRun0_C.sl.v2620, kernelRun0_C.sl.v2619, kernelRun0_C.sl.v2617, kernelRun0_C.sl.v2616, kernelRun0_C.sl.v2615, kernelRun0_C.sl.v2614, kernelRun0_C.sl.v2613, kernelRun0_C.sl.v2612, kernelRun0_C.sl.v2611, kernelRun0_C.sl.v2600, kernelRun0_C.sl.v2599, kernelRun0_C.sl.v2598, kernelRun0_C.sl.v2597, kernelRun0_C.sl.v2596, kernelRun0_C.sl.v2590, kernelRun0_C.sl.v388, kernelRun0_C.sl.v2610, kernelRun0_C.sl.v2609, kernelRun0_C.sl.v2607, kernelRun0_C.sl.v2606, kernelRun0_C.sl.v2605, kernelRun0_C.sl.v2604, kernelRun0_C.sl.v2603, kernelRun0_C.sl.v2602, kernelRun0_C.sl.v2601, kernelRun0_C.sl.v2595, kernelRun0_C.sl.v2594, kernelRun0_C.sl.v2593, kernelRun0_C.sl.v2592, kernelRun0_C.sl.v2591, kernelRun0_C.sl.v2589, kernelRun0_C.sl.v2585, kernelRun0_C.sl.v2584, kernelRun0_C.sl.v2583, kernelRun0_C.sl.v386, kernelRun0_C.sl.v1436, kernelRun0_C.sl.v397, kernelRun0_C.sl.v2397, kernelRun0_C.sl.v2396, kernelRun0_C.sl.v534, kernelRun0_C.sl.v2394, kernelRun0_C.sl.v2393, kernelRun0_C.sl.v2392, kernelRun0_C.sl.v2391, kernelRun0_C.sl.v2390, kernelRun0_C.sl.v2389, kernelRun0_C.sl.v2388, kernelRun0_C.sl.v2377, kernelRun0_C.sl.v2376, kernelRun0_C.sl.v2375, kernelRun0_C.sl.v2374, kernelRun0_C.sl.v2373, kernelRun0_C.sl.v2367, kernelRun0_C.sl.v2387, kernelRun0_C.sl.v2153, kernelRun0_C.sl.v2152, kernelRun0_C.sl.v683, kernelRun0_C.sl.v2150, kernelRun0_C.sl.v2149, kernelRun0_C.sl.v2148, kernelRun0_C.sl.v2147, kernelRun0_C.sl.v2146, kernelRun0_C.sl.v2145, kernelRun0_C.sl.v2144, kernelRun0_C.sl.v2133, kernelRun0_C.sl.v2132, kernelRun0_C.sl.v2131, kernelRun0_C.sl.v2130, kernelRun0_C.sl.v2129, kernelRun0_C.sl.v2123, kernelRun0_C.sl.v2143, kernelRun0_C.sl.v2142, kernelRun0_C.sl.v2140, kernelRun0_C.sl.v2139, kernelRun0_C.sl.v2138, kernelRun0_C.sl.v2137, kernelRun0_C.sl.v2136, kernelRun0_C.sl.v2135, kernelRun0_C.sl.v2134, kernelRun0_C.sl.v2128, kernelRun0_C.sl.v2127, kernelRun0_C.sl.v2126, kernelRun0_C.sl.v2125, kernelRun0_C.sl.v2124, kernelRun0_C.sl.v2122, kernelRun0_C.sl.v2118, kernelRun0_C.sl.v2117, kernelRun0_C.sl.v2116, kernelRun0_C.sl.v1438, kernelRun0_C.sl.v681, kernelRun0_C.sl.v692, kernelRun0_C.sl.v1930, kernelRun0_C.sl.v1929, kernelRun0_C.sl.v1927, kernelRun0_C.sl.v1926, kernelRun0_C.sl.v1925, kernelRun0_C.sl.v1924, kernelRun0_C.sl.v1923, kernelRun0_C.sl.v1922, kernelRun0_C.sl.v1921, kernelRun0_C.sl.v1910, kernelRun0_C.sl.v1909, kernelRun0_C.sl.v1908, kernelRun0_C.sl.v1907, kernelRun0_C.sl.v1906, kernelRun0_C.sl.v1900, kernelRun0_C.sl.v829, kernelRun0_C.sl.v1920, kernelRun0_C.sl.v1692, kernelRun0_C.sl.v1691, kernelRun0_C.sl.v1689, kernelRun0_C.sl.v1688, kernelRun0_C.sl.v1687, kernelRun0_C.sl.v1686, kernelRun0_C.sl.v1685, kernelRun0_C.sl.v1684, kernelRun0_C.sl.v1683, kernelRun0_C.sl.v1672, kernelRun0_C.sl.v1671, kernelRun0_C.sl.v1670, kernelRun0_C.sl.v1669, kernelRun0_C.sl.v1668, kernelRun0_C.sl.v1662, kernelRun0_C.sl.v978, kernelRun0_C.sl.v1682, kernelRun0_C.sl.v1681, kernelRun0_C.sl.v1679, kernelRun0_C.sl.v1678, kernelRun0_C.sl.v1677, kernelRun0_C.sl.v1676, kernelRun0_C.sl.v1675, kernelRun0_C.sl.v1674, kernelRun0_C.sl.v1673, kernelRun0_C.sl.v1667, kernelRun0_C.sl.v1666, kernelRun0_C.sl.v1665, kernelRun0_C.sl.v1664, kernelRun0_C.sl.v1663, kernelRun0_C.sl.v1661, kernelRun0_C.sl.v1657, kernelRun0_C.sl.v1656, kernelRun0_C.sl.v1655, kernelRun0_C.sl.v1440, kernelRun0_C.sl.v976, kernelRun0_C.sl.v987, kernelRun0_C.sl.v1478, kernelRun0_C.sl.v1468, kernelRun0_C.sl.v1133, kernelRun0_C.sl.v1466, kernelRun0_C.sl.v1465, kernelRun0_C.sl.v1464, kernelRun0_C.sl.v1463, kernelRun0_C.sl.v1462, kernelRun0_C.sl.v1461, kernelRun0_C.sl.v1460, kernelRun0_C.sl.v1454, kernelRun0_C.sl.v1453, kernelRun0_C.sl.v1452, kernelRun0_C.sl.v1451, kernelRun0_C.sl.v1450, kernelRun0_C.sl.v1448, kernelRun0_C.sl.v1477, kernelRun0_C.sl.v1124, kernelRun0_C.sl.v1475, kernelRun0_C.sl.v1474, kernelRun0_C.sl.v1473, kernelRun0_C.sl.v1472, kernelRun0_C.sl.v1471, kernelRun0_C.sl.v1470, kernelRun0_C.sl.v1469, kernelRun0_C.sl.v1459, kernelRun0_C.sl.v1458, kernelRun0_C.sl.v1457, kernelRun0_C.sl.v1456, kernelRun0_C.sl.v1455, kernelRun0_C.sl.v1449, kernelRun0_C.sl.v1444, kernelRun0_C.sl.v1443, kernelRun0_C.sl.v1442, kernelRun0_C.sl.v1122, kernelRun0_C.sl.v1441, kernelRun0_C.sl.v1919, kernelRun0_C.sl.v1917, kernelRun0_C.sl.v1916, kernelRun0_C.sl.v1915, kernelRun0_C.sl.v1914, kernelRun0_C.sl.v1913, kernelRun0_C.sl.v1912, kernelRun0_C.sl.v1911, kernelRun0_C.sl.v1905, kernelRun0_C.sl.v1904, kernelRun0_C.sl.v1903, kernelRun0_C.sl.v1902, kernelRun0_C.sl.v1901, kernelRun0_C.sl.v1899, kernelRun0_C.sl.v1895, kernelRun0_C.sl.v1894, kernelRun0_C.sl.v1893, kernelRun0_C.sl.v827, kernelRun0_C.sl.v1439, kernelRun0_C.sl.v838, kernelRun0_C.sl.v2386, kernelRun0_C.sl.v543, kernelRun0_C.sl.v2384, kernelRun0_C.sl.v2383, kernelRun0_C.sl.v2382, kernelRun0_C.sl.v2381, kernelRun0_C.sl.v2380, kernelRun0_C.sl.v2379, kernelRun0_C.sl.v2378, kernelRun0_C.sl.v2372, kernelRun0_C.sl.v2371, kernelRun0_C.sl.v2370, kernelRun0_C.sl.v2369, kernelRun0_C.sl.v2368, kernelRun0_C.sl.v2366, kernelRun0_C.sl.v2362, kernelRun0_C.sl.v2361, kernelRun0_C.sl.v2360, kernelRun0_C.sl.v532, kernelRun0_C.sl.v1437, kernelRun0_C.sl.v2853, kernelRun0_C.sl.v248, kernelRun0_C.sl.v2851, kernelRun0_C.sl.v2850, kernelRun0_C.sl.v2849, kernelRun0_C.sl.v2848, kernelRun0_C.sl.v2847, kernelRun0_C.sl.v2846, kernelRun0_C.sl.v2845, kernelRun0_C.sl.v2839, kernelRun0_C.sl.v2838, kernelRun0_C.sl.v2837, kernelRun0_C.sl.v2836, kernelRun0_C.sl.v2835, kernelRun0_C.sl.v2833, kernelRun0_C.sl.v83, kernelRun0_C.sl.v68, kernelRun0_C.sl.cst_880, kernelRun0_C.sl.v2829, kernelRun0_C.sl.v2828, kernelRun0_C.sl.v2827, kernelRun0_C.sl.v1435, kernelRun0_C.sl.v237, kernelRun0_C.sl.v35, kernelRun0_C.sl.v1434]
  rw [ldC_v19, wC_v1429]
  dsimp only [kdd]
  rfl

end Cert.Kernel4Ideal.Ssd
end
-- ==== Proof.SsdValue17.lean ====
module
public import proofs.«01_k».proof.Proof.SsdWhole
public import proofs.«01_k».proof.Proof.SsdRunAD
public import proofs.«01_k».proof.Proof.SsdRunBD
public import proofs.«01_k».proof.Proof.SsdRunCD
public import Idealize.ShloMosaic.Lib.Pipeline.ValueKit
public import Idealize.ShloMosaic.Lib.WritesUnit

/-! # The skip weights' gradient at the end of the region -/

@[expose] public section
set_option maxRecDepth 16384
noncomputable section
open Idealize.ShloMosaic Idealize.ShloMosaic.TcCoe Idealize.SL.Sem
open Idealize.ShloMosaic.Pipeline (Dat)
namespace Cert.Kernel4Ideal.Ssd
open Cert.Kernel4Ideal Cert.Kernel4Ideal.Gen Cert.Ssd

/-- The filled buffer is zero. -/
theorem fill17 (j : S8x128.Idx) : k0_pay1 (F := Ideal) j = 0 := by
  pointwise [k0_pay1]
/-- The stored row: the row read before, plus what the block adds. -/
theorem add17 (a b : Vec Ideal S1x128 .f32) (q : Fin 128) : k0_pay5 (F := Ideal) a b (ix2 0 q) = b (ix2 0 q) + a (ix2 0 q) := by
  pointwise [k0_pay5]
theorem emb17 (q : Fin 128) : (ix2 2 q : S8x128.Idx) = (Rect.unit (s := S8x128) ![2, 0] ![1, 128] inb_S8x128_S1x128_2_0).emb (ix2 0 q) := by
  funext a; fin_cases a <;> apply Fin.ext <;> simp
theorem o17A (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : cond0_0 i) (hc1 : cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (q : Fin 128) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 (ix2 2 q) = 0 + kdd (k0_pay12 x0) (kdy (k0_pay11 x12) (k0_pay16 x4) x8 (k0_pay388 x13)) (ix2 0 q) := by
  unfold out0_A_17
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.1 = ⟨Rect.unit ![2, 0] ![1, 128] inb_S8x128_S1x128_2_0, k0_pay5 (kernelRun0_A.sl.r_144 c arg2 harg2 arg6 harg6 arg10 harg10 arg14 harg14 arg15 harg15 x0 x4 x8 x12 x13) (kernelRun0_A.sl.v3371 c i arg2 harg2 arg3 harg3 arg4 harg4 arg5 harg5 arg6 harg6 arg7 harg7 arg8 harg8 arg10 harg10 arg11 harg11 arg12 harg12 arg13 harg13 arg14 harg14 arg15 harg15 arg19 arg21 x0 x1 x2 x3 x4 x5 x6 x8 x9 x10 x11 x12 x13)⟩ :: (kernelRun0_A.sl.H17_3 c i arg2 harg2 arg3 harg3 arg4 harg4 arg5 harg5 arg6 harg6 arg7 harg7 arg8 harg8 arg10 harg10 arg11 harg11 arg12 harg12 arg13 harg13 arg14 harg14 arg15 harg15 arg19 arg21 x0 x1 x2 x3 x4 x5 x6 x8 x9 x10 x11 x12 x13) := rfl
  rw [e, wA_r_144 _ _ _ _ _ _ _ _ _ _ _ _ _ _ _ _]
  refine (congrArg _ (emb17 q)).trans ?_
  rw [View.canon_cons_emb]
  refine (add17 _ _ q).trans (congrArg (· + _) ?_)
  unfold kernelRun0_A.sl.v3371 kernelRun0_A.sl.H17_3 kernelRun0_A.sl.H17_2 kernelRun0_A.sl.H17_1
  rw [View.readCov_eq_canon']
  beta_reduce
  rw [View.canon_cons_of_not_mem _ _ (by simp [Rect.mem_set_unit]), View.canon_cons_of_not_mem _ _ (by simp [Rect.mem_set_unit]), View.canon_cons_unit_lit _ _ _ (by decide)]
  exact fill17 _
theorem o17B (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : ¬cond0_0 i) (hc1 : ¬cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (xo17 : Vec Ideal S8x128 .f32) (xo18 : Vec Ideal S8x1024 .f32) (xs0 : Vec Ideal S1024x128 .f32) (q : Fin 128) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 xs0 (ix2 2 q) = xo17 (ix2 2 q) + kdd (k0_pay12 x0) (kdy (k0_pay11 x12) (k0_pay16 x4) x8 (k0_pay388 x13)) (ix2 0 q) := by
  unfold out0_B_17
  have e : ∃ L, (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 xs0).2.2.2.1 = ⟨Rect.unit ![2, 0] ![1, 128] inb_S8x128_S1x128_2_0, k0_pay5 (kernelRun0_B.sl.r_144 c arg2 harg2 arg6 harg6 arg10 harg10 arg14 harg14 arg15 harg15 x0 x4 x8 x12 x13) (kernelRun0_B.sl.v3371 c arg19 harg19 xo17)⟩ :: L := ⟨_, rfl⟩
  obtain ⟨L, e⟩ := e
  rw [e, wB_r_144 _ _ _ _ _ _ _ _ _ _ _ _ _ _ _ _]
  rw [View.read_writes_cons_unit_of_mem _ _ _ _ _ _ (ix2 0 q) rfl (by intro a; fin_cases a <;> simp)]
  refine (add17 _ _ q).trans (congrArg (· + _) ?_)
  unfold kernelRun0_B.sl.v3371
  rw [View.readAt_eq_ld, Memref.IsWhole.read_unread]
  exact congrArg xo17 (emb17 q).symm
theorem o17C (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : cond0_0 i) (hc1 : ¬cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (xo17 : Vec Ideal S8x128 .f32) (xo18 : Vec Ideal S8x1024 .f32) (q : Fin 128) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 (ix2 2 q) = xo17 (ix2 2 q) + kdd (k0_pay12 x0) (kdy (k0_pay11 x12) (k0_pay16 x4) x8 (k0_pay388 x13)) (ix2 0 q) := by
  unfold out0_C_17
  have e : ∃ L, (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18).2.2.2.1 = ⟨Rect.unit ![2, 0] ![1, 128] inb_S8x128_S1x128_2_0, k0_pay5 (kernelRun0_C.sl.r_144 c arg2 harg2 arg6 harg6 arg10 harg10 arg14 harg14 arg15 harg15 x0 x4 x8 x12 x13) (kernelRun0_C.sl.v3371 c arg19 harg19 xo17)⟩ :: L := ⟨_, rfl⟩
  obtain ⟨L, e⟩ := e
  rw [e, wC_r_144 _ _ _ _ _ _ _ _ _ _ _ _ _ _ _ _]
  rw [View.read_writes_cons_unit_of_mem _ _ _ _ _ _ (ix2 0 q) rfl (by intro a; fin_cases a <;> simp)]
  refine (add17 _ _ q).trans (congrArg (· + _) ?_)
  unfold kernelRun0_C.sl.v3371
  rw [View.readAt_eq_ld, Memref.IsWhole.read_unread]
  exact congrArg xo17 (emb17 q).symm

variable (m : (ℓ : Loc nD τ sig) → Buf (Elt Ideal) ℓ) (c : Dev nD)

/-- The row after a point. -/
def acc17 (n : ℕ) (h : n < cfg0.N) (q : Fin 128) : EReal := (outsAt0 m c n h).2.2.2.1 (ix2 2 q)

theorem first17 (t : Fin cfg0.N) (h' : t.val % 34 = 0) (q : Fin 128) : acc17 m c t.val t.isLt q = 0 + ddBlk m c t (ix2 0 q) := by
  have h : t.val % 17 = 0 := by have := lt34 t; omega
  unfold acc17
  rw [outsAt0_A m c t h h']
  dsimp only
  rw [o17A]
  rfl

theorem next17 (t : Fin cfg0.N) (h' : ¬ t.val % 34 = 0) (q : Fin 128) : acc17 m c t.val t.isLt q
    = acc17 m c (t.val - 1) (Nat.lt_of_le_of_lt (Nat.sub_le _ _) t.isLt) q + ddBlk m c t (ix2 0 q) := by
  unfold acc17
  by_cases h : t.val % 17 = 0
  · rw [outsAt0_C m c t h h']
    dsimp only
    rw [o17C]
    rfl
  · rw [outsAt0_B m c t h h']
    dsimp only
    rw [o17B]
    rfl

/-- The row after the last point: the sum over the points. -/
theorem sum17 (n : ℕ) (hn : n < cfg0.N) (ht : n % 34 = 33) (q : Fin 128) : acc17 m c n hn q
    = ∑ s : Fin 34, ddBlk m c (pt s) (ix2 0 q) := by
  refine (Pipeline.eq_sum_fin_of_reset_step_apply_of_flush (acc17 m c) 34 (fun _ => 0) (fun t q => ddBlk m c t (ix2 0 q))
    (first17 m c) (next17 m c) ⟨n, hn⟩ ht q).trans ?_
  rw [zero_add]
  refine Finset.sum_congr rfl fun s _ => ?_
  have h0 : n / 34 = 0 := by have := lt34 ⟨n, hn⟩; simp only at this; omega
  congr 1
  exact Fin.ext (by simp only [pt]; omega)

/-- The buffer at the end is what the last point leaves. -/
theorem final_17 (i : S8x128.Idx) (h33 : 33 < cfg0.N) : (dats m 0 c).arrAt 17 cfg0.N i = (outsAt0 m c 33 h33).2.2.2.1 i := by
  refine congrFun ((dats m 0 c).arrAt_eq_of_covers 17 (fun i : S8x128.Idx => (outsAt0 m c 33 h33).2.2.2.1 i) (by decide +kernel) fun t hf y => ?_) i
  have ht : t.val % 34 = 33 := (flush0_17 t).mp hf
  have he : ((View.whole main_v0_3).slice (win0_17.rect t)).emb y = y := by
    blk_ext [idx0 t]
  blk_simp
  rw [he, after0_17]
  rw [same m c t ht h33]

/-- The skip weights' gradient at the end, in row 2 of its buffer. -/
theorem row_17 (q : Fin 128) : (dats m 0 c).arrAt 17 cfg0.N (ix2 2 q)
    = if h : q.val < 16 then ddAt (V m c main_arg10) (V m c main_arg2) (V m c main_arg11) (V m c main_arg6) (V m c main_arg0) ⟨q.val, h⟩ else 0 := by
  have h33 : 33 < cfg0.N := by decide +kernel
  rw [final_17 m c (ix2 2 q) h33]
  change acc17 m c 33 h33 q = _
  rw [sum17 m c 33 h33 (by decide)]
  by_cases h : q.val < 16
  · rw [dif_pos h, ddAt, ← sum_points]
    refine Finset.sum_congr rfl fun s _ => ?_
    refine (ddBlk_at m c (pt s) ⟨q.val, h⟩).trans ?_
    rw [bat_pt, chk_pt]
  · rw [dif_neg h]
    exact Finset.sum_eq_zero fun s _ => ddBlk_zero m c (pt s) q (by omega)

end Cert.Kernel4Ideal.Ssd
end
-- ==== Proof.SsdValue18.lean ====
module
public import proofs.«01_k».proof.Proof.SsdWhole
public import proofs.«01_k».proof.Proof.SsdRunA
public import proofs.«01_k».proof.Proof.SsdRunB
public import proofs.«01_k».proof.Proof.SsdRunC
public import Idealize.ShloMosaic.Lib.Pipeline.ValueKit
public import Idealize.ShloMosaic.Lib.WritesUnit

/-! # The norm's weight's gradient at the end of the region -/

@[expose] public section
set_option maxRecDepth 16384
noncomputable section
open Idealize.ShloMosaic Idealize.ShloMosaic.TcCoe Idealize.SL.Sem
open Idealize.ShloMosaic.Pipeline (Dat)
namespace Cert.Kernel4Ideal.Ssd
open Cert.Kernel4Ideal Cert.Kernel4Ideal.Gen Cert.Ssd

/-- The filled buffer is zero. -/
theorem fill18 (j : S8x1024.Idx) : k0_pay2 (F := Ideal) j = 0 := by
  pointwise [k0_pay2]
/-- The stored row: the row read before, plus what the block adds. -/
theorem add18 (a b : Vec Ideal S1x1024 .f32) (q : Fin 1024) : k0_pay6 (F := Ideal) a b (ix2 0 q) = b (ix2 0 q) + a (ix2 0 q) := by
  pointwise [k0_pay6]
theorem emb18 (q : Fin 1024) : (ix2 0 q : S8x1024.Idx) = (Rect.unit (s := S8x1024) ![0, 0] ![1, 1024] inb_S8x1024_S1x1024_0_0).emb (ix2 0 q) := by
  funext a; fin_cases a <;> apply Fin.ext <;> simp
theorem o18A (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : cond0_0 i) (hc1 : cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (q : Fin 1024) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 (ix2 0 q) = 0 + kdnw (k0_pay11 x12) (k0_pay16 x4) (k0_pay388 x13) (ix2 0 q) := by
  unfold out0_A_18
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.2.1 = ⟨Rect.unit ![0, 0] ![1, 1024] inb_S8x1024_S1x1024_0_0, k0_pay6 (kernelRun0_A.sl.v1346 c arg6 harg6 arg14 harg14 arg15 harg15 x4 x12 x13) (kernelRun0_A.sl.v3375 c arg20)⟩ :: kernelRun0_A.sl.H18_1 := rfl
  rw [e, wA_v1346 _ _ _ _ _ _ _ _ _ _]
  refine (congrArg _ (emb18 q)).trans ?_
  rw [View.canon_cons_emb]
  refine (add18 _ _ q).trans (congrArg (· + _) ?_)
  unfold kernelRun0_A.sl.v3375 kernelRun0_A.sl.H18_1
  rw [View.readCov_eq_canon']
  beta_reduce
  rw [View.canon_cons_unit_lit _ _ _ (by decide)]
  exact fill18 _
theorem o18B (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : ¬cond0_0 i) (hc1 : ¬cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (xo17 : Vec Ideal S8x128 .f32) (xo18 : Vec Ideal S8x1024 .f32) (xs0 : Vec Ideal S1024x128 .f32) (q : Fin 1024) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 xs0 (ix2 0 q) = xo18 (ix2 0 q) + kdnw (k0_pay11 x12) (k0_pay16 x4) (k0_pay388 x13) (ix2 0 q) := by
  unfold out0_B_18
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 xs0).2.2.2.2.1 = [⟨Rect.unit ![0, 0] ![1, 1024] inb_S8x1024_S1x1024_0_0, k0_pay6 (kernelRun0_B.sl.v1346 c arg6 harg6 arg14 harg14 arg15 harg15 x4 x12 x13) (View.readAt (Elt Ideal) arg20.view (Rect.unit (s := S8x1024) ![0, 0] ![1, 1024] inb_S8x1024_S1x1024_0_0).toLoadRect (harg20.unread xo18))⟩] := rfl
  rw [e, wB_v1346 _ _ _ _ _ _ _ _ _ _]
  rw [View.read_writes_cons_unit_of_mem _ _ _ _ _ _ (ix2 0 q) rfl (by intro a; fin_cases a <;> simp)]
  refine (add18 _ _ q).trans (congrArg (· + _) ?_)
  rw [View.readAt_eq_ld, Memref.IsWhole.read_unread]
  exact congrArg xo18 (emb18 q).symm
theorem o18C (c : Dev nD) (i : grid0.Coords) (arg2 : Memref sig .tc .vmem S1x128x1024 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x1024 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1x1024x128 .f32) (harg11 : arg11.IsWhole) (arg12 : Memref sig .tc .vmem S1x128x128 .f32) (harg12 : arg12.IsWhole) (arg13 : Memref sig .tc .vmem S1x1x512x128 .f32) (harg13 : arg13.IsWhole) (arg14 : Memref sig .tc .vmem S1x128x1024 .f32) (harg14 : arg14.IsWhole) (arg15 : Memref sig .tc .vmem S1x128x1024 .bf16) (harg15 : arg15.IsWhole) (arg16 : Memref sig .tc .vmem S1x128x2048 .f32) (harg16 : arg16.IsWhole) (arg17 : Memref sig .tc .vmem S1x128x128 .f32) (harg17 : arg17.IsWhole) (arg18 : Memref sig .tc .vmem S1x128x1024 .bf16) (harg18 : arg18.IsWhole) (arg19 : Memref sig .tc .vmem S8x128 .f32) (harg19 : arg19.IsWhole) (arg20 : Memref sig .tc .vmem S8x1024 .f32) (harg20 : arg20.IsWhole) (arg21 : Memref sig .tc .vmem S1024x128 .f32) (harg21 : arg21.IsWhole) (hc0 : cond0_0 i) (hc1 : ¬cond0_1 i) (x0 : Vec Ideal S1x128x1024 .f32) (x1 : Vec Ideal S1x128x512 .f32) (x2 : Vec Ideal S1x128x512 .f32) (x3 : Vec Ideal S1x128x128 .f32) (x4 : Vec Ideal S1x128x1024 .bf16) (x5 : Vec Ideal S1x128 .f32) (x6 : Vec Ideal S1x128 .f32) (x7 : Vec Ideal S1x128 .f32) (x8 : Vec Ideal S1x1024 .f32) (x9 : Vec Ideal S1x1x1024x128 .f32) (x10 : Vec Ideal S1x128x128 .f32) (x11 : Vec Ideal S1x1x512x128 .f32) (x12 : Vec Ideal S1x128x1024 .f32) (x13 : Vec Ideal S1x128x1024 .bf16) (xo17 : Vec Ideal S8x128 .f32) (xo18 : Vec Ideal S8x1024 .f32) (q : Fin 1024) :
    out0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18 (ix2 0 q) = xo18 (ix2 0 q) + kdnw (k0_pay11 x12) (k0_pay16 x4) (k0_pay388 x13) (ix2 0 q) := by
  unfold out0_C_18
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo17 xo18).2.2.2.2.1 = [⟨Rect.unit ![0, 0] ![1, 1024] inb_S8x1024_S1x1024_0_0, k0_pay6 (kernelRun0_C.sl.v1346 c arg6 harg6 arg14 harg14 arg15 harg15 x4 x12 x13) (View.readAt (Elt Ideal) arg20.view (Rect.unit (s := S8x1024) ![0, 0] ![1, 1024] inb_S8x1024_S1x1024_0_0).toLoadRect (harg20.unread xo18))⟩] := rfl
  rw [e, wC_v1346 _ _ _ _ _ _ _ _ _ _]
  rw [View.read_writes_cons_unit_of_mem _ _ _ _ _ _ (ix2 0 q) rfl (by intro a; fin_cases a <;> simp)]
  refine (add18 _ _ q).trans (congrArg (· + _) ?_)
  rw [View.readAt_eq_ld, Memref.IsWhole.read_unread]
  exact congrArg xo18 (emb18 q).symm

variable (m : (ℓ : Loc nD τ sig) → Buf (Elt Ideal) ℓ) (c : Dev nD)

/-- The row after a point. -/
def acc18 (n : ℕ) (h : n < cfg0.N) (q : Fin 1024) : EReal := (outsAt0 m c n h).2.2.2.2.1 (ix2 0 q)

theorem first18 (t : Fin cfg0.N) (h' : t.val % 34 = 0) (q : Fin 1024) : acc18 m c t.val t.isLt q = 0 + dnwBlk m c t (ix2 0 q) := by
  have h : t.val % 17 = 0 := by have := lt34 t; omega
  unfold acc18
  rw [outsAt0_A m c t h h']
  dsimp only
  rw [o18A]
  rfl

theorem next18 (t : Fin cfg0.N) (h' : ¬ t.val % 34 = 0) (q : Fin 1024) : acc18 m c t.val t.isLt q
    = acc18 m c (t.val - 1) (Nat.lt_of_le_of_lt (Nat.sub_le _ _) t.isLt) q + dnwBlk m c t (ix2 0 q) := by
  unfold acc18
  by_cases h : t.val % 17 = 0
  · rw [outsAt0_C m c t h h']
    dsimp only
    rw [o18C]
    rfl
  · rw [outsAt0_B m c t h h']
    dsimp only
    rw [o18B]
    rfl

/-- The row after the last point: the sum over the points. -/
theorem sum18 (n : ℕ) (hn : n < cfg0.N) (ht : n % 34 = 33) (q : Fin 1024) : acc18 m c n hn q
    = ∑ s : Fin 34, dnwBlk m c (pt s) (ix2 0 q) := by
  refine (Pipeline.eq_sum_fin_of_reset_step_apply_of_flush (acc18 m c) 34 (fun _ => 0) (fun t q => dnwBlk m c t (ix2 0 q))
    (first18 m c) (next18 m c) ⟨n, hn⟩ ht q).trans ?_
  rw [zero_add]
  refine Finset.sum_congr rfl fun s _ => ?_
  have h0 : n / 34 = 0 := by have := lt34 ⟨n, hn⟩; simp only at this; omega
  congr 1
  exact Fin.ext (by simp only [pt]; omega)

/-- The buffer at the end is what the last point leaves. -/
theorem final_18 (i : S8x1024.Idx) (h33 : 33 < cfg0.N) : (dats m 0 c).arrAt 18 cfg0.N i = (outsAt0 m c 33 h33).2.2.2.2.1 i := by
  refine congrFun ((dats m 0 c).arrAt_eq_of_covers 18 (fun i : S8x1024.Idx => (outsAt0 m c 33 h33).2.2.2.2.1 i) (by decide +kernel) fun t hf y => ?_) i
  have ht : t.val % 34 = 33 := (flush0_18 t).mp hf
  have he : ((View.whole main_v0_4).slice (win0_18.rect t)).emb y = y := by
    blk_ext [idx0 t]
  blk_simp
  rw [he, after0_18]
  rw [same m c t ht h33]

/-- The norm's weight's gradient at the end, in row 0 of its buffer. -/
theorem row_18 (q : Fin 1024) : (dats m 0 c).arrAt 18 cfg0.N (ix2 0 q) = dnwAt (V m c main_arg10) (V m c main_arg2) (V m c main_arg11) q := by
  have h33 : 33 < cfg0.N := by decide +kernel
  rw [final_18 m c (ix2 0 q) h33]
  change acc18 m c 33 h33 q = _
  rw [sum18 m c 33 h33 (by decide), dnwAt, ← sum_points]
  refine Finset.sum_congr rfl fun s _ => ?_
  rw [dnwBlk_at, bat_pt, chk_pt]

end Cert.Kernel4Ideal.Ssd
end
-- ==== Proof.SsdChain.lean ====
module
public import proofs.«01_k».proof.Proof.SsdValue14
public import proofs.«01_k».proof.Proof.SsdValue16
public import proofs.«01_k».proof.Proof.SsdValue17
public import proofs.«01_k».proof.Proof.SsdValue18
public import proofs.«01_k».proof.Proof.Gen.Kernel4Ideal.Frame

/-! # The mixer's results at the end of the program

The lines after the region cut the reading weights' columns, the row of the skip weights and the row of the norm's weight out of the
region's arrays. -/

@[expose] public section
set_option maxRecDepth 16384
noncomputable section
open Idealize.ShloMosaic Idealize.ShloMosaic.TcCoe Idealize.ShloMosaic.Tactic Idealize.SL.Sem
namespace Cert.Kernel4Ideal.Ssd
open Cert.Kernel4Ideal Cert.Kernel4Ideal.Gen Cert.Ssd

variable (m : (ℓ : Loc nD τ sig) → Buf (Elt Ideal) ℓ) (ρ : Dev nD → PrngReg) (c : Dev nD)

/-- The buffer of the reading weights' gradient at the end. -/
def endC : Buf (Elt Ideal) ((c.tc : Thread nD τ).loc main_v1) := Pipeline.afterTail₀ cfgs (dats m) 0 (V0 m) [hostOps1] c main_v1
/-- The buffer of the skip weights' gradient at the end. -/
def endD : Buf (Elt Ideal) ((c.tc : Thread nD τ).loc main_v2) := Pipeline.afterTail₀ cfgs (dats m) 0 (V0 m) [hostOps1] c main_v2
/-- The buffer of the norm's weight's gradient at the end. -/
def endW : Buf (Elt Ideal) ((c.tc : Thread nD τ).loc main_v3) := Pipeline.afterTail₀ cfgs (dats m) 0 (V0 m) [hostOps1] c main_v3

/-- The region's arrays after the region. -/
theorem arrs (w : Fin 19) : Pipeline.withArrays spec0 c (V0 m c) (fun w => (dats m 0 c).arrAt w cfg0.N) (Proc.devRef .tc (Pipeline.arrRef spec0 w)) = (dats m 0 c).arrAt w cfg0.N :=
  Pipeline.withArrays_arr_shared spec0 c (V0 m c) _ ((dats m 0 c).arrAt_sharedIn sharedIn0 (V0 m c) (A_eq m c) cfg0.N) w

theorem endC_eq : endC m c = extractStridedSlice S2x2176x512 ![0, 0, 1536] ((dats m 0 c).arrAt 14 cfg0.N : FVec Ideal S2x2176x2048 .f32) slices_S2x2176x2048_S2x2176x512_0_0_1536 := by
  unfold endC Pipeline.afterTail₀
  simp only [List.flatten_cons, List.flatten_nil, List.append_nil]
  after_results
  exact congrArg (fun x : FVec Ideal S2x2176x2048 .f32 => extractStridedSlice S2x2176x512 ![0, 0, 1536] x slices_S2x2176x2048_S2x2176x512_0_0_1536) (arrs m c 14)
theorem endD_eq : endD m c = extractStridedSlice S1x128 ![2, 0] ((dats m 0 c).arrAt 17 cfg0.N : FVec Ideal S8x128 .f32) slices_S8x128_S1x128_2_0 := by
  unfold endD Pipeline.afterTail₀
  simp only [List.flatten_cons, List.flatten_nil, List.append_nil]
  after_results
  exact congrArg (fun x : FVec Ideal S8x128 .f32 => extractStridedSlice S1x128 ![2, 0] x slices_S8x128_S1x128_2_0) (arrs m c 17)
theorem endW_eq : endW m c = extractStridedSlice S1x1024 ![0, 0] ((dats m 0 c).arrAt 18 cfg0.N : FVec Ideal S8x1024 .f32) slices_S8x1024_S1x1024_0_0 := by
  unfold endW Pipeline.afterTail₀
  simp only [List.flatten_cons, List.flatten_nil, List.append_nil]
  after_results
  exact congrArg (fun x : FVec Ideal S8x1024 .f32 => extractStridedSlice S1x1024 ![0, 0] x slices_S8x1024_S1x1024_0_0) (arrs m c 18)

/-- The result of the reading weights' gradient. -/
theorem endC_at (b : Fin 2) (k : Fin 17) (r : Fin 128) (p : Fin 512) : endC m c (ix3 b (at0 k r) p)
    = dcAt (V m c main_arg10) (V m c main_arg2) (V m c main_arg11) (V m c main_arg6) (V m c main_arg0) (V m c main_arg1) (V m c main_arg8) (V m c main_arg3) (V m c main_arg7)
      b k r ⟨p.val / 128, by omega⟩ ⟨p.val % 128, by omega⟩ := by
  rw [endC_eq, ← col_14]
  pointwise []
/-- The result of the skip weights' gradient. -/
theorem endD_at (q : Fin 128) : endD m c (ix2 0 q)
    = if h : q.val < 16 then ddAt (V m c main_arg10) (V m c main_arg2) (V m c main_arg11) (V m c main_arg6) (V m c main_arg0) ⟨q.val, h⟩ else 0 := by
  rw [endD_eq, ← row_17]
  pointwise []
/-- The result of the norm's weight's gradient. -/
theorem endW_at (q : Fin 1024) : endW m c (ix2 0 q) = dnwAt (V m c main_arg10) (V m c main_arg2) (V m c main_arg11) q := by
  rw [endW_eq, ← row_18]
  pointwise []

/-- Every fair execution ends, with these results and the arguments as launched. -/
theorem run : θ_run defs (onTc (τ := τ) (main (F := Ideal))) ⟨m, fun _ => 0, ρ⟩ (fun r => ∀ c : Dev nD,
      r.2.mem ((c.tc : Thread nD τ).loc main_v1) = endC m c
      ∧ r.2.mem ((c.tc : Thread nD τ).loc main_v0_2) = (dats m 0 c).arrAt 16 cfg0.N
      ∧ r.2.mem ((c.tc : Thread nD τ).loc main_v2) = endD m c
      ∧ r.2.mem ((c.tc : Thread nD τ).loc main_v3) = endW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ?_) (θ_run_and (run_main m ρ) (unchanged m ρ))
  refine ⟨(h.1 c).2 main_v1 (by decide), (h.1 c).1 16, (h.1 c).2 main_v2 (by decide), (h.1 c).2 main_v3 (by decide), h.2 c⟩

end Cert.Kernel4Ideal.Ssd
end
-- ==== Proof.SsdRefGate.lean ====
module
public import proofs.«01_k».proof.Proof.Gen.Reference4Ideal.Run
public import proofs.«01_k».proof.Proof.SsdWhole

/-! # The reference's gate and norm gradient, row by row -/

@[expose] public section
set_option maxRecDepth 16384
noncomputable section
open Idealize.ShloMosaic Idealize.ShloMosaic.TcCoe
namespace Cert.Reference4Ideal.Ssd
open Cert.Kernel4Ideal.Ssd (at0 hcol hd dyAt dzAt dnwAt ddAt dcAt row3 stepAt decAt offAt prodAt mag)
open Cert.Reference4Ideal Cert.Reference4Ideal.Gen Cert.Reference4Ideal.Value Cert.Ssd

variable (V0 : Valuation τ sig (Elt Ideal)) (b : Fin 2) (r : Fin 2176)

/-- The rows of the arrays. -/
def yR : Row := fun q => (V0 (Proc.devRef .tc main_arg10) : FVec Ideal S2x2176x1024 .f32) (ix3 b r q)
/-- A row of the gate's argument. -/
def zR : Row := fun q => (V0 (Proc.devRef .tc main_arg2) : FVec Ideal S2x2176x1024 .bf16) (ix3 b r q)
/-- A row of the result's gradient. -/
def dR : Row := fun q => (V0 (Proc.devRef .tc main_arg11) : FVec Ideal S2x2176x1024 .bf16) (ix3 b r q)
/-- The weight's row. -/
def wR : Row := fun q => (V0 (Proc.devRef .tc main_arg6) : FVec Ideal S1x1024 .f32) (ix2 0 q)

theorem v2_2_at (q : Fin 1024) : res_main_v2_2 V0 (ix3 b r q) = Ideal.logistic (zR V0 b r q) := by
  pointwise [res_main_v2_2, res_main_v0, zR, Ideal.logistic]
theorem v2_0_at (q : Fin 1024) : res_main_v2_0 V0 (ix3 b r q) = gate (zR V0 b r) q := by
  pointwise [res_main_v2_0, res_main_v0, v2_2_at, gate, zR]
/-- The columns of a group. -/
theorem in_group (g : Fin 4) (l : Fin 256) (q : Fin 1024) (h : q.val / 256 = g.val) (hk : g.val * 256 + l.val < 1024) : (⟨g.val * 256 + l.val, hk⟩ : Fin 1024) = col q l :=
  Fin.ext (by simp only [col]; omega)
variable (g : Fin 4) (q : Fin 1024) (h : q.val / 256 = g.val)
include h
theorem v4_at (l : Fin 256) : res_main_v4 V0 (ix4 b r g l) = gated (yR V0 b r) (zR V0 b r) (col q l) := by
  pointwise [res_main_v4, v2_0_at, gated, yR]
  rw [in_group g l q h]
theorem v11_at (j : Fin 1) : res_main_v11 V0 (ix4 b r g j) = msq (yR V0 b r) (zR V0 b r) q := by
  pointwise [res_main_v11, msq]
  simp only [v4_at V0 b r g q h]
theorem v12_at (j : Fin 1) : res_main_v12 V0 (ix4 b r g j) = rsq (yR V0 b r) (zR V0 b r) q := by
  pointwise [res_main_v12, rsq]
  simp only [v11_at V0 b r g q h]
theorem v29_at (l : Fin 256) : res_main_v29 V0 (ix4 b r g l) = dw (wR V0) (dR V0 b r) (col q l) := by
  pointwise [res_main_v29, res_main_v22, res_main_v19, dw, dR, wR]
  rw [in_group g l q h]
theorem v39_at (l : Fin 256) : res_main_v39 V0 (ix4 b r g l) = coef (yR V0 b r) (zR V0 b r) (wR V0) (dR V0 b r) q := by
  pointwise [res_main_v39, coef]
  simp only [v4_at V0 b r g q h, v29_at V0 b r g q h, v11_at V0 b r g q h, v12_at V0 b r g q h, Fin.sum_univ_one]
omit h
/-- The place of a column in its group. -/
theorem col_self (q : Fin 1024) : col q ⟨q.val % 256, Nat.mod_lt _ (by decide)⟩ = q := Fin.ext (by simp only [col]; omega)
theorem v44_at (q : Fin 1024) : res_main_v44 V0 (ix3 b r q) = dgated (yR V0 b r) (zR V0 b r) (wR V0) (dR V0 b r) q := by
  pointwise [res_main_v44]
  simp only [v4_at V0 b r ⟨q.val / 256, by omega⟩ q rfl, v29_at V0 b r ⟨q.val / 256, by omega⟩ q rfl, v39_at V0 b r ⟨q.val / 256, by omega⟩ q rfl, v12_at V0 b r ⟨q.val / 256, by omega⟩ q rfl, dgated, col_self]
theorem v45_at (q : Fin 1024) : res_main_v45 V0 (ix3 b r q) = yR V0 b r q * dgated (yR V0 b r) (zR V0 b r) (wR V0) (dR V0 b r) q := by
  pointwise [res_main_v45, v44_at, yR]
theorem v18_at (q : Fin 1024) : res_main_v18 V0 (ix3 b r q) = gated (yR V0 b r) (zR V0 b r) q * rsq (yR V0 b r) (zR V0 b r) q := by
  pointwise [res_main_v18]
  simp only [v4_at V0 b r ⟨q.val / 256, by omega⟩ q rfl, v12_at V0 b r ⟨q.val / 256, by omega⟩ q rfl, col_self]
/-- A block's row. -/
theorem in_block (k : Fin 17) (s : Fin 128) (hk : k.val * 128 + s.val < 2176) : (⟨k.val * 128 + s.val, hk⟩ : Fin 2176) = at0 k s :=
  Fin.ext (by simp only [at0]; omega)
/-- A head's column. -/
theorem in_head (G R : Fin 4) (l : Fin 64) (hk : G.val * 256 + R.val * 64 + l.val < 1024) : (⟨G.val * 256 + R.val * 64 + l.val, hk⟩ : Fin 1024) = hcol (hd G R) l :=
  Fin.ext (by simp only [hcol, hd]; omega)

/-- The gradient of the mixer's output before the gate, by block, row, group, head and place. -/
theorem v107_at (k : Fin 17) (s : Fin 128) (G R : Fin 4) (l : Fin 64) : res_main_v107 V0 (ix6 b k s G R l)
    = dyAt (V0 (Proc.devRef .tc main_arg10)) (V0 (Proc.devRef .tc main_arg2)) (V0 (Proc.devRef .tc main_arg11)) (V0 (Proc.devRef .tc main_arg6)) b (at0 k s) (hcol (hd G R) l) := by
  pointwise [res_main_v107, v44_at, v2_0_at]
  simp only [in_block, in_head]
  rfl

end Cert.Reference4Ideal.Ssd
end
-- ==== Proof.SsdSum.lean ====
module
public import proofs.«01_k».proof.Proof.SsdWhole

/-! # A host's sum over several axes, coordinate by coordinate -/

@[expose] public section
set_option maxRecDepth 16384
noncomputable section
open Idealize.ShloMosaic
namespace Cert.Ssd

section
variable {n0 n1 n2 n3 n4 n5 : ℕ}

/-- The first two axes of three. -/
theorem sum_01 (h : (⟨3, ![n0, n1, n2]⟩ : Shape).ReducesTo [0, 1] ⟨1, ![n2]⟩) (v : (⟨3, ![n0, n1, n2]⟩ : Shape).Idx → EReal) (z : EReal) (q : Fin n2) :
    Ideal.hostReduceAdd h v z (ix1 q) = z + ∑ a : Fin n0, ∑ b : Fin n1, v (ix3 a b q) := by
  refine congrArg (z + ·) ((Finset.sum_filter_eq_sum_of_fiber _ (fun k : Fin n0 × Fin n1 => ix3 k.1 k.2 q)
    (fun _ _ e => Prod.ext (congrFun e 0) (congrFun e 1)) (fun i => ?_) v).trans (Fintype.sum_prod_type _))
  constructor
  · intro e
    refine ⟨(i 0, i 1), ?_⟩
    have h2 : q.val = (i 2).val := (congrArg Fin.val (congrFun e 0)).symm
    funext a
    fin_cases a <;> apply Fin.ext
    · rfl
    · rfl
    · exact h2
  · rintro ⟨k, rfl⟩
    funext a
    fin_cases a
    rfl

/-- The fourth axis of six. -/
theorem sum_3 (h : (⟨6, ![n0, n1, n2, n3, n4, n5]⟩ : Shape).ReducesTo [3] ⟨5, ![n0, n1, n2, n4, n5]⟩) (v : (⟨6, ![n0, n1, n2, n3, n4, n5]⟩ : Shape).Idx → EReal) (z : EReal)
    (a : Fin n0) (b : Fin n1) (c : Fin n2) (e : Fin n4) (f : Fin n5) :
    Ideal.hostReduceAdd h v z (ix5 a b c e f) = z + ∑ d : Fin n3, v (ix6 a b c d e f) := by
  refine congrArg (z + ·) (Finset.sum_filter_eq_sum_of_fiber _ (fun d : Fin n3 => ix6 a b c d e f)
    (fun _ _ e => congrFun e 3) (fun i => ?_) v)
  constructor
  · intro e'
    refine ⟨i 3, ?_⟩
    funext x
    fin_cases x <;> apply Fin.ext
    · exact (congrArg Fin.val (congrFun e' 0)).symm
    · exact (congrArg Fin.val (congrFun e' 1)).symm
    · exact (congrArg Fin.val (congrFun e' 2)).symm
    · rfl
    · exact (congrArg Fin.val (congrFun e' 3)).symm
    · exact (congrArg Fin.val (congrFun e' 4)).symm
  · rintro ⟨k, rfl⟩
    funext x
    fin_cases x <;> rfl

/-- The first three axes and the last of six. -/
theorem sum_0125 (h : (⟨6, ![n0, n1, n2, n3, n4, n5]⟩ : Shape).ReducesTo [0, 1, 2, 5] ⟨2, ![n3, n4]⟩) (v : (⟨6, ![n0, n1, n2, n3, n4, n5]⟩ : Shape).Idx → EReal) (z : EReal)
    (d : Fin n3) (e : Fin n4) :
    Ideal.hostReduceAdd h v z (ix2 d e) = z + ∑ a : Fin n0, ∑ b : Fin n1, ∑ c : Fin n2, ∑ f : Fin n5, v (ix6 a b c d e f) := by
  refine congrArg (z + ·) ((Finset.sum_filter_eq_sum_of_fiber _ (fun k : Fin n0 × Fin n1 × Fin n2 × Fin n5 => ix6 k.1 k.2.1 k.2.2.1 d e k.2.2.2)
    (fun _ _ e => Prod.ext (congrFun e 0) (Prod.ext (congrFun e 1) (Prod.ext (congrFun e 2) (congrFun e 5)))) (fun i => ?_) v).trans ?_)
  · constructor
    · intro e'
      refine ⟨(i 0, i 1, i 2, i 5), ?_⟩
      funext x
      fin_cases x <;> apply Fin.ext
      · rfl
      · rfl
      · rfl
      · exact (congrArg Fin.val (congrFun e' 0)).symm
      · exact (congrArg Fin.val (congrFun e' 1)).symm
      · rfl
    · rintro ⟨k, rfl⟩
      funext x
      fin_cases x <;> rfl
  · simp only [Fintype.sum_prod_type]
end

/-- The rows of all blocks are the rows. -/
theorem sum_rows (f : Fin 2176 → EReal) : (∑ R : Fin 2176, f R) = ∑ k : Fin 17, ∑ r : Fin 128, f (Cert.Kernel4Ideal.Ssd.at0 k r) := by
  rw [← Equiv.sum_comp (finProdFinEquiv (m := 17) (n := 128)) (fun R => f R), Fintype.sum_prod_type]
  refine Finset.sum_congr rfl fun k _ => Finset.sum_congr rfl fun r _ => congrArg f (Fin.ext ?_)
  simp only [finProdFinEquiv_apply_val, Cert.Kernel4Ideal.Ssd.at0]; omega

end Cert.Ssd
end
-- ==== Proof.SsdRefRow.lean ====
module
public import proofs.«01_k».proof.Proof.SsdRefGate
public import proofs.«01_k».proof.Proof.SsdSum

/-! # The reference's gradients of the gate's argument, the norm's weight and the skip weights -/

@[expose] public section
set_option maxRecDepth 16384
noncomputable section
open Idealize.ShloMosaic Idealize.ShloMosaic.TcCoe
namespace Cert.Reference4Ideal.Ssd
open Cert.Kernel4Ideal.Ssd (at0 hcol hd dyAt dzAt dnwAt ddAt dcAt row3 stepAt decAt offAt prodAt mag)
open Cert.Reference4Ideal Cert.Reference4Ideal.Gen Cert.Reference4Ideal.Value Cert.Ssd

variable (V0 : Valuation τ sig (Elt Ideal)) (b : Fin 2)

/-- The gradient of the gate's argument. -/
def refZ {F : FTy → Type} [FloatOps F] (V0 : Valuation τ sig (Elt F)) : (Proc.devRef .tc main_v132 : DevRef τ sig).ty.Contents (Elt F) := truncf .bf16 (addf (mulf (res_main_v45 V0) (res_main_v2_2 V0)) (mulf (mulf (res_main_v0 V0) (res_main_v45 V0)) (mulf (res_main_v2_2 V0) (subf (broadcastInDim S2x2176x1024 ![] bcast_S_S2x2176x1024 (constant S_ .f32 0x3F800000#32)) (res_main_v2_2 V0))))) bitsLt_bf16_f32

theorem refZ_at (r : Fin 2176) (q : Fin 1024) : refZ V0 (ix3 b r q) = dzAt (V0 (Proc.devRef .tc main_arg10)) (V0 (Proc.devRef .tc main_arg2)) (V0 (Proc.devRef .tc main_arg11)) (V0 (Proc.devRef .tc main_arg6)) b r q := by
  pointwise [refZ, v45_at, v2_2_at, res_main_v0]
  rfl
/-- The gradient of the norm's weight. -/
def refW {F : FTy → Type} [FloatOps F] (V0 : Valuation τ sig (Elt F)) : (Proc.devRef .tc main_v133 : DevRef τ sig).ty.Contents (Elt F) := broadcastInDim S1x1024 ![1] bcast_S1024_S1x1024_1 (Host.reduceAdd (shapeCast _ (Host.reduceAdd (mulf (res_main_v18 V0) (res_main_v22 V0)) (constant S_ .f32 0x00000000#32) reducesTo_S2x2176x1024_S1024_d0_1 h_S_) shapeCasts_S1024_S1x1x1024) (constant S_ .f32 0x00000000#32) reducesTo_S1x1x1024_S1024_d0_1 h_S_)

theorem refW_at (q : Fin 1024) : refW V0 (ix2 0 q) = dnwAt (V0 (Proc.devRef .tc main_arg10)) (V0 (Proc.devRef .tc main_arg2)) (V0 (Proc.devRef .tc main_arg11)) q := by
  pointwise [refW, sum_01, v18_at, res_main_v22]
  simp only [Fin.sum_univ_one, Fintype.sum_unique, Finset.univ_unique, Finset.sum_singleton]
  rfl
theorem v67_at (k : Fin 17) (s : Fin 128) (G R : Fin 4) (l : Fin 64) : res_main_v67 V0 (ix6 b k s G R l)
    = (show EReal from (V0 (Proc.devRef .tc main_arg0)) (ix3 b (at0 k s) ⟨(hcol (hd G R) l).val, by omega⟩)) := by
  pointwise [res_main_v67]
  blk_point [at0, hcol, hd]
/-- The gradient of the skip weights. -/
def refD {F : FTy → Type} [FloatOps F] (V0 : Valuation τ sig (Elt F)) : (Proc.devRef .tc main_v131 : DevRef τ sig).ty.Contents (Elt F) := pad S1x128 ![0, 0] ![0, 112] ![0, 0] (broadcastInDim S1x16 ![1] bcast_S16_S1x16_1 (shapeCast _ (Host.reduceAdd (broadcastInDim S4x4x1 ![0, 1] bcast_S4x4_S4x4x1_0_1 (Host.reduceAdd (shapeCast _ (Host.reduceAdd (mulf (res_main_v67 V0) (res_main_v107 V0)) (constant S_ .f32 0x00000000#32) reducesTo_S2x17x128x4x4x64_S4x4_d0_1_2_5 h_S_) shapeCasts_S4x4_S1x1x1x4x4x1) (constant S_ .f32 0x00000000#32) reducesTo_S1x1x1x4x4x1_S4x4_d0_1_2_5 h_S_)) (constant S_ .f32 0x00000000#32) reducesTo_S4x4x1_S4x4_d2 h_S_) shapeCasts_S4x4_S16)) (constant S_ .f32 0x00000000#32) pads_S1x16_S1x128_000_01120 h_S_

theorem refD_at (q : Fin 128) : refD V0 (ix2 0 q) = if h : q.val < 16 then ddAt (V0 (Proc.devRef .tc main_arg10)) (V0 (Proc.devRef .tc main_arg2)) (V0 (Proc.devRef .tc main_arg11)) (V0 (Proc.devRef .tc main_arg6)) (V0 (Proc.devRef .tc main_arg0)) ⟨q.val, h⟩ else 0 := by
  pointwise [refD, sum_0125, v67_at, v107_at]
  simp only [Fintype.sum_unique, Finset.univ_unique, Finset.sum_singleton]
  by_cases h : q.val < 16
  · have e : hd ⟨q.val / 4, by omega⟩ ⟨q.val % 4, by omega⟩ = ⟨q.val, h⟩ := Fin.ext (by simp only [hd]; omega)
    simp only [dif_pos h, e, ddAt, sum_rows]
  · simp only [dif_neg h]

end Cert.Reference4Ideal.Ssd
end
-- ==== Proof.SsdRefCol.lean ====
module
public import proofs.«01_k».proof.Proof.SsdRefGate
public import proofs.«01_k».proof.Proof.SsdSum

/-! # The reference's gradient of the reading weights -/

@[expose] public section
set_option maxRecDepth 16384
noncomputable section
open Idealize.ShloMosaic Idealize.ShloMosaic.TcCoe
namespace Cert.Reference4Ideal.Ssd
open Cert.Kernel4Ideal.Ssd (at0 hcol hd dyAt dzAt dnwAt ddAt dcAt row3 stepAt decAt offAt prodAt mag)
open Cert.Reference4Ideal Cert.Reference4Ideal.Gen Cert.Reference4Ideal.Value Cert.Ssd

variable (V0 : Valuation τ sig (Elt Ideal)) (b : Fin 2)

/-- The word of minus infinity. -/
theorem ofBits_bot : Ideal.ofBits .f32 0xFF800000#32 = (⊥ : EReal) := by
  simp [Ideal.ofBits, Ideal.ieee]
theorem v59_at (h : Fin 16) (k : Fin 17) (r : Fin 128) : res_main_v59 V0 (ix4 b h k r) = (show EReal from (V0 (Proc.devRef .tc main_arg8)) (ix3 b (at0 k r) ⟨h.val, by omega⟩)) := by
  pointwise [res_main_v59]
  blk_point [at0]
theorem v61_at (k : Fin 17) (G R : Fin 4) (l : Fin 64) (n : Fin 128) : res_main_v61 V0 (ix6 k b G R l n) = (show EReal from (V0 (Proc.devRef .tc main_arg7)) (ix4 b k (hcol (hd G R) l) n)) := by
  pointwise [res_main_v61]
  blk_point [hcol, hd]
theorem v68_at (k : Fin 17) (s : Fin 128) (G : Fin 4) (n : Fin 128) : res_main_v68 V0 (ix5 b k s G n) = (show EReal from (V0 (Proc.devRef .tc main_arg0)) (ix3 b (at0 k s) ⟨1024 + (128 * G.val + n.val), by omega⟩)) := by
  pointwise [res_main_v68]
  blk_point [at0]
theorem v96_at (k : Fin 17) (r : Fin 128) (G R : Fin 4) (j : Fin 1) : res_main_v96 V0 (ix6 b k r G R j) = Ideal.exp ((V0 (Proc.devRef .tc main_arg8)) (ix3 b (at0 k r) ⟨(hd G R).val, by omega⟩)) := by
  pointwise [res_main_v96, v59_at]
  blk_point [at0, hd]
theorem v86_at (k : Fin 17) (G R : Fin 4) (r s : Fin 128) : res_main_v86 V0 (ix6 b k G R r s) = decAt (V0 (Proc.devRef .tc main_arg8)) b k (hd G R) r s := by
  pointwise [res_main_v86, v59_at]
  have e : ∀ r s : Fin 128, IntOp.cmpi .sge (IntOp.addi (BitVec.ofNat 32 r.val) 0#32) (BitVec.ofNat 32 s.val) = if s.val ≤ r.val then 1#1 else 0#1 := by decide +kernel
  have hb : (id (constant S_ FTy.f32 4286578688#32) ix0 : Ideal .f32) = (⊥ : EReal) := ofBits_bot
  rw [e, hb, decAt]
  have hh : (⟨G.val * 4 + R.val, by omega⟩ : Fin 16) = hd G R := Fin.ext (by simp only [hd]; omega)
  by_cases hs : s.val ≤ r.val
  · simp only [if_pos hs]
    rw [← hh]
    rfl
  · simp only [if_neg hs]
    rfl
set_option maxHeartbeats 2000000 in
theorem v73_at (k : Fin 17) (s : Fin 128) (G R : Fin 4) (l : Fin 64) : res_main_v73 V0 (ix6 b k s G R l)
    = (show EReal from (V0 (Proc.devRef .tc main_arg0)) (ix3 b (at0 k s) ⟨(hcol (hd G R) l).val, by omega⟩)) * stepAt (V0 (Proc.devRef .tc main_arg1)) (V0 (Proc.devRef .tc main_arg3)) b (at0 k s) (hd G R) := by
  pointwise [res_main_v73, res_main_v67, res_main_v53, res_main_call2_v3, res_main_call2_cst]
  have hh : (⟨G.val * 4 + R.val, by omega⟩ : Fin 16) = hd G R := Fin.ext (by simp only [hd]; omega)
  simp only [ne_eq, not_true_eq_false, if_false, in_block, in_head]
  have hx : ∀ hk, (⟨G.val * 256 + R.val * 64 + l.val, hk⟩ : Fin 2048) = ⟨(hcol (hd G R) l).val, by omega⟩ := fun _ => Fin.ext (by simp only [hcol, hd]; omega)
  rw [hx]
  refine congrArg₂ (fun a b : EReal => a * b) rfl ?_
  unfold stepAt
  rw [← hh]
  by_cases h : k.val * 128 + s.val < 112
  · have h2 : (at0 k s).val < 112 := by simp only [at0]; omega
    exact (dif_pos h).trans (if_pos h2).symm
  · have h2 : ¬ (at0 k s).val < 112 := by simp only [at0]; omega
    have hr : ∀ hk, (⟨112 + (k.val * 128 + s.val - 112), hk⟩ : Fin 2176) = at0 k s := fun hk =>
      Fin.ext (by simp only [at0]; omega)
    refine (dif_neg h).trans (Eq.trans ?_ (if_neg h2).symm)
    simp only [hr, Ideal.log1p, zero_sub]
    rfl
/-- The gradient of the reading weights. -/
def refC {F : FTy → Type} [FloatOps F] (V0 : Valuation τ sig (Elt F)) : (Proc.devRef .tc main_v129 : DevRef τ sig).ty.Contents (Elt F) := shapeCast _ (addf (transpose S2x17x128x4x128 [0, 1, 3, 2, 4] (Host.dotGeneral dot_S2x17x4x4x64x128_S17x2x4x4x64x128_S2x17x4x128x128_34_34_5_5_012_102 none (transpose S2x17x4x4x64x128 [0, 1, 3, 4, 5, 2] (mulf (res_main_v107 V0) (broadcastInDim S2x17x128x4x4x64 ![0, 1, 2, 3, 4, 5] bcast_S2x17x128x4x4x1_S2x17x128x4x4x64_0_1_2_3_4_5 (res_main_v96 V0))) transposes_S2x17x128x4x4x64_S2x17x4x4x64x128_0_1_3_4_5_2) (res_main_v61 V0)) transposes_S2x17x4x128x128_S2x17x128x4x128_0_1_3_2_4) (transpose S2x17x128x4x128 [0, 1, 3, 2, 4] (Host.dotGeneral dot_S2x17x4x128x128_S2x17x128x4x128_S2x17x4x128x128_4_2_3_4_012_013 none (Host.reduceAdd (shapeCast _ (Host.reduceAdd (mulf (Host.dotGeneral dot_S2x17x4x4x64x128_S2x17x128x4x4x64_S2x17x4x4x128x128_4_5_5_2_0123_0134 none (transpose S2x17x4x4x64x128 [0, 1, 3, 4, 5, 2] (res_main_v107 V0) transposes_S2x17x128x4x4x64_S2x17x4x4x64x128_0_1_3_4_5_2) (res_main_v73 V0)) (res_main_v86 V0)) (constant S_ .f32 0x00000000#32) reducesTo_S2x17x4x4x128x128_S2x17x4x128x128_d3 h_S_) shapeCasts_S2x17x4x128x128_S2x17x4x1x128x128) (constant S_ .f32 0x00000000#32) reducesTo_S2x17x4x1x128x128_S2x17x4x128x128_d3 h_S_) (res_main_v68 V0)) transposes_S2x17x4x128x128_S2x17x128x4x128_0_1_3_2_4)) shapeCasts_S2x17x128x4x128_S2x2176x512

theorem refC_at (k : Fin 17) (r : Fin 128) (p : Fin 512) : refC V0 (ix3 b (at0 k r) p) = dcAt (V0 (Proc.devRef .tc main_arg10)) (V0 (Proc.devRef .tc main_arg2)) (V0 (Proc.devRef .tc main_arg11)) (V0 (Proc.devRef .tc main_arg6)) (V0 (Proc.devRef .tc main_arg0)) (V0 (Proc.devRef .tc main_arg1)) (V0 (Proc.devRef .tc main_arg8)) (V0 (Proc.devRef .tc main_arg3)) (V0 (Proc.devRef .tc main_arg7)) b k r ⟨p.val / 128, by omega⟩ ⟨p.val % 128, by omega⟩ := by
  pointwise [refC, sum_3]
  have hk : (⟨(at0 k r).val / 128, by omega⟩ : Fin 17) = k := Fin.ext (by simp only [at0]; omega)
  have hr : (⟨(at0 k r).val % 128, by omega⟩ : Fin 128) = r := Fin.ext (by simp only [at0]; omega)
  simp only [hk, hr, v107_at, v96_at, v61_at, v68_at, v73_at, v86_at, Fintype.sum_unique, Finset.univ_unique, Finset.sum_singleton]
  rfl

end Cert.Reference4Ideal.Ssd
end
-- ==== Proof.SsdAll.lean ====
module
public import proofs.«01_k».proof.Proof.SsdChain
public import proofs.«01_k».proof.Proof.SsdRefRow
public import proofs.«01_k».proof.Proof.SsdRefCol
public import proofs.«01_k».proof.Proof.Gen.Kernel4.Frame
public import proofs.«01_k».proof.Proof.Gen.Kernel4Ideal.Frame
public import proofs.«01_k».proof.Defs

/-! # The mixer's backward pass computes its reference's results, of all arguments -/

@[expose] public section
set_option maxRecDepth 16384
noncomputable section
namespace Cert.Proof
open Idealize.ShloMosaic Idealize.ShloMosaic.TcCoe Idealize.SL.Sem

/-- The kernel's frame over the bits. -/
theorem frame_kernel4 : Cert.quiescent_Kernel4 := fun m ρ _ => Cert.Kernel4.Gen.frame m ρ

/-- The kernel's frame over the extended reals. -/
theorem frame_ideal4 : Cert.quiescent_Kernel4Ideal := fun m ρ _ => Cert.Kernel4Ideal.Gen.frame m ρ

/-- The reference's frame: it writes no argument, and has no semaphore. -/
theorem frame_reference4 : Cert.quiescent_Reference4Ideal := fun m ρ _ =>
  (θ_run Cert.Reference4Ideal.defs _ _).mono (fun r h => ⟨fun c => (h c).2.2.2.2,
    Idealize.ShloMosaic.sem_eq_zero_of_no_sems (by decide) r.2⟩) (Cert.Reference4Ideal.Value.run m ρ)

/-- The mask's constant is named, and its name's value is minus infinity. -/
theorem preserves4 : Cert.preserves_Kernel4_Kernel4Ideal :=
  IdealRules.named_const.statement Cert.Kernel4Ideal.κ "mask" .f32 0xF149F2CA#32 ⊥ rfl

open Cert.Kernel4Ideal.Ssd (at0)
open Cert.Kernel4Ideal in
section
variable (m : (ℓ : Loc Cert.Kernel4Ideal.nD Cert.Kernel4Ideal.τ Cert.Kernel4Ideal.sig) → Buf (Elt Ideal) ℓ) (c : Dev Cert.Kernel4Ideal.nD)
  (V0 : Valuation Cert.Reference4Ideal.τ Cert.Reference4Ideal.sig (Elt Ideal))

theorem sameZ (h10 : V0 (Proc.devRef .tc Cert.Reference4Ideal.main_arg10) = m ((c.tc : Thread Cert.Kernel4Ideal.nD Cert.Kernel4Ideal.τ).loc Cert.Kernel4Ideal.main_arg10)) (h2 : V0 (Proc.devRef .tc Cert.Reference4Ideal.main_arg2) = m ((c.tc : Thread Cert.Kernel4Ideal.nD Cert.Kernel4Ideal.τ).loc Cert.Kernel4Ideal.main_arg2)) (h11 : V0 (Proc.devRef .tc Cert.Reference4Ideal.main_arg11) = m ((c.tc : Thread Cert.Kernel4Ideal.nD Cert.Kernel4Ideal.τ).loc Cert.Kernel4Ideal.main_arg11)) (h6 : V0 (Proc.devRef .tc Cert.Reference4Ideal.main_arg6) = m ((c.tc : Thread Cert.Kernel4Ideal.nD Cert.Kernel4Ideal.τ).loc Cert.Kernel4Ideal.main_arg6)) :
    Cert.Reference4Ideal.Ssd.refZ V0 = (Cert.Kernel4Ideal.Gen.dats m 0 c).arrAt 16 Cert.Kernel4Ideal.cfg0.N := by
  rw [Cert.Kernel4Ideal.Ssd.final_16 m c]
  funext i
  rw [eq_ix3 i]
  refine (Cert.Reference4Ideal.Ssd.refZ_at V0 _ _ _).trans ?_
  rw [h10, h2, h11, h6]
  rfl
theorem sameW (h10 : V0 (Proc.devRef .tc Cert.Reference4Ideal.main_arg10) = m ((c.tc : Thread Cert.Kernel4Ideal.nD Cert.Kernel4Ideal.τ).loc Cert.Kernel4Ideal.main_arg10)) (h2 : V0 (Proc.devRef .tc Cert.Reference4Ideal.main_arg2) = m ((c.tc : Thread Cert.Kernel4Ideal.nD Cert.Kernel4Ideal.τ).loc Cert.Kernel4Ideal.main_arg2)) (h11 : V0 (Proc.devRef .tc Cert.Reference4Ideal.main_arg11) = m ((c.tc : Thread Cert.Kernel4Ideal.nD Cert.Kernel4Ideal.τ).loc Cert.Kernel4Ideal.main_arg11)) :
    Cert.Reference4Ideal.Ssd.refW V0 = Cert.Kernel4Ideal.Ssd.endW m c := by
  funext i
  obtain ⟨q, rfl⟩ : ∃ q : Fin 1024, i = ix2 0 q := ⟨i 1, by rw [eq_ix2 i]; exact congrArg (fun a => ix2 a (i 1)) (Fin.ext (by have : (i 0).val < 1 := (i 0).isLt; show (i 0).val = 0; omega))⟩
  refine (Cert.Reference4Ideal.Ssd.refW_at V0 q).trans ((?_ : _ = _).trans (Cert.Kernel4Ideal.Ssd.endW_at m c q).symm)
  rw [h10, h2, h11]
  rfl
theorem sameD (h10 : V0 (Proc.devRef .tc Cert.Reference4Ideal.main_arg10) = m ((c.tc : Thread Cert.Kernel4Ideal.nD Cert.Kernel4Ideal.τ).loc Cert.Kernel4Ideal.main_arg10)) (h2 : V0 (Proc.devRef .tc Cert.Reference4Ideal.main_arg2) = m ((c.tc : Thread Cert.Kernel4Ideal.nD Cert.Kernel4Ideal.τ).loc Cert.Kernel4Ideal.main_arg2)) (h11 : V0 (Proc.devRef .tc Cert.Reference4Ideal.main_arg11) = m ((c.tc : Thread Cert.Kernel4Ideal.nD Cert.Kernel4Ideal.τ).loc Cert.Kernel4Ideal.main_arg11)) (h6 : V0 (Proc.devRef .tc Cert.Reference4Ideal.main_arg6) = m ((c.tc : Thread Cert.Kernel4Ideal.nD Cert.Kernel4Ideal.τ).loc Cert.Kernel4Ideal.main_arg6)) (h0 : V0 (Proc.devRef .tc Cert.Reference4Ideal.main_arg0) = m ((c.tc : Thread Cert.Kernel4Ideal.nD Cert.Kernel4Ideal.τ).loc Cert.Kernel4Ideal.main_arg0)) :
    Cert.Reference4Ideal.Ssd.refD V0 = Cert.Kernel4Ideal.Ssd.endD m c := by
  funext i
  obtain ⟨q, rfl⟩ : ∃ q : Fin 128, i = ix2 0 q := ⟨i 1, by rw [eq_ix2 i]; exact congrArg (fun a => ix2 a (i 1)) (Fin.ext (by have : (i 0).val < 1 := (i 0).isLt; show (i 0).val = 0; omega))⟩
  refine (Cert.Reference4Ideal.Ssd.refD_at V0 q).trans ((?_ : _ = _).trans (Cert.Kernel4Ideal.Ssd.endD_at m c q).symm)
  rw [h10, h2, h11, h6, h0]
  rfl
theorem sameC (h10 : V0 (Proc.devRef .tc Cert.Reference4Ideal.main_arg10) = m ((c.tc : Thread Cert.Kernel4Ideal.nD Cert.Kernel4Ideal.τ).loc Cert.Kernel4Ideal.main_arg10)) (h2 : V0 (Proc.devRef .tc Cert.Reference4Ideal.main_arg2) = m ((c.tc : Thread Cert.Kernel4Ideal.nD Cert.Kernel4Ideal.τ).loc Cert.Kernel4Ideal.main_arg2)) (h11 : V0 (Proc.devRef .tc Cert.Reference4Ideal.main_arg11) = m ((c.tc : Thread Cert.Kernel4Ideal.nD Cert.Kernel4Ideal.τ).loc Cert.Kernel4Ideal.main_arg11)) (h6 : V0 (Proc.devRef .tc Cert.Reference4Ideal.main_arg6) = m ((c.tc : Thread Cert.Kernel4Ideal.nD Cert.Kernel4Ideal.τ).loc Cert.Kernel4Ideal.main_arg6)) (h0 : V0 (Proc.devRef .tc Cert.Reference4Ideal.main_arg0) = m ((c.tc : Thread Cert.Kernel4Ideal.nD Cert.Kernel4Ideal.τ).loc Cert.Kernel4Ideal.main_arg0)) (h1 : V0 (Proc.devRef .tc Cert.Reference4Ideal.main_arg1) = m ((c.tc : Thread Cert.Kernel4Ideal.nD Cert.Kernel4Ideal.τ).loc Cert.Kernel4Ideal.main_arg1)) (h8 : V0 (Proc.devRef .tc Cert.Reference4Ideal.main_arg8) = m ((c.tc : Thread Cert.Kernel4Ideal.nD Cert.Kernel4Ideal.τ).loc Cert.Kernel4Ideal.main_arg8)) (h3 : V0 (Proc.devRef .tc Cert.Reference4Ideal.main_arg3) = m ((c.tc : Thread Cert.Kernel4Ideal.nD Cert.Kernel4Ideal.τ).loc Cert.Kernel4Ideal.main_arg3)) (h7 : V0 (Proc.devRef .tc Cert.Reference4Ideal.main_arg7) = m ((c.tc : Thread Cert.Kernel4Ideal.nD Cert.Kernel4Ideal.τ).loc Cert.Kernel4Ideal.main_arg7)) :
    Cert.Reference4Ideal.Ssd.refC V0 = Cert.Kernel4Ideal.Ssd.endC m c := by
  funext i
  obtain ⟨b, k, r, p, rfl⟩ : ∃ (b : Fin 2) (k : Fin 17) (r : Fin 128) (p : Fin 512), i = ix3 b (at0 k r) p := by
    have h1 : (i 1).val < 2176 := (i 1).isLt
    refine ⟨i 0, ⟨(i 1).val / 128, by omega⟩, ⟨(i 1).val % 128, by omega⟩, i 2, ?_⟩
    refine (eq_ix3 i).trans (congrArg (fun a => ix3 (i 0) a (i 2)) (Fin.ext (by simp only [at0]; show (i 1).val = _; omega)))
  refine (Cert.Reference4Ideal.Ssd.refC_at V0 b k r p).trans ((?_ : _ = _).trans (Cert.Kernel4Ideal.Ssd.endC_at m c b k r p).symm)
  rw [h10, h2, h11, h6, h0, h1, h8, h3, h7]
  rfl
end

/-- The kernel's four results are the reference's. -/
theorem algebraic4 : Cert.algebraic_Kernel4Ideal_Reference4Ideal := by
  intro m ρ m' ρ' _ hargs
  refine ⟨fun c => Cert.Kernel4Ideal.Ssd.endC m c, fun c => (Cert.Kernel4Ideal.Gen.dats m 0 c).arrAt 16 Cert.Kernel4Ideal.cfg0.N,
    fun c => Cert.Kernel4Ideal.Ssd.endD m c, fun c => Cert.Kernel4Ideal.Ssd.endW m c,
    Cert.Kernel4Ideal.Ssd.run m ρ, (θ_run Cert.Reference4Ideal.defs _ _).mono (fun r h c => ?_) (Cert.Reference4Ideal.Value.run m' ρ')⟩
  obtain ⟨e0, e1, e2, e3, e4, e5, e6, e7, e8, e9, e10, e11⟩ := hargs c
  obtain ⟨r0, r1, r2, r3, hA⟩ := h c
  refine ⟨r0.trans (Eq.trans ?_ (sameC m c (StableHlo.launchContents m' c) e10 e2 e11 e6 e0 e1 e8 e3 e7)),
    r1.trans (Eq.trans ?_ (sameZ m c (StableHlo.launchContents m' c) e10 e2 e11 e6)),
    r2.trans (Eq.trans ?_ (sameD m c (StableHlo.launchContents m' c) e10 e2 e11 e6 e0)),
    r3.trans (Eq.trans ?_ (sameW m c (StableHlo.launchContents m' c) e10 e2 e11)), hA⟩
  · unfold Cert.Reference4Ideal.Ssd.refC; rfl
  · unfold Cert.Reference4Ideal.Ssd.refZ; rfl
  · unfold Cert.Reference4Ideal.Ssd.refD; rfl
  · unfold Cert.Reference4Ideal.Ssd.refW; rfl

end Cert.Proof
end
-- ==== Proof.OptAll.lean ====
module
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Defs
public import Idealize.ShloMosaic.Lib.Pointwise

/-! # The optimiser's step of the large weights: its new moments and its update are reference.py's

Every entry of the three results is one expression of the same entry of the four arguments; the two programs write the same one. -/

@[expose] public section
set_option maxRecDepth 16384
noncomputable section
namespace Cert.Proof
open Idealize.ShloMosaic Idealize.ShloMosaic.TcCoe Idealize.SL.Sem

/-- The kernel's frame over the bits: the optimiser's step of w_gu. -/
theorem frame_kernel5 : Cert.quiescent_Kernel5 := fun m ρ _ => Cert.Kernel5.Gen.frame m ρ

/-- The kernel's frame over the extended reals: the optimiser's step of w_gu. -/
theorem frame_ideal5 : Cert.quiescent_Kernel5Ideal := fun m ρ _ => Cert.Kernel5Ideal.Gen.frame m ρ

/-- The reference's frame: the optimiser's step of w_gu. It has no semaphore. -/
theorem frame_reference5 : Cert.quiescent_Reference5Ideal := fun m ρ _ =>
  (θ_run Cert.Reference5Ideal.defs _ _).mono (fun r h => ⟨fun c => (h c).2.2.2,
    Idealize.ShloMosaic.sem_eq_zero_of_no_sems (by decide) r.2⟩) (Cert.Reference5Ideal.Value.run m ρ)

/-- The update and both moments are the reference's: the optimiser's step of w_gu. -/
theorem algebraic5 : Cert.algebraic_Kernel5Ideal_Reference5Ideal := by
  intro m ρ m' ρ' _ hargs
  refine ⟨_, _, _, Cert.Kernel5Ideal.Value.run m ρ, (θ_run Cert.Reference5Ideal.defs _ _).mono (fun r h c => ?_) (Cert.Reference5Ideal.Value.run m' ρ')⟩
  obtain ⟨e0, e1, e2, e3⟩ := hargs c
  obtain ⟨r0, r1, r2, hA⟩ := h c
  refine ⟨r0.trans ?_, r1.trans ?_, r2.trans ?_, hA⟩
  · rw [e0, e1, e2, e3]; rfl
  · rw [e1, e2]; rfl
  · rw [e1, e3]; rfl

/-- The kernel's frame over the bits: the optimiser's step of w_down. -/
theorem frame_kernel6 : Cert.quiescent_Kernel6 := fun m ρ _ => Cert.Kernel6.Gen.frame m ρ

/-- The kernel's frame over the extended reals: the optimiser's step of w_down. -/
theorem frame_ideal6 : Cert.quiescent_Kernel6Ideal := fun m ρ _ => Cert.Kernel6Ideal.Gen.frame m ρ

/-- The reference's frame: the optimiser's step of w_down. It has no semaphore. -/
theorem frame_reference6 : Cert.quiescent_Reference6Ideal := fun m ρ _ =>
  (θ_run Cert.Reference6Ideal.defs _ _).mono (fun r h => ⟨fun c => (h c).2.2.2,
    Idealize.ShloMosaic.sem_eq_zero_of_no_sems (by decide) r.2⟩) (Cert.Reference6Ideal.Value.run m ρ)

/-- The update and both moments are the reference's: the optimiser's step of w_down. -/
theorem algebraic6 : Cert.algebraic_Kernel6Ideal_Reference6Ideal := by
  intro m ρ m' ρ' _ hargs
  refine ⟨_, _, _, Cert.Kernel6Ideal.Value.run m ρ, (θ_run Cert.Reference6Ideal.defs _ _).mono (fun r h c => ?_) (Cert.Reference6Ideal.Value.run m' ρ')⟩
  obtain ⟨e0, e1, e2, e3⟩ := hargs c
  obtain ⟨r0, r1, r2, hA⟩ := h c
  refine ⟨r0.trans ?_, r1.trans ?_, r2.trans ?_, hA⟩
  · rw [e0, e1, e2, e3]; rfl
  · rw [e1, e2]; rfl
  · rw [e1, e3]; rfl

/-- The kernel's frame over the bits: the optimiser's step of w_branch_a, w_branch_b and w_out. -/
theorem frame_kernel7 : Cert.quiescent_Kernel7 := fun m ρ _ => Cert.Kernel7.Gen.frame m ρ

/-- The kernel's frame over the extended reals: the optimiser's step of w_branch_a, w_branch_b and w_out. -/
theorem frame_ideal7 : Cert.quiescent_Kernel7Ideal := fun m ρ _ => Cert.Kernel7Ideal.Gen.frame m ρ

/-- The reference's frame: the optimiser's step of w_branch_a, w_branch_b and w_out. It has no semaphore. -/
theorem frame_reference7 : Cert.quiescent_Reference7Ideal := fun m ρ _ =>
  (θ_run Cert.Reference7Ideal.defs _ _).mono (fun r h => ⟨fun c => (h c).2.2.2,
    Idealize.ShloMosaic.sem_eq_zero_of_no_sems (by decide) r.2⟩) (Cert.Reference7Ideal.Value.run m ρ)

/-- The update and both moments are the reference's: the optimiser's step of w_branch_a, w_branch_b and w_out. -/
theorem algebraic7 : Cert.algebraic_Kernel7Ideal_Reference7Ideal := by
  intro m ρ m' ρ' _ hargs
  refine ⟨_, _, _, Cert.Kernel7Ideal.Value.run m ρ, (θ_run Cert.Reference7Ideal.defs _ _).mono (fun r h c => ?_) (Cert.Reference7Ideal.Value.run m' ρ')⟩
  obtain ⟨e0, e1, e2, e3⟩ := hargs c
  obtain ⟨r0, r1, r2, hA⟩ := h c
  refine ⟨r0.trans ?_, r1.trans ?_, r2.trans ?_, hA⟩
  · rw [e0, e1, e2, e3]; rfl
  · rw [e1, e2]; rfl
  · rw [e1, e3]; rfl

/-- The kernel's frame over the bits: the optimiser's step of w_in. -/
theorem frame_kernel8 : Cert.quiescent_Kernel8 := fun m ρ _ => Cert.Kernel8.Gen.frame m ρ

/-- The kernel's frame over the extended reals: the optimiser's step of w_in. -/
theorem frame_ideal8 : Cert.quiescent_Kernel8Ideal := fun m ρ _ => Cert.Kernel8Ideal.Gen.frame m ρ

/-- The reference's frame: the optimiser's step of w_in. It has no semaphore. -/
theorem frame_reference8 : Cert.quiescent_Reference8Ideal := fun m ρ _ =>
  (θ_run Cert.Reference8Ideal.defs _ _).mono (fun r h => ⟨fun c => (h c).2.2.2,
    Idealize.ShloMosaic.sem_eq_zero_of_no_sems (by decide) r.2⟩) (Cert.Reference8Ideal.Value.run m ρ)

/-- The update and both moments are the reference's: the optimiser's step of w_in. -/
theorem algebraic8 : Cert.algebraic_Kernel8Ideal_Reference8Ideal := by
  intro m ρ m' ρ' _ hargs
  refine ⟨_, _, _, Cert.Kernel8Ideal.Value.run m ρ, (θ_run Cert.Reference8Ideal.defs _ _).mono (fun r h c => ?_) (Cert.Reference8Ideal.Value.run m' ρ')⟩
  obtain ⟨e0, e1, e2, e3⟩ := hargs c
  obtain ⟨r0, r1, r2, hA⟩ := h c
  refine ⟨r0.trans ?_, r1.trans ?_, r2.trans ?_, hA⟩
  · rw [e0, e1, e2, e3]; rfl
  · rw [e1, e2]; rfl
  · rw [e1, e3]; rfl

end Cert.Proof
end
-- ==== Proof.lean ====
module

public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.MergeAll
public import proofs.«01_k».proof.Proof.FfnAll
public import proofs.«01_k».proof.Proof.InAll
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.SsdAll
public import proofs.«01_k».proof.Proof.OptAll
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

/-! The proof of `Cert.Claim`: the frames of the programs, that the merge of the two branches with its backward pass computes
    what its reference computes, and that the feed-forward block with its backward pass does (Proof/FfnAll.lean), the mixers' input projection with its own
    (Proof/InAll.lean), and the scan's backward pass, of its reading, its gate and its norm (Proof/SsdAll.lean), and the
    optimiser's steps of the large weights (Proof/OptAll.lean). The runs are
    `Cert.KernelIdeal.Merge.run` and the generated run of the reference; both end at the same arrays of the mathematics
    (Proof/MergeSpec.lean). -/
@[expose] public section

set_option maxRecDepth 16384

noncomputable section

namespace Cert.Proof

open Idealize.ShloMosaic Idealize.ShloMosaic.TcCoe Idealize.SL.Sem

/-- The kernel's frame over the bits. -/
theorem frame_kernel : Cert.quiescent_Kernel := fun m ρ _ => Cert.Kernel.Gen.frame m ρ

/-- The kernel's frame over the extended reals. -/
theorem frame_ideal : Cert.quiescent_KernelIdeal := fun m ρ _ => Cert.KernelIdeal.Gen.frame m ρ

/-- The reference's frame: it writes no argument, and has no semaphore. -/
theorem frame_reference : Cert.quiescent_ReferenceIdeal := fun m ρ _ =>
  (θ_run Cert.ReferenceIdeal.defs _ _).mono (fun r h => ⟨fun c => (h c).2.2.2.2.2.2.2.2,
    Idealize.ShloMosaic.sem_eq_zero_of_no_sems (by decide) r.2⟩) (Cert.ReferenceIdeal.Value.run m ρ)

open Cert.KernelIdeal.Merge in
/-- The kernel's eight results are the reference's. -/
theorem algebraic : Cert.algebraic_KernelIdeal_ReferenceIdeal := by
  intro m ρ m' ρ' _ hargs
  refine ⟨fun c => Cert.KernelIdeal.Gen.W7 m ρ c (Proc.devRef .tc Cert.KernelIdeal.main_v1_0), fun c => Cert.KernelIdeal.Gen.W7 m ρ c (Proc.devRef .tc Cert.KernelIdeal.main_v1_1), fun c => Cert.KernelIdeal.Gen.W7 m ρ c (Proc.devRef .tc Cert.KernelIdeal.main_v4_3), fun c => Cert.KernelIdeal.Gen.W7 m ρ c (Proc.devRef .tc Cert.KernelIdeal.main_v4_4), fun c => Cert.KernelIdeal.Gen.W7 m ρ c (Proc.devRef .tc Cert.KernelIdeal.main_v4_2), fun c => Cert.KernelIdeal.Gen.W7 m ρ c (Proc.devRef .tc Cert.KernelIdeal.main_v5), fun c => Cert.KernelIdeal.Gen.W7 m ρ c (Proc.devRef .tc Cert.KernelIdeal.main_v6), fun c => Cert.KernelIdeal.Gen.W7 m ρ c (Proc.devRef .tc Cert.KernelIdeal.main_v3),
    run m ρ, (θ_run Cert.ReferenceIdeal.defs _ _).mono (fun r h c => ?_) (Cert.ReferenceIdeal.Value.run m' ρ')⟩
  obtain ⟨e0, e1, e2, e3, e4, e5, e6, e7, e8⟩ := hargs c
  obtain ⟨r0, r1, r2, r3, r4, r5, r6, r7, hA⟩ := h c
  refine ⟨r0.trans ?_, r1.trans ?_, r2.trans ?_, r3.trans ?_, r4.trans ?_, r5.trans ?_, r6.trans ?_, r7.trans ?_, hA⟩
  · refine (Cert.ReferenceIdeal.Merge.ref_h2 _ _ _ _ _ _ _).trans (Eq.trans ?_ (out_h2 m ρ c).symm); rw [e0, e1, e2, e3, e4, e5, e6]
  · refine (Cert.ReferenceIdeal.Merge.ref_n2 _ _ _ _ _ _ _ _).trans (Eq.trans ?_ (out_n2 m ρ c).symm); rw [e0, e1, e2, e3, e4, e5, e6, e7]
  · refine (Cert.ReferenceIdeal.Merge.ref_dya _ _ _ _).trans (Eq.trans ?_ (out_dya m ρ c).symm); rw [e2, e3, e5, e8]
  · refine (Cert.ReferenceIdeal.Merge.ref_dyb _ _ _ _).trans (Eq.trans ?_ (out_dyb m ρ c).symm); rw [e2, e4, e5, e8]
  · refine (Cert.ReferenceIdeal.Merge.ref_dgates _ _ _ _ _ _ _).trans (Eq.trans ?_ (out_dgates m ρ c).symm); rw [e0, e1, e2, e3, e4, e5, e8]
  · refine (Cert.ReferenceIdeal.Merge.ref_dwa _ _ _ _).trans (Eq.trans ?_ (out_dwa m ρ c).symm); rw [e0, e2, e5, e8]
  · refine (Cert.ReferenceIdeal.Merge.ref_dwb _ _ _ _).trans (Eq.trans ?_ (out_dwb m ρ c).symm); rw [e1, e2, e5, e8]
  · refine (Cert.ReferenceIdeal.Merge.ref_dwo _ _ _ _ _ _).trans (Eq.trans ?_ (out_dwo m ρ c).symm); rw [e0, e1, e2, e3, e4, e8]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts,
  frame_kernel, frame_ideal, frame_reference, frame_kernel2, frame_ideal2, frame_ideal2_finite, frame_reference2,
  frame_reference2_finite, frame_kernel3, frame_ideal3, frame_reference3, frame_kernel4, frame_ideal4,
  frame_reference4,
  frame_kernel5, frame_ideal5, frame_reference5, frame_kernel6, frame_ideal6, frame_reference6, frame_kernel7, frame_ideal7, frame_reference7, frame_kernel8, frame_ideal8, frame_reference8,
  trivial, algebraic, trivial, algebraic2, trivial, algebraic3, preserves4, algebraic4,
  trivial, algebraic5, trivial, algebraic6, trivial, algebraic7, trivial, algebraic8⟩

end Cert.Proof

end
